-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Up [hPre_moe_up_scheduled : Cert.Pre_moe_up_scheduled.Facts] (m : (ℓ : Loc Cert.Up.nD Cert.Up.τ Cert.Up.sig) → Buf (Elt Bits) ℓ) : Prop :=
  ∀ c : Dev Cert.Up.nD,
    (Cert.Pre_moe_up_scheduled.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))).1 = (fun _ => 1#1)
    ∧ (Cert.Pre_moe_up_scheduled.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))).2.1 = (fun _ => 1#1)
    ∧ (Cert.Pre_moe_up_scheduled.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))).2.2.1 = (fun _ => 1#1)
    ∧ (Cert.Pre_moe_up_scheduled.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))).2.2.2.1 = (fun _ => 1#1)
    ∧ (Cert.Pre_moe_up_scheduled.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7)) (m ((c.tc : Thread Cert.Up.nD Cert.Up.τ).loc Cert.Up.main_arg8))).2.2.2.2 = (fun _ => 1#1)

def Pre_UpIdeal [hPre_moe_up_scheduled : Cert.Pre_moe_up_scheduled.Facts] (m : (ℓ : Loc Cert.UpIdeal.nD Cert.UpIdeal.τ Cert.UpIdeal.sig) → Buf (Elt Ideal) ℓ) : Prop :=
  ∀ c : Dev Cert.UpIdeal.nD,
    (Cert.Pre_moe_up_scheduled.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))).1 = (fun _ => 1#1)
    ∧ (Cert.Pre_moe_up_scheduled.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))).2.1 = (fun _ => 1#1)
    ∧ (Cert.Pre_moe_up_scheduled.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))).2.2.1 = (fun _ => 1#1)
    ∧ (Cert.Pre_moe_up_scheduled.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))).2.2.2.1 = (fun _ => 1#1)
    ∧ (Cert.Pre_moe_up_scheduled.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))).2.2.2.2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_moe_up_scheduled [hPre_moe_up_scheduled : Cert.Pre_moe_up_scheduled.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_moe_up_scheduled.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7)) (m ((c.tc : Thread Cert.UpRefIdeal.nD Cert.UpRefIdeal.τ).loc Cert.UpRefIdeal.main_arg8))).1 = (fun _ => 1#1)
    ∧ (Cert.Pre_moe_up_scheduled.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7)) (m ((c.tc : Thread Cert.UpRefIdeal.nD Cert.UpRefIdeal.τ).loc Cert.UpRefIdeal.main_arg8))).2.1 = (fun _ => 1#1)
    ∧ (Cert.Pre_moe_up_scheduled.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7)) (m ((c.tc : Thread Cert.UpRefIdeal.nD Cert.UpRefIdeal.τ).loc Cert.UpRefIdeal.main_arg8))).2.2.1 = (fun _ => 1#1)
    ∧ (Cert.Pre_moe_up_scheduled.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7)) (m ((c.tc : Thread Cert.UpRefIdeal.nD Cert.UpRefIdeal.τ).loc Cert.UpRefIdeal.main_arg8))).2.2.2.1 = (fun _ => 1#1)
    ∧ (Cert.Pre_moe_up_scheduled.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7)) (m ((c.tc : Thread Cert.UpRefIdeal.nD Cert.UpRefIdeal.τ).loc Cert.UpRefIdeal.main_arg8))).2.2.2.2 = (fun _ => 1#1)

def Pre_Down [hPre_moe_down_scheduled : Cert.Pre_moe_down_scheduled.Facts] (m : (ℓ : Loc Cert.Down.nD Cert.Down.τ Cert.Down.sig) → Buf (Elt Bits) ℓ) : Prop :=
  ∀ c : Dev Cert.Down.nD,
    (Cert.Pre_moe_down_scheduled.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5)) (m ((c.tc : Thread Cert.Down.nD Cert.Down.τ).loc Cert.Down.main_arg6)) (m ((c.tc : Thread Cert.Down.nD Cert.Down.τ).loc Cert.Down.main_arg7))).1 = (fun _ => 1#1)
    ∧ (Cert.Pre_moe_down_scheduled.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5)) (m ((c.tc : Thread Cert.Down.nD Cert.Down.τ).loc Cert.Down.main_arg6)) (m ((c.tc : Thread Cert.Down.nD Cert.Down.τ).loc Cert.Down.main_arg7))).2.1 = (fun _ => 1#1)
    ∧ (Cert.Pre_moe_down_scheduled.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5)) (m ((c.tc : Thread Cert.Down.nD Cert.Down.τ).loc Cert.Down.main_arg6)) (m ((c.tc : Thread Cert.Down.nD Cert.Down.τ).loc Cert.Down.main_arg7))).2.2.1 = (fun _ => 1#1)
    ∧ (Cert.Pre_moe_down_scheduled.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5)) (m ((c.tc : Thread Cert.Down.nD Cert.Down.τ).loc Cert.Down.main_arg6)) (m ((c.tc : Thread Cert.Down.nD Cert.Down.τ).loc Cert.Down.main_arg7))).2.2.2.1 = (fun _ => 1#1)
    ∧ (Cert.Pre_moe_down_scheduled.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5)) (m ((c.tc : Thread Cert.Down.nD Cert.Down.τ).loc Cert.Down.main_arg6)) (m ((c.tc : Thread Cert.Down.nD Cert.Down.τ).loc Cert.Down.main_arg7))).2.2.2.2 = (fun _ => 1#1)

def Pre_DownIdeal [hPre_moe_down_scheduled : Cert.Pre_moe_down_scheduled.Facts] (m : (ℓ : Loc Cert.DownIdeal.nD Cert.DownIdeal.τ Cert.DownIdeal.sig) → Buf (Elt Ideal) ℓ) : Prop :=
  ∀ c : Dev Cert.DownIdeal.nD,
    (Cert.Pre_moe_down_scheduled.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7))).1 = (fun _ => 1#1)
    ∧ (Cert.Pre_moe_down_scheduled.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7))).2.1 = (fun _ => 1#1)
    ∧ (Cert.Pre_moe_down_scheduled.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7))).2.2.1 = (fun _ => 1#1)
    ∧ (Cert.Pre_moe_down_scheduled.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7))).2.2.2.1 = (fun _ => 1#1)
    ∧ (Cert.Pre_moe_down_scheduled.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7))).2.2.2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_moe_down_scheduled [hPre_moe_down_scheduled : Cert.Pre_moe_down_scheduled.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_moe_down_scheduled.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5)) (m ((c.tc : Thread Cert.DownRefIdeal.nD Cert.DownRefIdeal.τ).loc Cert.DownRefIdeal.main_arg6)) (m ((c.tc : Thread Cert.DownRefIdeal.nD Cert.DownRefIdeal.τ).loc Cert.DownRefIdeal.main_arg7))).1 = (fun _ => 1#1)
    ∧ (Cert.Pre_moe_down_scheduled.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5)) (m ((c.tc : Thread Cert.DownRefIdeal.nD Cert.DownRefIdeal.τ).loc Cert.DownRefIdeal.main_arg6)) (m ((c.tc : Thread Cert.DownRefIdeal.nD Cert.DownRefIdeal.τ).loc Cert.DownRefIdeal.main_arg7))).2.1 = (fun _ => 1#1)
    ∧ (Cert.Pre_moe_down_scheduled.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5)) (m ((c.tc : Thread Cert.DownRefIdeal.nD Cert.DownRefIdeal.τ).loc Cert.DownRefIdeal.main_arg6)) (m ((c.tc : Thread Cert.DownRefIdeal.nD Cert.DownRefIdeal.τ).loc Cert.DownRefIdeal.main_arg7))).2.2.1 = (fun _ => 1#1)
    ∧ (Cert.Pre_moe_down_scheduled.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5)) (m ((c.tc : Thread Cert.DownRefIdeal.nD Cert.DownRefIdeal.τ).loc Cert.DownRefIdeal.main_arg6)) (m ((c.tc : Thread Cert.DownRefIdeal.nD Cert.DownRefIdeal.τ).loc Cert.DownRefIdeal.main_arg7))).2.2.2.1 = (fun _ => 1#1)
    ∧ (Cert.Pre_moe_down_scheduled.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5)) (m ((c.tc : Thread Cert.DownRefIdeal.nD Cert.DownRefIdeal.τ).loc Cert.DownRefIdeal.main_arg6)) (m ((c.tc : Thread Cert.DownRefIdeal.nD Cert.DownRefIdeal.τ).loc Cert.DownRefIdeal.main_arg7))).2.2.2.2 = (fun _ => 1#1)

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnARefIdeal (m : (ℓ : Loc Cert.FfnARefIdeal.nD Cert.FfnARefIdeal.τ Cert.FfnARefIdeal.sig) → Buf (Elt Ideal) ℓ) : Prop :=
  True

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_FfnBRefIdeal (m : (ℓ : Loc Cert.FfnBRefIdeal.nD Cert.FfnBRefIdeal.τ Cert.FfnBRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Up [hUp : Cert.Up.Facts] [hPre_moe_up_scheduled : Cert.Pre_moe_up_scheduled.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6)
      ∧ r.2.mem ((c.tc : Thread Cert.Up.nD Cert.Up.τ).loc Cert.Up.main_arg7) = m ((c.tc : Thread Cert.Up.nD Cert.Up.τ).loc Cert.Up.main_arg7)
      ∧ r.2.mem ((c.tc : Thread Cert.Up.nD Cert.Up.τ).loc Cert.Up.main_arg8) = m ((c.tc : Thread Cert.Up.nD Cert.Up.τ).loc Cert.Up.main_arg8))
      ∧ r.2.sem = fun _ => 0)

def quiescent_UpIdeal [hUpIdeal : Cert.UpIdeal.Facts] [hPre_moe_up_scheduled : Cert.Pre_moe_up_scheduled.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
      ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
      ∧ r.2.mem ((c.tc : Thread Cert.UpIdeal.nD Cert.UpIdeal.τ).loc Cert.UpIdeal.main_arg8) = m ((c.tc : Thread Cert.UpIdeal.nD Cert.UpIdeal.τ).loc Cert.UpIdeal.main_arg8))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6)
      ∧ r.2.mem ((c.tc : Thread Cert.UpRefIdeal.nD Cert.UpRefIdeal.τ).loc Cert.UpRefIdeal.main_arg7) = m ((c.tc : Thread Cert.UpRefIdeal.nD Cert.UpRefIdeal.τ).loc Cert.UpRefIdeal.main_arg7)
      ∧ r.2.mem ((c.tc : Thread Cert.UpRefIdeal.nD Cert.UpRefIdeal.τ).loc Cert.UpRefIdeal.main_arg8) = m ((c.tc : Thread Cert.UpRefIdeal.nD Cert.UpRefIdeal.τ).loc Cert.UpRefIdeal.main_arg8))
      ∧ r.2.sem = fun _ => 0)

def quiescent_UpRefIdeal_pre_moe_up_scheduled [hUpRefIdeal : Cert.UpRefIdeal.Facts] [hPre_moe_up_scheduled : Cert.Pre_moe_up_scheduled.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_moe_up_scheduled m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6)
      ∧ r.2.mem ((c.tc : Thread Cert.UpRefIdeal.nD Cert.UpRefIdeal.τ).loc Cert.UpRefIdeal.main_arg7) = m ((c.tc : Thread Cert.UpRefIdeal.nD Cert.UpRefIdeal.τ).loc Cert.UpRefIdeal.main_arg7)
      ∧ r.2.mem ((c.tc : Thread Cert.UpRefIdeal.nD Cert.UpRefIdeal.τ).loc Cert.UpRefIdeal.main_arg8) = m ((c.tc : Thread Cert.UpRefIdeal.nD Cert.UpRefIdeal.τ).loc Cert.UpRefIdeal.main_arg8))
      ∧ r.2.sem = fun _ => 0)

def quiescent_Down [hDown : Cert.Down.Facts] [hPre_moe_down_scheduled : Cert.Pre_moe_down_scheduled.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7))
      ∧ r.2.sem = fun _ => 0)

def quiescent_DownIdeal [hDownIdeal : Cert.DownIdeal.Facts] [hPre_moe_down_scheduled : Cert.Pre_moe_down_scheduled.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6)
      ∧ r.2.mem ((c.tc : Thread Cert.DownRefIdeal.nD Cert.DownRefIdeal.τ).loc Cert.DownRefIdeal.main_arg7) = m ((c.tc : Thread Cert.DownRefIdeal.nD Cert.DownRefIdeal.τ).loc Cert.DownRefIdeal.main_arg7))
      ∧ r.2.sem = fun _ => 0)

def quiescent_DownRefIdeal_pre_moe_down_scheduled [hDownRefIdeal : Cert.DownRefIdeal.Facts] [hPre_moe_down_scheduled : Cert.Pre_moe_down_scheduled.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_moe_down_scheduled m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6)
      ∧ r.2.mem ((c.tc : Thread Cert.DownRefIdeal.nD Cert.DownRefIdeal.τ).loc Cert.DownRefIdeal.main_arg7) = m ((c.tc : Thread Cert.DownRefIdeal.nD Cert.DownRefIdeal.τ).loc Cert.DownRefIdeal.main_arg7))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2))
      ∧ r.2.sem = fun _ => 0)

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2))
      ∧ r.2.sem = fun _ => 0)

def quiescent_FfnARefIdeal [hFfnARefIdeal : Cert.FfnARefIdeal.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2))
      ∧ r.2.sem = fun _ => 0)

def quiescent_FfnBRefIdeal [hFfnBRefIdeal : Cert.FfnBRefIdeal.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v14) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v5)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v5) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v36) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v8) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v2) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Up_UpIdeal : Prop :=
  True

def algebraic_UpIdeal_UpRefIdeal [hUpIdeal : Cert.UpIdeal.Facts] [hUpRefIdeal : Cert.UpRefIdeal.Facts] [hPre_moe_up_scheduled : Cert.Pre_moe_up_scheduled.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)
      ∧ m' ((c.tc : Thread Cert.UpRefIdeal.nD Cert.UpRefIdeal.τ).loc Cert.UpRefIdeal.main_arg7) = m ((c.tc : Thread Cert.UpIdeal.nD Cert.UpIdeal.τ).loc Cert.UpIdeal.main_arg7)
      ∧ m' ((c.tc : Thread Cert.UpRefIdeal.nD Cert.UpRefIdeal.τ).loc Cert.UpRefIdeal.main_arg8) = m ((c.tc : Thread Cert.UpIdeal.nD Cert.UpIdeal.τ).loc Cert.UpIdeal.main_arg8)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
          ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
          ∧ r.2.mem ((c.tc : Thread Cert.UpIdeal.nD Cert.UpIdeal.τ).loc Cert.UpIdeal.main_arg8) = m ((c.tc : Thread Cert.UpIdeal.nD Cert.UpIdeal.τ).loc Cert.UpIdeal.main_arg8))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v147) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6)
          ∧ r.2.mem ((c.tc : Thread Cert.UpRefIdeal.nD Cert.UpRefIdeal.τ).loc Cert.UpRefIdeal.main_arg7) = m' ((c.tc : Thread Cert.UpRefIdeal.nD Cert.UpRefIdeal.τ).loc Cert.UpRefIdeal.main_arg7)
          ∧ r.2.mem ((c.tc : Thread Cert.UpRefIdeal.nD Cert.UpRefIdeal.τ).loc Cert.UpRefIdeal.main_arg8) = m' ((c.tc : Thread Cert.UpRefIdeal.nD Cert.UpRefIdeal.τ).loc Cert.UpRefIdeal.main_arg8))

def preserves_Down_DownIdeal : Prop :=
  True

def algebraic_DownIdeal_DownRefIdeal [hDownIdeal : Cert.DownIdeal.Facts] [hDownRefIdeal : Cert.DownRefIdeal.Facts] [hPre_moe_down_scheduled : Cert.Pre_moe_down_scheduled.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)
      ∧ m' ((c.tc : Thread Cert.DownRefIdeal.nD Cert.DownRefIdeal.τ).loc Cert.DownRefIdeal.main_arg7) = m ((c.tc : Thread Cert.DownIdeal.nD Cert.DownIdeal.τ).loc Cert.DownIdeal.main_arg7)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
          ∧ r.2.mem ((c.tc : Thread Cert.DownIdeal.nD Cert.DownIdeal.τ).loc Cert.DownIdeal.main_arg7) = m ((c.tc : Thread Cert.DownIdeal.nD Cert.DownIdeal.τ).loc Cert.DownIdeal.main_arg7))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v106) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6)
          ∧ r.2.mem ((c.tc : Thread Cert.DownRefIdeal.nD Cert.DownRefIdeal.τ).loc Cert.DownRefIdeal.main_arg7) = m' ((c.tc : Thread Cert.DownRefIdeal.nD Cert.DownRefIdeal.τ).loc Cert.DownRefIdeal.main_arg7))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)
      ∧ m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2)) →
    ∃ (v0 : (c : Dev Cert.WoutIdeal.nD) → Buf (Elt Ideal) ((c.tc : Thread Cert.WoutIdeal.nD Cert.WoutIdeal.τ).loc Cert.WoutIdeal.main_v0)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v2) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1)
          ∧ r.2.mem ((c.tc : Thread Cert.WoutRefIdeal.nD Cert.WoutRefIdeal.τ).loc Cert.WoutRefIdeal.main_arg2) = m' ((c.tc : Thread Cert.WoutRefIdeal.nD Cert.WoutRefIdeal.τ).loc Cert.WoutRefIdeal.main_arg2))

def preserves_FfnA_FfnAIdeal : Prop :=
  True

def algebraic_FfnAIdeal_FfnARefIdeal [hFfnAIdeal : Cert.FfnAIdeal.Facts] [hFfnARefIdeal : Cert.FfnARefIdeal.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnARefIdeal.nD Cert.FfnARefIdeal.τ Cert.FfnARefIdeal.sig) → Buf (Elt Ideal) ℓ) (g' : Dev Cert.FfnARefIdeal.nD → PrngReg), Pre_FfnAIdeal m →
    (∀ c : Dev Cert.FfnAIdeal.nD,
      m' ((c.tc : Thread Cert.FfnARefIdeal.nD Cert.FfnARefIdeal.τ).loc Cert.FfnARefIdeal.main_arg0) = m ((c.tc : Thread Cert.FfnAIdeal.nD Cert.FfnAIdeal.τ).loc Cert.FfnAIdeal.main_arg0)
      ∧ m' ((c.tc : Thread Cert.FfnARefIdeal.nD Cert.FfnARefIdeal.τ).loc Cert.FfnARefIdeal.main_arg1) = m ((c.tc : Thread Cert.FfnAIdeal.nD Cert.FfnAIdeal.τ).loc Cert.FfnAIdeal.main_arg1)
      ∧ m' ((c.tc : Thread Cert.FfnARefIdeal.nD Cert.FfnARefIdeal.τ).loc Cert.FfnARefIdeal.main_arg2) = m ((c.tc : Thread Cert.FfnAIdeal.nD Cert.FfnAIdeal.τ).loc Cert.FfnAIdeal.main_arg2)) →
    ∃ (v0 : (c : Dev Cert.FfnAIdeal.nD) → Buf (Elt Ideal) ((c.tc : Thread Cert.FfnAIdeal.nD Cert.FfnAIdeal.τ).loc Cert.FfnAIdeal.main_v0)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v0) = v0 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2))
      ∧ θ_run (Cert.FfnARefIdeal.defs (F := Ideal)) (onTc (τ := Cert.FfnARefIdeal.τ) (Cert.FfnARefIdeal.main (F := Ideal))) ⟨m', fun _ => 0, g'⟩ (fun r => ∀ c : Dev Cert.FfnARefIdeal.nD,
          r.2.mem ((c.tc : Thread Cert.FfnARefIdeal.nD Cert.FfnARefIdeal.τ).loc Cert.FfnARefIdeal.main_v4) = v0 c
          ∧ r.2.mem ((c.tc : Thread Cert.FfnARefIdeal.nD Cert.FfnARefIdeal.τ).loc Cert.FfnARefIdeal.main_arg0) = m' ((c.tc : Thread Cert.FfnARefIdeal.nD Cert.FfnARefIdeal.τ).loc Cert.FfnARefIdeal.main_arg0)
          ∧ r.2.mem ((c.tc : Thread Cert.FfnARefIdeal.nD Cert.FfnARefIdeal.τ).loc Cert.FfnARefIdeal.main_arg1) = m' ((c.tc : Thread Cert.FfnARefIdeal.nD Cert.FfnARefIdeal.τ).loc Cert.FfnARefIdeal.main_arg1)
          ∧ r.2.mem ((c.tc : Thread Cert.FfnARefIdeal.nD Cert.FfnARefIdeal.τ).loc Cert.FfnARefIdeal.main_arg2) = m' ((c.tc : Thread Cert.FfnARefIdeal.nD Cert.FfnARefIdeal.τ).loc Cert.FfnARefIdeal.main_arg2))

def preserves_FfnB_FfnBIdeal : Prop :=
  True

def algebraic_FfnBIdeal_FfnBRefIdeal [hFfnBIdeal : Cert.FfnBIdeal.Facts] [hFfnBRefIdeal : Cert.FfnBRefIdeal.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnBRefIdeal.nD Cert.FfnBRefIdeal.τ Cert.FfnBRefIdeal.sig) → Buf (Elt Ideal) ℓ) (g' : Dev Cert.FfnBRefIdeal.nD → PrngReg), Pre_FfnBIdeal m →
    (∀ c : Dev Cert.FfnBIdeal.nD,
      m' ((c.tc : Thread Cert.FfnBRefIdeal.nD Cert.FfnBRefIdeal.τ).loc Cert.FfnBRefIdeal.main_arg0) = m ((c.tc : Thread Cert.FfnBIdeal.nD Cert.FfnBIdeal.τ).loc Cert.FfnBIdeal.main_arg0)
      ∧ m' ((c.tc : Thread Cert.FfnBRefIdeal.nD Cert.FfnBRefIdeal.τ).loc Cert.FfnBRefIdeal.main_arg1) = m ((c.tc : Thread Cert.FfnBIdeal.nD Cert.FfnBIdeal.τ).loc Cert.FfnBIdeal.main_arg1)
      ∧ m' ((c.tc : Thread Cert.FfnBRefIdeal.nD Cert.FfnBRefIdeal.τ).loc Cert.FfnBRefIdeal.main_arg2) = m ((c.tc : Thread Cert.FfnBIdeal.nD Cert.FfnBIdeal.τ).loc Cert.FfnBIdeal.main_arg2)) →
    ∃ (v0 : (c : Dev Cert.FfnBIdeal.nD) → Buf (Elt Ideal) ((c.tc : Thread Cert.FfnBIdeal.nD Cert.FfnBIdeal.τ).loc Cert.FfnBIdeal.main_v0)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v0) = v0 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2))
      ∧ θ_run (Cert.FfnBRefIdeal.defs (F := Ideal)) (onTc (τ := Cert.FfnBRefIdeal.τ) (Cert.FfnBRefIdeal.main (F := Ideal))) ⟨m', fun _ => 0, g'⟩ (fun r => ∀ c : Dev Cert.FfnBRefIdeal.nD,
          r.2.mem ((c.tc : Thread Cert.FfnBRefIdeal.nD Cert.FfnBRefIdeal.τ).loc Cert.FfnBRefIdeal.main_v4) = v0 c
          ∧ r.2.mem ((c.tc : Thread Cert.FfnBRefIdeal.nD Cert.FfnBRefIdeal.τ).loc Cert.FfnBRefIdeal.main_arg0) = m' ((c.tc : Thread Cert.FfnBRefIdeal.nD Cert.FfnBRefIdeal.τ).loc Cert.FfnBRefIdeal.main_arg0)
          ∧ r.2.mem ((c.tc : Thread Cert.FfnBRefIdeal.nD Cert.FfnBRefIdeal.τ).loc Cert.FfnBRefIdeal.main_arg1) = m' ((c.tc : Thread Cert.FfnBRefIdeal.nD Cert.FfnBRefIdeal.τ).loc Cert.FfnBRefIdeal.main_arg1)
          ∧ r.2.mem ((c.tc : Thread Cert.FfnBRefIdeal.nD Cert.FfnBRefIdeal.τ).loc Cert.FfnBRefIdeal.main_arg2) = m' ((c.tc : Thread Cert.FfnBRefIdeal.nD Cert.FfnBRefIdeal.τ).loc Cert.FfnBRefIdeal.main_arg2))

def Claim : Prop :=
  ∃ (hMerge : Cert.Merge.Facts) (hMergeIdeal : Cert.MergeIdeal.Facts) (hMergeRefIdeal : Cert.MergeRefIdeal.Facts) (hGmlp : Cert.Gmlp.Facts) (hGmlpIdeal : Cert.GmlpIdeal.Facts) (hGmlpRefIdeal : Cert.GmlpRefIdeal.Facts) (hGates : Cert.Gates.Facts) (hGatesIdeal : Cert.GatesIdeal.Facts) (hGatesRefIdeal : Cert.GatesRefIdeal.Facts) (hWin : Cert.Win.Facts) (hWinIdeal : Cert.WinIdeal.Facts) (hWinRefIdeal : Cert.WinRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hWout : Cert.Wout.Facts) (hWoutIdeal : Cert.WoutIdeal.Facts) (hWoutRefIdeal : Cert.WoutRefIdeal.Facts) (hFfnA : Cert.FfnA.Facts) (hFfnAIdeal : Cert.FfnAIdeal.Facts) (hFfnARefIdeal : Cert.FfnARefIdeal.Facts) (hFfnB : Cert.FfnB.Facts) (hFfnBIdeal : Cert.FfnBIdeal.Facts) (hFfnBRefIdeal : Cert.FfnBRefIdeal.Facts) (hPre_moe_up_scheduled : Cert.Pre_moe_up_scheduled.Facts) (hPre_moe_down_scheduled : Cert.Pre_moe_down_scheduled.Facts),
    quiescent_Merge (hMerge := hMerge)
    ∧ quiescent_MergeIdeal (hMergeIdeal := hMergeIdeal)
    ∧ quiescent_MergeRefIdeal (hMergeRefIdeal := hMergeRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_Gates (hGates := hGates)
    ∧ quiescent_GatesIdeal (hGatesIdeal := hGatesIdeal)
    ∧ quiescent_GatesRefIdeal (hGatesRefIdeal := hGatesRefIdeal)
    ∧ quiescent_Win (hWin := hWin)
    ∧ quiescent_WinIdeal (hWinIdeal := hWinIdeal)
    ∧ quiescent_WinRefIdeal (hWinRefIdeal := hWinRefIdeal)
    ∧ quiescent_Up (hUp := hUp) (hPre_moe_up_scheduled := hPre_moe_up_scheduled)
    ∧ quiescent_UpIdeal (hUpIdeal := hUpIdeal) (hPre_moe_up_scheduled := hPre_moe_up_scheduled)
    ∧ quiescent_UpRefIdeal (hUpRefIdeal := hUpRefIdeal)
    ∧ quiescent_UpRefIdeal_pre_moe_up_scheduled (hUpRefIdeal := hUpRefIdeal) (hPre_moe_up_scheduled := hPre_moe_up_scheduled)
    ∧ quiescent_Down (hDown := hDown) (hPre_moe_down_scheduled := hPre_moe_down_scheduled)
    ∧ quiescent_DownIdeal (hDownIdeal := hDownIdeal) (hPre_moe_down_scheduled := hPre_moe_down_scheduled)
    ∧ quiescent_DownRefIdeal (hDownRefIdeal := hDownRefIdeal)
    ∧ quiescent_DownRefIdeal_pre_moe_down_scheduled (hDownRefIdeal := hDownRefIdeal) (hPre_moe_down_scheduled := hPre_moe_down_scheduled)
    ∧ quiescent_Wout (hWout := hWout)
    ∧ quiescent_WoutIdeal (hWoutIdeal := hWoutIdeal)
    ∧ quiescent_WoutRefIdeal (hWoutRefIdeal := hWoutRefIdeal)
    ∧ quiescent_FfnA (hFfnA := hFfnA)
    ∧ quiescent_FfnAIdeal (hFfnAIdeal := hFfnAIdeal)
    ∧ quiescent_FfnARefIdeal (hFfnARefIdeal := hFfnARefIdeal)
    ∧ quiescent_FfnB (hFfnB := hFfnB)
    ∧ quiescent_FfnBIdeal (hFfnBIdeal := hFfnBIdeal)
    ∧ quiescent_FfnBRefIdeal (hFfnBRefIdeal := hFfnBRefIdeal)
    ∧ preserves_Merge_MergeIdeal
    ∧ algebraic_MergeIdeal_MergeRefIdeal (hMergeIdeal := hMergeIdeal) (hMergeRefIdeal := hMergeRefIdeal)
    ∧ preserves_Gmlp_GmlpIdeal
    ∧ algebraic_GmlpIdeal_GmlpRefIdeal (hGmlpIdeal := hGmlpIdeal) (hGmlpRefIdeal := hGmlpRefIdeal)
    ∧ preserves_Gates_GatesIdeal
    ∧ algebraic_GatesIdeal_GatesRefIdeal (hGatesIdeal := hGatesIdeal) (hGatesRefIdeal := hGatesRefIdeal)
    ∧ preserves_Win_WinIdeal
    ∧ algebraic_WinIdeal_WinRefIdeal (hWinIdeal := hWinIdeal) (hWinRefIdeal := hWinRefIdeal)
    ∧ preserves_Up_UpIdeal
    ∧ algebraic_UpIdeal_UpRefIdeal (hUpIdeal := hUpIdeal) (hUpRefIdeal := hUpRefIdeal) (hPre_moe_up_scheduled := hPre_moe_up_scheduled)
    ∧ preserves_Down_DownIdeal
    ∧ algebraic_DownIdeal_DownRefIdeal (hDownIdeal := hDownIdeal) (hDownRefIdeal := hDownRefIdeal) (hPre_moe_down_scheduled := hPre_moe_down_scheduled)
    ∧ preserves_Wout_WoutIdeal
    ∧ algebraic_WoutIdeal_WoutRefIdeal (hWoutIdeal := hWoutIdeal) (hWoutRefIdeal := hWoutRefIdeal)
    ∧ preserves_FfnA_FfnAIdeal
    ∧ algebraic_FfnAIdeal_FfnARefIdeal (hFfnAIdeal := hFfnAIdeal) (hFfnARefIdeal := hFfnARefIdeal)
    ∧ preserves_FfnB_FfnBIdeal
    ∧ algebraic_FfnBIdeal_FfnBRefIdeal (hFfnBIdeal := hFfnBIdeal) (hFfnBRefIdeal := hFfnBRefIdeal)
-- ==== Pre_moe_down_scheduled.lean ====
abbrev S40 : Shape := ⟨1, ![40]⟩
abbrev S1 : Shape := ⟨1, ![1]⟩
abbrev S20480x4096 : Shape := ⟨2, ![20480, 4096]⟩
abbrev S8x4096x4096 : Shape := ⟨3, ![8, 4096, 4096]⟩
abbrev S_ : Shape := ⟨0, ![]⟩
abbrev S39 : Shape := ⟨1, ![39]⟩

class Facts : Prop where
  shapeCasts_S1_S_ : S1.ShapeCasts S_
  bcast_S_S40 : S_.BroadcastsInDim S40 (![] : Fin 0 → Fin S40.rank)
  slices_S40_S39_0 : S40.Slices ![0] S39
  slices_S40_S39_1 : S40.Slices ![1] S39
  bcast_S_S39 : S_.BroadcastsInDim S39 (![] : Fin 0 → Fin S39.rank)
  bcast_S_S1 : S_.BroadcastsInDim S1 (![] : Fin 0 → Fin S1.rank)
  slices_S40_S1_0 : S40.Slices ![0] S1

variable [Facts]

def fn_where {F : FTy → Type} [FloatOps F] (arg0 : IVec S39 1) (arg1 : IVec S39 1) (arg2 : IVec S39 1) : IVec S39 1 :=
  let v0 : IVec S39 1 := select arg0 arg1 arg2
  v0

def fn_part3 {F : FTy → Type} [FloatOps F] (main_arg2 : IVec S40 32) (main_v3 : IVec S40 1) (main_v41 : IVec S39 1) (main_v43 : IVec S1 1) (main_v46 : IVec S1 1) (main_v53 : IVec S40 1) (main_v54 : IVec S40 1) (main_v56 : IVec S40 1) (main_v59 : IVec S40 32) : IVec S1 1 × IVec S1 1 × IVec S40 1 × IVec S40 1 × IVec S39 1 :=
  let main_v60 : IVec S40 1 := cmpi .eq main_arg2 main_v59
  let main_v61 : IVec S40 1 := andi main_v56 main_v60
  let main_v62 : IVec S40 1 := ori main_v54 main_v61
  let main_v63 : IVec S39 1 := (extractStridedSlice S39 ![1] · slices_S40_S39_1) main_v3
  let main_v64 : IVec S39 1 := noti main_v63
  let main_v65 : IVec S39 1 := ori main_v64 main_v41
  (main_v43, main_v46, main_v53, main_v62, main_v65)

def fn_part2 {F : FTy → Type} [FloatOps F] (main_arg0 : IVec S40 32) (main_arg1 : IVec S40 32) (main_arg2 : IVec S40 32) (main_arg3 : IVec S40 32) (main_arg5 : IVec S1 32) (main_v3 : IVec S40 1) (main_v11 : IVec S40 1) (main_v14 : IVec S39 1) (main_v29 : IVec S39 1) (main_v40 : IVec S39 1) : IVec S1 1 × IVec S1 1 × IVec S40 1 × IVec S40 1 × IVec S39 1 :=
  let main_v41 : IVec S39 1 := fn_where (F := F) main_v14 main_v29 main_v40
  let main_c_6 : IVec S_ 32 := constantI S_ 32 1#32
  let main_v42 : IVec S1 32 := broadcastInDim S1 ![] bcast_S_S1 main_c_6
  let main_v43 : IVec S1 1 := cmpi .sge main_arg5 main_v42
  let main_v44 : IVec S1 32 := (extractStridedSlice S1 ![0] · slices_S40_S1_0) main_arg1
  let main_c_7 : IVec S_ 32 := constantI S_ 32 1#32
  let main_v45 : IVec S1 32 := broadcastInDim S1 ![] bcast_S_S1 main_c_7
  let main_v46 : IVec S1 1 := cmpi .eq main_v44 main_v45
  let main_v47 : IVec S40 1 := noti main_v3
  let main_c_8 : IVec S_ 32 := constantI S_ 32 0#32
  let main_v48 : IVec S40 32 := broadcastInDim S40 ![] bcast_S_S40 main_c_8
  let main_v49 : IVec S40 1 := cmpi .sge main_arg0 main_v48
  let main_c_9 : IVec S_ 32 := constantI S_ 32 8#32
  let main_v50 : IVec S40 32 := broadcastInDim S40 ![] bcast_S_S40 main_c_9
  let main_v51 : IVec S40 1 := cmpi .slt main_arg0 main_v50
  let main_v52 : IVec S40 1 := andi main_v49 main_v51
  let main_v53 : IVec S40 1 := ori main_v47 main_v52
  let main_v54 : IVec S40 1 := noti main_v11
  let main_c_10 : IVec S_ 32 := constantI S_ 32 1#32
  let main_v55 : IVec S40 32 := broadcastInDim S40 ![] bcast_S_S40 main_c_10
  let main_v56 : IVec S40 1 := cmpi .eq main_arg3 main_v55
  let main_v57 : IVec S1 32 := (extractStridedSlice S1 ![0] · slices_S40_S1_0) main_arg0
  let main_v58 : IVec S_ 32 := shapeCast S_ main_v57 shapeCasts_S1_S_
  let main_v59 : IVec S40 32 := broadcastInDim S40 ![] bcast_S_S40 main_v58
  fn_part3 (F := F) main_arg2 main_v3 main_v41 main_v43 main_v46 main_v53 main_v54 main_v56 main_v59

def fn_part1 {F : FTy → Type} [FloatOps F] (main_arg0 : IVec S40 32) (main_arg1 : IVec S40 32) (main_arg2 : IVec S40 32) (main_arg3 : IVec S40 32) (main_arg5 : IVec S1 32) (main_v3 : IVec S40 1) (main_v11 : IVec S40 1) (main_v14 : IVec S39 1) (main_v17 : IVec S39 1) (main_v20 : IVec S39 1) : IVec S1 1 × IVec S1 1 × IVec S40 1 × IVec S40 1 × IVec S39 1 :=
  let main_v21 : IVec S39 1 := andi main_v17 main_v20
  let main_v22 : IVec S39 32 := (extractStridedSlice S39 ![0] · slices_S40_S39_0) main_arg3
  let main_c_2 : IVec S_ 32 := constantI S_ 32 1#32
  let main_v23 : IVec S39 32 := broadcastInDim S39 ![] bcast_S_S39 main_c_2
  let main_v24 : IVec S39 1 := cmpi .eq main_v22 main_v23
  let main_v25 : IVec S39 32 := (extractStridedSlice S39 ![1] · slices_S40_S39_1) main_arg3
  let main_c_3 : IVec S_ 32 := constantI S_ 32 1#32
  let main_v26 : IVec S39 32 := broadcastInDim S39 ![] bcast_S_S39 main_c_3
  let main_v27 : IVec S39 1 := cmpi .eq main_v25 main_v26
  let main_v28 : IVec S39 1 := cmpi .eq main_v24 main_v27
  let main_v29 : IVec S39 1 := andi main_v21 main_v28
  let main_v30 : IVec S39 32 := (extractStridedSlice S39 ![1] · slices_S40_S39_1) main_arg1
  let main_c_4 : IVec S_ 32 := constantI S_ 32 1#32
  let main_v31 : IVec S39 32 := broadcastInDim S39 ![] bcast_S_S39 main_c_4
  let main_v32 : IVec S39 1 := cmpi .eq main_v30 main_v31
  let main_v33 : IVec S39 32 := (extractStridedSlice S39 ![0] · slices_S40_S39_0) main_arg2
  let main_v34 : IVec S39 32 := (extractStridedSlice S39 ![1] · slices_S40_S39_1) main_arg0
  let main_v35 : IVec S39 1 := cmpi .eq main_v33 main_v34
  let main_v36 : IVec S39 1 := andi main_v32 main_v35
  let main_v37 : IVec S39 32 := (extractStridedSlice S39 ![0] · slices_S40_S39_0) main_arg3
  let main_c_5 : IVec S_ 32 := constantI S_ 32 1#32
  let main_v38 : IVec S39 32 := broadcastInDim S39 ![] bcast_S_S39 main_c_5
  let main_v39 : IVec S39 1 := cmpi .ne main_v37 main_v38
  let main_v40 : IVec S39 1 := andi main_v36 main_v39
  fn_part2 (F := F) main_arg0 main_arg1 main_arg2 main_arg3 main_arg5 main_v3 main_v11 main_v14 main_v29 main_v40

def fn {F : FTy → Type} [FloatOps F] (main_arg0 : IVec S40 32) (main_arg1 : IVec S40 32) (main_arg2 : IVec S40 32) (main_arg3 : IVec S40 32) (main_arg4 : IVec S40 32) (main_arg5 : IVec S1 32) (main_arg6 : FVec F S20480x4096 .bf16) (main_arg7 : FVec F S8x4096x4096 .f32) : IVec S1 1 × IVec S1 1 × IVec S40 1 × IVec S40 1 × IVec S39 1 :=
  let main_v0 : IVec S40 32 := iotaInDim S40 32 0
  let main_v1 : IVec S_ 32 := shapeCast S_ main_arg5 shapeCasts_S1_S_
  let main_v2 : IVec S40 32 := broadcastInDim S40 ![] bcast_S_S40 main_v1
  let main_v3 : IVec S40 1 := cmpi .slt main_v0 main_v2
  let main_v4 : IVec S_ 32 := shapeCast S_ main_arg5 shapeCasts_S1_S_
  let main_c : IVec S_ 32 := constantI S_ 32 1#32
  let main_v5 : IVec S_ 32 := subi main_v4 main_c
  let main_v6 : IVec S40 32 := broadcastInDim S40 ![] bcast_S_S40 main_v5
  let main_v7 : IVec S40 1 := cmpi .eq main_v0 main_v6
  let main_c_0 : IVec S_ 32 := constantI S_ 32 39#32
  let main_v8 : IVec S40 32 := broadcastInDim S40 ![] bcast_S_S40 main_c_0
  let main_v9 : IVec S40 1 := cmpi .eq main_v0 main_v8
  let main_v10 : IVec S40 1 := andi main_v9 main_v3
  let main_v11 : IVec S40 1 := ori main_v7 main_v10
  let main_v12 : IVec S39 32 := (extractStridedSlice S39 ![0] · slices_S40_S39_0) main_arg0
  let main_v13 : IVec S39 32 := (extractStridedSlice S39 ![1] · slices_S40_S39_1) main_arg0
  let main_v14 : IVec S39 1 := cmpi .eq main_v12 main_v13
  let main_v15 : IVec S39 32 := (extractStridedSlice S39 ![1] · slices_S40_S39_1) main_arg1
  let main_c_1 : IVec S_ 32 := constantI S_ 32 1#32
  let main_v16 : IVec S39 32 := broadcastInDim S39 ![] bcast_S_S39 main_c_1
  let main_v17 : IVec S39 1 := cmpi .ne main_v15 main_v16
  let main_v18 : IVec S39 32 := (extractStridedSlice S39 ![0] · slices_S40_S39_0) main_arg2
  let main_v19 : IVec S39 32 := (extractStridedSlice S39 ![1] · slices_S40_S39_1) main_arg2
  let main_v20 : IVec S39 1 := cmpi .eq main_v18 main_v19
  fn_part1 (F := F) main_arg0 main_arg1 main_arg2 main_arg3 main_arg5 main_v3 main_v11 main_v14 main_v17 main_v20
-- ==== Pre_moe_up_scheduled.lean ====
abbrev S40 : Shape := ⟨1, ![40]⟩
abbrev S1 : Shape := ⟨1, ![1]⟩
abbrev S20480x4096 : Shape := ⟨2, ![20480, 4096]⟩
abbrev S8x4096x4096 : Shape := ⟨3, ![8, 4096, 4096]⟩
abbrev S_ : Shape := ⟨0, ![]⟩
abbrev S39 : Shape := ⟨1, ![39]⟩

class Facts : Prop where
  shapeCasts_S1_S_ : S1.ShapeCasts S_
  bcast_S_S40 : S_.BroadcastsInDim S40 (![] : Fin 0 → Fin S40.rank)
  slices_S40_S39_0 : S40.Slices ![0] S39
  slices_S40_S39_1 : S40.Slices ![1] S39
  bcast_S_S39 : S_.BroadcastsInDim S39 (![] : Fin 0 → Fin S39.rank)
  bcast_S_S1 : S_.BroadcastsInDim S1 (![] : Fin 0 → Fin S1.rank)
  slices_S40_S1_0 : S40.Slices ![0] S1

variable [Facts]

def fn_where {F : FTy → Type} [FloatOps F] (arg0 : IVec S39 1) (arg1 : IVec S39 1) (arg2 : IVec S39 1) : IVec S39 1 :=
  let v0 : IVec S39 1 := select arg0 arg1 arg2
  v0

def fn_part3 {F : FTy → Type} [FloatOps F] (main_arg2 : IVec S40 32) (main_v3 : IVec S40 1) (main_v41 : IVec S39 1) (main_v43 : IVec S1 1) (main_v46 : IVec S1 1) (main_v53 : IVec S40 1) (main_v54 : IVec S40 1) (main_v56 : IVec S40 1) (main_v59 : IVec S40 32) : IVec S1 1 × IVec S1 1 × IVec S40 1 × IVec S40 1 × IVec S39 1 :=
  let main_v60 : IVec S40 1 := cmpi .eq main_arg2 main_v59
  let main_v61 : IVec S40 1 := andi main_v56 main_v60
  let main_v62 : IVec S40 1 := ori main_v54 main_v61
  let main_v63 : IVec S39 1 := (extractStridedSlice S39 ![1] · slices_S40_S39_1) main_v3
  let main_v64 : IVec S39 1 := noti main_v63
  let main_v65 : IVec S39 1 := ori main_v64 main_v41
  (main_v43, main_v46, main_v53, main_v62, main_v65)

def fn_part2 {F : FTy → Type} [FloatOps F] (main_arg0 : IVec S40 32) (main_arg1 : IVec S40 32) (main_arg2 : IVec S40 32) (main_arg3 : IVec S40 32) (main_arg5 : IVec S1 32) (main_v3 : IVec S40 1) (main_v11 : IVec S40 1) (main_v14 : IVec S39 1) (main_v29 : IVec S39 1) (main_v40 : IVec S39 1) : IVec S1 1 × IVec S1 1 × IVec S40 1 × IVec S40 1 × IVec S39 1 :=
  let main_v41 : IVec S39 1 := fn_where (F := F) main_v14 main_v29 main_v40
  let main_c_6 : IVec S_ 32 := constantI S_ 32 1#32
  let main_v42 : IVec S1 32 := broadcastInDim S1 ![] bcast_S_S1 main_c_6
  let main_v43 : IVec S1 1 := cmpi .sge main_arg5 main_v42
  let main_v44 : IVec S1 32 := (extractStridedSlice S1 ![0] · slices_S40_S1_0) main_arg1
  let main_c_7 : IVec S_ 32 := constantI S_ 32 1#32
  let main_v45 : IVec S1 32 := broadcastInDim S1 ![] bcast_S_S1 main_c_7
  let main_v46 : IVec S1 1 := cmpi .eq main_v44 main_v45
  let main_v47 : IVec S40 1 := noti main_v3
  let main_c_8 : IVec S_ 32 := constantI S_ 32 0#32
  let main_v48 : IVec S40 32 := broadcastInDim S40 ![] bcast_S_S40 main_c_8
  let main_v49 : IVec S40 1 := cmpi .sge main_arg0 main_v48
  let main_c_9 : IVec S_ 32 := constantI S_ 32 8#32
  let main_v50 : IVec S40 32 := broadcastInDim S40 ![] bcast_S_S40 main_c_9
  let main_v51 : IVec S40 1 := cmpi .slt main_arg0 main_v50
  let main_v52 : IVec S40 1 := andi main_v49 main_v51
  let main_v53 : IVec S40 1 := ori main_v47 main_v52
  let main_v54 : IVec S40 1 := noti main_v11
  let main_c_10 : IVec S_ 32 := constantI S_ 32 1#32
  let main_v55 : IVec S40 32 := broadcastInDim S40 ![] bcast_S_S40 main_c_10
  let main_v56 : IVec S40 1 := cmpi .eq main_arg3 main_v55
  let main_v57 : IVec S1 32 := (extractStridedSlice S1 ![0] · slices_S40_S1_0) main_arg0
  let main_v58 : IVec S_ 32 := shapeCast S_ main_v57 shapeCasts_S1_S_
  let main_v59 : IVec S40 32 := broadcastInDim S40 ![] bcast_S_S40 main_v58
  fn_part3 (F := F) main_arg2 main_v3 main_v41 main_v43 main_v46 main_v53 main_v54 main_v56 main_v59

def fn_part1 {F : FTy → Type} [FloatOps F] (main_arg0 : IVec S40 32) (main_arg1 : IVec S40 32) (main_arg2 : IVec S40 32) (main_arg3 : IVec S40 32) (main_arg5 : IVec S1 32) (main_v3 : IVec S40 1) (main_v11 : IVec S40 1) (main_v14 : IVec S39 1) (main_v17 : IVec S39 1) (main_v20 : IVec S39 1) : IVec S1 1 × IVec S1 1 × IVec S40 1 × IVec S40 1 × IVec S39 1 :=
  let main_v21 : IVec S39 1 := andi main_v17 main_v20
  let main_v22 : IVec S39 32 := (extractStridedSlice S39 ![0] · slices_S40_S39_0) main_arg3
  let main_c_2 : IVec S_ 32 := constantI S_ 32 1#32
  let main_v23 : IVec S39 32 := broadcastInDim S39 ![] bcast_S_S39 main_c_2
  let main_v24 : IVec S39 1 := cmpi .eq main_v22 main_v23
  let main_v25 : IVec S39 32 := (extractStridedSlice S39 ![1] · slices_S40_S39_1) main_arg3
  let main_c_3 : IVec S_ 32 := constantI S_ 32 1#32
  let main_v26 : IVec S39 32 := broadcastInDim S39 ![] bcast_S_S39 main_c_3
  let main_v27 : IVec S39 1 := cmpi .eq main_v25 main_v26
  let main_v28 : IVec S39 1 := cmpi .eq main_v24 main_v27
  let main_v29 : IVec S39 1 := andi main_v21 main_v28
  let main_v30 : IVec S39 32 := (extractStridedSlice S39 ![1] · slices_S40_S39_1) main_arg1
  let main_c_4 : IVec S_ 32 := constantI S_ 32 1#32
  let main_v31 : IVec S39 32 := broadcastInDim S39 ![] bcast_S_S39 main_c_4
  let main_v32 : IVec S39 1 := cmpi .eq main_v30 main_v31
  let main_v33 : IVec S39 32 := (extractStridedSlice S39 ![0] · slices_S40_S39_0) main_arg2
  let main_v34 : IVec S39 32 := (extractStridedSlice S39 ![1] · slices_S40_S39_1) main_arg0
  let main_v35 : IVec S39 1 := cmpi .eq main_v33 main_v34
  let main_v36 : IVec S39 1 := andi main_v32 main_v35
  let main_v37 : IVec S39 32 := (extractStridedSlice S39 ![0] · slices_S40_S39_0) main_arg3
  let main_c_5 : IVec S_ 32 := constantI S_ 32 1#32
  let main_v38 : IVec S39 32 := broadcastInDim S39 ![] bcast_S_S39 main_c_5
  let main_v39 : IVec S39 1 := cmpi .ne main_v37 main_v38
  let main_v40 : IVec S39 1 := andi main_v36 main_v39
  fn_part2 (F := F) main_arg0 main_arg1 main_arg2 main_arg3 main_arg5 main_v3 main_v11 main_v14 main_v29 main_v40

def fn {F : FTy → Type} [FloatOps F] (main_arg0 : IVec S40 32) (main_arg1 : IVec S40 32) (main_arg2 : IVec S40 32) (main_arg3 : IVec S40 32) (main_arg4 : IVec S40 32) (main_arg5 : IVec S1 32) (main_arg6 : FVec F S20480x4096 .bf16) (main_arg7 : FVec F S8x4096x4096 .f32) (main_arg8 : FVec F S8x4096x4096 .f32) : IVec S1 1 × IVec S1 1 × IVec S40 1 × IVec S40 1 × IVec S39 1 :=
  let main_v0 : IVec S40 32 := iotaInDim S40 32 0
  let main_v1 : IVec S_ 32 := shapeCast S_ main_arg5 shapeCasts_S1_S_
  let main_v2 : IVec S40 32 := broadcastInDim S40 ![] bcast_S_S40 main_v1
  let main_v3 : IVec S40 1 := cmpi .slt main_v0 main_v2
  let main_v4 : IVec S_ 32 := shapeCast S_ main_arg5 shapeCasts_S1_S_
  let main_c : IVec S_ 32 := constantI S_ 32 1#32
  let main_v5 : IVec S_ 32 := subi main_v4 main_c
  let main_v6 : IVec S40 32 := broadcastInDim S40 ![] bcast_S_S40 main_v5
  let main_v7 : IVec S40 1 := cmpi .eq main_v0 main_v6
  let main_c_0 : IVec S_ 32 := constantI S_ 32 39#32
  let main_v8 : IVec S40 32 := broadcastInDim S40 ![] bcast_S_S40 main_c_0
  let main_v9 : IVec S40 1 := cmpi .eq main_v0 main_v8
  let main_v10 : IVec S40 1 := andi main_v9 main_v3
  let main_v11 : IVec S40 1 := ori main_v7 main_v10
  let main_v12 : IVec S39 32 := (extractStridedSlice S39 ![0] · slices_S40_S39_0) main_arg0
  let main_v13 : IVec S39 32 := (extractStridedSlice S39 ![1] · slices_S40_S39_1) main_arg0
  let main_v14 : IVec S39 1 := cmpi .eq main_v12 main_v13
  let main_v15 : IVec S39 32 := (extractStridedSlice S39 ![1] · slices_S40_S39_1) main_arg1
  let main_c_1 : IVec S_ 32 := constantI S_ 32 1#32
  let main_v16 : IVec S39 32 := broadcastInDim S39 ![] bcast_S_S39 main_c_1
  let main_v17 : IVec S39 1 := cmpi .ne main_v15 main_v16
  let main_v18 : IVec S39 32 := (extractStridedSlice S39 ![0] · slices_S40_S39_0) main_arg2
  let main_v19 : IVec S39 32 := (extractStridedSlice S39 ![1] · slices_S40_S39_1) main_arg2
  let main_v20 : IVec S39 1 := cmpi .eq main_v18 main_v19
  fn_part1 (F := F) main_arg0 main_arg1 main_arg2 main_arg3 main_arg5 main_v3 main_v11 main_v14 main_v17 main_v20
-- ==== Merge.lean ====
abbrev S8192x1024 : Shape := ⟨2, ![8192, 1024]⟩
abbrev S8192x16384 : Shape := ⟨2, ![8192, 16384]⟩
abbrev S4x1024x4096 : Shape := ⟨3, ![4, 1024, 4096]⟩
abbrev S8192x4096 : Shape := ⟨2, ![8192, 4096]⟩
abbrev S1024x1024 : Shape := ⟨2, ![1024, 1024]⟩
abbrev S1024x512 : Shape := ⟨2, ![1024, 512]⟩
abbrev S4x1024x512 : Shape := ⟨3, ![4, 1024, 512]⟩
abbrev S1x1024x256 : Shape := ⟨3, ![1, 1024, 256]⟩
abbrev S1024x256 : Shape := ⟨2, ![1024, 256]⟩

abbrev nBuf : Space → Nat
  | .hbm => 7
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x16384, .bf16⟩
  | .hbm, ⟨5, _⟩ => ⟨S4x1024x4096, .f32⟩
  | .hbm, ⟨6, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S4x1024x512, .f32⟩
  | .local _ .vmem, ⟨17, _⟩ => ⟨S4x1024x512, .f32⟩
  | .local _ .vmem, ⟨18, _⟩ => ⟨S1024x512, .bf16⟩
  | .local _ .vmem, ⟨19, _⟩ => ⟨S1024x512, .bf16⟩
  | .local _ .vmem, ⟨20, _⟩ => ⟨S4x1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8192x1024 : Shape := ⟨2, ![8192, 1024]⟩
abbrev S8192x16384 : Shape := ⟨2, ![8192, 16384]⟩
abbrev S4x1024x4096 : Shape := ⟨3, ![4, 1024, 4096]⟩
abbrev S8192x1x1024 : Shape := ⟨3, ![8192, 1, 1024]⟩
abbrev S8192x4x1024 : Shape := ⟨3, ![8192, 4, 1024]⟩
abbrev S4x4096x8192 : Shape := ⟨3, ![4, 4096, 8192]⟩
abbrev S8192x4x4096 : Shape := ⟨3, ![8192, 4, 4096]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x16384, .bf16⟩
  | .hbm, ⟨5, _⟩ => ⟨S4x1024x4096, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1x1024, .f32⟩
  | .hbm, ⟨11, _⟩ => ⟨S8192x1x1024, .f32⟩
  | .hbm, ⟨12, _⟩ => ⟨S8192x1x1024, .f32⟩
  | .hbm, ⟨13, _⟩ => ⟨S8192x1x1024, .f32⟩
  | .hbm, ⟨14, _⟩ => ⟨S8192x4x1024, .f32⟩
  | .hbm, ⟨15, _⟩ => ⟨S4x4096x8192, .f32⟩
  | .hbm, ⟨16, _⟩ => ⟨S8192x4x4096, .f32⟩
  | .hbm, ⟨17, _⟩ => ⟨S8192x16384, .f32⟩
  | .hbm, ⟨18, _⟩ => ⟨S8192x4x4096, .f32⟩
  | .hbm, ⟨19, _⟩ => ⟨S8192x4096, .f32⟩
  | .hbm, ⟨20, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Gmlp.lean ====
abbrev S8192x6144 : Shape := ⟨2, ![8192, 6144]⟩
abbrev S1024 : Shape := ⟨1, ![1024]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S128x512 : Shape := ⟨2, ![128, 512]⟩
abbrev S1x128x128 : Shape := ⟨3, ![1, 128, 128]⟩

abbrev nBuf : Space → Nat
  | .hbm => 11
  | .vmem => 10
  | .smem => 0
  | _ => 0

abbrev bufTy : (tb : Table) → Fin (tcTables nBuf tb) → BufTy
  | .hbm, ⟨0, _⟩ => ⟨S8192x6144, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S128x8x128, .f32⟩
  | .hbm, ⟨7, _⟩ => ⟨S128x1024, .f32⟩
  | .hbm, ⟨8, _⟩ => ⟨S1x1024, .f32⟩
  | .hbm, ⟨9, _⟩ => ⟨S1x1024, .f32⟩
  | .hbm, ⟨10, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x1024, .f32⟩
  | .local _ .vmem, ⟨8, _⟩ => ⟨S512x1024, .bf16⟩
  | .local _ .vmem, ⟨9, _⟩ => ⟨S512x1024, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpRefIdeal.lean ====
abbrev S8192x6144 : Shape := ⟨2, ![8192, 6144]⟩
abbrev S1024 : Shape := ⟨1, ![1024]⟩
abbrev S8x128x128 : Shape := ⟨3, ![8, 128, 128]⟩
abbrev S8x128 : Shape := ⟨2, ![8, 128]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S64x128x8x128 : Shape := ⟨4, ![64, 128, 8, 128]⟩
abbrev S8x64x128x128 : Shape := ⟨4, ![8, 64, 128, 128]⟩
abbrev S128x8 : Shape := ⟨2, ![128, 8]⟩
abbrev S1x128x8x1 : Shape := ⟨4, ![1, 128, 8, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S8192x6144, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S64x128x8x128, .f32⟩
  | .hbm, ⟨38, _⟩ => ⟨S8x64x128x128, .f32⟩
  | .hbm, ⟨39, _⟩ => ⟨S64x128x8x128, .f32⟩
  | .hbm, ⟨40, _⟩ => ⟨S128x8, .f32⟩
  | .hbm, ⟨41, _⟩ => ⟨S1x128x8x1, .f32⟩
  | .hbm, ⟨42, _⟩ => ⟨S64x128x8x128, .f32⟩
  | .hbm, ⟨43, _⟩ => ⟨S64x128x8x128, .f32⟩
  | .hbm, ⟨44, _⟩ => ⟨S8192x1024, .f32⟩
  | .hbm, ⟨45, _⟩ => ⟨S8192x1024, .f32⟩
  | .hbm, ⟨46, _⟩ => ⟨S8192x1024, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Gates.lean ====
abbrev S8192x4096 : Shape := ⟨2, ![8192, 4096]⟩
abbrev S4096x16384 : Shape := ⟨2, ![4096, 16384]⟩
abbrev S8192x16384 : Shape := ⟨2, ![8192, 16384]⟩
abbrev S1024x4096 : Shape := ⟨2, ![1024, 4096]⟩
abbrev S1024x1024 : Shape := ⟨2, ![1024, 1024]⟩
abbrev S4096x1024 : Shape := ⟨2, ![4096, 1024]⟩
abbrev S_ : Shape := ⟨0, ![]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S4096x1024, .f32⟩
  | .local _ .vmem, ⟨5, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_9 : BitVec 32 := 0#32
  let v15 : BitVec 1 := Scalar.cmpi .eq arg0 c0_i32_9
  let v16 : BitVec 32 := Scalar.extui v15
  let c0_i32_10 : BitVec 32 := 0#32
  let v17 : BitVec 1 := Scalar.cmpi .ne v16 c0_i32_10
  v17

def k0_mult1 (i : grid0.Coords) : BitVec 32 :=
  let arg0 : BitVec 32 := BitVec.ofNat 32 (i 0).val
  let c1024_i32_16 : BitVec 32 := 1024#32
  let v26 : BitVec 32 := Scalar.muli arg0 c1024_i32_16
  v26
def k0_off1 (i : grid0.Coords) : Fin 2 → Nat :=
  let c0_i32_17 : BitVec 32 := 0#32
  let arg0 : BitVec 32 := BitVec.ofNat 32 (i 0).val
  let c1024_i32_16 : BitVec 32 := 1024#32
  let v26 : BitVec 32 := Scalar.muli arg0 c1024_i32_16
  let v27 : BitVec 32 := v26
  ![0, v27.toNat]
def k0_mult2 (i : grid0.Coords) : BitVec 32 :=
  let arg0 : BitVec 32 := BitVec.ofNat 32 (i 0).val
  let c1024_i32 : BitVec 32 := 1024#32
  let v18 : BitVec 32 := Scalar.muli arg0 c1024_i32
  v18
def k0_off2 (i : grid0.Coords) : Fin 2 → Nat :=
  let c0_i32_11 : BitVec 32 := 0#32
  let arg0 : BitVec 32 := BitVec.ofNat 32 (i 0).val
  let c1024_i32 : BitVec 32 := 1024#32
  let v18 : BitVec 32 := Scalar.muli arg0 c1024_i32
  let v19 : BitVec 32 := v18
  ![0, v19.toNat]
@[reducible] def k0_t1_loop : Scf.Loop 32 :=
  let c0_i32_12 : BitVec 32 := 0#32
  let c32_i32 : BitVec 32 := 32#32
  let v21 : BitVec 32 := Scalar.addi c0_i32_12 c32_i32
  let c1_i32 : BitVec 32 := 1#32
  ⟨c0_i32_12, v21, c1_i32⟩
def k0_mult3 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c128_i32 : BitVec 32 := 128#32
  let v26 : BitVec 32 := Scalar.muli arg8 c128_i32
  v26
def k0_off3 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c128_i32 : BitVec 32 := 128#32
  let v26 : BitVec 32 := Scalar.muli arg8 c128_i32
  let v27 : BitVec 32 := v26
  let v28 : Index := Scalar.indexCast v27
  let c0_16 : Index := 0#32
  ![v28.toNat, 0]
def k0_cond3 (i : grid0.Coords) : BitVec 1 :=
  let arg0 : BitVec 32 := BitVec.ofNat 32 (i 0).val
  let c1_i32_14 : BitVec 32 := 1#32
  let v22 : BitVec 32 := Scalar.addi arg0 c1_i32_14
  let c16_i32 : BitVec 32 := 16#32
  let v23 : BitVec 1 := Scalar.cmpi .slt v22 c16_i32
  let v24 : BitVec 32 := Scalar.extui v23
  let c0_i32_15 : BitVec 32 := 0#32
  let v25 : BitVec 1 := Scalar.cmpi .ne v24 c0_i32_15
  v25

def k0_mult4 (i : grid0.Coords) : BitVec 32 :=
  let arg0 : BitVec 32 := BitVec.ofNat 32 (i 0).val
  let c1_i32_16 : BitVec 32 := 1#32
  let v26 : BitVec 32 := Scalar.addi arg0 c1_i32_16
  let c1024_i32_17 : BitVec 32 := 1024#32
  let v27 : BitVec 32 := Scalar.muli v26 c1024_i32_17
  v27
def k0_off4 (i : grid0.Coords) : Fin 2 → Nat :=
  let c0_i32_18 : BitVec 32 := 0#32
  let arg0 : BitVec 32 := BitVec.ofNat 32 (i 0).val
  let c1_i32_16 : BitVec 32 := 1#32
  let v26 : BitVec 32 := Scalar.addi arg0 c1_i32_16
  let c1024_i32_17 : BitVec 32 := 1024#32
  let v27 : BitVec 32 := Scalar.muli v26 c1024_i32_17
  let v28 : BitVec 32 := v27
  ![0, v28.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== GatesRefIdeal.lean ====
abbrev S8192x4096 : Shape := ⟨2, ![8192, 4096]⟩
abbrev S4096x16384 : Shape := ⟨2, ![4096, 16384]⟩
abbrev S8192x16384 : Shape := ⟨2, ![8192, 16384]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x4096, .f32⟩
  | .hbm, ⟨3, _⟩ => ⟨S8192x16384, .f32⟩
  | .hbm, ⟨4, _⟩ => ⟨S8192x16384, .f32⟩
  | .hbm, ⟨5, _⟩ => ⟨S8192x16384, .f32⟩
  | .hbm, ⟨6, _⟩ => ⟨S_, .f32⟩
  | .hbm, ⟨7, _⟩ => ⟨S8192x16384, .f32⟩
  | .hbm, ⟨8, _⟩ => ⟨S8192x16384, .f32⟩
  | .hbm, ⟨9, _⟩ => ⟨S_, .f32⟩
  | .hbm, ⟨10, _⟩ => ⟨S8192x16384, .f32⟩
  | .hbm, ⟨11, _⟩ => ⟨S8192x16384, .f32⟩
  | .hbm, ⟨12, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Win.lean ====
abbrev S8192x4096 : Shape := ⟨2, ![8192, 4096]⟩
abbrev S4096x6144 : Shape := ⟨2, ![4096, 6144]⟩
abbrev S8192x6144 : Shape := ⟨2, ![8192, 6144]⟩
abbrev S1024x4096 : Shape := ⟨2, ![1024, 4096]⟩
abbrev S1024x1024 : Shape := ⟨2, ![1024, 1024]⟩
abbrev S4096x1024 : Shape := ⟨2, ![4096, 1024]⟩
abbrev S_ : Shape := ⟨0, ![]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x6144, .f32⟩
  | .hbm, ⟨2, _⟩ => ⟨S8192x6144, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S4096x1024, .f32⟩
  | .local _ .vmem, ⟨5, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_6 : BitVec 32 := 0#32
  let v8 : BitVec 1 := Scalar.cmpi .eq arg0 c0_i32_6
  let v9 : BitVec 32 := Scalar.extui v8
  let c0_i32_7 : BitVec 32 := 0#32
  let v10 : BitVec 1 := Scalar.cmpi .ne v9 c0_i32_7
  v10

def k0_mult1 (i : grid0.Coords) : BitVec 32 :=
  let arg0 : BitVec 32 := BitVec.ofNat 32 (i 0).val
  let c1024_i32_13 : BitVec 32 := 1024#32
  let v19 : BitVec 32 := Scalar.muli arg0 c1024_i32_13
  v19
def k0_off1 (i : grid0.Coords) : Fin 2 → Nat :=
  let c0_i32_14 : BitVec 32 := 0#32
  let arg0 : BitVec 32 := BitVec.ofNat 32 (i 0).val
  let c1024_i32_13 : BitVec 32 := 1024#32
  let v19 : BitVec 32 := Scalar.muli arg0 c1024_i32_13
  let v20 : BitVec 32 := v19
  ![0, v20.toNat]
def k0_mult2 (i : grid0.Coords) : BitVec 32 :=
  let arg0 : BitVec 32 := BitVec.ofNat 32 (i 0).val
  let c1024_i32 : BitVec 32 := 1024#32
  let v11 : BitVec 32 := Scalar.muli arg0 c1024_i32
  v11
def k0_off2 (i : grid0.Coords) : Fin 2 → Nat :=
  let c0_i32_8 : BitVec 32 := 0#32
  let arg0 : BitVec 32 := BitVec.ofNat 32 (i 0).val
  let c1024_i32 : BitVec 32 := 1024#32
  let v11 : BitVec 32 := Scalar.muli arg0 c1024_i32
  let v12 : BitVec 32 := v11
  ![0, v12.toNat]
@[reducible] def k0_t1_loop : Scf.Loop 32 :=
  let c0_i32_9 : BitVec 32 := 0#32
  let c32_i32 : BitVec 32 := 32#32
  let v14 : BitVec 32 := Scalar.addi c0_i32_9 c32_i32
  let c1_i32 : BitVec 32 := 1#32
  ⟨c0_i32_9, v14, c1_i32⟩
def k0_mult3 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v19 : BitVec 32 := Scalar.muli arg8 c128_i32
  v19
def k0_off3 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c128_i32 : BitVec 32 := 128#32
  let v19 : BitVec 32 := Scalar.muli arg8 c128_i32
  let v20 : BitVec 32 := v19
  let v21 : Index := Scalar.indexCast v20
  let c0_13 : Index := 0#32
  ![v21.toNat, 0]
def k0_cond3 (i : grid0.Coords) : BitVec 1 :=
  let arg0 : BitVec 32 := BitVec.ofNat 32 (i 0).val
  let c1_i32_11 : BitVec 32 := 1#32
  let v15 : BitVec 32 := Scalar.addi arg0 c1_i32_11
  let c6_i32 : BitVec 32 := 6#32
  let v16 : BitVec 1 := Scalar.cmpi .slt v15 c6_i32
  let v17 : BitVec 32 := Scalar.extui v16
  let c0_i32_12 : BitVec 32 := 0#32
  let v18 : BitVec 1 := Scalar.cmpi .ne v17 c0_i32_12
  v18

def k0_mult4 (i : grid0.Coords) : BitVec 32 :=
  let arg0 : BitVec 32 := BitVec.ofNat 32 (i 0).val
  let c1_i32_13 : BitVec 32 := 1#32
  let v19 : BitVec 32 := Scalar.addi arg0 c1_i32_13
  let c1024_i32_14 : BitVec 32 := 1024#32
  let v20 : BitVec 32 := Scalar.muli v19 c1024_i32_14
  v20
def k0_off4 (i : grid0.Coords) : Fin 2 → Nat :=
  let c0_i32_15 : BitVec 32 := 0#32
  let arg0 : BitVec 32 := BitVec.ofNat 32 (i 0).val
  let c1_i32_13 : BitVec 32 := 1#32
  let v19 : BitVec 32 := Scalar.addi arg0 c1_i32_13
  let c1024_i32_14 : BitVec 32 := 1024#32
  let v20 : BitVec 32 := Scalar.muli v19 c1024_i32_14
  let v21 : BitVec 32 := v20
  ![0, v21.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== WinRefIdeal.lean ====
abbrev S8192x4096 : Shape := ⟨2, ![8192, 4096]⟩
abbrev S4096x6144 : Shape := ⟨2, ![4096, 6144]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x6144, .f32⟩
  | .hbm, ⟨2, _⟩ => ⟨S8192x4096, .f32⟩
  | .hbm, ⟨3, _⟩ => ⟨S8192x6144, .f32⟩
  | .hbm, ⟨4, _⟩ => ⟨S8192x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S40 : Shape := ⟨1, ![40]⟩
abbrev S1 : Shape := ⟨1, ![1]⟩
abbrev S20480x4096 : Shape := ⟨2, ![20480, 4096]⟩
abbrev S8x4096x4096 : Shape := ⟨3, ![8, 4096, 4096]⟩
abbrev S512x4096 : Shape := ⟨2, ![512, 4096]⟩
abbrev S512x512 : Shape := ⟨2, ![512, 512]⟩
abbrev S4096x512 : Shape := ⟨2, ![4096, 512]⟩
abbrev S2 : Shape := ⟨1, ![2]⟩
abbrev S_ : Shape := ⟨0, ![]⟩
abbrev S1x4096x512 : Shape := ⟨3, ![1, 4096, 512]⟩
abbrev S128x512 : Shape := ⟨2, ![128, 512]⟩
abbrev S256x4096 : Shape := ⟨2, ![256, 4096]⟩
abbrev S256x512 : Shape := ⟨2, ![256, 512]⟩

abbrev nBuf : Space → Nat
  | .hbm => 4
  | .vmem => 8
  | .smem => 6
  | _ => 0

abbrev bufTy : (tb : Table) → Fin (tcTables nBuf tb) → BufTy
  | .hbm, ⟨0, _⟩ => ⟨S20480x4096, .bf16⟩
  | .hbm, ⟨1, _⟩ => ⟨S8x4096x4096, .f32⟩
  | .hbm, ⟨2, _⟩ => ⟨S8x4096x4096, .f32⟩
  | .hbm, ⟨3, _⟩ => ⟨S20480x4096, .bf16⟩
  | .local _ .vmem, ⟨0, _⟩ => ⟨S512x4096, .bf16⟩
  | .local _ .vmem, ⟨1, _⟩ => ⟨S512x4096, .bf16⟩
  | .local _ .vmem, ⟨2, _⟩ => ⟨S512x512, .bf16⟩
  | .local _ .vmem, ⟨3, _⟩ => ⟨S512x512, .bf16⟩
  | .local _ .vmem, ⟨4, _⟩ => ⟨S4096x512, .f32⟩
  | .local _ .vmem, ⟨5, _⟩ => ⟨S4096x512, .f32⟩
  | .local _ .vmem, ⟨6, _⟩ => ⟨S4096x512, .bf16⟩
  | .local _ .vmem, ⟨7, _⟩ => ⟨S4096x512, .bf16⟩
  | .local _ .smem, ⟨0, _⟩ => ⟨S40, .i32⟩
  | .local _ .smem, ⟨1, _⟩ => ⟨S40, .i32⟩
  | .local _ .smem, ⟨2, _⟩ => ⟨S40, .i32⟩
  | .local _ .smem, ⟨3, _⟩ => ⟨S40, .i32⟩
  | .local _ .smem, ⟨4, _⟩ => ⟨S40, .i32⟩
  | .local _ .smem, ⟨5, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg6 : Ref sig .tc := ⟨.hbm, 0, rfl⟩
abbrev main_arg7 : Ref sig .tc := ⟨.hbm, 1, rfl⟩
abbrev main_arg8 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 40], ![false, false]⟩

abbrev pre0 : Pipeline.Prefetch sig := ⟨6, ![main_arg0.idx, main_arg1.idx, main_arg2.idx, main_arg3.idx, main_arg4.idx, main_arg5.idx], fun | 0 => main_arg0.names | 1 => main_arg1.names | 2 => main_arg2.names | 3 => main_arg3.names | 4 => main_arg4.names | 5 => main_arg5.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg1 : BitVec 32 := BitVec.ofNat 32 (i 1).val
  let v2 : Index := Scalar.indexCast arg1
  ![v2.toNat]
def k0_cond2 (i : grid0.Coords) : BitVec 1 :=
  let arg0 : BitVec 32 := BitVec.ofNat 32 (i 0).val
  let c0_i32_5 : BitVec 32 := 0#32
  let v21 : BitVec 1 := Scalar.cmpi .eq arg0 c0_i32_5
  let arg1 : BitVec 32 := BitVec.ofNat 32 (i 1).val
  let c0_i32_6 : BitVec 32 := 0#32
  let v22 : BitVec 1 := Scalar.cmpi .eq arg1 c0_i32_6
  let v23 : BitVec 1 := Scalar.andi v21 v22
  let v24 : BitVec 32 := Scalar.extui v23
  let c0_i32_7 : BitVec 32 := 0#32
  let v25 : BitVec 1 := Scalar.cmpi .ne v24 c0_i32_7
  v25

def k0_off2 (i : grid0.Coords) : Fin 1 → Nat :=
  let arg1 : BitVec 32 := BitVec.ofNat 32 (i 1).val
  let v50 : Index := Scalar.indexCast arg1
  ![v50.toNat]
def k0_mult1 (i : grid0.Coords) : BitVec 32 :=
  let arg0 : BitVec 32 := BitVec.ofNat 32 (i 0).val
  let c512_i32_20 : BitVec 32 := 512#32
  let v52 : BitVec 32 := Scalar.muli arg0 c512_i32_20
  v52
def k0_off3 (i : grid0.Coords) (v51 : BitVec 32) : Fin 3 → Nat :=
  let c0_i32_22 : BitVec 32 := 0#32
  let arg0 : BitVec 32 := BitVec.ofNat 32 (i 0).val
  let c512_i32_20 : BitVec 32 := 512#32
  let v52 : BitVec 32 := Scalar.muli arg0 c512_i32_20
  let v53 : BitVec 32 := v52
  ![v51.toNat, 0, v53.toNat]
def k0_cond1 (i : grid0.Coords) (v0 : BitVec 32) (v3 : BitVec 32) : BitVec 1 :=
  let arg1 : BitVec 32 := BitVec.ofNat 32 (i 1).val
  let v1 : BitVec 1 := Scalar.cmpi .slt arg1 v0
  let c1_i32 : BitVec 32 := 1#32
  let v4 : BitVec 1 := Scalar.cmpi .eq v3 c1_i32
  let v5 : BitVec 1 := Scalar.andi v1 v4
  let v6 : BitVec 32 := Scalar.extui v5
  let c0_i32 : BitVec 32 := 0#32
  let v7 : BitVec 1 := Scalar.cmpi .ne v6 c0_i32
  v7

def k0_chk1 (i : grid0.Coords) (v0 : BitVec 32) (v3 : BitVec 32) (v51 : BitVec 32) : Prop :=
  (∀ (k0_h1 : k0_cond1 i v0 v3 = 1#1), ∀ (k0_h2 : k0_cond2 i = 1#1), ∀ a, (k0_off3 i v51) a + S1x4096x512.size a ≤ S8x4096x4096.size a)
theorem k0_off3_inb : ∀ (i : grid0.Coords) (v0 : BitVec 32) (v3 : BitVec 32) (v51 : BitVec 32) (k0_hw1 : k0_chk1 i v0 v3 v51), ∀ (k0_h1 : k0_cond1 i v0 v3 = 1#1), ∀ (k0_h2 : k0_cond2 i = 1#1), ∀ a, (k0_off3 i v51) a + S1x4096x512.size a ≤ S8x4096x4096.size a := fun i v0 v3 v51 k0_hw1 k0_h1 k0_h2 => k0_hw1 k0_h1 k0_h2

def k0_off4 (i : grid0.Coords) : Fin 1 → Nat :=
  let arg1 : BitVec 32 := BitVec.ofNat 32 (i 1).val
  let v26 : Index := Scalar.indexCast arg1
  ![v26.toNat]
def k0_mult2 (i : grid0.Coords) : BitVec 32 :=
  let arg0 : BitVec 32 := BitVec.ofNat 32 (i 0).val
  let c512_i32 : BitVec 32 := 512#32
  let v28 : BitVec 32 := Scalar.muli arg0 c512_i32
  v28
def k0_off5 (i : grid0.Coords) (v27 : BitVec 32) : Fin 3 → Nat :=
  let c0_i32_9 : BitVec 32 := 0#32
  let arg0 : BitVec 32 := BitVec.ofNat 32 (i 0).val
  let c512_i32 : BitVec 32 := 512#32
  let v28 : BitVec 32 := Scalar.muli arg0 c512_i32
  let v29 : BitVec 32 := v28
  ![v27.toNat, 0, v29.toNat]

def k0_chk2 (i : grid0.Coords) (v0 : BitVec 32) (v3 : BitVec 32) (v27 : BitVec 32) : Prop :=
  (∀ (k0_h1 : k0_cond1 i v0 v3 = 1#1), ∀ a, (k0_off5 i v27) a + S1x4096x512.size a ≤ S8x4096x4096.size a)
theorem k0_off5_inb : ∀ (i : grid0.Coords) (v0 : BitVec 32) (v3 : BitVec 32) (v27 : BitVec 32) (k0_hw2 : k0_chk2 i v0 v3 v27), ∀ (k0_h1 : k0_cond1 i v0 v3 = 1#1), ∀ a, (k0_off5 i v27) a + S1x4096x512.size a ≤ S8x4096x4096.size a := fun i v0 v3 v27 k0_hw2 k0_h1 => k0_hw2 k0_h1

@[reducible] def k0_t1_loop : Scf.Loop 32 :=
  let c0_i32_12 : BitVec 32 := 0#32
  let c32_i32 : BitVec 32 := 32#32
  let v38 : BitVec 32 := Scalar.addi c0_i32_12 c32_i32
  let c1_i32_13 : BitVec 32 := 1#32
  ⟨c0_i32_12, v38, c1_i32_13⟩
def k0_mult3 (k0_t1 : Fin k0_t1_loop.trips) : BitVec 32 :=
  let c0_i32_12 : BitVec 32 := 0#32
  let c1_i32_13 : BitVec 32 := 1#32
  let arg17 : BitVec 32 := Scf.iv c0_i32_12 c1_i32_13 k0_t1
  let c128_i32 : BitVec 32 := 128#32
  let v50 : BitVec 32 := Scalar.muli arg17 c128_i32
  v50
def k0_off6 (k0_t1 : Fin k0_t1_loop.trips) : Fin 2 → Nat :=
  let c0_i32_12 : BitVec 32 := 0#32
  let c1_i32_13 : BitVec 32 := 1#32
  let arg17 : BitVec 32 := Scf.iv c0_i32_12 c1_i32_13 k0_t1
  let c128_i32 : BitVec 32 := 128#32
  let v50 : BitVec 32 := Scalar.muli arg17 c128_i32
  let v51 : BitVec 32 := v50
  let v52 : Index := Scalar.indexCast v51
  let c0_20 : Index := 0#32
  ![v52.toNat, 0]
def k0_off7 (i : grid0.Coords) : Fin 1 → Nat :=
  let arg1 : BitVec 32 := BitVec.ofNat 32 (i 1).val
  let v39 : Index := Scalar.indexCast arg1
  ![v39.toNat]
def k0_off8 (i : grid0.Coords) : Fin 1 → Nat :=
  let arg1 : BitVec 32 := BitVec.ofNat 32 (i 1).val
  let v50 : Index := Scalar.indexCast arg1
  ![v50.toNat]
def k0_mult4 (i : grid0.Coords) : BitVec 32 :=
  let arg0 : BitVec 32 := BitVec.ofNat 32 (i 0).val
  let c512_i32_20 : BitVec 32 := 512#32
  let v52 : BitVec 32 := Scalar.muli arg0 c512_i32_20
  v52
def k0_off9 (i : grid0.Coords) (v51 : BitVec 32) : Fin 3 → Nat :=
  let c0_i32_22 : BitVec 32 := 0#32
  let arg0 : BitVec 32 := BitVec.ofNat 32 (i 0).val
  let c512_i32_20 : BitVec 32 := 512#32
  let v52 : BitVec 32 := Scalar.muli arg0 c512_i32_20
  let v53 : BitVec 32 := v52
  ![v51.toNat, 0, v53.toNat]
def k0_cond3 (v40 : BitVec 32) : BitVec 1 :=
  let c1_i32_15 : BitVec 32 := 1#32
  let v41 : BitVec 1 := Scalar.cmpi .eq v40 c1_i32_15
  let true_16 : BitVec 1 := 1#1
  let v42 : BitVec 1 := Scalar.xori v41 true_16
  let v43 : BitVec 32 := Scalar.extui v42
  let c0_i32_17 : BitVec 32 := 0#32
  let v44 : BitVec 1 := Scalar.cmpi .ne v43 c0_i32_17
  v44

def k0_chk3 (i : grid0.Coords) (v0 : BitVec 32) (v3 : BitVec 32) (v40 : BitVec 32) (v51 : BitVec 32) : Prop :=
  (∀ (k0_h1 : k0_cond1 i v0 v3 = 1#1), ∀ (k0_h3 : k0_cond3 v40 = 1#1), ∀ a, (k0_off9 i v51) a + S1x4096x512.size a ≤ S8x4096x4096.size a)
theorem k0_off9_inb : ∀ (i : grid0.Coords) (v0 : BitVec 32) (v3 : BitVec 32) (v40 : BitVec 32) (v51 : BitVec 32) (k0_hw3 : k0_chk3 i v0 v3 v40 v51), ∀ (k0_h1 : k0_cond1 i v0 v3 = 1#1), ∀ (k0_h3 : k0_cond3 v40 = 1#1), ∀ a, (k0_off9 i v51) a + S1x4096x512.size a ≤ S8x4096x4096.size a := fun i v0 v3 v40 v51 k0_hw3 k0_h1 k0_h3 => k0_hw3 k0_h1 k0_h3

def k0_off10 (i : grid0.Coords) : Fin 1 → Nat :=
  let arg1 : BitVec 32 := BitVec.ofNat 32 (i 1).val
  let v50 : Index := Scalar.indexCast arg1
  ![v50.toNat]
def k0_mult5 (i : grid0.Coords) : BitVec 32 :=
  let arg0 : BitVec 32 := BitVec.ofNat 32 (i 0).val
  let c1_i32_20 : BitVec 32 := 1#32
  let v52 : BitVec 32 := Scalar.addi arg0 c1_i32_20
  let c512_i32_21 : BitVec 32 := 512#32
  let v53 : BitVec 32 := Scalar.muli v52 c512_i32_21
  v53
def k0_off11 (i : grid0.Coords) (v51 : BitVec 32) : Fin 3 → Nat :=
  let c0_i32_23 : BitVec 32 := 0#32
  let arg0 : BitVec 32 := BitVec.ofNat 32 (i 0).val
  let c1_i32_20 : BitVec 32 := 1#32
  let v52 : BitVec 32 := Scalar.addi arg0 c1_i32_20
  let c512_i32_21 : BitVec 32 := 512#32
  let v53 : BitVec 32 := Scalar.muli v52 c512_i32_21
  let v54 : BitVec 32 := v53
  ![v51.toNat, 0, v54.toNat]
def k0_cond4 (i : grid0.Coords) (v40 : BitVec 32) : BitVec 1 :=
  let c1_i32_15 : BitVec 32 := 1#32
  let v41 : BitVec 1 := Scalar.cmpi .eq v40 c1_i32_15
  let arg0 : BitVec 32 := BitVec.ofNat 32 (i 0).val
  let c1_i32_18 : BitVec 32 := 1#32
  let v45 : BitVec 32 := Scalar.addi arg0 c1_i32_18
  let c8_i32 : BitVec 32 := 8#32
  let v46 : BitVec 1 := Scalar.cmpi .slt v45 c8_i32
  let v47 : BitVec 1 := Scalar.andi v41 v46
  let v48 : BitVec 32 := Scalar.extui v47
  let c0_i32_19 : BitVec 32 := 0#32
  let v49 : BitVec 1 := Scalar.cmpi .ne v48 c0_i32_19
  v49

def k0_chk4 (i : grid0.Coords) (v0 : BitVec 32) (v3 : BitVec 32) (v40 : BitVec 32) (v51 : BitVec 32) : Prop :=
  (∀ (k0_h1 : k0_cond1 i v0 v3 = 1#1), ∀ (k0_h4 : k0_cond4 i v40 = 1#1), ∀ a, (k0_off11 i v51) a + S1x4096x512.size a ≤ S8x4096x4096.size a)
theorem k0_off11_inb : ∀ (i : grid0.Coords) (v0 : BitVec 32) (v3 : BitVec 32) (v40 : BitVec 32) (v51 : BitVec 32) (k0_hw4 : k0_chk4 i v0 v3 v40 v51), ∀ (k0_h1 : k0_cond1 i v0 v3 = 1#1), ∀ (k0_h4 : k0_cond4 i v40 = 1#1), ∀ a, (k0_off11 i v51) a + S1x4096x512.size a ≤ S8x4096x4096.size a := fun i v0 v3 v40 v51 k0_hw4 k0_h1 k0_h4 => k0_hw4 k0_h1 k0_h4

def k0_off12 (i : grid0.Coords) : Fin 1 → Nat :=
  let arg1 : BitVec 32 := BitVec.ofNat 32 (i 1).val
  let v8 : Index := Scalar.indexCast arg1
  ![v8.toNat]
def k0_cond5 (i : grid0.Coords) (v0 : BitVec 32) (v9 : BitVec 32) : BitVec 1 :=
  let arg1 : BitVec 32 := BitVec.ofNat 32 (i 1).val
  let v1 : BitVec 1 := Scalar.cmpi .slt arg1 v0
  let c1_i32_0 : BitVec 32 := 1#32
  let v10 : BitVec 1 := Scalar.cmpi .eq v9 c1_i32_0
  let v11 : BitVec 1 := Scalar.andi v1 v10
  let v12 : BitVec 32 := Scalar.extui v11
  let c0_i32_1 : BitVec 32 := 0#32
  let v13 : BitVec 1 := Scalar.cmpi .ne v12 c0_i32_1
  v13

def k0_cond6 (i : grid0.Coords) (v0 : BitVec 32) (v9 : BitVec 32) : BitVec 1 :=
  let arg1 : BitVec 32 := BitVec.ofNat 32 (i 1).val
  let v1 : BitVec 1 := Scalar.cmpi .slt arg1 v0
  let c1_i32_0 : BitVec 32 := 1#32
  let v10 : BitVec 1 := Scalar.cmpi .eq v9 c1_i32_0
  let v_true : BitVec 1 := 1#1
  let v14 : BitVec 1 := Scalar.xori v10 v_true
  let v15 : BitVec 1 := Scalar.andi v1 v14
  let v16 : BitVec 32 := Scalar.extui v15
  let c0_i32_2 : BitVec 32 := 0#32
  let v17 : BitVec 1 := Scalar.cmpi .ne v16 c0_i32_2
  v17

def k0_cond7 (i : grid0.Coords) (v0 : BitVec 32) : BitVec 1 :=
  let arg1 : BitVec 32 := BitVec.ofNat 32 (i 1).val
  let v1 : BitVec 1 := Scalar.cmpi .slt arg1 v0
  let true_3 : BitVec 1 := 1#1
  let v18 : BitVec 1 := Scalar.xori v1 true_3
  let v19 : BitVec 32 := Scalar.extui v18
  let c0_i32_4 : BitVec 32 := 0#32
  let v20 : BitVec 1 := Scalar.cmpi .ne v19 c0_i32_4
  v20

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 5 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== UpRefIdeal.lean ====
abbrev S40 : Shape := ⟨1, ![40]⟩
abbrev S1 : Shape := ⟨1, ![1]⟩
abbrev S20480x4096 : Shape := ⟨2, ![20480, 4096]⟩
abbrev S8x4096x4096 : Shape := ⟨3, ![8, 4096, 4096]⟩
abbrev S20480 : Shape := ⟨1, ![20480]⟩
abbrev S_ : Shape := ⟨0, ![]⟩
abbrev S40x512 : Shape := ⟨2, ![40, 512]⟩
abbrev S20480x1 : Shape := ⟨2, ![20480, 1]⟩
abbrev S1x4096x4096 : Shape := ⟨3, ![1, 4096, 4096]⟩
abbrev S4096x4096 : Shape := ⟨2, ![4096, 4096]⟩

abbrev nBuf : Space → Nat
  | .hbm => 270
  | .vmem => 0
  | .smem => 0
  | _ => 0

abbrev hbmTy0_0 (i : Nat) : BufTy := match i % 128 with
  | 0 => ⟨S40, .i32⟩
  | 1 => ⟨S40, .i32⟩
  | 2 => ⟨S40, .i32⟩
  | 3 => ⟨S40, .i32⟩
  | 4 => ⟨S40, .i32⟩
  | 5 => ⟨S1, .i32⟩
  | 6 => ⟨S20480x4096, .bf16⟩
  | 7 => ⟨S8x4096x4096, .f32⟩
  | 8 => ⟨S8x4096x4096, .f32⟩
  | 9 => ⟨S20480, .i32⟩
  | 10 => ⟨S_, .i32⟩
  | 11 => ⟨S_, .i32⟩
  | 12 => ⟨S20480, .i32⟩
  | 13 => ⟨S20480, .i32⟩
  | 14 => ⟨S20480, .i32⟩
  | 15 => ⟨S_, .i32⟩
  | 16 => ⟨S20480, .i32⟩
  | 17 => ⟨S20480, .i1⟩
  | 18 => ⟨S20480, .i32⟩
  | 19 => ⟨S20480, .i32⟩
  | 20 => ⟨S_, .i32⟩
  | 21 => ⟨S20480, .i32⟩
  | 22 => ⟨S20480, .i1⟩
  | 23 => ⟨S20480, .i1⟩
  | 24 => ⟨S_, .i32⟩
  | 25 => ⟨S20480, .i32⟩
  | 26 => ⟨S20480, .i32⟩
  | 27 => ⟨S20480, .i32⟩
  | 28 => ⟨S20480, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S20480, .i32⟩
  | 36 => ⟨S20480, .i32⟩
  | 37 => ⟨S_, .i32⟩
  | 38 => ⟨S20480, .i32⟩
  | 39 => ⟨S20480, .i1⟩
  | 40 => ⟨S_, .i32⟩
  | 41 => ⟨S20480, .i32⟩
  | 42 => ⟨S20480, .i1⟩
  | 43 => ⟨S_, .i32⟩
  | 44 => ⟨S_, .i1⟩
  | 45 => ⟨S20480, .i1⟩
  | 46 => ⟨S20480, .i1⟩
  | 47 => ⟨S20480, .i1⟩
  | 48 => ⟨S20480, .i32⟩
  | 49 => ⟨S20480, .i32⟩
  | 50 => ⟨S20480, .i32⟩
  | 51 => ⟨S_, .i32⟩
  | 52 => ⟨S20480, .i32⟩
  | 53 => ⟨S20480, .i1⟩
  | 54 => ⟨S40x512, .i32⟩
  | 55 => ⟨S20480, .i32⟩
  | 56 => ⟨S_, .i32⟩
  | 57 => ⟨S20480, .i32⟩
  | 58 => ⟨S20480, .i1⟩
  | 59 => ⟨S40x512, .i32⟩
  | 60 => ⟨S20480, .i32⟩
  | 61 => ⟨S_, .i32⟩
  | 62 => ⟨S20480, .i32⟩
  | 63 => ⟨S20480, .i1⟩
  | 64 => ⟨S20480, .i1⟩
  | 65 => ⟨S20480, .i1⟩
  | 66 => ⟨S20480x4096, .f32⟩
  | 67 => ⟨S_, .f32⟩
  | 68 => ⟨S20480x4096, .f32⟩
  | 69 => ⟨S_, .i32⟩
  | 70 => ⟨S20480, .i32⟩
  | 71 => ⟨S20480, .i1⟩
  | 72 => ⟨S20480, .i1⟩
  | 73 => ⟨S20480, .f32⟩
  | 74 => ⟨S20480x1, .f32⟩
  | 75 => ⟨S1x4096x4096, .f32⟩
  | 76 => ⟨S4096x4096, .f32⟩
  | 77 => ⟨S20480x4096, .f32⟩
  | 78 => ⟨S20480x4096, .f32⟩
  | 79 => ⟨S20480x4096, .f32⟩
  | 80 => ⟨S_, .f32⟩
  | 81 => ⟨S20480x4096, .f32⟩
  | 82 => ⟨S20480x4096, .f32⟩
  | 83 => ⟨S_, .f32⟩
  | 84 => ⟨S20480x4096, .f32⟩
  | 85 => ⟨S20480x4096, .f32⟩
  | 86 => ⟨S20480x4096, .f32⟩
  | 87 => ⟨S1x4096x4096, .f32⟩
  | 88 => ⟨S4096x4096, .f32⟩
  | 89 => ⟨S20480x4096, .f32⟩
  | 90 => ⟨S20480x4096, .f32⟩
  | 91 => ⟨S20480x4096, .f32⟩
  | 92 => ⟨S20480x4096, .f32⟩
  | 93 => ⟨S20480x4096, .f32⟩
  | 94 => ⟨S_, .i32⟩
  | 95 => ⟨S20480, .i32⟩
  | 96 => ⟨S20480, .i1⟩
  | 97 => ⟨S20480, .i1⟩
  | 98 => ⟨S20480, .f32⟩
  | 99 => ⟨S20480x1, .f32⟩
  | 100 => ⟨S1x4096x4096, .f32⟩
  | 101 => ⟨S4096x4096, .f32⟩
  | 102 => ⟨S20480x4096, .f32⟩
  | 103 => ⟨S20480x4096, .f32⟩
  | 104 => ⟨S20480x4096, .f32⟩
  | 105 => ⟨S_, .f32⟩
  | 106 => ⟨S20480x4096, .f32⟩
  | 107 => ⟨S20480x4096, .f32⟩
  | 108 => ⟨S_, .f32⟩
  | 109 => ⟨S20480x4096, .f32⟩
  | 110 => ⟨S20480x4096, .f32⟩
  | 111 => ⟨S20480x4096, .f32⟩
  | 112 => ⟨S1x4096x4096, .f32⟩
  | 113 => ⟨S4096x4096, .f32⟩
  | 114 => ⟨S20480x4096, .f32⟩
  | 115 => ⟨S20480x4096, .f32⟩
  | 116 => ⟨S20480x4096, .f32⟩
  | 117 => ⟨S20480x4096, .f32⟩
  | 118 => ⟨S20480x4096, .f32⟩
  | 119 => ⟨S_, .i32⟩
  | 120 => ⟨S20480, .i32⟩
  | 121 => ⟨S20480, .i1⟩
  | 122 => ⟨S20480, .i1⟩
  | 123 => ⟨S20480, .f32⟩
  | 124 => ⟨S20480x1, .f32⟩
  | 125 => ⟨S1x4096x4096, .f32⟩
  | 126 => ⟨S4096x4096, .f32⟩
  | 127 => ⟨S20480x4096, .f32⟩
  | _ => ⟨S40, .i32⟩

abbrev hbmTy0_1 (i : Nat) : BufTy := match i % 128 with
  | 0 => ⟨S20480x4096, .f32⟩
  | 1 => ⟨S20480x4096, .f32⟩
  | 2 => ⟨S_, .f32⟩
  | 3 => ⟨S20480x4096, .f32⟩
  | 4 => ⟨S20480x4096, .f32⟩
  | 5 => ⟨S_, .f32⟩
  | 6 => ⟨S20480x4096, .f32⟩
  | 7 => ⟨S20480x4096, .f32⟩
  | 8 => ⟨S20480x4096, .f32⟩
  | 9 => ⟨S1x4096x4096, .f32⟩
  | 10 => ⟨S4096x4096, .f32⟩
  | 11 => ⟨S20480x4096, .f32⟩
  | 12 => ⟨S20480x4096, .f32⟩
  | 13 => ⟨S20480x4096, .f32⟩
  | 14 => ⟨S20480x4096, .f32⟩
  | 15 => ⟨S20480x4096, .f32⟩
  | 16 => ⟨S_, .i32⟩
  | 17 => ⟨S20480, .i32⟩
  | 18 => ⟨S20480, .i1⟩
  | 19 => ⟨S20480, .i1⟩
  | 20 => ⟨S20480, .f32⟩
  | 21 => ⟨S20480x1, .f32⟩
  | 22 => ⟨S1x4096x4096, .f32⟩
  | 23 => ⟨S4096x4096, .f32⟩
  | 24 => ⟨S20480x4096, .f32⟩
  | 25 => ⟨S20480x4096, .f32⟩
  | 26 => ⟨S20480x4096, .f32⟩
  | 27 => ⟨S_, .f32⟩
  | 28 => ⟨S20480x4096, .f32⟩
  | 29 => ⟨S20480x4096, .f32⟩
  | 30 => ⟨S_, .f32⟩
  | 31 => ⟨S20480x4096, .f32⟩
  | 32 => ⟨S20480x4096, .f32⟩
  | 33 => ⟨S20480x4096, .f32⟩
  | 34 => ⟨S1x4096x4096, .f32⟩
  | 35 => ⟨S4096x4096, .f32⟩
  | 36 => ⟨S20480x4096, .f32⟩
  | 37 => ⟨S20480x4096, .f32⟩
  | 38 => ⟨S20480x4096, .f32⟩
  | 39 => ⟨S20480x4096, .f32⟩
  | 40 => ⟨S20480x4096, .f32⟩
  | 41 => ⟨S_, .i32⟩
  | 42 => ⟨S20480, .i32⟩
  | 43 => ⟨S20480, .i1⟩
  | 44 => ⟨S20480, .i1⟩
  | 45 => ⟨S20480, .f32⟩
  | 46 => ⟨S20480x1, .f32⟩
  | 47 => ⟨S1x4096x4096, .f32⟩
  | 48 => ⟨S4096x4096, .f32⟩
  | 49 => ⟨S20480x4096, .f32⟩
  | 50 => ⟨S20480x4096, .f32⟩
  | 51 => ⟨S20480x4096, .f32⟩
  | 52 => ⟨S_, .f32⟩
  | 53 => ⟨S20480x4096, .f32⟩
  | 54 => ⟨S20480x4096, .f32⟩
  | 55 => ⟨S_, .f32⟩
  | 56 => ⟨S20480x4096, .f32⟩
  | 57 => ⟨S20480x4096, .f32⟩
  | 58 => ⟨S20480x4096, .f32⟩
  | 59 => ⟨S1x4096x4096, .f32⟩
  | 60 => ⟨S4096x4096, .f32⟩
  | 61 => ⟨S20480x4096, .f32⟩
  | 62 => ⟨S20480x4096, .f32⟩
  | 63 => ⟨S20480x4096, .f32⟩
  | 64 => ⟨S20480x4096, .f32⟩
  | 65 => ⟨S20480x4096, .f32⟩
  | 66 => ⟨S_, .i32⟩
  | 67 => ⟨S20480, .i32⟩
  | 68 => ⟨S20480, .i1⟩
  | 69 => ⟨S20480, .i1⟩
  | 70 => ⟨S20480, .f32⟩
  | 71 => ⟨S20480x1, .f32⟩
  | 72 => ⟨S1x4096x4096, .f32⟩
  | 73 => ⟨S4096x4096, .f32⟩
  | 74 => ⟨S20480x4096, .f32⟩
  | 75 => ⟨S20480x4096, .f32⟩
  | 76 => ⟨S20480x4096, .f32⟩
  | 77 => ⟨S_, .f32⟩
  | 78 => ⟨S20480x4096, .f32⟩
  | 79 => ⟨S20480x4096, .f32⟩
  | 80 => ⟨S_, .f32⟩
  | 81 => ⟨S20480x4096, .f32⟩
  | 82 => ⟨S20480x4096, .f32⟩
  | 83 => ⟨S20480x4096, .f32⟩
  | 84 => ⟨S1x4096x4096, .f32⟩
  | 85 => ⟨S4096x4096, .f32⟩
  | 86 => ⟨S20480x4096, .f32⟩
  | 87 => ⟨S20480x4096, .f32⟩
  | 88 => ⟨S20480x4096, .f32⟩
  | 89 => ⟨S20480x4096, .f32⟩
  | 90 => ⟨S20480x4096, .f32⟩
  | 91 => ⟨S_, .i32⟩
  | 92 => ⟨S20480, .i32⟩
  | 93 => ⟨S20480, .i1⟩
  | 94 => ⟨S20480, .i1⟩
  | 95 => ⟨S20480, .f32⟩
  | 96 => ⟨S20480x1, .f32⟩
  | 97 => ⟨S1x4096x4096, .f32⟩
  | 98 => ⟨S4096x4096, .f32⟩
  | 99 => ⟨S20480x4096, .f32⟩
  | 100 => ⟨S20480x4096, .f32⟩
  | 101 => ⟨S20480x4096, .f32⟩
  | 102 => ⟨S_, .f32⟩
  | 103 => ⟨S20480x4096, .f32⟩
  | 104 => ⟨S20480x4096, .f32⟩
  | 105 => ⟨S_, .f32⟩
  | 106 => ⟨S20480x4096, .f32⟩
  | 107 => ⟨S20480x4096, .f32⟩
  | 108 => ⟨S20480x4096, .f32⟩
  | 109 => ⟨S1x4096x4096, .f32⟩
  | 110 => ⟨S4096x4096, .f32⟩
  | 111 => ⟨S20480x4096, .f32⟩
  | 112 => ⟨S20480x4096, .f32⟩
  | 113 => ⟨S20480x4096, .f32⟩
  | 114 => ⟨S20480x4096, .f32⟩
  | 115 => ⟨S20480x4096, .f32⟩
  | 116 => ⟨S_, .i32⟩
  | 117 => ⟨S20480, .i32⟩
  | 118 => ⟨S20480, .i1⟩
  | 119 => ⟨S20480, .i1⟩
  | 120 => ⟨S20480, .f32⟩
  | 121 => ⟨S20480x1, .f32⟩
  | 122 => ⟨S1x4096x4096, .f32⟩
  | 123 => ⟨S4096x4096, .f32⟩
  | 124 => ⟨S20480x4096, .f32⟩
  | 125 => ⟨S20480x4096, .f32⟩
  | 126 => ⟨S20480x4096, .f32⟩
  | 127 => ⟨S_, .f32⟩
  | _ => ⟨S40, .i32⟩

abbrev hbmTy0_2 (i : Nat) : BufTy := match i % 128 with
  | 0 => ⟨S20480x4096, .f32⟩
  | 1 => ⟨S20480x4096, .f32⟩
  | 2 => ⟨S_, .f32⟩
  | 3 => ⟨S20480x4096, .f32⟩
  | 4 => ⟨S20480x4096, .f32⟩
  | 5 => ⟨S20480x4096, .f32⟩
  | 6 => ⟨S1x4096x4096, .f32⟩
  | 7 => ⟨S4096x4096, .f32⟩
  | 8 => ⟨S20480x4096, .f32⟩
  | 9 => ⟨S20480x4096, .f32⟩
  | 10 => ⟨S20480x4096, .f32⟩
  | 11 => ⟨S20480x4096, .f32⟩
  | 12 => ⟨S20480x4096, .f32⟩
  | 13 => ⟨S20480x4096, .bf16⟩
  | _ => ⟨S40, .i32⟩

abbrev hbmTy (i : Nat) : BufTy := match i / 128 with
  | 0 => hbmTy0_0 i
  | 1 => hbmTy0_1 i
  | 2 => hbmTy0_2 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v3 : Ref sig .tc := ⟨.hbm, 50, rfl⟩
abbrev main_c_1 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_c_2 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_cst : Ref sig .tc := ⟨.hbm, 67, rfl⟩
abbrev main_v18 : Ref sig .tc := ⟨.hbm, 68, rfl⟩
abbrev main_c_3 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_call2_v0 : Ref sig .tc := ⟨.hbm, 78, rfl⟩
abbrev main_call2_v1 : Ref sig .tc := ⟨.hbm, 79, rfl⟩
abbrev main_call2_cst : Ref sig .tc := ⟨.hbm, 80, rfl⟩
abbrev main_call2_v2 : Ref sig .tc := ⟨.hbm, 81, rfl⟩
abbrev main_call2_v3 : Ref sig .tc := ⟨.hbm, 82, rfl⟩
abbrev main_call2_cst_0 : Ref sig .tc := ⟨.hbm, 83, rfl⟩
abbrev main_call2_v4 : Ref sig .tc := ⟨.hbm, 84, rfl⟩
abbrev main_call2_v5 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_c_4 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_call3_v0 : Ref sig .tc := ⟨.hbm, 103, rfl⟩
abbrev main_call3_v1 : Ref sig .tc := ⟨.hbm, 104, rfl⟩
abbrev main_call3_cst : Ref sig .tc := ⟨.hbm, 105, rfl⟩
abbrev main_call3_v2 : Ref sig .tc := ⟨.hbm, 106, rfl⟩
abbrev main_call3_v3 : Ref sig .tc := ⟨.hbm, 107, rfl⟩
abbrev main_call3_cst_0 : Ref sig .tc := ⟨.hbm, 108, rfl⟩
abbrev main_call3_v4 : Ref sig .tc := ⟨.hbm, 109, rfl⟩
abbrev main_call3_v5 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_c_5 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_call4_v0 : Ref sig .tc := ⟨.hbm, 128, rfl⟩
abbrev main_call4_v1 : Ref sig .tc := ⟨.hbm, 129, rfl⟩
abbrev main_call4_cst : Ref sig .tc := ⟨.hbm, 130, rfl⟩
abbrev main_call4_v2 : Ref sig .tc := ⟨.hbm, 131, rfl⟩
abbrev main_call4_v3 : Ref sig .tc := ⟨.hbm, 132, rfl⟩
abbrev main_call4_cst_0 : Ref sig .tc := ⟨.hbm, 133, rfl⟩
abbrev main_call4_v4 : Ref sig .tc := ⟨.hbm, 134, rfl⟩
abbrev main_call4_v5 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_c_6 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_call5_v0 : Ref sig .tc := ⟨.hbm, 153, rfl⟩
abbrev main_call5_v1 : Ref sig .tc := ⟨.hbm, 154, rfl⟩
abbrev main_call5_cst : Ref sig .tc := ⟨.hbm, 155, rfl⟩
abbrev main_call5_v2 : Ref sig .tc := ⟨.hbm, 156, rfl⟩
abbrev main_call5_v3 : Ref sig .tc := ⟨.hbm, 157, rfl⟩
abbrev main_call5_cst_0 : Ref sig .tc := ⟨.hbm, 158, rfl⟩
abbrev main_call5_v4 : Ref sig .tc := ⟨.hbm, 159, rfl⟩
abbrev main_call5_v5 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_c_7 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_call6_v0 : Ref sig .tc := ⟨.hbm, 178, rfl⟩
abbrev main_call6_v1 : Ref sig .tc := ⟨.hbm, 179, rfl⟩
abbrev main_call6_cst : Ref sig .tc := ⟨.hbm, 180, rfl⟩
abbrev main_call6_v2 : Ref sig .tc := ⟨.hbm, 181, rfl⟩
abbrev main_call6_v3 : Ref sig .tc := ⟨.hbm, 182, rfl⟩
abbrev main_call6_cst_0 : Ref sig .tc := ⟨.hbm, 183, rfl⟩
abbrev main_call6_v4 : Ref sig .tc := ⟨.hbm, 184, rfl⟩
abbrev main_call6_v5 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_c_8 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_call7_v0 : Ref sig .tc := ⟨.hbm, 203, rfl⟩
abbrev main_call7_v1 : Ref sig .tc := ⟨.hbm, 204, rfl⟩
abbrev main_call7_cst : Ref sig .tc := ⟨.hbm, 205, rfl⟩
abbrev main_call7_v2 : Ref sig .tc := ⟨.hbm, 206, rfl⟩
abbrev main_call7_v3 : Ref sig .tc := ⟨.hbm, 207, rfl⟩
abbrev main_call7_cst_0 : Ref sig .tc := ⟨.hbm, 208, rfl⟩
abbrev main_call7_v4 : Ref sig .tc := ⟨.hbm, 209, rfl⟩
abbrev main_call7_v5 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_c_9 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_call8_v0 : Ref sig .tc := ⟨.hbm, 228, rfl⟩
abbrev main_call8_v1 : Ref sig .tc := ⟨.hbm, 229, rfl⟩
abbrev main_call8_cst : Ref sig .tc := ⟨.hbm, 230, rfl⟩
abbrev main_call8_v2 : Ref sig .tc := ⟨.hbm, 231, rfl⟩
abbrev main_call8_v3 : Ref sig .tc := ⟨.hbm, 232, rfl⟩
abbrev main_call8_cst_0 : Ref sig .tc := ⟨.hbm, 233, rfl⟩
abbrev main_call8_v4 : Ref sig .tc := ⟨.hbm, 234, rfl⟩
abbrev main_call8_v5 : Ref sig .tc := ⟨.hbm, 235, rfl⟩
abbrev main_v123 : Ref sig .tc := ⟨.hbm, 236, rfl⟩
abbrev main_v124 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_c_10 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_v138 : Ref sig .tc := ⟨.hbm, 252, rfl⟩
abbrev main_call9_v0 : Ref sig .tc := ⟨.hbm, 253, rfl⟩
abbrev main_call9_v1 : Ref sig .tc := ⟨.hbm, 254, rfl⟩
abbrev main_call9_cst : Ref sig .tc := ⟨.hbm, 255, rfl⟩
abbrev main_call9_v2 : Ref sig .tc := ⟨.hbm, 256, rfl⟩
abbrev main_call9_v3 : Ref sig .tc := ⟨.hbm, 257, rfl⟩
abbrev main_call9_cst_0 : Ref sig .tc := ⟨.hbm, 258, rfl⟩
abbrev main_call9_v4 : Ref sig .tc := ⟨.hbm, 259, rfl⟩
abbrev main_call9_v5 : Ref sig .tc := ⟨.hbm, 260, rfl⟩
abbrev main_v139 : Ref sig .tc := ⟨.hbm, 261, rfl⟩
abbrev main_v140 : Ref sig .tc := ⟨.hbm, 262, rfl⟩
abbrev main_v141 : Ref sig .tc := ⟨.hbm, 263, rfl⟩
abbrev main_v142 : Ref sig .tc := ⟨.hbm, 264, rfl⟩
abbrev main_v143 : Ref sig .tc := ⟨.hbm, 265, rfl⟩
abbrev main_v144 : Ref sig .tc := ⟨.hbm, 266, rfl⟩
abbrev main_v145 : Ref sig .tc := ⟨.hbm, 267, rfl⟩
abbrev main_v146 : Ref sig .tc := ⟨.hbm, 268, rfl⟩
abbrev main_v147 : Ref sig .tc := ⟨.hbm, 269, rfl⟩

abbrev nD : Nat := 1
abbrev τ : Topo := Topo.v7x

variable {F : FTy → Type} [FloatOps F]
-- ==== Down.lean ====
abbrev S40 : Shape := ⟨1, ![40]⟩
abbrev S1 : Shape := ⟨1, ![1]⟩
abbrev S20480x4096 : Shape := ⟨2, ![20480, 4096]⟩
abbrev S8x4096x4096 : Shape := ⟨3, ![8, 4096, 4096]⟩
abbrev S512x4096 : Shape := ⟨2, ![512, 4096]⟩
abbrev S512x1024 : Shape := ⟨2, ![512, 1024]⟩
abbrev S4096x1024 : Shape := ⟨2, ![4096, 1024]⟩
abbrev S_ : Shape := ⟨0, ![]⟩
abbrev S1x4096x1024 : Shape := ⟨3, ![1, 4096, 1024]⟩
abbrev S128x1024 : Shape := ⟨2, ![128, 1024]⟩
abbrev S256x4096 : Shape := ⟨2, ![256, 4096]⟩
abbrev S256x1024 : Shape := ⟨2, ![256, 1024]⟩

abbrev nBuf : Space → Nat
  | .hbm => 3
  | .vmem => 6
  | .smem => 6
  | _ => 0

abbrev bufTy : (tb : Table) → Fin (tcTables nBuf tb) → BufTy
  | .hbm, ⟨0, _⟩ => ⟨S20480x4096, .bf16⟩
  | .hbm, ⟨1, _⟩ => ⟨S8x4096x4096, .f32⟩
  | .hbm, ⟨2, _⟩ => ⟨S20480x4096, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S4096x1024, .f32⟩
  | .local _ .vmem, ⟨5, _⟩ => ⟨S4096x1024, .bf16⟩
  | .local _ .smem, ⟨0, _⟩ => ⟨S40, .i32⟩
  | .local _ .smem, ⟨1, _⟩ => ⟨S40, .i32⟩
  | .local _ .smem, ⟨2, _⟩ => ⟨S40, .i32⟩
  | .local _ .smem, ⟨3, _⟩ => ⟨S40, .i32⟩
  | .local _ .smem, ⟨4, _⟩ => ⟨S40, .i32⟩
  | .local _ .smem, ⟨5, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg6 : Ref sig .tc := ⟨.hbm, 0, rfl⟩
abbrev main_arg7 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 40], ![false, false]⟩

abbrev pre0 : Pipeline.Prefetch sig := ⟨6, ![main_arg0.idx, main_arg1.idx, main_arg2.idx, main_arg3.idx, main_arg4.idx, main_arg5.idx], fun | 0 => main_arg0.names | 1 => main_arg1.names | 2 => main_arg2.names | 3 => main_arg3.names | 4 => main_arg4.names | 5 => main_arg5.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg1 : BitVec 32 := BitVec.ofNat 32 (i 1).val
  let v2 : Index := Scalar.indexCast arg1
  ![v2.toNat]
def k0_cond2 (i : grid0.Coords) : BitVec 1 :=
  let arg0 : BitVec 32 := BitVec.ofNat 32 (i 0).val
  let c0_i32_5 : BitVec 32 := 0#32
  let v21 : BitVec 1 := Scalar.cmpi .eq arg0 c0_i32_5
  let arg1 : BitVec 32 := BitVec.ofNat 32 (i 1).val
  let c0_i32_6 : BitVec 32 := 0#32
  let v22 : BitVec 1 := Scalar.cmpi .eq arg1 c0_i32_6
  let v23 : BitVec 1 := Scalar.andi v21 v22
  let v24 : BitVec 32 := Scalar.extui v23
  let c0_i32_7 : BitVec 32 := 0#32
  let v25 : BitVec 1 := Scalar.cmpi .ne v24 c0_i32_7
  v25

def k0_off2 (i : grid0.Coords) : Fin 1 → Nat :=
  let arg1 : BitVec 32 := BitVec.ofNat 32 (i 1).val
  let v46 : Index := Scalar.indexCast arg1
  ![v46.toNat]
def k0_mult1 (i : grid0.Coords) : BitVec 32 :=
  let arg0 : BitVec 32 := BitVec.ofNat 32 (i 0).val
  let c1024_i32_18 : BitVec 32 := 1024#32
  let v48 : BitVec 32 := Scalar.muli arg0 c1024_i32_18
  v48
def k0_off3 (i : grid0.Coords) (v47 : BitVec 32) : Fin 3 → Nat :=
  let c0_i32_20 : BitVec 32 := 0#32
  let arg0 : BitVec 32 := BitVec.ofNat 32 (i 0).val
  let c1024_i32_18 : BitVec 32 := 1024#32
  let v48 : BitVec 32 := Scalar.muli arg0 c1024_i32_18
  let v49 : BitVec 32 := v48
  ![v47.toNat, 0, v49.toNat]
def k0_cond1 (i : grid0.Coords) (v0 : BitVec 32) (v3 : BitVec 32) : BitVec 1 :=
  let arg1 : BitVec 32 := BitVec.ofNat 32 (i 1).val
  let v1 : BitVec 1 := Scalar.cmpi .slt arg1 v0
  let c1_i32 : BitVec 32 := 1#32
  let v4 : BitVec 1 := Scalar.cmpi .eq v3 c1_i32
  let v5 : BitVec 1 := Scalar.andi v1 v4
  let v6 : BitVec 32 := Scalar.extui v5
  let c0_i32 : BitVec 32 := 0#32
  let v7 : BitVec 1 := Scalar.cmpi .ne v6 c0_i32
  v7

def k0_chk1 (i : grid0.Coords) (v0 : BitVec 32) (v3 : BitVec 32) (v47 : BitVec 32) : Prop :=
  (∀ (k0_h1 : k0_cond1 i v0 v3 = 1#1), ∀ (k0_h2 : k0_cond2 i = 1#1), ∀ a, (k0_off3 i v47) a + S1x4096x1024.size a ≤ S8x4096x4096.size a)
theorem k0_off3_inb : ∀ (i : grid0.Coords) (v0 : BitVec 32) (v3 : BitVec 32) (v47 : BitVec 32) (k0_hw1 : k0_chk1 i v0 v3 v47), ∀ (k0_h1 : k0_cond1 i v0 v3 = 1#1), ∀ (k0_h2 : k0_cond2 i = 1#1), ∀ a, (k0_off3 i v47) a + S1x4096x1024.size a ≤ S8x4096x4096.size a := fun i v0 v3 v47 k0_hw1 k0_h1 k0_h2 => k0_hw1 k0_h1 k0_h2

def k0_off4 (i : grid0.Coords) : Fin 1 → Nat :=
  let arg1 : BitVec 32 := BitVec.ofNat 32 (i 1).val
  let v26 : Index := Scalar.indexCast arg1
  ![v26.toNat]
def k0_mult2 (i : grid0.Coords) : BitVec 32 :=
  let arg0 : BitVec 32 := BitVec.ofNat 32 (i 0).val
  let c1024_i32 : BitVec 32 := 1024#32
  let v28 : BitVec 32 := Scalar.muli arg0 c1024_i32
  v28
def k0_off5 (i : grid0.Coords) (v27 : BitVec 32) : Fin 3 → Nat :=
  let c0_i32_9 : BitVec 32 := 0#32
  let arg0 : BitVec 32 := BitVec.ofNat 32 (i 0).val
  let c1024_i32 : BitVec 32 := 1024#32
  let v28 : BitVec 32 := Scalar.muli arg0 c1024_i32
  let v29 : BitVec 32 := v28
  ![v27.toNat, 0, v29.toNat]

def k0_chk2 (i : grid0.Coords) (v0 : BitVec 32) (v3 : BitVec 32) (v27 : BitVec 32) : Prop :=
  (∀ (k0_h1 : k0_cond1 i v0 v3 = 1#1), ∀ a, (k0_off5 i v27) a + S1x4096x1024.size a ≤ S8x4096x4096.size a)
theorem k0_off5_inb : ∀ (i : grid0.Coords) (v0 : BitVec 32) (v3 : BitVec 32) (v27 : BitVec 32) (k0_hw2 : k0_chk2 i v0 v3 v27), ∀ (k0_h1 : k0_cond1 i v0 v3 = 1#1), ∀ a, (k0_off5 i v27) a + S1x4096x1024.size a ≤ S8x4096x4096.size a := fun i v0 v3 v27 k0_hw2 k0_h1 => k0_hw2 k0_h1

@[reducible] def k0_t1_loop : Scf.Loop 32 :=
  let c0_i32_10 : BitVec 32 := 0#32
  let c32_i32 : BitVec 32 := 32#32
  let v34 : BitVec 32 := Scalar.addi c0_i32_10 c32_i32
  let c1_i32_11 : BitVec 32 := 1#32
  ⟨c0_i32_10, v34, c1_i32_11⟩
def k0_mult3 (k0_t1 : Fin k0_t1_loop.trips) : BitVec 32 :=
  let c0_i32_10 : BitVec 32 := 0#32
  let c1_i32_11 : BitVec 32 := 1#32
  let arg14 : BitVec 32 := Scf.iv c0_i32_10 c1_i32_11 k0_t1
  let c128_i32 : BitVec 32 := 128#32
  let v46 : BitVec 32 := Scalar.muli arg14 c128_i32
  v46
def k0_off6 (k0_t1 : Fin k0_t1_loop.trips) : Fin 2 → Nat :=
  let c0_i32_10 : BitVec 32 := 0#32
  let c1_i32_11 : BitVec 32 := 1#32
  let arg14 : BitVec 32 := Scf.iv c0_i32_10 c1_i32_11 k0_t1
  let c128_i32 : BitVec 32 := 128#32
  let v46 : BitVec 32 := Scalar.muli arg14 c128_i32
  let v47 : BitVec 32 := v46
  let v48 : Index := Scalar.indexCast v47
  let c0_18 : Index := 0#32
  ![v48.toNat, 0]
def k0_off7 (i : grid0.Coords) : Fin 1 → Nat :=
  let arg1 : BitVec 32 := BitVec.ofNat 32 (i 1).val
  let v35 : Index := Scalar.indexCast arg1
  ![v35.toNat]
def k0_off8 (i : grid0.Coords) : Fin 1 → Nat :=
  let arg1 : BitVec 32 := BitVec.ofNat 32 (i 1).val
  let v46 : Index := Scalar.indexCast arg1
  ![v46.toNat]
def k0_mult4 (i : grid0.Coords) : BitVec 32 :=
  let arg0 : BitVec 32 := BitVec.ofNat 32 (i 0).val
  let c1024_i32_18 : BitVec 32 := 1024#32
  let v48 : BitVec 32 := Scalar.muli arg0 c1024_i32_18
  v48
def k0_off9 (i : grid0.Coords) (v47 : BitVec 32) : Fin 3 → Nat :=
  let c0_i32_20 : BitVec 32 := 0#32
  let arg0 : BitVec 32 := BitVec.ofNat 32 (i 0).val
  let c1024_i32_18 : BitVec 32 := 1024#32
  let v48 : BitVec 32 := Scalar.muli arg0 c1024_i32_18
  let v49 : BitVec 32 := v48
  ![v47.toNat, 0, v49.toNat]
def k0_cond3 (v36 : BitVec 32) : BitVec 1 :=
  let c1_i32_13 : BitVec 32 := 1#32
  let v37 : BitVec 1 := Scalar.cmpi .eq v36 c1_i32_13
  let true_14 : BitVec 1 := 1#1
  let v38 : BitVec 1 := Scalar.xori v37 true_14
  let v39 : BitVec 32 := Scalar.extui v38
  let c0_i32_15 : BitVec 32 := 0#32
  let v40 : BitVec 1 := Scalar.cmpi .ne v39 c0_i32_15
  v40

def k0_chk3 (i : grid0.Coords) (v0 : BitVec 32) (v3 : BitVec 32) (v36 : BitVec 32) (v47 : BitVec 32) : Prop :=
  (∀ (k0_h1 : k0_cond1 i v0 v3 = 1#1), ∀ (k0_h3 : k0_cond3 v36 = 1#1), ∀ a, (k0_off9 i v47) a + S1x4096x1024.size a ≤ S8x4096x4096.size a)
theorem k0_off9_inb : ∀ (i : grid0.Coords) (v0 : BitVec 32) (v3 : BitVec 32) (v36 : BitVec 32) (v47 : BitVec 32) (k0_hw3 : k0_chk3 i v0 v3 v36 v47), ∀ (k0_h1 : k0_cond1 i v0 v3 = 1#1), ∀ (k0_h3 : k0_cond3 v36 = 1#1), ∀ a, (k0_off9 i v47) a + S1x4096x1024.size a ≤ S8x4096x4096.size a := fun i v0 v3 v36 v47 k0_hw3 k0_h1 k0_h3 => k0_hw3 k0_h1 k0_h3

def k0_off10 (i : grid0.Coords) : Fin 1 → Nat :=
  let arg1 : BitVec 32 := BitVec.ofNat 32 (i 1).val
  let v46 : Index := Scalar.indexCast arg1
  ![v46.toNat]
def k0_mult5 (i : grid0.Coords) : BitVec 32 :=
  let arg0 : BitVec 32 := BitVec.ofNat 32 (i 0).val
  let c1_i32_18 : BitVec 32 := 1#32
  let v48 : BitVec 32 := Scalar.addi arg0 c1_i32_18
  let c1024_i32_19 : BitVec 32 := 1024#32
  let v49 : BitVec 32 := Scalar.muli v48 c1024_i32_19
  v49
def k0_off11 (i : grid0.Coords) (v47 : BitVec 32) : Fin 3 → Nat :=
  let c0_i32_21 : BitVec 32 := 0#32
  let arg0 : BitVec 32 := BitVec.ofNat 32 (i 0).val
  let c1_i32_18 : BitVec 32 := 1#32
  let v48 : BitVec 32 := Scalar.addi arg0 c1_i32_18
  let c1024_i32_19 : BitVec 32 := 1024#32
  let v49 : BitVec 32 := Scalar.muli v48 c1024_i32_19
  let v50 : BitVec 32 := v49
  ![v47.toNat, 0, v50.toNat]
def k0_cond4 (i : grid0.Coords) (v36 : BitVec 32) : BitVec 1 :=
  let c1_i32_13 : BitVec 32 := 1#32
  let v37 : BitVec 1 := Scalar.cmpi .eq v36 c1_i32_13
  let arg0 : BitVec 32 := BitVec.ofNat 32 (i 0).val
  let c1_i32_16 : BitVec 32 := 1#32
  let v41 : BitVec 32 := Scalar.addi arg0 c1_i32_16
  let c4_i32 : BitVec 32 := 4#32
  let v42 : BitVec 1 := Scalar.cmpi .slt v41 c4_i32
  let v43 : BitVec 1 := Scalar.andi v37 v42
  let v44 : BitVec 32 := Scalar.extui v43
  let c0_i32_17 : BitVec 32 := 0#32
  let v45 : BitVec 1 := Scalar.cmpi .ne v44 c0_i32_17
  v45

def k0_chk4 (i : grid0.Coords) (v0 : BitVec 32) (v3 : BitVec 32) (v36 : BitVec 32) (v47 : BitVec 32) : Prop :=
  (∀ (k0_h1 : k0_cond1 i v0 v3 = 1#1), ∀ (k0_h4 : k0_cond4 i v36 = 1#1), ∀ a, (k0_off11 i v47) a + S1x4096x1024.size a ≤ S8x4096x4096.size a)
theorem k0_off11_inb : ∀ (i : grid0.Coords) (v0 : BitVec 32) (v3 : BitVec 32) (v36 : BitVec 32) (v47 : BitVec 32) (k0_hw4 : k0_chk4 i v0 v3 v36 v47), ∀ (k0_h1 : k0_cond1 i v0 v3 = 1#1), ∀ (k0_h4 : k0_cond4 i v36 = 1#1), ∀ a, (k0_off11 i v47) a + S1x4096x1024.size a ≤ S8x4096x4096.size a := fun i v0 v3 v36 v47 k0_hw4 k0_h1 k0_h4 => k0_hw4 k0_h1 k0_h4

def k0_off12 (i : grid0.Coords) : Fin 1 → Nat :=
  let arg1 : BitVec 32 := BitVec.ofNat 32 (i 1).val
  let v8 : Index := Scalar.indexCast arg1
  ![v8.toNat]
def k0_cond5 (i : grid0.Coords) (v0 : BitVec 32) (v9 : BitVec 32) : BitVec 1 :=
  let arg1 : BitVec 32 := BitVec.ofNat 32 (i 1).val
  let v1 : BitVec 1 := Scalar.cmpi .slt arg1 v0
  let c1_i32_0 : BitVec 32 := 1#32
  let v10 : BitVec 1 := Scalar.cmpi .eq v9 c1_i32_0
  let v11 : BitVec 1 := Scalar.andi v1 v10
  let v12 : BitVec 32 := Scalar.extui v11
  let c0_i32_1 : BitVec 32 := 0#32
  let v13 : BitVec 1 := Scalar.cmpi .ne v12 c0_i32_1
  v13

def k0_cond6 (i : grid0.Coords) (v0 : BitVec 32) (v9 : BitVec 32) : BitVec 1 :=
  let arg1 : BitVec 32 := BitVec.ofNat 32 (i 1).val
  let v1 : BitVec 1 := Scalar.cmpi .slt arg1 v0
  let c1_i32_0 : BitVec 32 := 1#32
  let v10 : BitVec 1 := Scalar.cmpi .eq v9 c1_i32_0
  let v_true : BitVec 1 := 1#1
  let v14 : BitVec 1 := Scalar.xori v10 v_true
  let v15 : BitVec 1 := Scalar.andi v1 v14
  let v16 : BitVec 32 := Scalar.extui v15
  let c0_i32_2 : BitVec 32 := 0#32
  let v17 : BitVec 1 := Scalar.cmpi .ne v16 c0_i32_2
  v17

def k0_cond7 (i : grid0.Coords) (v0 : BitVec 32) : BitVec 1 :=
  let arg1 : BitVec 32 := BitVec.ofNat 32 (i 1).val
  let v1 : BitVec 1 := Scalar.cmpi .slt arg1 v0
  let true_3 : BitVec 1 := 1#1
  let v18 : BitVec 1 := Scalar.xori v1 true_3
  let v19 : BitVec 32 := Scalar.extui v18
  let c0_i32_4 : BitVec 32 := 0#32
  let v20 : BitVec 1 := Scalar.cmpi .ne v19 c0_i32_4
  v20

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 5 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== DownRefIdeal.lean ====
abbrev S40 : Shape := ⟨1, ![40]⟩
abbrev S1 : Shape := ⟨1, ![1]⟩
abbrev S20480x4096 : Shape := ⟨2, ![20480, 4096]⟩
abbrev S8x4096x4096 : Shape := ⟨3, ![8, 4096, 4096]⟩
abbrev S20480 : Shape := ⟨1, ![20480]⟩
abbrev S_ : Shape := ⟨0, ![]⟩
abbrev S40x512 : Shape := ⟨2, ![40, 512]⟩
abbrev S20480x1 : Shape := ⟨2, ![20480, 1]⟩
abbrev S1x4096x4096 : Shape := ⟨3, ![1, 4096, 4096]⟩
abbrev S4096x4096 : Shape := ⟨2, ![4096, 4096]⟩

abbrev nBuf : Space → Nat
  | .hbm => 164
  | .vmem => 0
  | .smem => 0
  | _ => 0

abbrev hbmTy0_0 (i : Nat) : BufTy := match i % 128 with
  | 0 => ⟨S40, .i32⟩
  | 1 => ⟨S40, .i32⟩
  | 2 => ⟨S40, .i32⟩
  | 3 => ⟨S40, .i32⟩
  | 4 => ⟨S40, .i32⟩
  | 5 => ⟨S1, .i32⟩
  | 6 => ⟨S20480x4096, .bf16⟩
  | 7 => ⟨S8x4096x4096, .f32⟩
  | 8 => ⟨S20480, .i32⟩
  | 9 => ⟨S_, .i32⟩
  | 10 => ⟨S_, .i32⟩
  | 11 => ⟨S20480, .i32⟩
  | 12 => ⟨S20480, .i32⟩
  | 13 => ⟨S20480, .i32⟩
  | 14 => ⟨S_, .i32⟩
  | 15 => ⟨S20480, .i32⟩
  | 16 => ⟨S20480, .i1⟩
  | 17 => ⟨S20480, .i32⟩
  | 18 => ⟨S20480, .i32⟩
  | 19 => ⟨S_, .i32⟩
  | 20 => ⟨S20480, .i32⟩
  | 21 => ⟨S20480, .i1⟩
  | 22 => ⟨S20480, .i1⟩
  | 23 => ⟨S_, .i32⟩
  | 24 => ⟨S20480, .i32⟩
  | 25 => ⟨S20480, .i32⟩
  | 26 => ⟨S20480, .i32⟩
  | 27 => ⟨S20480, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S20480, .i32⟩
  | 35 => ⟨S20480, .i32⟩
  | 36 => ⟨S_, .i32⟩
  | 37 => ⟨S20480, .i32⟩
  | 38 => ⟨S20480, .i1⟩
  | 39 => ⟨S_, .i32⟩
  | 40 => ⟨S20480, .i32⟩
  | 41 => ⟨S20480, .i1⟩
  | 42 => ⟨S_, .i32⟩
  | 43 => ⟨S_, .i1⟩
  | 44 => ⟨S20480, .i1⟩
  | 45 => ⟨S20480, .i1⟩
  | 46 => ⟨S20480, .i1⟩
  | 47 => ⟨S20480, .i32⟩
  | 48 => ⟨S20480, .i32⟩
  | 49 => ⟨S20480, .i32⟩
  | 50 => ⟨S_, .i32⟩
  | 51 => ⟨S20480, .i32⟩
  | 52 => ⟨S20480, .i1⟩
  | 53 => ⟨S40x512, .i32⟩
  | 54 => ⟨S20480, .i32⟩
  | 55 => ⟨S_, .i32⟩
  | 56 => ⟨S20480, .i32⟩
  | 57 => ⟨S20480, .i1⟩
  | 58 => ⟨S40x512, .i32⟩
  | 59 => ⟨S20480, .i32⟩
  | 60 => ⟨S_, .i32⟩
  | 61 => ⟨S20480, .i32⟩
  | 62 => ⟨S20480, .i1⟩
  | 63 => ⟨S20480, .i1⟩
  | 64 => ⟨S20480, .i1⟩
  | 65 => ⟨S20480x4096, .f32⟩
  | 66 => ⟨S_, .f32⟩
  | 67 => ⟨S20480x4096, .f32⟩
  | 68 => ⟨S_, .i32⟩
  | 69 => ⟨S20480, .i32⟩
  | 70 => ⟨S20480, .i1⟩
  | 71 => ⟨S20480, .i1⟩
  | 72 => ⟨S20480, .f32⟩
  | 73 => ⟨S20480x1, .f32⟩
  | 74 => ⟨S1x4096x4096, .f32⟩
  | 75 => ⟨S4096x4096, .f32⟩
  | 76 => ⟨S20480x4096, .f32⟩
  | 77 => ⟨S20480x4096, .f32⟩
  | 78 => ⟨S20480x4096, .f32⟩
  | 79 => ⟨S20480x4096, .f32⟩
  | 80 => ⟨S_, .i32⟩
  | 81 => ⟨S20480, .i32⟩
  | 82 => ⟨S20480, .i1⟩
  | 83 => ⟨S20480, .i1⟩
  | 84 => ⟨S20480, .f32⟩
  | 85 => ⟨S20480x1, .f32⟩
  | 86 => ⟨S1x4096x4096, .f32⟩
  | 87 => ⟨S4096x4096, .f32⟩
  | 88 => ⟨S20480x4096, .f32⟩
  | 89 => ⟨S20480x4096, .f32⟩
  | 90 => ⟨S20480x4096, .f32⟩
  | 91 => ⟨S20480x4096, .f32⟩
  | 92 => ⟨S_, .i32⟩
  | 93 => ⟨S20480, .i32⟩
  | 94 => ⟨S20480, .i1⟩
  | 95 => ⟨S20480, .i1⟩
  | 96 => ⟨S20480, .f32⟩
  | 97 => ⟨S20480x1, .f32⟩
  | 98 => ⟨S1x4096x4096, .f32⟩
  | 99 => ⟨S4096x4096, .f32⟩
  | 100 => ⟨S20480x4096, .f32⟩
  | 101 => ⟨S20480x4096, .f32⟩
  | 102 => ⟨S20480x4096, .f32⟩
  | 103 => ⟨S20480x4096, .f32⟩
  | 104 => ⟨S_, .i32⟩
  | 105 => ⟨S20480, .i32⟩
  | 106 => ⟨S20480, .i1⟩
  | 107 => ⟨S20480, .i1⟩
  | 108 => ⟨S20480, .f32⟩
  | 109 => ⟨S20480x1, .f32⟩
  | 110 => ⟨S1x4096x4096, .f32⟩
  | 111 => ⟨S4096x4096, .f32⟩
  | 112 => ⟨S20480x4096, .f32⟩
  | 113 => ⟨S20480x4096, .f32⟩
  | 114 => ⟨S20480x4096, .f32⟩
  | 115 => ⟨S20480x4096, .f32⟩
  | 116 => ⟨S_, .i32⟩
  | 117 => ⟨S20480, .i32⟩
  | 118 => ⟨S20480, .i1⟩
  | 119 => ⟨S20480, .i1⟩
  | 120 => ⟨S20480, .f32⟩
  | 121 => ⟨S20480x1, .f32⟩
  | 122 => ⟨S1x4096x4096, .f32⟩
  | 123 => ⟨S4096x4096, .f32⟩
  | 124 => ⟨S20480x4096, .f32⟩
  | 125 => ⟨S20480x4096, .f32⟩
  | 126 => ⟨S20480x4096, .f32⟩
  | 127 => ⟨S20480x4096, .f32⟩
  | _ => ⟨S40, .i32⟩

abbrev hbmTy0_1 (i : Nat) : BufTy := match i % 128 with
  | 0 => ⟨S_, .i32⟩
  | 1 => ⟨S20480, .i32⟩
  | 2 => ⟨S20480, .i1⟩
  | 3 => ⟨S20480, .i1⟩
  | 4 => ⟨S20480, .f32⟩
  | 5 => ⟨S20480x1, .f32⟩
  | 6 => ⟨S1x4096x4096, .f32⟩
  | 7 => ⟨S4096x4096, .f32⟩
  | 8 => ⟨S20480x4096, .f32⟩
  | 9 => ⟨S20480x4096, .f32⟩
  | 10 => ⟨S20480x4096, .f32⟩
  | 11 => ⟨S20480x4096, .f32⟩
  | 12 => ⟨S_, .i32⟩
  | 13 => ⟨S20480, .i32⟩
  | 14 => ⟨S20480, .i1⟩
  | 15 => ⟨S20480, .i1⟩
  | 16 => ⟨S20480, .f32⟩
  | 17 => ⟨S20480x1, .f32⟩
  | 18 => ⟨S1x4096x4096, .f32⟩
  | 19 => ⟨S4096x4096, .f32⟩
  | 20 => ⟨S20480x4096, .f32⟩
  | 21 => ⟨S20480x4096, .f32⟩
  | 22 => ⟨S20480x4096, .f32⟩
  | 23 => ⟨S20480x4096, .f32⟩
  | 24 => ⟨S_, .i32⟩
  | 25 => ⟨S20480, .i32⟩
  | 26 => ⟨S20480, .i1⟩
  | 27 => ⟨S20480, .i1⟩
  | 28 => ⟨S20480, .f32⟩
  | 29 => ⟨S20480x1, .f32⟩
  | 30 => ⟨S1x4096x4096, .f32⟩
  | 31 => ⟨S4096x4096, .f32⟩
  | 32 => ⟨S20480x4096, .f32⟩
  | 33 => ⟨S20480x4096, .f32⟩
  | 34 => ⟨S20480x4096, .f32⟩
  | 35 => ⟨S20480x4096, .f32⟩
  | _ => ⟨S40, .i32⟩

abbrev hbmTy (i : Nat) : BufTy := match i / 128 with
  | 0 => hbmTy0_0 i
  | 1 => hbmTy0_1 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v3 : Ref sig .tc := ⟨.hbm, 49, rfl⟩
abbrev main_c_1 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_c_2 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_cst : Ref sig .tc := ⟨.hbm, 66, rfl⟩
abbrev main_v18 : Ref sig .tc := ⟨.hbm, 67, rfl⟩
abbrev main_c_3 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_c_4 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_c_5 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_c_6 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_c_7 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_c_8 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_c_9 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_c_10 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩

abbrev nD : Nat := 1
abbrev τ : Topo := Topo.v7x

variable {F : FTy → Type} [FloatOps F]
-- ==== Wout.lean ====
abbrev S8192x4096 : Shape := ⟨2, ![8192, 4096]⟩
abbrev S4096x4096 : Shape := ⟨2, ![4096, 4096]⟩
abbrev S512x4096 : Shape := ⟨2, ![512, 4096]⟩
abbrev S512x1024 : Shape := ⟨2, ![512, 1024]⟩
abbrev S4096x1024 : Shape := ⟨2, ![4096, 1024]⟩
abbrev S_ : Shape := ⟨0, ![]⟩
abbrev S128x1024 : Shape := ⟨2, ![128, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .f32⟩
  | .local _ .vmem, ⟨7, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_8 : BitVec 32 := 0#32
  let v9 : BitVec 1 := Scalar.cmpi .eq arg0 c0_i32_8
  let v10 : BitVec 32 := Scalar.extui v9
  let c0_i32_9 : BitVec 32 := 0#32
  let v11 : BitVec 1 := Scalar.cmpi .ne v10 c0_i32_9
  v11

def k0_mult1 (i : grid0.Coords) : BitVec 32 :=
  let arg0 : BitVec 32 := BitVec.ofNat 32 (i 0).val
  let c1024_i32_15 : BitVec 32 := 1024#32
  let v20 : BitVec 32 := Scalar.muli arg0 c1024_i32_15
  v20
def k0_off1 (i : grid0.Coords) : Fin 2 → Nat :=
  let c0_i32_16 : BitVec 32 := 0#32
  let arg0 : BitVec 32 := BitVec.ofNat 32 (i 0).val
  let c1024_i32_15 : BitVec 32 := 1024#32
  let v20 : BitVec 32 := Scalar.muli arg0 c1024_i32_15
  let v21 : BitVec 32 := v20
  ![0, v21.toNat]
def k0_mult2 (i : grid0.Coords) : BitVec 32 :=
  let arg0 : BitVec 32 := BitVec.ofNat 32 (i 0).val
  let c1024_i32 : BitVec 32 := 1024#32
  let v12 : BitVec 32 := Scalar.muli arg0 c1024_i32
  v12
def k0_off2 (i : grid0.Coords) : Fin 2 → Nat :=
  let c0_i32_10 : BitVec 32 := 0#32
  let arg0 : BitVec 32 := BitVec.ofNat 32 (i 0).val
  let c1024_i32 : BitVec 32 := 1024#32
  let v12 : BitVec 32 := Scalar.muli arg0 c1024_i32
  let v13 : BitVec 32 := v12
  ![0, v13.toNat]
@[reducible] def k0_t1_loop : Scf.Loop 32 :=
  let c0_i32_11 : BitVec 32 := 0#32
  let c32_i32 : BitVec 32 := 32#32
  let v15 : BitVec 32 := Scalar.addi c0_i32_11 c32_i32
  let c1_i32 : BitVec 32 := 1#32
  ⟨c0_i32_11, v15, c1_i32⟩
def k0_mult3 (k0_t1 : Fin k0_t1_loop.trips) : BitVec 32 :=
  let c0_i32_11 : BitVec 32 := 0#32
  let c1_i32 : BitVec 32 := 1#32
  let arg9 : BitVec 32 := Scf.iv c0_i32_11 c1_i32 k0_t1
  let c128_i32 : BitVec 32 := 128#32
  let v20 : BitVec 32 := Scalar.muli arg9 c128_i32
  v20
def k0_off3 (k0_t1 : Fin k0_t1_loop.trips) : Fin 2 → Nat :=
  let c0_i32_11 : BitVec 32 := 0#32
  let c1_i32 : BitVec 32 := 1#32
  let arg9 : BitVec 32 := Scf.iv c0_i32_11 c1_i32 k0_t1
  let c128_i32 : BitVec 32 := 128#32
  let v20 : BitVec 32 := Scalar.muli arg9 c128_i32
  let v21 : BitVec 32 := v20
  let v22 : Index := Scalar.indexCast v21
  let c0_15 : Index := 0#32
  ![v22.toNat, 0]
def k0_cond3 (i : grid0.Coords) : BitVec 1 :=
  let arg0 : BitVec 32 := BitVec.ofNat 32 (i 0).val
  let c1_i32_13 : BitVec 32 := 1#32
  let v16 : BitVec 32 := Scalar.addi arg0 c1_i32_13
  let c4_i32 : BitVec 32 := 4#32
  let v17 : BitVec 1 := Scalar.cmpi .slt v16 c4_i32
  let v18 : BitVec 32 := Scalar.extui v17
  let c0_i32_14 : BitVec 32 := 0#32
  let v19 : BitVec 1 := Scalar.cmpi .ne v18 c0_i32_14
  v19

def k0_mult4 (i : grid0.Coords) : BitVec 32 :=
  let arg0 : BitVec 32 := BitVec.ofNat 32 (i 0).val
  let c1_i32_15 : BitVec 32 := 1#32
  let v20 : BitVec 32 := Scalar.addi arg0 c1_i32_15
  let c1024_i32_16 : BitVec 32 := 1024#32
  let v21 : BitVec 32 := Scalar.muli v20 c1024_i32_16
  v21
def k0_off4 (i : grid0.Coords) : Fin 2 → Nat :=
  let c0_i32_17 : BitVec 32 := 0#32
  let arg0 : BitVec 32 := BitVec.ofNat 32 (i 0).val
  let c1_i32_15 : BitVec 32 := 1#32
  let v20 : BitVec 32 := Scalar.addi arg0 c1_i32_15
  let c1024_i32_16 : BitVec 32 := 1024#32
  let v21 : BitVec 32 := Scalar.muli v20 c1024_i32_16
  let v22 : BitVec 32 := v21
  ![0, v22.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WoutRefIdeal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnA.lean ====
abbrev S8192x11008 : Shape := ⟨2, ![8192, 11008]⟩
abbrev S11008x4096 : Shape := ⟨2, ![11008, 4096]⟩
abbrev S8192x4096 : Shape := ⟨2, ![8192, 4096]⟩
abbrev S1024x5504 : Shape := ⟨2, ![1024, 5504]⟩
abbrev S1024x512 : Shape := ⟨2, ![1024, 512]⟩
abbrev S5504x512 : Shape := ⟨2, ![5504, 512]⟩
abbrev S_ : Shape := ⟨0, ![]⟩
abbrev S128x512 : Shape := ⟨2, ![128, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S8192x4096, .f32⟩
  | .hbm, ⟨3, _⟩ => ⟨S8192x4096, .f32⟩
  | .local _ .vmem, ⟨0, _⟩ => ⟨S1024x5504, .bf16⟩
  | .local _ .vmem, ⟨1, _⟩ => ⟨S1024x5504, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S5504x512, .f32⟩
  | .local _ .vmem, ⟨7, _⟩ => ⟨S5504x512, .bf16⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_8 : BitVec 32 := 0#32
  let v9 : BitVec 1 := Scalar.cmpi .eq arg0 c0_i32_8
  let v10 : BitVec 32 := Scalar.extui v9
  let c0_i32_9 : BitVec 32 := 0#32
  let v11 : BitVec 1 := Scalar.cmpi .ne v10 c0_i32_9
  v11

def k0_mult1 (i : grid0.Coords) : BitVec 32 :=
  let arg0 : BitVec 32 := BitVec.ofNat 32 (i 0).val
  let c512_i32_15 : BitVec 32 := 512#32
  let v20 : BitVec 32 := Scalar.muli arg0 c512_i32_15
  v20
def k0_off1 (i : grid0.Coords) : Fin 2 → Nat :=
  let c0_i32_16 : BitVec 32 := 0#32
  let arg0 : BitVec 32 := BitVec.ofNat 32 (i 0).val
  let c512_i32_15 : BitVec 32 := 512#32
  let v20 : BitVec 32 := Scalar.muli arg0 c512_i32_15
  let v21 : BitVec 32 := v20
  ![0, v21.toNat]
def k0_mult2 (i : grid0.Coords) : BitVec 32 :=
  let arg0 : BitVec 32 := BitVec.ofNat 32 (i 0).val
  let c512_i32 : BitVec 32 := 512#32
  let v12 : BitVec 32 := Scalar.muli arg0 c512_i32
  v12
def k0_off2 (i : grid0.Coords) : Fin 2 → Nat :=
  let c0_i32_10 : BitVec 32 := 0#32
  let arg0 : BitVec 32 := BitVec.ofNat 32 (i 0).val
  let c512_i32 : BitVec 32 := 512#32
  let v12 : BitVec 32 := Scalar.muli arg0 c512_i32
  let v13 : BitVec 32 := v12
  ![0, v13.toNat]
@[reducible] def k0_t1_loop : Scf.Loop 32 :=
  let c0_i32_11 : BitVec 32 := 0#32
  let c43_i32 : BitVec 32 := 43#32
  let v15 : BitVec 32 := Scalar.addi c0_i32_11 c43_i32
  let c1_i32 : BitVec 32 := 1#32
  ⟨c0_i32_11, v15, c1_i32⟩
def k0_mult3 (k0_t1 : Fin k0_t1_loop.trips) : BitVec 32 :=
  let c0_i32_11 : BitVec 32 := 0#32
  let c1_i32 : BitVec 32 := 1#32
  let arg9 : BitVec 32 := Scf.iv c0_i32_11 c1_i32 k0_t1
  let c128_i32 : BitVec 32 := 128#32
  let v20 : BitVec 32 := Scalar.muli arg9 c128_i32
  v20
def k0_off3 (k0_t1 : Fin k0_t1_loop.trips) : Fin 2 → Nat :=
  let c0_i32_11 : BitVec 32 := 0#32
  let c1_i32 : BitVec 32 := 1#32
  let arg9 : BitVec 32 := Scf.iv c0_i32_11 c1_i32 k0_t1
  let c128_i32 : BitVec 32 := 128#32
  let v20 : BitVec 32 := Scalar.muli arg9 c128_i32
  let v21 : BitVec 32 := v20
  let v22 : Index := Scalar.indexCast v21
  let c0_15 : Index := 0#32
  ![v22.toNat, 0]
def k0_cond3 (i : grid0.Coords) : BitVec 1 :=
  let arg0 : BitVec 32 := BitVec.ofNat 32 (i 0).val
  let c1_i32_13 : BitVec 32 := 1#32
  let v16 : BitVec 32 := Scalar.addi arg0 c1_i32_13
  let c8_i32 : BitVec 32 := 8#32
  let v17 : BitVec 1 := Scalar.cmpi .slt v16 c8_i32
  let v18 : BitVec 32 := Scalar.extui v17
  let c0_i32_14 : BitVec 32 := 0#32
  let v19 : BitVec 1 := Scalar.cmpi .ne v18 c0_i32_14
  v19

def k0_mult4 (i : grid0.Coords) : BitVec 32 :=
  let arg0 : BitVec 32 := BitVec.ofNat 32 (i 0).val
  let c1_i32_15 : BitVec 32 := 1#32
  let v20 : BitVec 32 := Scalar.addi arg0 c1_i32_15
  let c512_i32_16 : BitVec 32 := 512#32
  let v21 : BitVec 32 := Scalar.muli v20 c512_i32_16
  v21
def k0_off4 (i : grid0.Coords) : Fin 2 → Nat :=
  let c0_i32_17 : BitVec 32 := 0#32
  let arg0 : BitVec 32 := BitVec.ofNat 32 (i 0).val
  let c1_i32_15 : BitVec 32 := 1#32
  let v20 : BitVec 32 := Scalar.addi arg0 c1_i32_15
  let c512_i32_16 : BitVec 32 := 512#32
  let v21 : BitVec 32 := Scalar.muli v20 c512_i32_16
  let v22 : BitVec 32 := v21
  ![0, v22.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnARefIdeal.lean ====
abbrev S8192x11008 : Shape := ⟨2, ![8192, 11008]⟩
abbrev S11008x4096 : Shape := ⟨2, ![11008, 4096]⟩
abbrev S8192x4096 : Shape := ⟨2, ![8192, 4096]⟩
abbrev S8192x5504 : Shape := ⟨2, ![8192, 5504]⟩
abbrev S5504x4096 : Shape := ⟨2, ![5504, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S8192x4096, .f32⟩
  | .hbm, ⟨3, _⟩ => ⟨S8192x5504, .bf16⟩
  | .hbm, ⟨4, _⟩ => ⟨S8192x5504, .f32⟩
  | .hbm, ⟨5, _⟩ => ⟨S5504x4096, .f32⟩
  | .hbm, ⟨6, _⟩ => ⟨S8192x4096, .f32⟩
  | .hbm, ⟨7, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnB.lean ====
abbrev S8192x11008 : Shape := ⟨2, ![8192, 11008]⟩
abbrev S11008x4096 : Shape := ⟨2, ![11008, 4096]⟩
abbrev S8192x4096 : Shape := ⟨2, ![8192, 4096]⟩
abbrev S1024x5504 : Shape := ⟨2, ![1024, 5504]⟩
abbrev S1024x512 : Shape := ⟨2, ![1024, 512]⟩
abbrev S5504x512 : Shape := ⟨2, ![5504, 512]⟩
abbrev S_ : Shape := ⟨0, ![]⟩
abbrev S128x512 : Shape := ⟨2, ![128, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S8192x4096, .f32⟩
  | .hbm, ⟨3, _⟩ => ⟨S8192x4096, .f32⟩
  | .local _ .vmem, ⟨0, _⟩ => ⟨S1024x5504, .bf16⟩
  | .local _ .vmem, ⟨1, _⟩ => ⟨S1024x5504, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S5504x512, .f32⟩
  | .local _ .vmem, ⟨7, _⟩ => ⟨S5504x512, .bf16⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_8 : BitVec 32 := 0#32
  let v9 : BitVec 1 := Scalar.cmpi .eq arg0 c0_i32_8
  let v10 : BitVec 32 := Scalar.extui v9
  let c0_i32_9 : BitVec 32 := 0#32
  let v11 : BitVec 1 := Scalar.cmpi .ne v10 c0_i32_9
  v11

def k0_mult1 (i : grid0.Coords) : BitVec 32 :=
  let arg0 : BitVec 32 := BitVec.ofNat 32 (i 0).val
  let c512_i32_14 : BitVec 32 := 512#32
  let v20 : BitVec 32 := Scalar.muli arg0 c512_i32_14
  v20
def k0_off1 (i : grid0.Coords) : Fin 2 → Nat :=
  let c5504_i32_15 : BitVec 32 := 5504#32
  let arg0 : BitVec 32 := BitVec.ofNat 32 (i 0).val
  let c512_i32_14 : BitVec 32 := 512#32
  let v20 : BitVec 32 := Scalar.muli arg0 c512_i32_14
  let v21 : BitVec 32 := v20
  ![5504, v21.toNat]
def k0_mult2 (i : grid0.Coords) : BitVec 32 :=
  let arg0 : BitVec 32 := BitVec.ofNat 32 (i 0).val
  let c512_i32 : BitVec 32 := 512#32
  let v12 : BitVec 32 := Scalar.muli arg0 c512_i32
  v12
def k0_off2 (i : grid0.Coords) : Fin 2 → Nat :=
  let c5504_i32 : BitVec 32 := 5504#32
  let arg0 : BitVec 32 := BitVec.ofNat 32 (i 0).val
  let c512_i32 : BitVec 32 := 512#32
  let v12 : BitVec 32 := Scalar.muli arg0 c512_i32
  let v13 : BitVec 32 := v12
  ![5504, v13.toNat]
@[reducible] def k0_t1_loop : Scf.Loop 32 :=
  let c0_i32_10 : BitVec 32 := 0#32
  let c43_i32 : BitVec 32 := 43#32
  let v15 : BitVec 32 := Scalar.addi c0_i32_10 c43_i32
  let c1_i32 : BitVec 32 := 1#32
  ⟨c0_i32_10, v15, c1_i32⟩
def k0_mult3 (k0_t1 : Fin k0_t1_loop.trips) : BitVec 32 :=
  let c0_i32_10 : BitVec 32 := 0#32
  let c1_i32 : BitVec 32 := 1#32
  let arg9 : BitVec 32 := Scf.iv c0_i32_10 c1_i32 k0_t1
  let c128_i32 : BitVec 32 := 128#32
  let v20 : BitVec 32 := Scalar.muli arg9 c128_i32
  v20
def k0_off3 (k0_t1 : Fin k0_t1_loop.trips) : Fin 2 → Nat :=
  let c0_i32_10 : BitVec 32 := 0#32
  let c1_i32 : BitVec 32 := 1#32
  let arg9 : BitVec 32 := Scf.iv c0_i32_10 c1_i32 k0_t1
  let c128_i32 : BitVec 32 := 128#32
  let v20 : BitVec 32 := Scalar.muli arg9 c128_i32
  let v21 : BitVec 32 := v20
  let v22 : Index := Scalar.indexCast v21
  let c0_14 : Index := 0#32
  ![v22.toNat, 0]
def k0_cond3 (i : grid0.Coords) : BitVec 1 :=
  let arg0 : BitVec 32 := BitVec.ofNat 32 (i 0).val
  let c1_i32_12 : BitVec 32 := 1#32
  let v16 : BitVec 32 := Scalar.addi arg0 c1_i32_12
  let c8_i32 : BitVec 32 := 8#32
  let v17 : BitVec 1 := Scalar.cmpi .slt v16 c8_i32
  let v18 : BitVec 32 := Scalar.extui v17
  let c0_i32_13 : BitVec 32 := 0#32
  let v19 : BitVec 1 := Scalar.cmpi .ne v18 c0_i32_13
  v19

def k0_mult4 (i : grid0.Coords) : BitVec 32 :=
  let arg0 : BitVec 32 := BitVec.ofNat 32 (i 0).val
  let c1_i32_14 : BitVec 32 := 1#32
  let v20 : BitVec 32 := Scalar.addi arg0 c1_i32_14
  let c512_i32_15 : BitVec 32 := 512#32
  let v21 : BitVec 32 := Scalar.muli v20 c512_i32_15
  v21
def k0_off4 (i : grid0.Coords) : Fin 2 → Nat :=
  let c5504_i32_16 : BitVec 32 := 5504#32
  let arg0 : BitVec 32 := BitVec.ofNat 32 (i 0).val
  let c1_i32_14 : BitVec 32 := 1#32
  let v20 : BitVec 32 := Scalar.addi arg0 c1_i32_14
  let c512_i32_15 : BitVec 32 := 512#32
  let v21 : BitVec 32 := Scalar.muli v20 c512_i32_15
  let v22 : BitVec 32 := v21
  ![5504, v22.toNat]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnBRefIdeal.lean ====
abbrev S8192x11008 : Shape := ⟨2, ![8192, 11008]⟩
abbrev S11008x4096 : Shape := ⟨2, ![11008, 4096]⟩
abbrev S8192x4096 : Shape := ⟨2, ![8192, 4096]⟩
abbrev S8192x5504 : Shape := ⟨2, ![8192, 5504]⟩
abbrev S5504x4096 : Shape := ⟨2, ![5504, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S8192x4096, .f32⟩
  | .hbm, ⟨3, _⟩ => ⟨S8192x5504, .bf16⟩
  | .hbm, ⟨4, _⟩ => ⟨S8192x5504, .f32⟩
  | .hbm, ⟨5, _⟩ => ⟨S5504x4096, .f32⟩
  | .hbm, ⟨6, _⟩ => ⟨S8192x4096, .f32⟩
  | .hbm, ⟨7, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.MergeValue.lean ====
module

public import proofs.«01_k».proof.Proof.Gen.MergeIdeal.Frame
public import proofs.«01_k».proof.Proof.Gen.MergeRefIdeal
public import Idealize.ShloMosaic.Lib.Pipeline.ValueKit
public import Idealize.ShloMosaic.Lib.Pipeline.ReadBack

/-!
# The gated merge of the four branches equals its reference

The grid walks column tiles (slow axis) and token tiles (fast axis). At the first token tile of a column tile the kernel stores
the branch weights of that column tile, and every later token tile reads them back; so after every point the stored weights are
the current column tile of the argument. Each output block is then the sum, over the four branches, of the gate times the
branch's product with its weights, which is the reference's pair of einsums read at one entry.
-/

@[expose] public section

set_option maxRecDepth 16384

noncomputable section

namespace Cert.MergeIdeal.Sum

open Idealize.ShloMosaic Idealize.ShloMosaic.TcCoe Idealize.SL.Sem

section Reference
open Cert.MergeRefIdeal Cert.MergeRefIdeal.Gen

/-- The reference's result, as a function of the four branch outputs, the gates and the branch weights. -/
def REF (A B C D : FVec Ideal S8192x1024 .bf16) (G : FVec Ideal S8192x16384 .bf16) (W : FVec Ideal S4x1024x4096 .f32) :
    FVec Ideal S8192x4096 .bf16 :=
  truncf .bf16 (Host.dotGeneral dot_S8192x4x4096_S8192x4x4096_S8192x4096_1_1_n_n_02_02 none
    (shapeCast _ (extf .f32 G bitsLt_bf16_f32) shapeCasts_S8192x16384_S8192x4x4096)
    (transpose S8192x4x4096 [2, 0, 1] (Host.dotGeneral dot_S4x1024x4096_S8192x4x1024_S4x4096x8192_1_2_2_0_0_1 none W
      (concatenate S8192x4x1024 1
        [⟨S8192x1x1024, broadcastInDim S8192x1x1024 ![0, 2] bcast_S8192x1024_S8192x1x1024_0_2 (extf .f32 A bitsLt_bf16_f32)⟩,
         ⟨S8192x1x1024, broadcastInDim S8192x1x1024 ![0, 2] bcast_S8192x1024_S8192x1x1024_0_2 (extf .f32 B bitsLt_bf16_f32)⟩,
         ⟨S8192x1x1024, broadcastInDim S8192x1x1024 ![0, 2] bcast_S8192x1024_S8192x1x1024_0_2 (extf .f32 C bitsLt_bf16_f32)⟩,
         ⟨S8192x1x1024, broadcastInDim S8192x1x1024 ![0, 2] bcast_S8192x1024_S8192x1x1024_0_2 (extf .f32 D bitsLt_bf16_f32)⟩]
        concatenates_S8192x1x1024_S8192x1x1024_S8192x1x1024_S8192x1x1024_S8192x4x1024_d1))
      transposes_S4x4096x8192_S8192x4x4096_2_0_1)) bitsLt_bf16_f32

/-- The reference's result at token `s`, channel `d`: the sum over the four branches of gate times projection. -/
theorem ref_at (A B C D : FVec Ideal S8192x1024 .bf16) (G : FVec Ideal S8192x16384 .bf16) (W : FVec Ideal S4x1024x4096 .f32)
    (s : Fin 8192) (d : Fin 4096) : REF A B C D G W (ix2 s d) =
      G (ix2 s ⟨d, by omega⟩) * ∑ k : Fin 1024, A (ix2 s k) * W (ix3 0 k d)
      + G (ix2 s ⟨4096 + d, by omega⟩) * ∑ k : Fin 1024, B (ix2 s k) * W (ix3 1 k d)
      + G (ix2 s ⟨8192 + d, by omega⟩) * ∑ k : Fin 1024, C (ix2 s k) * W (ix3 2 k d)
      + G (ix2 s ⟨12288 + d, by omega⟩) * ∑ k : Fin 1024, D (ix2 s k) * W (ix3 3 k d) := by
  pointwise [REF]
  rw [Fin.sum_univ_four]
  pointwise
  simp only [mul_comm (W _)]

end Reference

section Kernel
open Cert.MergeIdeal Cert.MergeIdeal.Gen

variable (m : (ℓ : Loc nD τ sig) → Buf (Elt Ideal) ℓ)

/-- Where each window's block lies at a grid point: the token tile is the fast axis, the column tile the slow one. -/
theorem idx : ∀ t : Fin cfg0.N, win0_0.index t = ![t.val % 8, 0] ∧ win0_1.index t = ![t.val % 8, 0]
    ∧ win0_2.index t = ![t.val % 8, 0] ∧ win0_3.index t = ![t.val % 8, 0]
    ∧ win0_4.index t = ![t.val % 8, t.val / 8] ∧ win0_5.index t = ![t.val % 8, 8 + t.val / 8]
    ∧ win0_6.index t = ![t.val % 8, 16 + t.val / 8] ∧ win0_7.index t = ![t.val % 8, 24 + t.val / 8]
    ∧ win0_8.index t = ![0, 0, t.val / 8] ∧ win0_9.index t = ![t.val % 8, t.val / 8] :=
  (by decide +kernel : ∀ t : Fin grid0.N, _)

/-- One block of the merge, from the blocks it reads: four products of a branch with its weights, each times its gate. -/
def blockSum (A B C D : FVec Ideal S1024x1024 .bf16) (G0 G1 G2 G3 : FVec Ideal S1024x512 .bf16)
    (W : FVec Ideal S4x1024x512 .bf16) (y : S1024x512.Idx) : EReal :=
      G0 (ix2 (y 0) (y 1)) * ∑ k : Fin 1024, A (ix2 (y 0) k) * W (ix3 0 k (y 1))
      + G1 (ix2 (y 0) (y 1)) * ∑ k : Fin 1024, B (ix2 (y 0) k) * W (ix3 1 k (y 1))
      + G2 (ix2 (y 0) (y 1)) * ∑ k : Fin 1024, C (ix2 (y 0) k) * W (ix3 2 k (y 1))
      + G3 (ix2 (y 0) (y 1)) * ∑ k : Fin 1024, D (ix2 (y 0) k) * W (ix3 3 k (y 1))

/-- At a first token tile the output block is computed with the weights stored at that point. -/
theorem out_A (c : Dev nD) (t : Fin cfg0.N) (h : t.val % 8 = 0) (y : S1024x512.Idx) :
    (outsAt0 m c t.val t.isLt).1 y = blockSum (iblk m c 0 t) (iblk m c 1 t) (iblk m c 2 t) (iblk m c 3 t)
      (iblk m c 4 t) (iblk m c 5 t) (iblk m c 6 t) (iblk m c 7 t) (k0_pay2 (iblk m c 8 t)) y := by
  rw [outsAt0_A m c t h]
  frame_out
  simp (disch := decide) only [View.readCov_fill]
  clear h
  generalize k0_pay2 (F := Ideal) (iblk m c 8 t) = W
  generalize (iblk m c 0 t : Vec Ideal S1024x1024 .bf16) = A, (iblk m c 1 t : Vec Ideal S1024x1024 .bf16) = B,
    (iblk m c 2 t : Vec Ideal S1024x1024 .bf16) = C, (iblk m c 3 t : Vec Ideal S1024x1024 .bf16) = D,
    (iblk m c 4 t : Vec Ideal S1024x512 .bf16) = G0, (iblk m c 5 t : Vec Ideal S1024x512 .bf16) = G1,
    (iblk m c 6 t : Vec Ideal S1024x512 .bf16) = G2, (iblk m c 7 t : Vec Ideal S1024x512 .bf16) = G3
  canon_tiles z h
  · have hz : 256 + (z 1 : ℕ) < 512 := by omega
    obtain rfl : y = ix2 (z 0) ⟨256 + (z 1 : ℕ), hz⟩ := by blk_ext
    open_payloads; pointwise [blockSum]
  · have hz : (z 1 : ℕ) < 512 := by omega
    obtain rfl : y = ix2 (z 0) ⟨(z 1 : ℕ), hz⟩ := by blk_ext
    open_payloads; pointwise [blockSum]

/-- At a later token tile the output block is computed with the weights the point before left. -/
theorem out_B (c : Dev nD) (t : Fin cfg0.N) (h : ¬t.val % 8 = 0) (y : S1024x512.Idx) :
    (outsAt0 m c t.val t.isLt).1 y = blockSum (iblk m c 0 t) (iblk m c 1 t) (iblk m c 2 t) (iblk m c 3 t)
      (iblk m c 4 t) (iblk m c 5 t) (iblk m c 6 t) (iblk m c 7 t) (outsAt0 m c (t.val - 1) (by omega)).2 y := by
  rw [outsAt0_B m c t h]
  frame_out
  simp only [read_unread_whole]
  clear h
  generalize (outsAt0 m c (t.val - 1) _).2 = W
  generalize (iblk m c 0 t : Vec Ideal S1024x1024 .bf16) = A, (iblk m c 1 t : Vec Ideal S1024x1024 .bf16) = B,
    (iblk m c 2 t : Vec Ideal S1024x1024 .bf16) = C, (iblk m c 3 t : Vec Ideal S1024x1024 .bf16) = D,
    (iblk m c 4 t : Vec Ideal S1024x512 .bf16) = G0, (iblk m c 5 t : Vec Ideal S1024x512 .bf16) = G1,
    (iblk m c 6 t : Vec Ideal S1024x512 .bf16) = G2, (iblk m c 7 t : Vec Ideal S1024x512 .bf16) = G3
  canon_tiles z h
  · have hz : 256 + (z 1 : ℕ) < 512 := by omega
    obtain rfl : y = ix2 (z 0) ⟨256 + (z 1 : ℕ), hz⟩ := by blk_ext
    open_payloads; pointwise [blockSum]
  · have hz : (z 1 : ℕ) < 512 := by omega
    obtain rfl : y = ix2 (z 0) ⟨(z 1 : ℕ), hz⟩ := by blk_ext
    open_payloads; pointwise [blockSum]

/-- The stored weights after every point are the current column tile of the weights. -/
theorem carried (c : Dev nD) : ∀ (n : ℕ) (hn : n < cfg0.N), (outsAt0 m c n hn).2 = k0_pay2 (iblk m c 8 ⟨n, hn⟩) := by
  intro n
  induction n with
  | zero => intro hn; rw [outsAt0_A m c ⟨0, hn⟩ (Nat.zero_mod _)]; frame_out
  | succ n ih =>
    intro hn
    by_cases h : (n + 1) % 8 = 0
    · rw [outsAt0_A m c ⟨n + 1, hn⟩ h]; frame_out
    · rw [outsAt0_B m c ⟨n + 1, hn⟩ h]
      dsimp only [sout0_B_0]
      refine (ih (by omega)).trans ?_
      funext x
      pointwise [k0_pay2]
      blk_ext [iblk, V, idx ⟨n, by omega⟩, idx ⟨n + 1, hn⟩]

/-- The output block of every point, from the blocks of the arguments. -/
theorem block (c : Dev nD) (t : Fin cfg0.N) (y : S1024x512.Idx) :
    (outsAt0 m c t.val t.isLt).1 y = blockSum (iblk m c 0 t) (iblk m c 1 t) (iblk m c 2 t) (iblk m c 3 t)
      (iblk m c 4 t) (iblk m c 5 t) (iblk m c 6 t) (iblk m c 7 t) (k0_pay2 (iblk m c 8 t)) y := by
  by_cases h : t.val % 8 = 0
  · exact out_A m c t h y
  · rw [out_B m c t h y, carried m c (t.val - 1) (by omega)]
    pointwise [blockSum, k0_pay2]
    have e : ∀ x : S4x1024x512.Idx, (iblk m c 8 ⟨t.val - 1, by omega⟩ x : EReal) = iblk m c 8 t x := by
      intro x
      blk_ext [iblk, V, idx ⟨t.val - 1, by omega⟩, idx t]
    simp only [e]

/-- The output array after the run is the reference's result. -/
theorem final (c : Dev nD) : (dats m 0 c).arrAt 9 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9, block m c t y, eq_ix2 ((win0_9.blk t).view.emb y)]
  refine Eq.trans ?_ (ref_at _ _ _ _ _ _ _ _).symm
  pointwise [blockSum, k0_pay2]
  blk_point [iblk, V, idx t]

end Kernel
end Cert.MergeIdeal.Sum
end
-- ==== Proof.GmlpTiles.lean ====
module

public import proofs.«01_k».proof.Proof.Gen.GmlpIdeal.Frame
public import Idealize.ShloMosaic.Lib.Pipeline.ValueKit

/-!
# One block of the spatial gating branch

The block a grid point stores is written as 32 tiles of 128 by 128. Here they are read as one function of the block's index.
-/

@[expose] public section

set_option maxRecDepth 16384

noncomputable section

namespace Cert.GmlpIdeal.Tiles

open Idealize.ShloMosaic Idealize.ShloMosaic.TcCoe Idealize.SL.Sem
open Cert.GmlpIdeal Cert.GmlpIdeal.Gen

/-- One entry of an output block: the first half of the branch times the spatially mixed second half. Row `r` of the block is
    position `r % 128` of chunk `r / 128`, column `l` belongs to head `l / 128`. -/
def mixed (u v : FVec Ideal S512x1024 .bf16) (ws : FVec Ideal S8x128x128 .f32) (b : FVec Ideal S128x1024 .f32)
    (y : S512x1024.Idx) : EReal :=
  u (ix2 (y 0) (y 1)) * ((∑ q : Fin 128, ws (ix3 ⟨(y 1 : ℕ) / 128, by have : (y 1 : ℕ) < 1024 := (y 1).isLt; omega⟩ ⟨(y 0 : ℕ) % 128, by omega⟩ q)
      * v (ix2 ⟨(y 0 : ℕ) / 128 * 128 + (q : ℕ), by have : (y 0 : ℕ) < 512 := (y 0).isLt; omega⟩ (y 1)))
    + b (ix2 ⟨(y 0 : ℕ) % 128, by omega⟩ (y 1)))

/-- The normalised second half reads its whole blocks. -/
theorem norm_ld (x1 : Vec Ideal S512x1024 .bf16) (x2 x3 : Vec Ideal S1x1024 .f32) :
    k0_pay2 (F := Ideal) (View.ld x1 r0_0) (View.ld x2 r0_1) (View.ld x3 r0_1) = k0_pay2 x1 x2 x3 := by
  congr 1 <;> (funext j; idx_vars j; pointwise; try rw [Subsingleton.elim (0 : Fin 1) j0])

set_option maxHeartbeats 1500000 in
/-- The 32 tiles a grid point stores (8 heads by 4 chunks) are together the block `mixed`. -/
theorem out_tiles (x0 x1 : Vec Ideal S512x1024 .bf16) (x2 x3 : Vec Ideal S1x1024 .f32) (x4 : Vec Ideal S8x128x128 .f32)
    (x5 : Vec Ideal S128x1024 .f32) (y : S512x1024.Idx) :
    out0_6 (F := Ideal) x0 x1 x2 x3 x4 x5 y = mixed x0 (k0_pay2 x1 x2 x3) x4 x5 y := by
  unfold_out out0_6
  canon_tiles z h
  all_goals
    open_payloads
    rw [norm_ld]
    generalize k0_pay2 (F := Ideal) x1 x2 x3 = v
    pointwise [mixed]
    blk_point []

end Cert.GmlpIdeal.Tiles
end
-- ==== Proof.GmlpValue.lean ====
module

public import proofs.«01_k».proof.Proof.GmlpTiles
public import proofs.«01_k».proof.Proof.Gen.GmlpRefIdeal
public import Idealize.ShloMosaic.Lib.Pipeline.ValueKit

/-!
# The spatial gating branch equals its reference

The kernel handles 512 rows (four chunks) per grid point: it normalises the second half of the branch over its 1024 channels,
mixes each chunk of 128 positions per head with a 128 by 128 matrix, adds the bias and multiplies by the first half. The
reference writes the same on whole arrays, with one einsum over heads and chunks. Both are read at one entry.
-/

@[expose] public section

set_option maxRecDepth 16384

noncomputable section

namespace Cert.GmlpIdeal.Tiles

open Idealize.ShloMosaic Idealize.ShloMosaic.TcCoe Idealize.SL.Sem

section Reference
open Cert.GmlpRefIdeal Cert.GmlpRefIdeal.Gen

/-- The second half of the branch, as float32. -/
def half2 (H : FVec Ideal S8192x6144 .bf16) : FVec Ideal S8192x1024 .f32 :=
  extractStridedSlice S8192x1024 ![0, 5120] (extf .f32 H bitsLt_bf16_f32) slices_S8192x6144_S8192x1024_0_5120

/-- A row vector's mean over the 1024 channels, as the reference computes it. -/
def meanOf (X : FVec Ideal S8192x1024 .f32) : FVec Ideal S8192x1 .f32 :=
  Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32))

/-- The centred second half. -/
def centred (X : FVec Ideal S8192x1024 .f32) : FVec Ideal S8192x1024 .f32 :=
  subf X (broadcastInDim S8192x1024 ![0, 1] bcast_S8192x1_S8192x1024_0_1 (meanOf X))

/-- The layer norm of the second half, with its scale and shift. -/
def normed (X : FVec Ideal S8192x1024 .f32) (g b : FVec Ideal S1024 .f32) : FVec Ideal S8192x1024 .f32 :=
  addf (mulf (mulf (centred X) (broadcastInDim S8192x1024 ![0, 1] bcast_S8192x1_S8192x1024_0_1 (Host.rsqrt (addf (meanOf (mulf (centred X) (centred X))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g)))
    (broadcastInDim S8192x1024 ![0, 1] bcast_S1x1024_S8192x1024_0_1 (broadcastInDim S1x1024 ![1] bcast_S1024_S1x1024_1 b))

/-- The reference's result over a normalised second half. -/
def gated (H : FVec Ideal S8192x6144 .bf16) (N : FVec Ideal S8192x1024 .f32) (ws : FVec Ideal S8x128x128 .f32) (bias : FVec Ideal S8x128 .f32) :
    FVec Ideal S8192x1024 .bf16 :=
  truncf .bf16 (mulf (extractStridedSlice S8192x1024 ![0, 4096] (extf .f32 H bitsLt_bf16_f32) slices_S8192x6144_S8192x1024_0_4096)
    (shapeCast _ (addf (transpose S64x128x8x128 [1, 3, 0, 2] (Host.dotGeneral dot_S64x128x8x128_S8x128x128_S8x64x128x128_1_2_03_1_2_0 none (shapeCast _ N shapeCasts_S8192x1024_S64x128x8x128) ws) transposes_S8x64x128x128_S64x128x8x128_1_3_0_2)
      (broadcastInDim S64x128x8x128 ![0, 1, 2, 3] bcast_S1x128x8x1_S64x128x8x128_0_1_2_3 (broadcastInDim S1x128x8x1 ![1, 2] bcast_S128x8_S1x128x8x1_1_2 (transpose S128x8 [1, 0] bias transposes_S8x128_S128x8_1_0)))) shapeCasts_S64x128x8x128_S8192x1024)) bitsLt_bf16_f32

/-- The reference's result, as a function of the projected input, the norm's scale and shift, the mixing matrices and the bias. -/
def REF (H : FVec Ideal S8192x6144 .bf16) (g b : FVec Ideal S1024 .f32) (ws : FVec Ideal S8x128x128 .f32) (bias : FVec Ideal S8x128 .f32) :
    FVec Ideal S8192x1024 .bf16 :=
  gated H (normed (half2 H) g b) ws bias

/-- The reference's result at an entry: row `r` is position `r % 128` of chunk `r / 128`, column `l` belongs to head `l / 128`. -/
theorem gated_at (H : FVec Ideal S8192x6144 .bf16) (N : FVec Ideal S8192x1024 .f32) (ws : FVec Ideal S8x128x128 .f32) (bias : FVec Ideal S8x128 .f32)
    (r : Fin 8192) (l : Fin 1024) : gated H N ws bias (ix2 r l) =
      H (ix2 r ⟨4096 + (l : ℕ), by omega⟩) * ((∑ q : Fin 128, ws (ix3 ⟨(l : ℕ) / 128, by omega⟩ ⟨(r : ℕ) % 128, by omega⟩ q)
        * N (ix2 ⟨(r : ℕ) / 128 * 128 + (q : ℕ), by omega⟩ l)) + bias (ix2 ⟨(l : ℕ) / 128, by omega⟩ ⟨(r : ℕ) % 128, by omega⟩)) := by
  pointwise [gated]
  simp only [mul_comm (N _)]

/-- One entry of a layer norm over 1024 channels, from the row `f`, the entry `a`, the scale and the shift. -/
def lnorm (f : Fin 1024 → EReal) (a g b : EReal) : EReal :=
  (a - Ideal.div (∑ x, f x) (Ideal.ofBits FTy.f32 0x44800000#32))
    * Ideal.rsqrt (Ideal.div (∑ x, (f x - Ideal.div (∑ x, f x) (Ideal.ofBits FTy.f32 0x44800000#32))
        * (f x - Ideal.div (∑ x, f x) (Ideal.ofBits FTy.f32 0x44800000#32))) (Ideal.ofBits FTy.f32 0x44800000#32)
      + Ideal.ofBits FTy.f32 0x358637BD#32) * g + b

/-- The reference's layer norm at an entry. -/
theorem norm_at (H : FVec Ideal S8192x6144 .bf16) (g b : FVec Ideal S1024 .f32) (r : Fin 8192) (l : Fin 1024) :
    normed (half2 H) g b (ix2 r l) = lnorm (fun x => H (ix2 r ⟨5120 + (x : ℕ), by omega⟩)) (H (ix2 r ⟨5120 + (l : ℕ), by omega⟩)) (g (ix1 l)) (b (ix1 l)) := by
  pointwise [normed, centred, meanOf, half2, lnorm]

end Reference

section Kernel
open Cert.GmlpIdeal Cert.GmlpIdeal.Gen

variable (m : (ℓ : Loc nD τ sig) → Buf (Elt Ideal) ℓ)

/-- Where each window's block lies at a grid point. -/
theorem idx : ∀ t : Fin cfg0.N, win0_0.index t = ![t.val, 4] ∧ win0_1.index t = ![t.val, 5]
    ∧ win0_2.index t = ![0, 0] ∧ win0_3.index t = ![0, 0] ∧ win0_4.index t = ![0, 0, 0] ∧ win0_5.index t = ![0, 0]
    ∧ win0_6.index t = ![t.val, 0] :=
  (by decide +kernel : ∀ t : Fin grid0.N, _)

/-- The kernel's layer norm at an entry. -/
theorem norm_blk (v : Vec Ideal S512x1024 .bf16) (g b : Vec Ideal S1x1024 .f32) (r : Fin 512) (l : Fin 1024) :
    k0_pay2 (F := Ideal) v g b (ix2 r l) = lnorm (fun x => v (ix2 r x)) (v (ix2 r l)) (g (ix2 0 l)) (b (ix2 0 l)) := by
  pointwise [k0_pay2, lnorm]

/-- The output array after the run is the reference's result. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6, out_tiles, REF]
  have ht : t.val < 16 := lt_of_lt_of_eq t.isLt N_0
  have hn : ∀ (a : Fin 512) (k : Fin 1024) (r : Fin 8192) (l : Fin 1024) (hr : (r : ℕ) = t.val * 512 + a) (hl : (l : ℕ) = k),
      k0_pay2 (F := Ideal) (iblk m c 1 t) (iblk m c 2 t) (iblk m c 3 t) (ix2 a k)
        = normed (half2 (m ((c : Thread nD τ).loc main_arg0))) (m ((c : Thread nD τ).loc main_arg1)) (m ((c : Thread nD τ).loc main_arg2)) (ix2 r l) := by
    intro a k r l hr hl
    rw [norm_at, norm_blk]
    blk_point [iblk, idx t]
  have hu : ∀ (a : Fin 512) (k : Fin 1024) (r : Fin 8192) (l : Fin 6144) (hr : (r : ℕ) = t.val * 512 + a) (hl : (l : ℕ) = 4096 + k),
      (iblk m c 0 t (ix2 a k) : EReal) = m ((c : Thread nD τ).loc main_arg0) (ix2 r l) := by
    intro a k r l hr hl
    blk_ext [iblk, V, idx t]
  have hw : ∀ (h : Fin 8) (p q : Fin 128) (h' : Fin 8) (p' : Fin 128) (hh : (h' : ℕ) = h) (hp : (p' : ℕ) = p),
      (iblk m c 4 t (ix3 h p q) : EReal) = m ((c : Thread nD τ).loc main_arg3) (ix3 h' p' q) := by
    intro h p q h' p' hh hp
    blk_ext [iblk, V, idx t]
  have hb : ∀ (p : Fin 128) (k : Fin 1024) (h : Fin 8) (p' : Fin 128) (hh : (h : ℕ) = (k : ℕ) / 128) (hp : (p' : ℕ) = p),
      (iblk m c 5 t (ix2 p k) : EReal) = m ((c : Thread nD τ).loc main_arg4) (ix2 h p') := by
    intro p k h p' hh hp
    blk_point [iblk, idx t]
  have y0 : (y 0 : ℕ) < 512 := (y 0).isLt
  have y1 : (y 1 : ℕ) < 1024 := (y 1).isLt
  have e0 : ((win0_6.blk t).view.emb y 0 : ℕ) = t.val * 512 + y 0 := by blk_simp [idx t]
  have e1 : ((win0_6.blk t).view.emb y 1 : ℕ) = y 1 := by blk_simp [idx t]
  have key : ∀ (r : Fin 8192) (l : Fin 1024) (a : Fin 512) (k : Fin 1024) (er : (r : ℕ) = t.val * 512 + a) (el : (l : ℕ) = k),
      mixed (iblk m c 0 t) (k0_pay2 (iblk m c 1 t) (iblk m c 2 t) (iblk m c 3 t)) (iblk m c 4 t) (iblk m c 5 t) (ix2 a k)
        = gated (m ((c : Thread nD τ).loc main_arg0)) (normed (half2 (m ((c : Thread nD τ).loc main_arg0))) (m ((c : Thread nD τ).loc main_arg1)) (m ((c : Thread nD τ).loc main_arg2)))
          (m ((c : Thread nD τ).loc main_arg3)) (m ((c : Thread nD τ).loc main_arg4)) (ix2 r l) := by
    intro r l a k er el
    refine Eq.trans ?_ (gated_at _ _ _ _ _ _).symm
    refine congrArg₂ (fun a b : EReal => a * b) (hu _ _ _ _ er ?_) (congrArg₂ (fun a b : EReal => a + b)
      (Finset.sum_congr rfl fun q _ => congrArg₂ (fun a b : EReal => a * b) (hw _ _ _ _ _ ?_ ?_) (hn _ _ _ _ ?_ el)) (hb _ _ _ _ ?_ ?_))
    · show 4096 + (l : ℕ) = 4096 + (k : ℕ); omega
    · show (l : ℕ) / 128 = (k : ℕ) / 128; omega
    · show (r : ℕ) % 128 = (a : ℕ) % 128; omega
    · show (r : ℕ) / 128 * 128 + (q : ℕ) = t.val * 512 + ((a : ℕ) / 128 * 128 + (q : ℕ)); omega
    · show (l : ℕ) / 128 = (k : ℕ) / 128; omega
    · show (r : ℕ) % 128 = (a : ℕ) % 128; omega
  rw [eq_ix2 ((win0_6.blk t).view.emb y)]
  refine Eq.trans ?_ (key _ _ (y 0) (y 1) e0 e1)
  exact congrArg _ (eq_ix2 y)

end Kernel
end Cert.GmlpIdeal.Tiles
end
-- ==== Proof.GatesFrame.lean ====
module

public import proofs.«01_k».proof.Proof.Gen.Gates.Frame
public import proofs.«01_k».proof.Proof.Gen.Gates.Loops
public import Idealize.ShloMosaic.Lib.Pipeline.FrameBody
public import Idealize.ShloMosaic.Lib.Transfers
public import Idealize.ShloMosaic.Lib.WritesUnit
public import Idealize.ShloMosaic.Lib.VecWindow
public import Idealize.ShloMosaic.Lib.Tactic
public import Idealize.ShloMosaic.Lib.Pointwise
public import Idealize.ShloMosaic.Lib.WordCmp

@[expose] public section

set_option maxRecDepth 16384

noncomputable section

namespace Cert.Gates.Hand

open Cert.Gates Cert.Gates.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of this proof: the pipeline's, beside the counters of the transfers the body issues. -/
local notation "𝕄" => MT nD τ sig Unit (Elt F) ℕ (Pipeline.UD sig nD τ) ℕ

/-! ## The buffers the body keeps from point to point -/

/-- The buffer one column block of the weights lands in. -/
abbrev stM : Memref sig .tc .vmem S4096x1024 .f32 := Memref.whole cc0_scratch0
/-- The column block rounded to bf16, kept for the points that share it. -/
abbrev wbM : Memref sig .tc .vmem S4096x1024 .bf16 := Memref.whole cc0_scratch1
/-- The weights, left in HBM. -/
abbrev wM : Memref sig .tc .hbm S4096x16384 .f32 := Memref.whole main_arg1

/-- A block of columns, rounded to bf16. -/
abbrev rnd (x : Vec F S4096x1024 .f32) : Vec F S4096x1024 .bf16 := truncf .bf16 x bitsLt_bf16_f32

theorem rnd_at (x : Vec F S4096x1024 .f32) (y : S4096x1024.Idx) : rnd x y = FloatOps.truncf .bf16 bitsLt_bf16_f32 (x y) := rfl

/-! ## The state between points -/

theorem col_inb (j : ℕ) : ∀ a, (![0, 1024 * (j % 16)] : Fin 2 → ℕ) a + S4096x1024.size a ≤ S4096x16384.size a := by
  have := Nat.mod_lt j (by decide : 0 < 16)
  intro a
  fin_cases a
  · show 0 + 4096 ≤ 4096; omega
  · show 1024 * (j % 16) + 1024 ≤ 16384; omega

/-- 1024 columns of the weights, from the offsets `off`. -/
abbrev wSl (off : Fin 2 → ℕ) (hb : ∀ a, off a + S4096x1024.size a ≤ S4096x16384.size a) : Memref sig .tc .hbm S4096x1024 .f32 :=
  wM.slice (Rect.unit (s := S4096x16384) off S4096x1024.size hb) (fun _ => rfl)

/-- What those columns hold. -/
def wblk {c : Dev nD} (w : Buf (Elt F) (wM.view.loc (c : Thread nD τ))) (off : Fin 2 → ℕ)
    (hb : ∀ a, off a + S4096x1024.size a ≤ S4096x16384.size a) : Vec F S4096x1024 .f32 :=
  (wSl off hb).view.read (Elt F) w

theorem wblk_congr {c : Dev nD} (w : Buf (Elt F) (wM.view.loc (c : Thread nD τ))) {off off' : Fin 2 → ℕ} (h : off = off')
    (hb : ∀ a, off a + S4096x1024.size a ≤ S4096x16384.size a) (hb' : ∀ a, off' a + S4096x1024.size a ≤ S4096x16384.size a) :
    wblk w off hb = wblk w off' hb' := by subst h; rfl

/-- The weights held whole, apart from what a transfer has lent. -/
abbrev wPt (c : Dev nD) (w : Buf (Elt F) (wM.view.loc (c : Thread nD τ))) : sProp 𝕄 :=
  wM.view.loc (c : Thread nD τ) ↦{fullShare} w

/-- No transfer under way: the landing buffer at anything, the cell at zero, the weights whole. -/
def home (c : Dev nD) (w : Buf (Elt F) (wM.view.loc (c : Thread nD τ))) : sProp 𝕄 :=
  iprop((∃ d, owns (c : Thread nD τ) stM fullShare d) ∗ semVal ((c : Thread nD τ), SemLoc.dma cc0_scratch2.sem) 0 ∗ wPt c w)

/-- The columns at `off` on their way into the landing buffer, the other columns of the weights at hand. -/
def flying (c : Dev nD) (w : Buf (Elt F) (wM.view.loc (c : Thread nD τ))) (off : Fin 2 → ℕ)
    (hb : ∀ a, off a + S4096x1024.size a ≤ S4096x16384.size a) : sProp 𝕄 :=
  iprop(∃ fd, Transfers.Flight countersEmb (c : Thread nD τ) (SemLoc.dma cc0_scratch2.sem) () 524288
        iprop((stM.view.loc (c : Thread nD τ) ↦[stM.view.set]{fullShare} fd) ∗ (wM.view.loc (c : Thread nD τ) ↦[(wSl off hb).view.set]{fullShare} w))
      ∗ (wM.view.loc (c : Thread nD τ) ↦[Finset.univ \ (wSl off hb).view.set]{fullShare} w)
      ∗ ⌜stM.view.read (Elt F) fd = wblk w off hb⌝)

theorem flying_congr (c : Dev nD) (w : Buf (Elt F) (wM.view.loc (c : Thread nD τ))) {off off' : Fin 2 → ℕ} (h : off = off')
    (hb : ∀ a, off a + S4096x1024.size a ≤ S4096x16384.size a) (hb' : ∀ a, off' a + S4096x1024.size a ≤ S4096x16384.size a) :
    flying c w off hb = flying c w off' hb' := by subst h; rfl

/-! ## The loop that rounds the staged block, 128 rows a trip -/

section Loop
variable (c : Dev nD) (i : grid0.Coords) (arg2 : Memref sig .tc .vmem S1024x4096 .bf16) (harg2 : arg2.IsWhole)
  (arg3 : Memref sig .tc .hbm S4096x16384 .f32) (harg3 : arg3.IsWhole)
  (arg4 : Memref sig .tc .vmem S1024x1024 .bf16) (harg4 : arg4.IsWhole)
  (h1 : k0_cond1 i = 1#1)

/-- Before trip `k` the first `128 * k` rows are rounded. -/
def loopPre (X : Buf (Elt F) (stM.view.loc (c : Thread nD τ))) (k : ℕ) : sProp 𝕄 :=
  iprop((stM.view.loc (c : Thread nD τ) ↦[stM.view.set]{fullShare} X)
    ∗ (∃ f, (wbM.view.loc (c : Thread nD τ) ↦[wbM.view.set]{fullShare} f)
        ∗ ⌜∀ y : S4096x1024.Idx, (y 0).val < 128 * k → wbM.view.read (Elt F) f y = rnd (stM.view.read (Elt F) X) y⌝))

include h1 in
/-- One trip rounds the next 128 rows and leaves the others. -/
theorem trip_rows (X : Buf (Elt F) (stM.view.loc (c : Thread nD τ))) (k : Fin (Scf.trips k0_t1_loop.lb k0_t1_loop.ub k0_t1_loop.st))
    (hk : k.val < 32) (f : Buf (Elt F) (wbM.view.loc (c : Thread nD τ)))
    (hf : ∀ y : S4096x1024.Idx, (y 0).val < 128 * k.val → wbM.view.read (Elt F) f y = rnd (stM.view.read (Elt F) X) y)
    (y : S4096x1024.Idx) (hy : (y 0).val < 128 * (k.val + 1)) :
    wbM.view.read (Elt F) (wbM.view.writes (Elt F) f
        [⟨Rect.unit (s := S4096x1024) (k0_off3 k) S128x1024.size (k0_off3_inb i k h1),
            k0_pay1 (View.readAt (Elt F) stM.view (Rect.unit (s := S4096x1024) (k0_off3 k) S128x1024.size (k0_off3_inb i k h1)).toLoadRect X)⟩]) y
      = rnd (stM.view.read (Elt F) X) y := by
  by_cases h : (y 0).val < 128 * k.val
  · refine (View.read_writes_cons_rows_of_not_mem wbM.view f _ _ [] y (k0_off3_eq k) rfl (.inl h)).trans ?_
    exact hf y h
  · have hx : ∀ a, (![128 * k.val, 0] : Fin 2 → ℕ) a ≤ (y a).val ∧ (y a).val < (![128 * k.val, 0] : Fin 2 → ℕ) a + S128x1024.size a := by
      have h1 := (y 1).isLt
      intro a
      fin_cases a
      · exact ⟨Nat.le_of_not_lt h, by show (y 0).val < 128 * k.val + 128; omega⟩
      · exact ⟨Nat.zero_le _, by show (y 1).val < 0 + 1024; exact (by simpa using h1 : (y 1).val < 1024) |>.trans_eq (Nat.zero_add _).symm⟩
    refine (View.read_writes_cons_unit_of_mem wbM.view f _ _ [] y (show (Rect.unit (s := S4096x1024) (k0_off3 k) S128x1024.size (k0_off3_inb i k h1)).shape.Idx from Rect.unitLocal (s := S4096x1024) (off := ![128 * k.val, 0]) (size := S128x1024.size) y hx) (k0_off3_eq k) fun a => ?_).trans ?_
    · have := hx a
      rw [Rect.unitLocal_val]; omega
    · simp only [k0_pay1, shapeCast_id]
      show FloatOps.truncf .bf16 bitsLt_bf16_f32 _ = _
      rw [rnd_at, View.readAt_apply]
      refine congrArg (FloatOps.truncf .bf16 bitsLt_bf16_f32) (congrArg (stM.view.read (Elt F) X) (funext fun a => Fin.ext ?_))
      have := hx a
      have e : k0_off3 k a = (![128 * k.val, 0] : Fin 2 → ℕ) a := congrFun (k0_off3_eq k) a
      show k0_off3 k a + 1 * ((y a).val - (![128 * k.val, 0] : Fin 2 → ℕ) a) = (y a).val
      omega

set_option warn.classDefReducibility false in
@[sl_loop] def loopInv (𝒱 : Variants) (bd : Option 𝒱.V) (E : Set ℕ) (X : Buf (Elt F) (stM.view.loc (c : Thread nD τ))) :
    LoopInvTy_k0_t1 (F := F) Unit ℕ (Pipeline.UD sig nD τ) ℕ 𝒱 c bd E i arg2 harg2 arg3 harg3 arg4 harg4 stM (Memref.isWhole_whole _) wbM (Memref.isWhole_whole _) cc0_scratch2 h1 where
  inv k _ := loopPre c X k
  step k acc := by
    have hk : k.val < 32 := Nat.lt_of_lt_of_le k.isLt k0_t1_abs.2.1
    unfold loopPre
    iintro ⟨HX, ⟨%f, HW, %hf⟩⟩
    unfold k0_t1_body
    sl_exec
    sl_step
    isplitl [HX]; · iexact HX
    iexists _; isplitl [HW]; · iexact HW
    ipureintro
    intro y hy
    exact trip_rows c i h1 _ k hk _ hf _ hy

end Loop

/-! ## The body's four runs -/

theorem trips_eq : 4096 ≤ 128 * Scf.trips k0_t1_loop.lb k0_t1_loop.ub k0_t1_loop.st := by decide +kernel

/-- After the loop the whole block is rounded. -/
theorem all_rows {c : Dev nD} {f : Buf (Elt F) (wbM.view.loc (c : Thread nD τ))} {v : Vec F S4096x1024 .f32}
    (h : ∀ y : S4096x1024.Idx, (y 0).val < 128 * Scf.trips k0_t1_loop.lb k0_t1_loop.ub k0_t1_loop.st →
      wbM.view.read (Elt F) f y = rnd v y) : wbM.view.read (Elt F) f = rnd v :=
  funext fun y => h y (lt_of_lt_of_le (y 0).isLt trips_eq)

/-- The landing buffer reads what landed last. -/
theorem read_last {c : Dev nD} (f : Buf (Elt F) (stM.view.loc (c : Thread nD τ))) (v : Vec F S4096x1024 .f32)
    (L : List (View.Piece (Elt F) S4096x1024 .f32)) :
    stM.view.read (Elt F) (stM.view.writes (Elt F) f (⟨Rect.whole S4096x1024, v⟩ :: L)) = v := by
  rw [← List.singleton_append, View.writes_append]
  exact View.read_writes_whole stM.view _ v

section Run
variable (c : Dev nD) (i : grid0.Coords) (arg2 : Memref sig .tc .vmem S1024x4096 .bf16) (harg2 : arg2.IsWhole)
  (arg4 : Memref sig .tc .vmem S1024x1024 .bf16) (harg4 : arg4.IsWhole)
  (x : Vec F S1024x4096 .bf16) (w : Buf (Elt F) (wM.view.loc (c : Thread nD τ)))

/-- The body at the operands of one point. -/
abbrev body : Prog (TpuEff nD τ sig (Elt F) Λ₀ .tc) PUnit :=
  cc0_matmul i arg2 harg2 wM (Memref.isWhole_whole _) arg4 harg4 stM (Memref.isWhole_whole _) wbM (Memref.isWhole_whole _) cc0_scratch2

/-- What a point leaves, the kept block being `b`: the product's block in the result's buffer, the state `S` of the transfers. -/
def left (b : Vec F S4096x1024 .bf16) (S : sProp 𝕄) : sProp 𝕄 :=
  iprop(owns (c : Thread nD τ) arg2 fullShare x ∗ owns (c : Thread nD τ) arg4 fullShare (k0_pay2 x b)
    ∗ owns (c : Thread nD τ) wbM fullShare b ∗ S ∗ (∃ W', owes (c : Thread nD τ) 0 W'))

include harg2 harg4 in
/-- The result's buffer reads the stored payload, its operands the two buffers' contents. -/
theorem read_out {f2 : BufTy.Contents (Elt F) arg2.view.ty} {f4 : BufTy.Contents (Elt F) arg4.view.ty} {fb : BufTy.Contents (Elt F) wbM.view.ty}
    {b : Vec F S4096x1024 .bf16} (h2 : arg2.view.read (Elt F) f2 = x) (hb : wbM.view.read (Elt F) fb = b) :
    arg4.view.read (Elt F) (arg4.view.writes (Elt F) f4 [⟨Rect.unit (s := S1024x1024) ![0, 0] S1024x1024.size inb_S1024x1024_S1024x1024_0_0,
        k0_pay2 (View.readAt (Elt F) arg2.view (Rect.unit (s := S1024x4096) ![0, 0] S1024x4096.size inb_S1024x4096_S1024x4096_0_0).toLoadRect f2)
          (View.readAt (Elt F) wbM.view (Rect.unit (s := S4096x1024) ![0, 0] S4096x1024.size inb_S4096x1024_S4096x1024_0_0).toLoadRect fb)⟩])
      = k0_pay2 x b := by
  subst h2; subst hb
  refine (View.read_writes_full arg4.view f4 _ _ _).trans ?_
  exact congrArg₂ k0_pay2 (View.readAt_full arg2.view f2 _) (View.readAt_full wbM.view fb _)

/-- The first point: the first block comes in and is rounded, the next one is sent for. -/
theorem runA (h1 : k0_cond1 i = 1#1) (h2 : k0_cond2 i = 1#1) (h3 : k0_cond3 i = 1#1) (W : Waits sig Unit) (K : PUnit → sProp 𝕄) :
    iprop(owns (c : Thread nD τ) arg2 fullShare x ∗ (∃ d, owns (c : Thread nD τ) arg4 fullShare d)
        ∗ (∃ d, owns (c : Thread nD τ) wbM fullShare d) ∗ home c w ∗ owes (c : Thread nD τ) 0 W
        ∗ (left c arg2 arg4 x (rnd (wblk w (k0_off1 i) (k0_off1_inb i h1 h2))) (flying c w (k0_off4 i) (k0_off4_inb i h1 h3)) -∗ K ⟨⟩))
      ⊢ wp frame (wpE (defs₀ (F := F)) Variants.none c none) Set.univ (body i arg2 harg2 arg4 harg4) K := by
  unfold body
  rw [cc0_matmul_eq_skeleton]; unfold cc0_matmul_skel
  unfold home owns
  iintro ⟨⟨%f2, %e2, H2⟩, ⟨%d4, %f4, -, H4⟩, ⟨%db, %fb, -, HB⟩, ⟨⟨%ds, %fs, -, HS⟩, Hq, Hw⟩, HW, Hk⟩
  sl_exec
  sl_step
  have hb := all_rows hL2
  rw [View.read_writes_whole] at hb
  iapply Hk
  unfold left owns flying
  isplitl [H2]
  · iexists _; isplitr; swap; · iexact H2
    ipureintro; exact e2
  isplitl [H4]
  · iexists _; isplitr; swap; · iexact H4
    ipureintro; exact read_out arg2 harg2 arg4 harg4 x e2 hb
  isplitl [HB]
  · iexists _; isplitr; swap; · iexact HB
    ipureintro; exact hb
  isplitl [Hq Hw]
  · iexists _
    isplitl [Hq]; · iexact Hq
    isplitl [Hw]; · iexact Hw
    ipureintro; refine (read_last (c := c) _ _ _).trans ?_; rfl
  iexists _; iexact HW

/-- A later block's first point but the last block's: the block on its way comes in and is rounded, the next one is sent for. -/
theorem runB (off : Fin 2 → ℕ) (hb : ∀ a, off a + S4096x1024.size a ≤ S4096x16384.size a) (h1 : k0_cond1 i = 1#1) (h2 : ¬k0_cond2 i = 1#1) (h3 : k0_cond3 i = 1#1)
    (W : Waits sig Unit) (K : PUnit → sProp 𝕄) :
    iprop(owns (c : Thread nD τ) arg2 fullShare x ∗ (∃ d, owns (c : Thread nD τ) arg4 fullShare d)
        ∗ (∃ d, owns (c : Thread nD τ) wbM fullShare d) ∗ flying c w off hb ∗ owes (c : Thread nD τ) 0 W
        ∗ (left c arg2 arg4 x (rnd (wblk w off hb)) (flying c w (k0_off4 i) (k0_off4_inb i h1 h3)) -∗ K ⟨⟩))
      ⊢ wp frame (wpE (defs₀ (F := F)) Variants.none c none) Set.univ (body i arg2 harg2 arg4 harg4) K := by
  unfold body
  rw [cc0_matmul_eq_skeleton]; unfold cc0_matmul_skel
  unfold flying owns
  iintro ⟨⟨%f2, %e2, H2⟩, ⟨%d4, %f4, -, H4⟩, ⟨%db, %fb, -, HB⟩, ⟨%fd, Hq, Hw, %hfd⟩, HW, Hk⟩
  sl_exec
  sl_step
  have hb := all_rows hL2
  rw [hfd] at hb
  iapply Hk
  unfold left owns
  isplitl [H2]
  · iexists _; isplitr; swap; · iexact H2
    ipureintro; exact e2
  isplitl [H4]
  · iexists _; isplitr; swap; · iexact H4
    ipureintro; exact read_out arg2 harg2 arg4 harg4 x e2 hb
  isplitl [HB]
  · iexists _; isplitr; swap; · iexact HB
    ipureintro; exact hb
  isplitl [Hq Hw]
  · iexists _
    isplitl [Hq]; · iexact Hq
    isplitl [Hw]; · iexact Hw
    ipureintro; refine (read_last (c := c) _ _ _).trans ?_; rfl
  iexists _; iexact HW

/-- The last block's first point: nothing more is sent for. -/
theorem runC (off : Fin 2 → ℕ) (hb : ∀ a, off a + S4096x1024.size a ≤ S4096x16384.size a) (h1 : k0_cond1 i = 1#1) (h2 : ¬k0_cond2 i = 1#1) (h3 : ¬k0_cond3 i = 1#1)
    (W : Waits sig Unit) (K : PUnit → sProp 𝕄) :
    iprop(owns (c : Thread nD τ) arg2 fullShare x ∗ (∃ d, owns (c : Thread nD τ) arg4 fullShare d)
        ∗ (∃ d, owns (c : Thread nD τ) wbM fullShare d) ∗ flying c w off hb ∗ owes (c : Thread nD τ) 0 W
        ∗ (left c arg2 arg4 x (rnd (wblk w off hb)) (home c w) -∗ K ⟨⟩))
      ⊢ wp frame (wpE (defs₀ (F := F)) Variants.none c none) Set.univ (body i arg2 harg2 arg4 harg4) K := by
  unfold body
  rw [cc0_matmul_eq_skeleton]; unfold cc0_matmul_skel
  unfold flying owns
  iintro ⟨⟨%f2, %e2, H2⟩, ⟨%d4, %f4, -, H4⟩, ⟨%db, %fb, -, HB⟩, ⟨%fd, Hq, Hw, %hfd⟩, HW, Hk⟩
  sl_exec
  sl_step
  have hb := all_rows hL2
  rw [hfd] at hb
  iapply Hk
  unfold left home owns
  isplitl [H2]
  · iexists _; isplitr; swap; · iexact H2
    ipureintro; exact e2
  isplitl [H4]
  · iexists _; isplitr; swap; · iexact H4
    ipureintro; exact read_out arg2 harg2 arg4 harg4 x e2 hb
  isplitl [HB]
  · iexists _; isplitr; swap; · iexact HB
    ipureintro; exact hb
  isplitl [Hq Hw Hq_dst]
  · isplitl [Hq_dst]
    · iexists _, _; isplitr; swap; · iexact Hq_dst
      ipureintro; rfl
    isplitl [Hq]; · iexact Hq
    iexact Hw
  iexists _; iexact HW

/-- A point that shares the block rounded before it. -/
theorem runD (b : Vec F S4096x1024 .bf16) (S : sProp 𝕄) (h1 : ¬k0_cond1 i = 1#1) (W : Waits sig Unit) (K : PUnit → sProp 𝕄) :
    iprop(owns (c : Thread nD τ) arg2 fullShare x ∗ (∃ d, owns (c : Thread nD τ) arg4 fullShare d)
        ∗ owns (c : Thread nD τ) wbM fullShare b ∗ S ∗ owes (c : Thread nD τ) 0 W
        ∗ (left c arg2 arg4 x b S -∗ K ⟨⟩))
      ⊢ wp frame (wpE (defs₀ (F := F)) Variants.none c none) Set.univ (body i arg2 harg2 arg4 harg4) K := by
  unfold body
  rw [cc0_matmul_eq_skeleton]; unfold cc0_matmul_skel
  unfold owns
  iintro ⟨⟨%f2, %e2, H2⟩, ⟨%d4, %f4, -, H4⟩, ⟨%fb, %hb, HB⟩, HS, HW, Hk⟩
  sl_exec
  sl_step
  iapply Hk
  unfold left owns
  isplitl [H2]
  · iexists _; isplitr; swap; · iexact H2
    ipureintro; exact e2
  isplitl [H4]
  · iexists _; isplitr; swap; · iexact H4
    ipureintro; exact read_out arg2 harg2 arg4 harg4 x e2 hb
  isplitl [HB]
  · iexists _; isplitr; swap; · iexact HB
    ipureintro; exact hb
  isplitl [HS]; · iexact HS
  iexists _; iexact HW

end Run

/-! ## The proof data of the pipeline -/

variable (m : (ℓ : Loc nD τ sig) → Buf (Elt F) ℓ) (ρ : Dev nD → PrngReg)

/-- Column block `j` of the weights as launched, rounded. -/
def kept (c : Dev nD) (j : ℕ) : Vec F S4096x1024 .bf16 := rnd (wblk (c := c) (V m c main_arg1) ![0, 1024 * (j % 16)] (col_inb j))

/-- Column block `j` of the weights on its way. -/
def coming (c : Dev nD) (j : ℕ) : sProp 𝕄 := flying c (V m c main_arg1) ![0, 1024 * (j % 16)] (col_inb j)

/-- What the body keeps before point `p`: the block its predecessor used, the next block on its way unless there is none. -/
def keep (c : Dev nD) (p : ℕ) : sProp 𝕄 :=
  if p = 0 then iprop((∃ d, owns (c : Thread nD τ) wbM fullShare d) ∗ home c (V m c main_arg1))
  else iprop(owns (c : Thread nD τ) wbM fullShare (kept m c ((p - 1) / 8))
    ∗ (if 120 < p then home c (V m c main_arg1) else coming m c ((p - 1) / 8 + 1)))

/-- The proof data: the arrays as launched, the first window's block left in place, the product's block in the second's. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => k0_pay2 (iblk m c 0 t) (kept m c (t.val / 8))
  Φ p := iprop((∃ r, prngReg c r) ∗ keep m c p.val)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = k0_pay2 (iblk m c 0 t) (kept m c (t.val / 8)) := by
  dsimp only [dats]

/-- The first window's buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-! ## The points -/

theorem cond1_iff : ∀ t : Fin grid0.N, k0_cond1 (grid0.coords t) = 1#1 ↔ t.val % 8 = 0 := by decide +kernel
theorem cond2_iff : ∀ t : Fin grid0.N, k0_cond2 (grid0.coords t) = 1#1 ↔ t.val < 8 := by decide +kernel
theorem cond3_iff : ∀ t : Fin grid0.N, k0_cond3 (grid0.coords t) = 1#1 ↔ t.val < 120 := by decide +kernel
theorem off1_eq : ∀ t : Fin grid0.N, k0_off1 (grid0.coords t) = ![0, 1024 * (t.val / 8 % 16)] := by decide +kernel
theorem off4_eq : ∀ t : Fin grid0.N, t.val < 120 → k0_off4 (grid0.coords t) = ![0, 1024 * ((t.val / 8 + 1) % 16)] := by decide +kernel

/-- What the body is entered with at point `t`, the first window's block named. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The step of what is kept, by the point's case: what a run needs of it and what the run gives back. -/
theorem keep_step (c : Dev nD) (t : Fin cfg0.N) (W : Waits sig Unit) (K : PUnit → sProp 𝕄) (x : Vec F S1024x4096 .bf16)
    (arg2 : Memref sig .tc .vmem S1024x4096 .bf16) (harg2 : arg2.IsWhole) (arg4 : Memref sig .tc .vmem S1024x1024 .bf16) (harg4 : arg4.IsWhole) :
    iprop(owns (c : Thread nD τ) arg2 fullShare x ∗ (∃ d, owns (c : Thread nD τ) arg4 fullShare d) ∗ keep m c t.val ∗ owes (c : Thread nD τ) 0 W
        ∗ (iprop(owns (c : Thread nD τ) arg2 fullShare x ∗ owns (c : Thread nD τ) arg4 fullShare (k0_pay2 x (kept m c (t.val / 8)))
            ∗ keep m c (t.val + 1) ∗ (∃ W', owes (c : Thread nD τ) 0 W')) -∗ K ⟨⟩))
      ⊢ wp frame (wpE (defs₀ (F := F)) Variants.none c none) Set.univ (body (grid0.coords t) arg2 harg2 arg4 harg4) K := by
  have ht : t.val < 128 := lt_of_lt_of_eq t.isLt N_0
  unfold keep
  rw [if_neg (by omega : ¬t.val + 1 = 0), Nat.add_sub_cancel]
  by_cases h0 : t.val = 0
  · have h1 := (cond1_iff t).2 (by omega)
    have h2 := (cond2_iff t).2 (by omega)
    have h3 := (cond3_iff t).2 (by omega)
    rw [if_pos h0, if_neg (by omega)]
    iintro ⟨H2, H4, ⟨HB, HS⟩, HW, Hk⟩
    iapply (runA c (grid0.coords t) arg2 harg2 arg4 harg4 x (V m c main_arg1) h1 h2 h3 W K)
    isplitl [H2]; · iexact H2
    isplitl [H4]; · iexact H4
    isplitl [HB]; · iexact HB
    isplitl [HS]; · iexact HS
    isplitl [HW]; · iexact HW
    unfold left kept coming
    rw [wblk_congr (c := c) (V m c main_arg1) (off1_eq t) _ (col_inb _), flying_congr c (V m c main_arg1) (off4_eq t (by omega)) _ (col_inb _)]
    iintro ⟨H2, H4, HB, HS, HW⟩
    iapply Hk
    isplitl [H2]; · iexact H2
    isplitl [H4]; · iexact H4
    isplitl [HB HS]
    · isplitl [HB]; · iexact HB
      iexact HS
    iexact HW
  rw [if_neg h0]
  by_cases h1 : k0_cond1 (grid0.coords t) = 1#1
  · have hm := (cond1_iff t).1 h1
    have h2 : ¬k0_cond2 (grid0.coords t) = 1#1 := fun h => by have := (cond2_iff t).1 h; omega
    have ej : (t.val - 1) / 8 + 1 = t.val / 8 := by omega
    rw [if_neg (by omega : ¬120 < t.val), ej]
    by_cases h3 : k0_cond3 (grid0.coords t) = 1#1
    · have h120 := (cond3_iff t).1 h3
      rw [if_neg (by omega : ¬120 < t.val + 1)]
      unfold coming kept
      iintro ⟨H2, H4, ⟨HB, HS⟩, HW, Hk⟩
      iapply (runB c (grid0.coords t) arg2 harg2 arg4 harg4 x (V m c main_arg1) _ (col_inb (t.val / 8)) h1 h2 h3 W K)
      isplitl [H2]; · iexact H2
      isplitl [H4]; · iexact H4
      isplitl [HB]; · iexists _; iexact HB
      isplitl [HS]; · iexact HS
      isplitl [HW]; · iexact HW
      unfold left
      rw [flying_congr c (V m c main_arg1) (off4_eq t h120) _ (col_inb _)]
      iintro ⟨H2, H4, HB, HS, HW⟩
      iapply Hk
      isplitl [H2]; · iexact H2
      isplitl [H4]; · iexact H4
      isplitl [HB HS]
      · isplitl [HB]; · iexact HB
        iexact HS
      iexact HW
    · have h120 : 120 < t.val + 1 := by
        by_contra h; exact h3 ((cond3_iff t).2 (by omega))
      rw [if_pos h120]
      unfold coming kept
      iintro ⟨H2, H4, ⟨HB, HS⟩, HW, Hk⟩
      iapply (runC c (grid0.coords t) arg2 harg2 arg4 harg4 x (V m c main_arg1) _ (col_inb (t.val / 8)) h1 h2 h3 W K)
      isplitl [H2]; · iexact H2
      isplitl [H4]; · iexact H4
      isplitl [HB]; · iexists _; iexact HB
      isplitl [HS]; · iexact HS
      isplitl [HW]; · iexact HW
      unfold left
      iintro ⟨H2, H4, HB, HS, HW⟩
      iapply Hk
      isplitl [H2]; · iexact H2
      isplitl [H4]; · iexact H4
      isplitl [HB HS]
      · isplitl [HB]; · iexact HB
        iexact HS
      iexact HW
  · have hm : ¬t.val % 8 = 0 := fun h => h1 ((cond1_iff t).2 h)
    have ej : (t.val - 1) / 8 = t.val / 8 := by omega
    have e120 : (120 < t.val) = (120 < t.val + 1) := propext ⟨fun h => by omega, fun h => by omega⟩
    rw [ej]
    simp only [e120]
    iintro ⟨H2, H4, ⟨HB, HS⟩, HW, Hk⟩
    iapply (runD c (grid0.coords t) arg2 harg2 arg4 harg4 x (kept m c (t.val / 8)) _ h1 W K)
    isplitl [H2]; · iexact H2
    isplitl [H4]; · iexact H4
    isplitl [HB]; · iexact HB
    isplitl [HS]; · iexact HS
    isplitl [HW]; · iexact HW
    unfold left
    iintro ⟨H2, H4, HB, HS, HW⟩
    iapply Hk
    isplitl [H2]; · iexact H2
    isplitl [H4]; · iexact H4
    isplitl [HB HS]
    · isplitl [HB]; · iexact HB
      iexact HS
    iexact HW

/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0]
  rw [after0_0, after0_1]
  rw [show (dats m 0 c).Φ t.castSucc = iprop((∃ r, prngReg c r) ∗ keep m c t.val) from rfl,
    show (dats m 0 c).Φ t.succ = iprop((∃ r, prngReg c r) ∗ keep m c (t.val + 1)) from rfl]
  unfold Dat.owesAt Pipeline.owesWithin
  rw [show (dats m 0 c).owed t.castSucc = 0 from rfl, show (dats m 0 c).owed t.succ = 0 from rfl]
  iintro ⟨⟨Hg, HK⟩, ⟨%W, -, HW⟩, ⟨%d0, H0⟩, ⟨%d1, H1⟩⟩
  iapply (keep_step m c t W _ (iblk m c 0 t) _ _ _ _)
  isplitl [H0]; · iexact H0
  isplitl [H1]; · iexists _; iexact H1
  isplitl [HK]; · iexact HK
  isplitl [HW]; · iexact HW
  iintro ⟨H0, H1, HK, ⟨%W', HW'⟩⟩
  isplitl [Hg HK]
  · isplitl [Hg]; · iexact Hg
    iexact HK
  isplitl [HW']
  · iexists W'; isplitr; · ipureintro; exact fun _ _ => Or.inl trivial
    iexact HW'
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- @main up to the call, at this algebra. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's own cell. -/
abbrev osem0 : Fin 1 → SemLoc sig := fun _ => SemLoc.dma cc0_scratch2.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch2.sem) 0 := by
  rw [Pipeline.ownSems0_eq_of_list c osem0 [0] (by decide) (by decide)]; rfl
/-- The array the body's transfers read. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = wPt c (V m c main_arg1) := by
  rw [BI.bigSep_eq_bigSepL_of_eq [main_arg1] (by decide) (by decide)]; rfl

theorem PhiD0_eq (c : Dev nD) :
    (Pipeline.ΦD osem0 spec0 H0 (V m) c : sProp 𝕄)
      = iprop(iprop((∃ d, owns (c : Thread nD τ) stM fullShare d) ∗ (∃ d, owns (c : Thread nD τ) wbM fullShare d))
          ∗ (∃ r, prngReg c r) ∗ semVal ((c : Thread nD τ), SemLoc.dma cc0_scratch2.sem) 0 ∗ wPt c (V m c main_arg1)) := by
  rw [Pipeline.ΦD_eq, scopedRest0_eq, ownSems00_eq, hbmPts0_eq]
  simp only [stM, wbM, owns_whole]; try rfl

theorem phi_in (c : Dev nD) : Pipeline.ΦD osem0 spec0 H0 (V m) c ⊢ (dats m 0 c).Φ 0 := by
  rw [PhiD0_eq]
  show _ ⊢ iprop((∃ r, prngReg c r) ∗ keep m c 0)
  unfold keep home
  rw [if_pos rfl]
  iintro ⟨⟨HS, HB⟩, Hg, Hq, Hw⟩
  isplitl [Hg]; · iexact Hg
  isplitl [HB]; · iexact HB
  isplitl [HS]; · iexact HS
  isplitl [Hq]; · iexact Hq
  iexact Hw

theorem phi_out (c : Dev nD) : (dats m 0 c).Φ (Fin.last cfg0.N) ⊢ Pipeline.ΦD osem0 spec0 H0 (V m) c := by
  rw [PhiD0_eq]
  show iprop((∃ r, prngReg c r) ∗ keep m c grid0.N) ⊢ _
  rw [N_0]
  unfold keep home
  rw [if_neg (by decide), if_pos (by decide)]
  iintro ⟨Hg, HB, HS, Hq, Hw⟩
  isplitl [HS HB]
  · isplitl [HS]; · iexact HS
    iexists _; iexact HB
  isplitl [Hg]; · iexact Hg
  isplitl [Hq]; · iexact Hq
  iexact Hw

set_option backward.isDefEq.respectTransparency.types false in
/-- The run: every array ends as the pipeline's data say, the cells at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

/-- The frame: the arguments end as they were, the cells at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (run_main m ρ)

end Cert.Gates.Hand

end
-- ==== Proof.GatesIdealFrame.lean ====
module

public import proofs.«01_k».proof.Proof.GatesFrame
public import proofs.«01_k».proof.Proof.Gen.GatesIdeal

/-!
# The program over the reals is the program

The two are one text, so what is proved of the one for every reading of its floats is proved of the other.
-/

@[expose] public section

noncomputable section

namespace Cert.GatesIdeal.Hand

open Idealize.ShloMosaic Idealize.ShloMosaic.TcCoe Idealize.SL.Sem

variable {F : FTy → Type} [FloatOps F]

/-- The two tables of bodies agree. -/
theorem bodies_eq : Cert.GatesIdeal.defs₀ (F := F) = Cert.Gates.defs₀ (F := F) := by
  unfold Cert.GatesIdeal.defs₀ Cert.Gates.defs₀
  refine congrArg Defs.onTc (funext fun l => funext fun a => ?_)
  rcases l with ⟨_ | _, h⟩
  · rcases a with ⟨_, _⟩
    exact rfl
  · omega

/-- So do the tables with the pipeline's own bodies. -/
theorem defs_eq : Cert.GatesIdeal.defs (F := F) = Cert.Gates.defs (F := F) := by
  unfold Cert.GatesIdeal.defs Cert.Gates.defs
  exact congrArg (Pipeline.defs _) bodies_eq

set_option backward.isDefEq.respectTransparency.types false in
/-- The frame: the arguments end as they were, the cells at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.Gates.Hand.frame m ρ

end Cert.GatesIdeal.Hand
end
-- ==== Proof.GatesValue.lean ====
module

public import proofs.«01_k».proof.Proof.GatesIdealFrame
public import proofs.«01_k».proof.Proof.Gen.GatesRefIdeal.Run
public import Idealize.ShloMosaic.Lib.Pipeline.ValueKit
public import Idealize.ShloMosaic.Lib.Pipeline.ReadBack

/-!
# The gates equal their reference

Every point of the grid multiplies a tile of tokens by the kept column tile of the weights and applies the sigmoid, written
through the hyperbolic tangent: half of the tangent of half the argument, plus a half. Over the extended reals that is the
reference's one over one plus the exponential of the negative argument, at the infinities too.
-/

@[expose] public section

set_option maxRecDepth 16384

noncomputable section

namespace Cert.Gates.Sig

open Idealize.ShloMosaic Idealize.ShloMosaic.TcCoe Idealize.SL.Sem

/-- The sigmoid of a real through the hyperbolic tangent. -/
theorem half_tanh_real (x : ℝ) : 1 / 2 * Real.tanh (1 / 2 * x) + 1 / 2 = (1 + Real.exp (-x))⁻¹ := by
  have e1 : Real.exp (1 / 2 * x) * Real.exp (-(1 / 2 * x)) = 1 := by rw [← Real.exp_add]; simp
  have e2 : Real.exp (-x) = Real.exp (-(1 / 2 * x)) * Real.exp (-(1 / 2 * x)) := by rw [← Real.exp_add]; congr 1; ring
  have p := Real.exp_pos (1 / 2 * x)
  have q := Real.exp_pos (-(1 / 2 * x))
  rw [Real.tanh_eq_sinh_div_cosh, Real.sinh_eq, Real.cosh_eq, e2]
  generalize Real.exp (1 / 2 * x) = a at *
  generalize Real.exp (-(1 / 2 * x)) = b at *
  field_simp
  nlinarith [e1]

/-- The sigmoid of an extended real through the hyperbolic tangent. -/
theorem half_tanh (z : EReal) : ((1 / 2 : ℝ) : EReal) * Ideal.tanh (((1 / 2 : ℝ) : EReal) * z) + ((1 / 2 : ℝ) : EReal)
    = Ideal.logistic z := by
  induction z with
  | bot =>
    rw [EReal.coe_mul_bot_of_pos (by norm_num), Ideal.tanh_bot, Ideal.logistic_bot, mul_neg, mul_one, ← EReal.coe_neg,
      ← EReal.coe_add]
    norm_num
  | top =>
    rw [EReal.coe_mul_top_of_pos (by norm_num), Ideal.tanh_top, Ideal.logistic_top]
    norm_cast; norm_num
  | coe x =>
    rw [← EReal.coe_mul, Ideal.tanh_coe, Ideal.logistic_coe, ← EReal.coe_mul, ← EReal.coe_add, half_tanh_real]

section Reference
open Cert.GatesRefIdeal Cert.GatesRefIdeal.Gen

/-- The reference's result, as a function of the tokens and the weights. -/
def REF (X : FVec Ideal S8192x4096 .bf16) (W : FVec Ideal S4096x16384 .f32) : FVec Ideal S8192x16384 .bf16 :=
  truncf .bf16 (Host.divf (broadcastInDim S8192x16384 ![] bcast_S_S8192x16384 (constant S_ .f32 0x3F800000#32))
    (addf (broadcastInDim S8192x16384 ![] bcast_S_S8192x16384 (constant S_ .f32 0x3F800000#32))
      (Host.exp (Host.negf (Host.dotGeneral dot_S8192x4096_S4096x16384_S8192x16384_1_0_0_1_n_n none
        (extf .f32 X bitsLt_bf16_f32) W))))) bitsLt_bf16_f32

/-- The reference's result at token `s`, channel `d`: the sigmoid of the product's entry. -/
theorem ref_at (X : FVec Ideal S8192x4096 .bf16) (W : FVec Ideal S4096x16384 .f32) (s : Fin 8192) (d : Fin 16384) :
    REF X W (ix2 s d) = Ideal.logistic (∑ k : Fin 4096, X (ix2 s k) * W (ix2 k d)) := by
  pointwise [REF]
  rfl

end Reference

section Kernel
open Cert.Gates Cert.Gates.Gen Cert.Gates.Hand

variable (m : (ℓ : Loc nD τ sig) → Buf (Elt Ideal) ℓ)

/-- Where each window's block lies at a grid point: the token tile is the fast axis, the column tile the slow one. -/
theorem idx : ∀ t : Fin cfg0.N, win0_0.index t = ![t.val % 8, 0] ∧ win0_1.index t = ![t.val % 8, t.val / 8] :=
  (by decide +kernel : ∀ t : Fin grid0.N, _)

/-- The block a point writes, at one entry: the sigmoid of the token tile's row times the kept block's column. -/
theorem pay_at (x : FVec Ideal S1024x4096 .bf16) (w : FVec Ideal S4096x1024 .bf16) (r l : Fin 1024) :
    (k0_pay2 (F := Ideal) x w (ix2 r l) : EReal) = Ideal.logistic (∑ k : Fin 4096, x (ix2 r k) * w (ix2 k l)) := by
  have h : Ideal.ofBits FTy.f32 1056964608#32 = ((1 / 2 : ℝ) : EReal) := by
    have hb : (BitVec.extractLsb' 31 1 1056964608#32 = 1#1) = False := by decide
    norm_num [Ideal.ofBits, Ideal.ieee, Nat.shiftRight_eq_div_pow, hb]
  rw [← half_tanh, ← h]
  open_payloads; pointwise

/-- The kept block at one entry is the weights' entry in its column tile. -/
theorem kept_at (c : Dev nD) (j : ℕ) (k : Fin 4096) (l : Fin 1024) (hj : j < 16) :
    kept m c j (ix2 k l) = m ((c : Thread nD τ).loc main_arg1) (ix2 k ⟨1024 * j + l, by omega⟩) := by
  unfold kept wblk
  rw [rnd_at, View.read_apply]
  show V m c main_arg1 _ = _
  have e : (wSl ![0, 1024 * (j % 16)] (col_inb j)).view.emb (ix2 k l) = ix2 k ⟨1024 * j + l, by omega⟩ := by
    funext a; apply Fin.ext
    fin_cases a
    · show 0 + 1 * k.val = k.val
      rw [zero_add, one_mul]
    · show 1024 * (j % 16) + 1 * l.val = 1024 * j + l.val
      rw [Nat.mod_eq_of_lt hj, one_mul]
  rw [e]

/-- The output array after the run is the reference's result. -/
theorem final (c : Dev nD) : (dats m 0 c).arrAt 1 (cfgs 0).N
    = REF (m ((c : Thread nD τ).loc main_arg0)) (m ((c : Thread nD τ).loc main_arg1)) := by
  refine (dats m 0 c).arrAt_eq_of_covers 1 _ (by decide +kernel) fun t _ y => ?_
  blk_simp
  rw [after0_1, eq_ix2 ((win0_1.blk t).view.emb y), eq_ix2 y]
  refine Eq.trans ?_ (ref_at _ _ _ _).symm
  have hj : t.val / 8 < 16 := by have := t.isLt; change t.val < 128 at this; omega
  refine (pay_at _ _ _ _).trans ?_
  refine congrArg Ideal.logistic (Finset.sum_congr rfl fun k _ => ?_)
  congr 1
  · blk_ext [iblk, V, idx t]
  · refine (kept_at m c _ k (y 1) hj).trans ?_
    refine congrArg _ (congrArg (ix2 k) (Fin.ext ?_))
    refine Eq.trans ?_ (win0_1.rect_emb_val t (ix2 (y 0) (y 1)) 1).symm
    simp [idx t, Nat.mul_comm]

end Kernel
end Cert.Gates.Sig

namespace Cert.GatesIdeal.Sig

open Idealize.ShloMosaic Idealize.ShloMosaic.TcCoe Idealize.SL.Sem Cert.Gates.Sig

set_option backward.isDefEq.respectTransparency.types false in
/-- The program over the reals ends with the reference's result in its output and its arguments as they were. -/
theorem result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = REF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  rw [Hand.defs_eq]
  exact θ_run_mono (θ_run_and (Cert.Gates.Hand.run_main m ρ) (Cert.Gates.Hand.frame m ρ)) fun r hr c =>
    ⟨((hr.1.1 c).1 1).trans (final m c), hr.2.1 c⟩

end Cert.GatesIdeal.Sig
end
-- ==== Proof.WinFrame.lean ====
module

public import proofs.«01_k».proof.Proof.Gen.Win.Frame
public import proofs.«01_k».proof.Proof.Gen.Win.Loops
public import Idealize.ShloMosaic.Lib.Pipeline.FrameBody
public import Idealize.ShloMosaic.Lib.Transfers
public import Idealize.ShloMosaic.Lib.WritesUnit
public import Idealize.ShloMosaic.Lib.VecWindow
public import Idealize.ShloMosaic.Lib.Tactic
public import Idealize.ShloMosaic.Lib.Pointwise
public import Idealize.ShloMosaic.Lib.WordCmp

@[expose] public section

set_option maxRecDepth 6144

noncomputable section

namespace Cert.Win.Hand

open Cert.Win Cert.Win.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of this proof: the pipeline's, beside the counters of the transfers the body issues. -/
local notation "𝕄" => MT nD τ sig Unit (Elt F) ℕ (Pipeline.UD sig nD τ) ℕ

/-! ## The buffers the body keeps from point to point -/

/-- The buffer one column block of the weights lands in. -/
abbrev stM : Memref sig .tc .vmem S4096x1024 .f32 := Memref.whole cc0_scratch0
/-- The column block rounded to bf16, kept for the points that share it. -/
abbrev wbM : Memref sig .tc .vmem S4096x1024 .bf16 := Memref.whole cc0_scratch1
/-- The weights, left in HBM. -/
abbrev wM : Memref sig .tc .hbm S4096x6144 .f32 := Memref.whole main_arg1

/-- A block of columns, rounded to bf16. -/
abbrev rnd (x : Vec F S4096x1024 .f32) : Vec F S4096x1024 .bf16 := truncf .bf16 x bitsLt_bf16_f32

theorem rnd_at (x : Vec F S4096x1024 .f32) (y : S4096x1024.Idx) : rnd x y = FloatOps.truncf .bf16 bitsLt_bf16_f32 (x y) := rfl

/-! ## The state between points -/

theorem col_inb (j : ℕ) : ∀ a, (![0, 1024 * (j % 6)] : Fin 2 → ℕ) a + S4096x1024.size a ≤ S4096x6144.size a := by
  have := Nat.mod_lt j (by decide : 0 < 6)
  intro a
  fin_cases a
  · show 0 + 4096 ≤ 4096; omega
  · show 1024 * (j % 6) + 1024 ≤ 6144; omega

/-- 1024 columns of the weights, from the offsets `off`. -/
abbrev wSl (off : Fin 2 → ℕ) (hb : ∀ a, off a + S4096x1024.size a ≤ S4096x6144.size a) : Memref sig .tc .hbm S4096x1024 .f32 :=
  wM.slice (Rect.unit (s := S4096x6144) off S4096x1024.size hb) (fun _ => rfl)

/-- What those columns hold. -/
def wblk {c : Dev nD} (w : Buf (Elt F) (wM.view.loc (c : Thread nD τ))) (off : Fin 2 → ℕ)
    (hb : ∀ a, off a + S4096x1024.size a ≤ S4096x6144.size a) : Vec F S4096x1024 .f32 :=
  (wSl off hb).view.read (Elt F) w

theorem wblk_congr {c : Dev nD} (w : Buf (Elt F) (wM.view.loc (c : Thread nD τ))) {off off' : Fin 2 → ℕ} (h : off = off')
    (hb : ∀ a, off a + S4096x1024.size a ≤ S4096x6144.size a) (hb' : ∀ a, off' a + S4096x1024.size a ≤ S4096x6144.size a) :
    wblk w off hb = wblk w off' hb' := by subst h; rfl

/-- The weights held whole, apart from what a transfer has lent. -/
abbrev wPt (c : Dev nD) (w : Buf (Elt F) (wM.view.loc (c : Thread nD τ))) : sProp 𝕄 :=
  wM.view.loc (c : Thread nD τ) ↦{fullShare} w

/-- No transfer under way: the landing buffer at anything, the cell at zero, the weights whole. -/
def home (c : Dev nD) (w : Buf (Elt F) (wM.view.loc (c : Thread nD τ))) : sProp 𝕄 :=
  iprop((∃ d, owns (c : Thread nD τ) stM fullShare d) ∗ semVal ((c : Thread nD τ), SemLoc.dma cc0_scratch2.sem) 0 ∗ wPt c w)

/-- The columns at `off` on their way into the landing buffer, the other columns of the weights at hand. -/
def flying (c : Dev nD) (w : Buf (Elt F) (wM.view.loc (c : Thread nD τ))) (off : Fin 2 → ℕ)
    (hb : ∀ a, off a + S4096x1024.size a ≤ S4096x6144.size a) : sProp 𝕄 :=
  iprop(∃ fd, Transfers.Flight countersEmb (c : Thread nD τ) (SemLoc.dma cc0_scratch2.sem) () 524288
        iprop((stM.view.loc (c : Thread nD τ) ↦[stM.view.set]{fullShare} fd) ∗ (wM.view.loc (c : Thread nD τ) ↦[(wSl off hb).view.set]{fullShare} w))
      ∗ (wM.view.loc (c : Thread nD τ) ↦[Finset.univ \ (wSl off hb).view.set]{fullShare} w)
      ∗ ⌜stM.view.read (Elt F) fd = wblk w off hb⌝)

theorem flying_congr (c : Dev nD) (w : Buf (Elt F) (wM.view.loc (c : Thread nD τ))) {off off' : Fin 2 → ℕ} (h : off = off')
    (hb : ∀ a, off a + S4096x1024.size a ≤ S4096x6144.size a) (hb' : ∀ a, off' a + S4096x1024.size a ≤ S4096x6144.size a) :
    flying c w off hb = flying c w off' hb' := by subst h; rfl

/-! ## The loop that rounds the staged block, 128 rows a trip -/

section Loop
variable (c : Dev nD) (i : grid0.Coords) (arg2 : Memref sig .tc .vmem S1024x4096 .bf16) (harg2 : arg2.IsWhole)
  (arg3 : Memref sig .tc .hbm S4096x6144 .f32) (harg3 : arg3.IsWhole)
  (arg4 : Memref sig .tc .vmem S1024x1024 .bf16) (harg4 : arg4.IsWhole)
  (h1 : k0_cond1 i = 1#1)

/-- Before trip `k` the first `128 * k` rows are rounded. -/
def loopPre (X : Buf (Elt F) (stM.view.loc (c : Thread nD τ))) (k : ℕ) : sProp 𝕄 :=
  iprop((stM.view.loc (c : Thread nD τ) ↦[stM.view.set]{fullShare} X)
    ∗ (∃ f, (wbM.view.loc (c : Thread nD τ) ↦[wbM.view.set]{fullShare} f)
        ∗ ⌜∀ y : S4096x1024.Idx, (y 0).val < 128 * k → wbM.view.read (Elt F) f y = rnd (stM.view.read (Elt F) X) y⌝))

include h1 in
/-- One trip rounds the next 128 rows and leaves the others. -/
theorem trip_rows (X : Buf (Elt F) (stM.view.loc (c : Thread nD τ))) (k : Fin (Scf.trips k0_t1_loop.lb k0_t1_loop.ub k0_t1_loop.st))
    (hk : k.val < 32) (f : Buf (Elt F) (wbM.view.loc (c : Thread nD τ)))
    (hf : ∀ y : S4096x1024.Idx, (y 0).val < 128 * k.val → wbM.view.read (Elt F) f y = rnd (stM.view.read (Elt F) X) y)
    (y : S4096x1024.Idx) (hy : (y 0).val < 128 * (k.val + 1)) :
    wbM.view.read (Elt F) (wbM.view.writes (Elt F) f
        [⟨Rect.unit (s := S4096x1024) (k0_off3 k) S128x1024.size (k0_off3_inb i k h1),
            k0_pay1 (View.readAt (Elt F) stM.view (Rect.unit (s := S4096x1024) (k0_off3 k) S128x1024.size (k0_off3_inb i k h1)).toLoadRect X)⟩]) y
      = rnd (stM.view.read (Elt F) X) y := by
  by_cases h : (y 0).val < 128 * k.val
  · refine (View.read_writes_cons_rows_of_not_mem wbM.view f _ _ [] y (k0_off3_eq k) rfl (.inl h)).trans ?_
    exact hf y h
  · have hx : ∀ a, (![128 * k.val, 0] : Fin 2 → ℕ) a ≤ (y a).val ∧ (y a).val < (![128 * k.val, 0] : Fin 2 → ℕ) a + S128x1024.size a := by
      have h1 := (y 1).isLt
      intro a
      fin_cases a
      · exact ⟨Nat.le_of_not_lt h, by show (y 0).val < 128 * k.val + 128; omega⟩
      · exact ⟨Nat.zero_le _, by show (y 1).val < 0 + 1024; exact (by simpa using h1 : (y 1).val < 1024) |>.trans_eq (Nat.zero_add _).symm⟩
    refine (View.read_writes_cons_unit_of_mem wbM.view f _ _ [] y (show (Rect.unit (s := S4096x1024) (k0_off3 k) S128x1024.size (k0_off3_inb i k h1)).shape.Idx from Rect.unitLocal (s := S4096x1024) (off := ![128 * k.val, 0]) (size := S128x1024.size) y hx) (k0_off3_eq k) fun a => ?_).trans ?_
    · have := hx a
      rw [Rect.unitLocal_val]; omega
    · simp only [k0_pay1, shapeCast_id]
      show FloatOps.truncf .bf16 bitsLt_bf16_f32 _ = _
      rw [rnd_at, View.readAt_apply]
      refine congrArg (FloatOps.truncf .bf16 bitsLt_bf16_f32) (congrArg (stM.view.read (Elt F) X) (funext fun a => Fin.ext ?_))
      have := hx a
      have e : k0_off3 k a = (![128 * k.val, 0] : Fin 2 → ℕ) a := congrFun (k0_off3_eq k) a
      show k0_off3 k a + 1 * ((y a).val - (![128 * k.val, 0] : Fin 2 → ℕ) a) = (y a).val
      omega

set_option warn.classDefReducibility false in
@[sl_loop] def loopInv (𝒱 : Variants) (bd : Option 𝒱.V) (E : Set ℕ) (X : Buf (Elt F) (stM.view.loc (c : Thread nD τ))) :
    LoopInvTy_k0_t1 (F := F) Unit ℕ (Pipeline.UD sig nD τ) ℕ 𝒱 c bd E i arg2 harg2 arg3 harg3 arg4 harg4 stM (Memref.isWhole_whole _) wbM (Memref.isWhole_whole _) cc0_scratch2 h1 where
  inv k _ := loopPre c X k
  step k acc := by
    have hk : k.val < 32 := Nat.lt_of_lt_of_le k.isLt k0_t1_abs.2.1
    unfold loopPre
    iintro ⟨HX, ⟨%f, HW, %hf⟩⟩
    unfold k0_t1_body
    sl_exec
    sl_step
    isplitl [HX]; · iexact HX
    iexists _; isplitl [HW]; · iexact HW
    ipureintro
    intro y hy
    exact trip_rows c i h1 _ k hk _ hf _ hy

end Loop

/-! ## The body's four runs -/

theorem trips_eq : 4096 ≤ 128 * Scf.trips k0_t1_loop.lb k0_t1_loop.ub k0_t1_loop.st := by decide +kernel

/-- After the loop the whole block is rounded. -/
theorem all_rows {c : Dev nD} {f : Buf (Elt F) (wbM.view.loc (c : Thread nD τ))} {v : Vec F S4096x1024 .f32}
    (h : ∀ y : S4096x1024.Idx, (y 0).val < 128 * Scf.trips k0_t1_loop.lb k0_t1_loop.ub k0_t1_loop.st →
      wbM.view.read (Elt F) f y = rnd v y) : wbM.view.read (Elt F) f = rnd v :=
  funext fun y => h y (lt_of_lt_of_le (y 0).isLt trips_eq)

/-- The landing buffer reads what landed last. -/
theorem read_last {c : Dev nD} (f : Buf (Elt F) (stM.view.loc (c : Thread nD τ))) (v : Vec F S4096x1024 .f32)
    (L : List (View.Piece (Elt F) S4096x1024 .f32)) :
    stM.view.read (Elt F) (stM.view.writes (Elt F) f (⟨Rect.whole S4096x1024, v⟩ :: L)) = v := by
  rw [← List.singleton_append, View.writes_append]
  exact View.read_writes_whole stM.view _ v

section Run
variable (c : Dev nD) (i : grid0.Coords) (arg2 : Memref sig .tc .vmem S1024x4096 .bf16) (harg2 : arg2.IsWhole)
  (arg4 : Memref sig .tc .vmem S1024x1024 .bf16) (harg4 : arg4.IsWhole)
  (x : Vec F S1024x4096 .bf16) (w : Buf (Elt F) (wM.view.loc (c : Thread nD τ)))

/-- The body at the operands of one point. -/
abbrev body : Prog (TpuEff nD τ sig (Elt F) Λ₀ .tc) PUnit :=
  cc0_matmul i arg2 harg2 wM (Memref.isWhole_whole _) arg4 harg4 stM (Memref.isWhole_whole _) wbM (Memref.isWhole_whole _) cc0_scratch2

/-- What a point leaves, the kept block being `b`: the product's block in the result's buffer, the state `S` of the transfers. -/
def left (b : Vec F S4096x1024 .bf16) (S : sProp 𝕄) : sProp 𝕄 :=
  iprop(owns (c : Thread nD τ) arg2 fullShare x ∗ owns (c : Thread nD τ) arg4 fullShare (k0_pay2 x b)
    ∗ owns (c : Thread nD τ) wbM fullShare b ∗ S ∗ (∃ W', owes (c : Thread nD τ) 0 W'))

include harg2 harg4 in
/-- The result's buffer reads the stored payload, its operands the two buffers' contents. -/
theorem read_out {f2 : BufTy.Contents (Elt F) arg2.view.ty} {f4 : BufTy.Contents (Elt F) arg4.view.ty} {fb : BufTy.Contents (Elt F) wbM.view.ty}
    {b : Vec F S4096x1024 .bf16} (h2 : arg2.view.read (Elt F) f2 = x) (hb : wbM.view.read (Elt F) fb = b) :
    arg4.view.read (Elt F) (arg4.view.writes (Elt F) f4 [⟨Rect.unit (s := S1024x1024) ![0, 0] S1024x1024.size inb_S1024x1024_S1024x1024_0_0,
        k0_pay2 (View.readAt (Elt F) arg2.view (Rect.unit (s := S1024x4096) ![0, 0] S1024x4096.size inb_S1024x4096_S1024x4096_0_0).toLoadRect f2)
          (View.readAt (Elt F) wbM.view (Rect.unit (s := S4096x1024) ![0, 0] S4096x1024.size inb_S4096x1024_S4096x1024_0_0).toLoadRect fb)⟩])
      = k0_pay2 x b := by
  subst h2; subst hb
  refine (View.read_writes_full arg4.view f4 _ _ _).trans ?_
  exact congrArg₂ k0_pay2 (View.readAt_full arg2.view f2 _) (View.readAt_full wbM.view fb _)

/-- The first point: the first block comes in and is rounded, the next one is sent for. -/
theorem runA (h1 : k0_cond1 i = 1#1) (h2 : k0_cond2 i = 1#1) (h3 : k0_cond3 i = 1#1) (W : Waits sig Unit) (K : PUnit → sProp 𝕄) :
    iprop(owns (c : Thread nD τ) arg2 fullShare x ∗ (∃ d, owns (c : Thread nD τ) arg4 fullShare d)
        ∗ (∃ d, owns (c : Thread nD τ) wbM fullShare d) ∗ home c w ∗ owes (c : Thread nD τ) 0 W
        ∗ (left c arg2 arg4 x (rnd (wblk w (k0_off1 i) (k0_off1_inb i h1 h2))) (flying c w (k0_off4 i) (k0_off4_inb i h1 h3)) -∗ K ⟨⟩))
      ⊢ wp frame (wpE (defs₀ (F := F)) Variants.none c none) Set.univ (body i arg2 harg2 arg4 harg4) K := by
  unfold body
  rw [cc0_matmul_eq_skeleton]; unfold cc0_matmul_skel
  unfold home owns
  iintro ⟨⟨%f2, %e2, H2⟩, ⟨%d4, %f4, -, H4⟩, ⟨%db, %fb, -, HB⟩, ⟨⟨%ds, %fs, -, HS⟩, Hq, Hw⟩, HW, Hk⟩
  sl_exec
  sl_step
  have hb := all_rows hL2
  rw [View.read_writes_whole] at hb
  iapply Hk
  unfold left owns flying
  isplitl [H2]
  · iexists _; isplitr; swap; · iexact H2
    ipureintro; exact e2
  isplitl [H4]
  · iexists _; isplitr; swap; · iexact H4
    ipureintro; exact read_out arg2 harg2 arg4 harg4 x e2 hb
  isplitl [HB]
  · iexists _; isplitr; swap; · iexact HB
    ipureintro; exact hb
  isplitl [Hq Hw]
  · iexists _
    isplitl [Hq]; · iexact Hq
    isplitl [Hw]; · iexact Hw
    ipureintro; refine (read_last (c := c) _ _ _).trans ?_; rfl
  iexists _; iexact HW

/-- A later block's first point but the last block's: the block on its way comes in and is rounded, the next one is sent for. -/
theorem runB (off : Fin 2 → ℕ) (hb : ∀ a, off a + S4096x1024.size a ≤ S4096x6144.size a) (h1 : k0_cond1 i = 1#1) (h2 : ¬k0_cond2 i = 1#1) (h3 : k0_cond3 i = 1#1)
    (W : Waits sig Unit) (K : PUnit → sProp 𝕄) :
    iprop(owns (c : Thread nD τ) arg2 fullShare x ∗ (∃ d, owns (c : Thread nD τ) arg4 fullShare d)
        ∗ (∃ d, owns (c : Thread nD τ) wbM fullShare d) ∗ flying c w off hb ∗ owes (c : Thread nD τ) 0 W
        ∗ (left c arg2 arg4 x (rnd (wblk w off hb)) (flying c w (k0_off4 i) (k0_off4_inb i h1 h3)) -∗ K ⟨⟩))
      ⊢ wp frame (wpE (defs₀ (F := F)) Variants.none c none) Set.univ (body i arg2 harg2 arg4 harg4) K := by
  unfold body
  rw [cc0_matmul_eq_skeleton]; unfold cc0_matmul_skel
  unfold flying owns
  iintro ⟨⟨%f2, %e2, H2⟩, ⟨%d4, %f4, -, H4⟩, ⟨%db, %fb, -, HB⟩, ⟨%fd, Hq, Hw, %hfd⟩, HW, Hk⟩
  sl_exec
  sl_step
  have hb := all_rows hL2
  rw [hfd] at hb
  iapply Hk
  unfold left owns
  isplitl [H2]
  · iexists _; isplitr; swap; · iexact H2
    ipureintro; exact e2
  isplitl [H4]
  · iexists _; isplitr; swap; · iexact H4
    ipureintro; exact read_out arg2 harg2 arg4 harg4 x e2 hb
  isplitl [HB]
  · iexists _; isplitr; swap; · iexact HB
    ipureintro; exact hb
  isplitl [Hq Hw]
  · iexists _
    isplitl [Hq]; · iexact Hq
    isplitl [Hw]; · iexact Hw
    ipureintro; refine (read_last (c := c) _ _ _).trans ?_; rfl
  iexists _; iexact HW

/-- The last block's first point: nothing more is sent for. -/
theorem runC (off : Fin 2 → ℕ) (hb : ∀ a, off a + S4096x1024.size a ≤ S4096x6144.size a) (h1 : k0_cond1 i = 1#1) (h2 : ¬k0_cond2 i = 1#1) (h3 : ¬k0_cond3 i = 1#1)
    (W : Waits sig Unit) (K : PUnit → sProp 𝕄) :
    iprop(owns (c : Thread nD τ) arg2 fullShare x ∗ (∃ d, owns (c : Thread nD τ) arg4 fullShare d)
        ∗ (∃ d, owns (c : Thread nD τ) wbM fullShare d) ∗ flying c w off hb ∗ owes (c : Thread nD τ) 0 W
        ∗ (left c arg2 arg4 x (rnd (wblk w off hb)) (home c w) -∗ K ⟨⟩))
      ⊢ wp frame (wpE (defs₀ (F := F)) Variants.none c none) Set.univ (body i arg2 harg2 arg4 harg4) K := by
  unfold body
  rw [cc0_matmul_eq_skeleton]; unfold cc0_matmul_skel
  unfold flying owns
  iintro ⟨⟨%f2, %e2, H2⟩, ⟨%d4, %f4, -, H4⟩, ⟨%db, %fb, -, HB⟩, ⟨%fd, Hq, Hw, %hfd⟩, HW, Hk⟩
  sl_exec
  sl_step
  have hb := all_rows hL2
  rw [hfd] at hb
  iapply Hk
  unfold left home owns
  isplitl [H2]
  · iexists _; isplitr; swap; · iexact H2
    ipureintro; exact e2
  isplitl [H4]
  · iexists _; isplitr; swap; · iexact H4
    ipureintro; exact read_out arg2 harg2 arg4 harg4 x e2 hb
  isplitl [HB]
  · iexists _; isplitr; swap; · iexact HB
    ipureintro; exact hb
  isplitl [Hq Hw Hq_dst]
  · isplitl [Hq_dst]
    · iexists _, _; isplitr; swap; · iexact Hq_dst
      ipureintro; rfl
    isplitl [Hq]; · iexact Hq
    iexact Hw
  iexists _; iexact HW

/-- A point that shares the block rounded before it. -/
theorem runD (b : Vec F S4096x1024 .bf16) (S : sProp 𝕄) (h1 : ¬k0_cond1 i = 1#1) (W : Waits sig Unit) (K : PUnit → sProp 𝕄) :
    iprop(owns (c : Thread nD τ) arg2 fullShare x ∗ (∃ d, owns (c : Thread nD τ) arg4 fullShare d)
        ∗ owns (c : Thread nD τ) wbM fullShare b ∗ S ∗ owes (c : Thread nD τ) 0 W
        ∗ (left c arg2 arg4 x b S -∗ K ⟨⟩))
      ⊢ wp frame (wpE (defs₀ (F := F)) Variants.none c none) Set.univ (body i arg2 harg2 arg4 harg4) K := by
  unfold body
  rw [cc0_matmul_eq_skeleton]; unfold cc0_matmul_skel
  unfold owns
  iintro ⟨⟨%f2, %e2, H2⟩, ⟨%d4, %f4, -, H4⟩, ⟨%fb, %hb, HB⟩, HS, HW, Hk⟩
  sl_exec
  sl_step
  iapply Hk
  unfold left owns
  isplitl [H2]
  · iexists _; isplitr; swap; · iexact H2
    ipureintro; exact e2
  isplitl [H4]
  · iexists _; isplitr; swap; · iexact H4
    ipureintro; exact read_out arg2 harg2 arg4 harg4 x e2 hb
  isplitl [HB]
  · iexists _; isplitr; swap; · iexact HB
    ipureintro; exact hb
  isplitl [HS]; · iexact HS
  iexists _; iexact HW

end Run

/-! ## The proof data of the pipeline -/

variable (m : (ℓ : Loc nD τ sig) → Buf (Elt F) ℓ) (ρ : Dev nD → PrngReg)

/-- Column block `j` of the weights as launched, rounded. -/
def kept (c : Dev nD) (j : ℕ) : Vec F S4096x1024 .bf16 := rnd (wblk (c := c) (V m c main_arg1) ![0, 1024 * (j % 6)] (col_inb j))

/-- Column block `j` of the weights on its way. -/
def coming (c : Dev nD) (j : ℕ) : sProp 𝕄 := flying c (V m c main_arg1) ![0, 1024 * (j % 6)] (col_inb j)

/-- What the body keeps before point `p`: the block its predecessor used, the next block on its way unless there is none. -/
def keep (c : Dev nD) (p : ℕ) : sProp 𝕄 :=
  if p = 0 then iprop((∃ d, owns (c : Thread nD τ) wbM fullShare d) ∗ home c (V m c main_arg1))
  else iprop(owns (c : Thread nD τ) wbM fullShare (kept m c ((p - 1) / 8))
    ∗ (if 40 < p then home c (V m c main_arg1) else coming m c ((p - 1) / 8 + 1)))

/-- The proof data: the arrays as launched, the first window's block left in place, the product's block in the second's. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => k0_pay2 (iblk m c 0 t) (kept m c (t.val / 8))
  Φ p := iprop((∃ r, prngReg c r) ∗ keep m c p.val)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = k0_pay2 (iblk m c 0 t) (kept m c (t.val / 8)) := by
  dsimp only [dats]

/-- The first window's buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-! ## The points -/

theorem cond1_iff : ∀ t : Fin grid0.N, k0_cond1 (grid0.coords t) = 1#1 ↔ t.val % 8 = 0 := by decide +kernel
theorem cond2_iff : ∀ t : Fin grid0.N, k0_cond2 (grid0.coords t) = 1#1 ↔ t.val < 8 := by decide +kernel
theorem cond3_iff : ∀ t : Fin grid0.N, k0_cond3 (grid0.coords t) = 1#1 ↔ t.val < 40 := by decide +kernel
theorem off1_eq : ∀ t : Fin grid0.N, k0_off1 (grid0.coords t) = ![0, 1024 * (t.val / 8 % 6)] := by decide +kernel
theorem off4_eq : ∀ t : Fin grid0.N, t.val < 40 → k0_off4 (grid0.coords t) = ![0, 1024 * ((t.val / 8 + 1) % 6)] := by decide +kernel

/-- What the body is entered with at point `t`, the first window's block named. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The step of what is kept, by the point's case: what a run needs of it and what the run gives back. -/
theorem keep_step (c : Dev nD) (t : Fin cfg0.N) (W : Waits sig Unit) (K : PUnit → sProp 𝕄) (x : Vec F S1024x4096 .bf16)
    (arg2 : Memref sig .tc .vmem S1024x4096 .bf16) (harg2 : arg2.IsWhole) (arg4 : Memref sig .tc .vmem S1024x1024 .bf16) (harg4 : arg4.IsWhole) :
    iprop(owns (c : Thread nD τ) arg2 fullShare x ∗ (∃ d, owns (c : Thread nD τ) arg4 fullShare d) ∗ keep m c t.val ∗ owes (c : Thread nD τ) 0 W
        ∗ (iprop(owns (c : Thread nD τ) arg2 fullShare x ∗ owns (c : Thread nD τ) arg4 fullShare (k0_pay2 x (kept m c (t.val / 8)))
            ∗ keep m c (t.val + 1) ∗ (∃ W', owes (c : Thread nD τ) 0 W')) -∗ K ⟨⟩))
      ⊢ wp frame (wpE (defs₀ (F := F)) Variants.none c none) Set.univ (body (grid0.coords t) arg2 harg2 arg4 harg4) K := by
  have ht : t.val < 48 := lt_of_lt_of_eq t.isLt N_0
  unfold keep
  rw [if_neg (by omega : ¬t.val + 1 = 0), Nat.add_sub_cancel]
  by_cases h0 : t.val = 0
  · have h1 := (cond1_iff t).2 (by omega)
    have h2 := (cond2_iff t).2 (by omega)
    have h3 := (cond3_iff t).2 (by omega)
    rw [if_pos h0, if_neg (by omega)]
    iintro ⟨H2, H4, ⟨HB, HS⟩, HW, Hk⟩
    iapply (runA c (grid0.coords t) arg2 harg2 arg4 harg4 x (V m c main_arg1) h1 h2 h3 W K)
    isplitl [H2]; · iexact H2
    isplitl [H4]; · iexact H4
    isplitl [HB]; · iexact HB
    isplitl [HS]; · iexact HS
    isplitl [HW]; · iexact HW
    unfold left kept coming
    rw [wblk_congr (c := c) (V m c main_arg1) (off1_eq t) _ (col_inb _), flying_congr c (V m c main_arg1) (off4_eq t (by omega)) _ (col_inb _)]
    iintro ⟨H2, H4, HB, HS, HW⟩
    iapply Hk
    isplitl [H2]; · iexact H2
    isplitl [H4]; · iexact H4
    isplitl [HB HS]
    · isplitl [HB]; · iexact HB
      iexact HS
    iexact HW
  rw [if_neg h0]
  by_cases h1 : k0_cond1 (grid0.coords t) = 1#1
  · have hm := (cond1_iff t).1 h1
    have h2 : ¬k0_cond2 (grid0.coords t) = 1#1 := fun h => by have := (cond2_iff t).1 h; omega
    have ej : (t.val - 1) / 8 + 1 = t.val / 8 := by omega
    rw [if_neg (by omega : ¬40 < t.val), ej]
    by_cases h3 : k0_cond3 (grid0.coords t) = 1#1
    · have h40 := (cond3_iff t).1 h3
      rw [if_neg (by omega : ¬40 < t.val + 1)]
      unfold coming kept
      iintro ⟨H2, H4, ⟨HB, HS⟩, HW, Hk⟩
      iapply (runB c (grid0.coords t) arg2 harg2 arg4 harg4 x (V m c main_arg1) _ (col_inb (t.val / 8)) h1 h2 h3 W K)
      isplitl [H2]; · iexact H2
      isplitl [H4]; · iexact H4
      isplitl [HB]; · iexists _; iexact HB
      isplitl [HS]; · iexact HS
      isplitl [HW]; · iexact HW
      unfold left
      rw [flying_congr c (V m c main_arg1) (off4_eq t h40) _ (col_inb _)]
      iintro ⟨H2, H4, HB, HS, HW⟩
      iapply Hk
      isplitl [H2]; · iexact H2
      isplitl [H4]; · iexact H4
      isplitl [HB HS]
      · isplitl [HB]; · iexact HB
        iexact HS
      iexact HW
    · have h40 : 40 < t.val + 1 := by
        by_contra h; exact h3 ((cond3_iff t).2 (by omega))
      rw [if_pos h40]
      unfold coming kept
      iintro ⟨H2, H4, ⟨HB, HS⟩, HW, Hk⟩
      iapply (runC c (grid0.coords t) arg2 harg2 arg4 harg4 x (V m c main_arg1) _ (col_inb (t.val / 8)) h1 h2 h3 W K)
      isplitl [H2]; · iexact H2
      isplitl [H4]; · iexact H4
      isplitl [HB]; · iexists _; iexact HB
      isplitl [HS]; · iexact HS
      isplitl [HW]; · iexact HW
      unfold left
      iintro ⟨H2, H4, HB, HS, HW⟩
      iapply Hk
      isplitl [H2]; · iexact H2
      isplitl [H4]; · iexact H4
      isplitl [HB HS]
      · isplitl [HB]; · iexact HB
        iexact HS
      iexact HW
  · have hm : ¬t.val % 8 = 0 := fun h => h1 ((cond1_iff t).2 h)
    have ej : (t.val - 1) / 8 = t.val / 8 := by omega
    have e40 : (40 < t.val) = (40 < t.val + 1) := propext ⟨fun h => by omega, fun h => by omega⟩
    rw [ej]
    simp only [e40]
    iintro ⟨H2, H4, ⟨HB, HS⟩, HW, Hk⟩
    iapply (runD c (grid0.coords t) arg2 harg2 arg4 harg4 x (kept m c (t.val / 8)) _ h1 W K)
    isplitl [H2]; · iexact H2
    isplitl [H4]; · iexact H4
    isplitl [HB]; · iexact HB
    isplitl [HS]; · iexact HS
    isplitl [HW]; · iexact HW
    unfold left
    iintro ⟨H2, H4, HB, HS, HW⟩
    iapply Hk
    isplitl [H2]; · iexact H2
    isplitl [H4]; · iexact H4
    isplitl [HB HS]
    · isplitl [HB]; · iexact HB
      iexact HS
    iexact HW

/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0]
  rw [after0_0, after0_1]
  rw [show (dats m 0 c).Φ t.castSucc = iprop((∃ r, prngReg c r) ∗ keep m c t.val) from rfl,
    show (dats m 0 c).Φ t.succ = iprop((∃ r, prngReg c r) ∗ keep m c (t.val + 1)) from rfl]
  unfold Dat.owesAt Pipeline.owesWithin
  rw [show (dats m 0 c).owed t.castSucc = 0 from rfl, show (dats m 0 c).owed t.succ = 0 from rfl]
  iintro ⟨⟨Hg, HK⟩, ⟨%W, -, HW⟩, ⟨%d0, H0⟩, ⟨%d1, H1⟩⟩
  iapply (keep_step m c t W _ (iblk m c 0 t) _ _ _ _)
  isplitl [H0]; · iexact H0
  isplitl [H1]; · iexists _; iexact H1
  isplitl [HK]; · iexact HK
  isplitl [HW]; · iexact HW
  iintro ⟨H0, H1, HK, ⟨%W', HW'⟩⟩
  isplitl [Hg HK]
  · isplitl [Hg]; · iexact Hg
    iexact HK
  isplitl [HW']
  · iexists W'; isplitr; · ipureintro; exact fun _ _ => Or.inl trivial
    iexact HW'
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- @main up to the call, at this algebra. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's own cell. -/
abbrev osem0 : Fin 1 → SemLoc sig := fun _ => SemLoc.dma cc0_scratch2.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch2.sem) 0 := by
  rw [Pipeline.ownSems0_eq_of_list c osem0 [0] (by decide) (by decide)]; rfl
/-- The array the body's transfers read. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = wPt c (V m c main_arg1) := by
  rw [BI.bigSep_eq_bigSepL_of_eq [main_arg1] (by decide) (by decide)]; rfl

theorem PhiD0_eq (c : Dev nD) :
    (Pipeline.ΦD osem0 spec0 H0 (V m) c : sProp 𝕄)
      = iprop(iprop((∃ d, owns (c : Thread nD τ) stM fullShare d) ∗ (∃ d, owns (c : Thread nD τ) wbM fullShare d))
          ∗ (∃ r, prngReg c r) ∗ semVal ((c : Thread nD τ), SemLoc.dma cc0_scratch2.sem) 0 ∗ wPt c (V m c main_arg1)) := by
  rw [Pipeline.ΦD_eq, scopedRest0_eq, ownSems00_eq, hbmPts0_eq]
  simp only [stM, wbM, owns_whole]; try rfl

theorem phi_in (c : Dev nD) : Pipeline.ΦD osem0 spec0 H0 (V m) c ⊢ (dats m 0 c).Φ 0 := by
  rw [PhiD0_eq]
  show _ ⊢ iprop((∃ r, prngReg c r) ∗ keep m c 0)
  unfold keep home
  rw [if_pos rfl]
  iintro ⟨⟨HS, HB⟩, Hg, Hq, Hw⟩
  isplitl [Hg]; · iexact Hg
  isplitl [HB]; · iexact HB
  isplitl [HS]; · iexact HS
  isplitl [Hq]; · iexact Hq
  iexact Hw

theorem phi_out (c : Dev nD) : (dats m 0 c).Φ (Fin.last cfg0.N) ⊢ Pipeline.ΦD osem0 spec0 H0 (V m) c := by
  rw [PhiD0_eq]
  show iprop((∃ r, prngReg c r) ∗ keep m c grid0.N) ⊢ _
  rw [N_0]
  unfold keep home
  rw [if_neg (by decide), if_pos (by decide)]
  iintro ⟨Hg, HB, HS, Hq, Hw⟩
  isplitl [HS HB]
  · isplitl [HS]; · iexact HS
    iexists _; iexact HB
  isplitl [Hg]; · iexact Hg
  isplitl [Hq]; · iexact Hq
  iexact Hw

set_option backward.isDefEq.respectTransparency.types false in
/-- The run: every array ends as the pipeline's data say, the cells at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

/-- The frame: the arguments end as they were, the cells at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (run_main m ρ)

end Cert.Win.Hand

end
-- ==== Proof.WinIdealFrame.lean ====
module

public import proofs.«01_k».proof.Proof.WinFrame
public import proofs.«01_k».proof.Proof.Gen.WinIdeal

/-!
# The program over the reals is the program

The two are one text, so what is proved of the one for every reading of its floats is proved of the other.
-/

@[expose] public section

noncomputable section

namespace Cert.WinIdeal.Hand

open Idealize.ShloMosaic Idealize.ShloMosaic.TcCoe Idealize.SL.Sem

variable {F : FTy → Type} [FloatOps F]

/-- The two tables of bodies agree. -/
theorem bodies_eq : Cert.WinIdeal.defs₀ (F := F) = Cert.Win.defs₀ (F := F) := by
  unfold Cert.WinIdeal.defs₀ Cert.Win.defs₀
  refine congrArg Defs.onTc (funext fun l => funext fun a => ?_)
  rcases l with ⟨_ | _, h⟩
  · rcases a with ⟨_, _⟩
    exact rfl
  · omega

/-- So do the tables with the pipeline's own bodies. -/
theorem defs_eq : Cert.WinIdeal.defs (F := F) = Cert.Win.defs (F := F) := by
  unfold Cert.WinIdeal.defs Cert.Win.defs
  exact congrArg (Pipeline.defs _) bodies_eq

set_option backward.isDefEq.respectTransparency.types false in
/-- The frame: the arguments end as they were, the cells at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.Win.Hand.frame m ρ

end Cert.WinIdeal.Hand
end
-- ==== Proof.WinValue.lean ====
module

public import proofs.«01_k».proof.Proof.WinIdealFrame
public import proofs.«01_k».proof.Proof.Gen.WinRefIdeal.Run
public import Idealize.ShloMosaic.Lib.Pipeline.ValueKit
public import Idealize.ShloMosaic.Lib.Pipeline.ReadBack

/-!
# The input projection equals its reference

Every point of the grid multiplies a tile of tokens by the kept column tile of the weights, and the reference multiplies all
tokens by the whole matrix.
-/

@[expose] public section

set_option maxRecDepth 6144

noncomputable section

namespace Cert.Win.Prod

open Idealize.ShloMosaic Idealize.ShloMosaic.TcCoe Idealize.SL.Sem

section Reference
open Cert.WinRefIdeal Cert.WinRefIdeal.Gen

/-- The reference's result, as a function of the tokens and the weights. -/
def REF (X : FVec Ideal S8192x4096 .bf16) (W : FVec Ideal S4096x6144 .f32) : FVec Ideal S8192x6144 .bf16 :=
  truncf .bf16 (Host.dotGeneral dot_S8192x4096_S4096x6144_S8192x6144_1_0_0_1_n_n none (extf .f32 X bitsLt_bf16_f32) W)
    bitsLt_bf16_f32

/-- The reference's result at token `s`, channel `d`: the product's entry. -/
theorem ref_at (X : FVec Ideal S8192x4096 .bf16) (W : FVec Ideal S4096x6144 .f32) (s : Fin 8192) (d : Fin 6144) :
    REF X W (ix2 s d) = ∑ k : Fin 4096, X (ix2 s k) * W (ix2 k d) := by
  pointwise [REF]

end Reference

section Kernel
open Cert.Win Cert.Win.Gen Cert.Win.Hand

variable (m : (ℓ : Loc nD τ sig) → Buf (Elt Ideal) ℓ)

/-- Where each window's block lies at a grid point: the token tile is the fast axis, the column tile the slow one. -/
theorem idx : ∀ t : Fin cfg0.N, win0_0.index t = ![t.val % 8, 0] ∧ win0_1.index t = ![t.val % 8, t.val / 8] :=
  (by decide +kernel : ∀ t : Fin grid0.N, _)

/-- The block a point writes, at one entry: the token tile's row times the kept block's column. -/
theorem pay_at (x : FVec Ideal S1024x4096 .bf16) (w : FVec Ideal S4096x1024 .bf16) (r l : Fin 1024) :
    (k0_pay2 (F := Ideal) x w (ix2 r l) : EReal) = ∑ k : Fin 4096, x (ix2 r k) * w (ix2 k l) := by
  open_payloads; pointwise

/-- The kept block at one entry is the weights' entry in its column tile. -/
theorem kept_at (c : Dev nD) (j : ℕ) (k : Fin 4096) (l : Fin 1024) (hj : j < 6) :
    kept m c j (ix2 k l) = m ((c : Thread nD τ).loc main_arg1) (ix2 k ⟨1024 * j + l, by omega⟩) := by
  unfold kept wblk
  rw [rnd_at, View.read_apply]
  show V m c main_arg1 _ = _
  have e : (wSl ![0, 1024 * (j % 6)] (col_inb j)).view.emb (ix2 k l) = ix2 k ⟨1024 * j + l, by omega⟩ := by
    funext a; apply Fin.ext
    fin_cases a
    · show 0 + 1 * k.val = k.val
      rw [zero_add, one_mul]
    · show 1024 * (j % 6) + 1 * l.val = 1024 * j + l.val
      rw [Nat.mod_eq_of_lt hj, one_mul]
  rw [e]

/-- The output array after the run is the reference's result. -/
theorem final (c : Dev nD) : (dats m 0 c).arrAt 1 (cfgs 0).N
    = REF (m ((c : Thread nD τ).loc main_arg0)) (m ((c : Thread nD τ).loc main_arg1)) := by
  refine (dats m 0 c).arrAt_eq_of_covers 1 _ (by decide +kernel) fun t _ y => ?_
  blk_simp
  rw [after0_1, eq_ix2 ((win0_1.blk t).view.emb y), eq_ix2 y]
  refine Eq.trans ?_ (ref_at _ _ _ _).symm
  have hj : t.val / 8 < 6 := by have := t.isLt; change t.val < 48 at this; omega
  refine (pay_at _ _ _ _).trans ?_
  refine Finset.sum_congr rfl fun k _ => ?_
  congr 1
  · blk_ext [iblk, V, idx t]
  · refine (kept_at m c _ k (y 1) hj).trans ?_
    refine congrArg _ (congrArg (ix2 k) (Fin.ext ?_))
    refine Eq.trans ?_ (win0_1.rect_emb_val t (ix2 (y 0) (y 1)) 1).symm
    simp [idx t, Nat.mul_comm]

end Kernel
end Cert.Win.Prod

namespace Cert.WinIdeal.Prod

open Idealize.ShloMosaic Idealize.ShloMosaic.TcCoe Idealize.SL.Sem Cert.Win.Prod

set_option backward.isDefEq.respectTransparency.types false in
/-- The program over the reals ends with the reference's result in its output and its arguments as they were. -/
theorem result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = REF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  rw [Hand.defs_eq]
  exact θ_run_mono (θ_run_and (Cert.Win.Hand.run_main m ρ) (Cert.Win.Hand.frame m ρ)) fun r hr c =>
    ⟨((hr.1.1 c).1 1).trans (final m c), hr.2.1 c⟩

end Cert.WinIdeal.Prod
end
-- ==== Proof.UpRuns.lean ====
module

public import proofs.«01_k».proof.Proof.Gen.Up.Launch
public import proofs.«01_k».proof.Proof.Gen.Up.Loops
public import Idealize.ShloMosaic.Lib.Pipeline.FrameBody
public import Idealize.ShloMosaic.Lib.Transfers
public import Idealize.ShloMosaic.Lib.WritesUnit
public import Idealize.ShloMosaic.Lib.VecWindow
public import Idealize.ShloMosaic.Lib.Tactic
public import Idealize.ShloMosaic.Lib.Pointwise
public import Idealize.ShloMosaic.Lib.WordCmp

@[expose] public section

set_option maxRecDepth 16384

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of this proof: the pipeline's, beside the counters of the transfers the body issues. -/
local notation "𝕄" => MT nD τ sig Unit (Elt F) ℕ (Pipeline.UD sig nD τ) ℕ

/-! ## The buffers the body keeps from point to point -/

/-- The buffers a column block of the two weights lands in, and the two blocks rounded to bf16. -/
abbrev stM1 : Memref sig .tc .vmem S4096x512 .f32 := Memref.whole cc0_scratch0
abbrev stM3 : Memref sig .tc .vmem S4096x512 .f32 := Memref.whole cc0_scratch1
abbrev wbM1 : Memref sig .tc .vmem S4096x512 .bf16 := Memref.whole cc0_scratch2
abbrev wbM3 : Memref sig .tc .vmem S4096x512 .bf16 := Memref.whole cc0_scratch3
/-- The weights, left in HBM. -/
abbrev wM1 : Memref sig .tc .hbm S8x4096x4096 .f32 := Memref.whole main_arg7
abbrev wM3 : Memref sig .tc .hbm S8x4096x4096 .f32 := Memref.whole main_arg8
/-- The tables, in SMEM. -/
abbrev teM : Memref sig .tc .smem S40 .i32 := Memref.whole main_arg0
abbrev fiM : Memref sig .tc .smem S40 .i32 := Memref.whole main_arg1
abbrev nxM : Memref sig .tc .smem S40 .i32 := Memref.whole main_arg2
abbrev laM : Memref sig .tc .smem S40 .i32 := Memref.whole main_arg3
abbrev fuM : Memref sig .tc .smem S40 .i32 := Memref.whole main_arg4
abbrev nuM : Memref sig .tc .smem S1 .i32 := Memref.whole main_arg5
/-- The cells the two transfers complete on. -/
abbrev cell1 : SemLoc sig := SemLoc.dma ((cc0_scratch4.slice (Rect.unit (s := S2) ![0] S1.size inb_S2_S1_0)).squeeze S_ squeezes_S1_S_).sem
abbrev cell3 : SemLoc sig := SemLoc.dma ((cc0_scratch4.slice (Rect.unit (s := S2) ![1] S1.size inb_S2_S1_1)).squeeze S_ squeezes_S1_S_).sem

/-- A block of columns, rounded to bf16. -/
abbrev rnd (x : Vec F S4096x512 .f32) : Vec F S4096x512 .bf16 := truncf .bf16 x bitsLt_bf16_f32

theorem rnd_at (x : Vec F S4096x512 .f32) (y : S4096x512.Idx) : rnd x y = FloatOps.truncf .bf16 bitsLt_bf16_f32 (x y) := rfl

/-! ## The state between points -/

/-- 512 columns of one expert's weights, from the offsets `off`. -/
abbrev wSl (M : Memref sig .tc .hbm S8x4096x4096 .f32) (off : Fin 3 → ℕ) (hb : ∀ a, off a + S1x4096x512.size a ≤ S8x4096x4096.size a) :
    Memref sig .tc .hbm S4096x512 .f32 :=
  (M.slice (Rect.unit (s := S8x4096x4096) off S1x4096x512.size hb) (fun _ => rfl)).squeeze S4096x512 squeezes_S1x4096x512_S4096x512

/-- What those columns hold. -/
def wblk (M : Memref sig .tc .hbm S8x4096x4096 .f32) {c : Dev nD} (w : Buf (Elt F) (M.view.loc (c : Thread nD τ))) (off : Fin 3 → ℕ)
    (hb : ∀ a, off a + S1x4096x512.size a ≤ S8x4096x4096.size a) : Vec F S4096x512 .f32 :=
  (wSl M off hb).view.read (Elt F) w

theorem wblk_congr (M : Memref sig .tc .hbm S8x4096x4096 .f32) {c : Dev nD} (w : Buf (Elt F) (M.view.loc (c : Thread nD τ))) {off off' : Fin 3 → ℕ} (h : off = off')
    (hb : ∀ a, off a + S1x4096x512.size a ≤ S8x4096x4096.size a) (hb' : ∀ a, off' a + S1x4096x512.size a ≤ S8x4096x4096.size a) :
    wblk M w off hb = wblk M w off' hb' := by subst h; rfl

/-- A weight held whole, apart from what a transfer has lent. -/
abbrev wPt (M : Memref sig .tc .hbm S8x4096x4096 .f32) (c : Dev nD) (w : Buf (Elt F) (M.view.loc (c : Thread nD τ))) : sProp 𝕄 :=
  M.view.loc (c : Thread nD τ) ↦{fullShare} w

/-- A table, held at half the full share. -/
abbrev tbPt (c : Dev nD) {S : Shape} (M : Memref sig .tc .smem S .i32) (f : Buf (Elt F) (M.view.loc (c : Thread nD τ))) : sProp 𝕄 :=
  M.view.loc (c : Thread nD τ) ↦{fullShare.right} f

/-- No transfer under way on a cell: the landing buffer at anything, the cell at zero, the weights whole. -/
def home (st : Memref sig .tc .vmem S4096x512 .f32) (M : Memref sig .tc .hbm S8x4096x4096 .f32) (q : SemLoc sig) (c : Dev nD)
    (w : Buf (Elt F) (M.view.loc (c : Thread nD τ))) : sProp 𝕄 :=
  iprop((∃ d, owns (c : Thread nD τ) st fullShare d) ∗ semVal ((c : Thread nD τ), q) 0 ∗ wPt M c w)

/-- The columns at `off` on their way into the landing buffer, the rest of the weights at hand. -/
def flying (st : Memref sig .tc .vmem S4096x512 .f32) (M : Memref sig .tc .hbm S8x4096x4096 .f32) (q : SemLoc sig) (c : Dev nD)
    (w : Buf (Elt F) (M.view.loc (c : Thread nD τ))) (off : Fin 3 → ℕ)
    (hb : ∀ a, off a + S1x4096x512.size a ≤ S8x4096x4096.size a) : sProp 𝕄 :=
  iprop(∃ fd, Transfers.Flight countersEmb (c : Thread nD τ) q () 262144
        iprop((st.view.loc (c : Thread nD τ) ↦[st.view.set]{fullShare} fd) ∗ (M.view.loc (c : Thread nD τ) ↦[(wSl M off hb).view.set]{fullShare} w))
      ∗ (M.view.loc (c : Thread nD τ) ↦[Finset.univ \ (wSl M off hb).view.set]{fullShare} w)
      ∗ ⌜st.view.read (Elt F) fd = wblk M w off hb⌝)

theorem flying_congr (st : Memref sig .tc .vmem S4096x512 .f32) (M : Memref sig .tc .hbm S8x4096x4096 .f32) (q : SemLoc sig) (c : Dev nD)
    (w : Buf (Elt F) (M.view.loc (c : Thread nD τ))) {off off' : Fin 3 → ℕ} (h : off = off')
    (hb : ∀ a, off a + S1x4096x512.size a ≤ S8x4096x4096.size a) (hb' : ∀ a, off' a + S1x4096x512.size a ≤ S8x4096x4096.size a) :
    flying st M q c w off hb = flying st M q c w off' hb' := by subst h; rfl

/-! ## The loop that rounds the staged blocks, 128 rows a trip -/

section Loop
variable (c : Dev nD) (i : grid0.Coords) (arg8 : Memref sig .tc .vmem S512x4096 .bf16) (harg8 : arg8.IsWhole)
  (arg11 : Memref sig .tc .vmem S512x512 .bf16) (harg11 : arg11.IsWhole)

/-- One store of a trip rounds the next 128 rows of a staged block and leaves the others. -/
theorem trip_rows (st : Memref sig .tc .vmem S4096x512 .f32) (wb : Memref sig .tc .vmem S4096x512 .bf16)
    (p : Vec F S128x512 .f32 → FVec F S128x512 .bf16) (hp : ∀ v z, p v z = FloatOps.truncf .bf16 bitsLt_bf16_f32 (v z))
    (X : BufTy.Contents (Elt F) st.view.ty) (k : Fin (Scf.trips k0_t1_loop.lb k0_t1_loop.ub k0_t1_loop.st))
    (hk : k.val < 32) (f : BufTy.Contents (Elt F) wb.view.ty)
    (hf : ∀ y : S4096x512.Idx, (y 0).val < 128 * k.val → wb.view.read (Elt F) f y = rnd (st.view.read (Elt F) X) y)
    (y : S4096x512.Idx) (hy : (y 0).val < 128 * (k.val + 1)) :
    wb.view.read (Elt F) (wb.view.writes (Elt F) f
        [⟨Rect.unit (s := S4096x512) (k0_off6 k) S128x512.size (k0_off6_inb k),
            p (View.readAt (Elt F) st.view (Rect.unit (s := S4096x512) (k0_off6 k) S128x512.size (k0_off6_inb k)).toLoadRect X)⟩]) y
      = rnd (st.view.read (Elt F) X) y := by
  by_cases h : (y 0).val < 128 * k.val
  · refine (View.read_writes_cons_rows_of_not_mem wb.view f _ _ [] y (k0_off6_eq k) rfl (.inl h)).trans ?_
    exact hf y h
  · have hx : ∀ a, (![128 * k.val, 0] : Fin 2 → ℕ) a ≤ (y a).val ∧ (y a).val < (![128 * k.val, 0] : Fin 2 → ℕ) a + S128x512.size a := by
      have h1 := (y 1).isLt
      intro a
      fin_cases a
      · exact ⟨Nat.le_of_not_lt h, by show (y 0).val < 128 * k.val + 128; omega⟩
      · exact ⟨Nat.zero_le _, by show (y 1).val < 0 + 512; exact (by simpa using h1 : (y 1).val < 512) |>.trans_eq (Nat.zero_add _).symm⟩
    refine (View.read_writes_cons_unit_of_mem wb.view f _ _ [] y (show (Rect.unit (s := S4096x512) (k0_off6 k) S128x512.size (k0_off6_inb k)).shape.Idx from Rect.unitLocal (s := S4096x512) (off := ![128 * k.val, 0]) (size := S128x512.size) y hx) (k0_off6_eq k) fun a => ?_).trans ?_
    · have := hx a
      rw [Rect.unitLocal_val]; omega
    · rw [hp, rnd_at, View.readAt_apply]
      refine congrArg (FloatOps.truncf .bf16 bitsLt_bf16_f32) (congrArg (st.view.read (Elt F) X) (funext fun a => Fin.ext ?_))
      have := hx a
      have e : k0_off6 k a = (![128 * k.val, 0] : Fin 2 → ℕ) a := congrFun (k0_off6_eq k) a
      show k0_off6 k a + 1 * ((y a).val - (![128 * k.val, 0] : Fin 2 → ℕ) a) = (y a).val
      omega

theorem pay1_at (v : Vec F S128x512 .f32) (z : S128x512.Idx) : k0_pay1 v z = FloatOps.truncf .bf16 bitsLt_bf16_f32 (v z) := by
  simp only [k0_pay1, shapeCast_id]; rfl
theorem pay2_at (v : Vec F S128x512 .f32) (z : S128x512.Idx) : k0_pay2 v z = FloatOps.truncf .bf16 bitsLt_bf16_f32 (v z) := by
  simp only [k0_pay2, shapeCast_id]; rfl

/-- Before trip `k` the first `128 * k` rows of both blocks are rounded. -/
def loopPre (X1 : Buf (Elt F) (stM1.view.loc (c : Thread nD τ))) (X3 : Buf (Elt F) (stM3.view.loc (c : Thread nD τ))) (k : ℕ) : sProp 𝕄 :=
  iprop((stM1.view.loc (c : Thread nD τ) ↦[stM1.view.set]{fullShare} X1) ∗ (stM3.view.loc (c : Thread nD τ) ↦[stM3.view.set]{fullShare} X3)
    ∗ (∃ f, (wbM1.view.loc (c : Thread nD τ) ↦[wbM1.view.set]{fullShare} f)
        ∗ ⌜∀ y : S4096x512.Idx, (y 0).val < 128 * k → wbM1.view.read (Elt F) f y = rnd (stM1.view.read (Elt F) X1) y⌝)
    ∗ (∃ f, (wbM3.view.loc (c : Thread nD τ) ↦[wbM3.view.set]{fullShare} f)
        ∗ ⌜∀ y : S4096x512.Idx, (y 0).val < 128 * k → wbM3.view.read (Elt F) f y = rnd (stM3.view.read (Elt F) X3) y⌝))

set_option warn.classDefReducibility false in
@[sl_loop] def loopInv (𝒱 : Variants) (bd : Option 𝒱.V) (E : Set ℕ) (X1 : Buf (Elt F) (stM1.view.loc (c : Thread nD τ)))
    (X3 : Buf (Elt F) (stM3.view.loc (c : Thread nD τ))) :
    LoopInvTy_k0_t1 (F := F) Unit ℕ (Pipeline.UD sig nD τ) ℕ 𝒱 c bd E i teM (Memref.isWhole_whole _) fiM (Memref.isWhole_whole _) nxM (Memref.isWhole_whole _)
      laM (Memref.isWhole_whole _) fuM (Memref.isWhole_whole _) nuM (Memref.isWhole_whole _) arg8 harg8 wM1 (Memref.isWhole_whole _) wM3 (Memref.isWhole_whole _)
      arg11 harg11 stM1 (Memref.isWhole_whole _) stM3 (Memref.isWhole_whole _) wbM1 (Memref.isWhole_whole _) wbM3 (Memref.isWhole_whole _) cc0_scratch4 where
  inv k _ := loopPre c X1 X3 k
  step k acc := by
    have hk : k.val < 32 := Nat.lt_of_lt_of_le k.isLt k0_t1_abs.2.1
    unfold loopPre
    iintro ⟨HX1, HX3, ⟨%f1, HW1, %hf1⟩, ⟨%f3, HW3, %hf3⟩⟩
    unfold k0_t1_body
    sl_exec
    sl_step
    isplitl [HX1]; · iexact HX1
    isplitl [HX3]; · iexact HX3
    isplitl [HW1]
    · iexists _; isplitl [HW1]; · iexact HW1
      ipureintro
      intro y hy
      exact trip_rows stM1 wbM1 k0_pay1 pay1_at _ k hk _ hf1 _ hy
    iexists _; isplitl [HW3]; · iexact HW3
    ipureintro
    intro y hy
    exact trip_rows stM3 wbM3 k0_pay2 pay2_at _ k hk _ hf3 _ hy

end Loop

theorem trips_eq : 4096 ≤ 128 * Scf.trips k0_t1_loop.lb k0_t1_loop.ub k0_t1_loop.st := by decide +kernel

/-- After the loop a whole block is rounded. -/
theorem all_rows {wb : Memref sig .tc .vmem S4096x512 .bf16} {f : BufTy.Contents (Elt F) wb.view.ty} {v : Vec F S4096x512 .f32}
    (h : ∀ y : S4096x512.Idx, (y 0).val < 128 * Scf.trips k0_t1_loop.lb k0_t1_loop.ub k0_t1_loop.st →
      wb.view.read (Elt F) f y = rnd v y) : wb.view.read (Elt F) f = rnd v :=
  funext fun y => h y (lt_of_lt_of_le (y 0).isLt trips_eq)

/-- A landing buffer reads what landed last. -/
theorem read_last (st : Memref sig .tc .vmem S4096x512 .f32) (f : BufTy.Contents (Elt F) st.view.ty) (v : Vec F S4096x512 .f32)
    (L : List (View.Piece (Elt F) S4096x512 .f32)) :
    st.view.read (Elt F) (st.view.writes (Elt F) f (⟨Rect.whole S4096x512, v⟩ :: L)) = v := by
  rw [← List.singleton_append, View.writes_append]
  exact View.read_writes_whole st.view _ v

/-! ## The words the body loads -/

/-- The word of a table of 40 at the offsets `off`. -/
abbrev word {c : Dev nD} (M : Memref sig .tc .smem S40 .i32) (f : Buf (Elt F) (M.view.loc (c : Thread nD τ))) (off : Fin 1 → ℕ)
    (hb : ∀ a, off a + S1.size a ≤ S40.size a) : Elt F .i32 :=
  M.view.readAt (Elt F) (Rect.unit (s := S40) off S1.size hb).toLoadRect f (Shape.Idx.first (numel1_S1.symm ▸ Nat.one_pos))
/-- The word of the table of one. -/
abbrev word1 {c : Dev nD} (M : Memref sig .tc .smem S1 .i32) (f : Buf (Elt F) (M.view.loc (c : Thread nD τ))) : Elt F .i32 :=
  M.view.readAt (Elt F) (Rect.unit (s := S1) ![0] S1.size inb_S1_S1_0).toLoadRect f (Shape.Idx.first (numel1_S1.symm ▸ Nat.one_pos))

section Run
variable (c : Dev nD) (i : grid0.Coords) (arg8 : Memref sig .tc .vmem S512x4096 .bf16) (harg8 : arg8.IsWhole)
  (arg11 : Memref sig .tc .vmem S512x512 .bf16) (harg11 : arg11.IsWhole)
  (x : Vec F S512x4096 .bf16) (w1 : Buf (Elt F) (wM1.view.loc (c : Thread nD τ))) (w3 : Buf (Elt F) (wM3.view.loc (c : Thread nD τ)))
  (te : Buf (Elt F) (teM.view.loc (c : Thread nD τ))) (fi : Buf (Elt F) (fiM.view.loc (c : Thread nD τ)))
  (nx : Buf (Elt F) (nxM.view.loc (c : Thread nD τ))) (la : Buf (Elt F) (laM.view.loc (c : Thread nD τ)))
  (fu : Buf (Elt F) (fuM.view.loc (c : Thread nD τ))) (nu : Buf (Elt F) (nuM.view.loc (c : Thread nD τ)))

/-- The body at the operands of one point. -/
abbrev body : Prog (TpuEff nD τ sig (Elt F) Λ₀ .tc) PUnit :=
  cc0_moe_up i teM (Memref.isWhole_whole _) fiM (Memref.isWhole_whole _) nxM (Memref.isWhole_whole _)
      laM (Memref.isWhole_whole _) fuM (Memref.isWhole_whole _) nuM (Memref.isWhole_whole _) arg8 harg8 wM1 (Memref.isWhole_whole _) wM3 (Memref.isWhole_whole _)
      arg11 harg11 stM1 (Memref.isWhole_whole _) stM3 (Memref.isWhole_whole _) wbM1 (Memref.isWhole_whole _) wbM3 (Memref.isWhole_whole _) cc0_scratch4

/-- The tables, all six. -/
def tabs : sProp 𝕄 :=
  iprop(tbPt c teM te ∗ tbPt c fiM fi ∗ tbPt c nxM nx ∗ tbPt c laM la ∗ tbPt c fuM fu ∗ tbPt c nuM nu)

/-- The first 256 rows of a block of tokens. -/
def xTop (x : Vec F S512x4096 .bf16) : Vec F S256x4096 .bf16 :=
  fun z => x (ix2 (⟨(z 0).val, lt_trans (z 0).isLt (by decide)⟩ : Fin 512) (⟨(z 1).val, (z 1).isLt⟩ : Fin 4096))
/-- An index of the first 256 rows, and one of the others counted from 256. -/
def upper (y : S512x512.Idx) (h : (y 0).val < 256) : S256x512.Idx := ix2 (⟨(y 0).val, h⟩ : Fin 256) (⟨(y 1).val, (y 1).isLt⟩ : Fin 512)
def lower (y : S512x512.Idx) (h : ¬(y 0).val < 256) : S256x512.Idx :=
  ix2 (⟨(y 0).val - 256, by have : (y 0).val < 512 := (y 0).isLt; omega⟩ : Fin 256) (⟨(y 1).val, (y 1).isLt⟩ : Fin 512)

/-- The block a point leaves: all its rows, its first 256 and zeros, or zeros, as the tables say. -/
def pay (x : Vec F S512x4096 .bf16) (b1 b3 : Vec F S4096x512 .bf16) (u f : BitVec 32) : Vec F S512x512 .bf16 :=
  if k0_cond5 i u f = 1#1 then k0_pay3 x b1 b3
  else if k0_cond6 i u f = 1#1 then fun y => if h : (y 0).val < 256 then k0_pay4 (xTop x) b1 b3 (upper y h) else k0_pay5 (lower y h)
  else k0_pay6

/-- One and only one of the three ways of storing applies. -/
def OneWay (u f : BitVec 32) : Prop :=
  (k0_cond5 i u f = 1#1 ∧ ¬k0_cond6 i u f = 1#1 ∧ ¬k0_cond7 i u = 1#1)
  ∨ (¬k0_cond5 i u f = 1#1 ∧ k0_cond6 i u f = 1#1 ∧ ¬k0_cond7 i u = 1#1)
  ∨ (¬k0_cond5 i u f = 1#1 ∧ ¬k0_cond6 i u f = 1#1 ∧ k0_cond7 i u = 1#1)

/-- The result's buffer reads the block the tables call for, its operands the buffers' contents. -/
theorem read_out {f8 : BufTy.Contents (Elt F) arg8.view.ty} {f11 : BufTy.Contents (Elt F) arg11.view.ty} {f14 : BufTy.Contents (Elt F) wbM1.view.ty}
    {f15 : BufTy.Contents (Elt F) wbM3.view.ty} {b1 b3 : Vec F S4096x512 .bf16} {u f : BitVec 32} (ho : OneWay i u f)
    (h8 : arg8.view.read (Elt F) f8 = x) (h14 : wbM1.view.read (Elt F) f14 = b1) (h15 : wbM3.view.read (Elt F) f15 = b3) :
    arg11.view.read (Elt F) (if hc : k0_cond7 i u = 1#1 then
      arg11.view.writes (Elt F)
        (if hc : k0_cond6 i u f = 1#1 then
          arg11.view.writes (Elt F)
            (if hc : k0_cond5 i u f = 1#1 then
              arg11.view.writes (Elt F) f11
                [⟨Rect.unit (s := S512x512) ![0, 0] S512x512.size inb_S512x512_S512x512_0_0,
                    k0_pay3
                      (View.readAt (Elt F) arg8.view
                        (Rect.unit (s := S512x4096) ![0, 0] S512x4096.size inb_S512x4096_S512x4096_0_0).toLoadRect f8)
                      (View.readAt (Elt F) wbM1.view
                        (Rect.unit (s := S4096x512) ![0, 0] S4096x512.size inb_S4096x512_S4096x512_0_0).toLoadRect f14)
                      (View.readAt (Elt F) wbM3.view
                        (Rect.unit (s := S4096x512) ![0, 0] S4096x512.size inb_S4096x512_S4096x512_0_0).toLoadRect f15)⟩]
            else f11)
            [⟨Rect.unit (s := S512x512) ![256, 0] S256x512.size inb_S512x512_S256x512_256_0, k0_pay5⟩,
              ⟨Rect.unit (s := S512x512) ![0, 0] S256x512.size inb_S512x512_S256x512_0_0,
                k0_pay4
                  (View.readAt (Elt F) arg8.view
                    (Rect.unit (s := S512x4096) ![0, 0] S256x4096.size inb_S512x4096_S256x4096_0_0).toLoadRect f8)
                  (View.readAt (Elt F) wbM1.view
                    (Rect.unit (s := S4096x512) ![0, 0] S4096x512.size inb_S4096x512_S4096x512_0_0).toLoadRect f14)
                  (View.readAt (Elt F) wbM3.view
                    (Rect.unit (s := S4096x512) ![0, 0] S4096x512.size inb_S4096x512_S4096x512_0_0).toLoadRect f15)⟩]
        else
          if hc : k0_cond5 i u f = 1#1 then
            arg11.view.writes (Elt F) f11
              [⟨Rect.unit (s := S512x512) ![0, 0] S512x512.size inb_S512x512_S512x512_0_0,
                  k0_pay3
                    (View.readAt (Elt F) arg8.view
                      (Rect.unit (s := S512x4096) ![0, 0] S512x4096.size inb_S512x4096_S512x4096_0_0).toLoadRect f8)
                    (View.readAt (Elt F) wbM1.view
                      (Rect.unit (s := S4096x512) ![0, 0] S4096x512.size inb_S4096x512_S4096x512_0_0).toLoadRect f14)
                    (View.readAt (Elt F) wbM3.view
                      (Rect.unit (s := S4096x512) ![0, 0] S4096x512.size inb_S4096x512_S4096x512_0_0).toLoadRect f15)⟩]
          else f11)
        [⟨Rect.unit (s := S512x512) ![0, 0] S512x512.size inb_S512x512_S512x512_0_0, k0_pay6⟩]
    else
      if hc : k0_cond6 i u f = 1#1 then
        arg11.view.writes (Elt F)
          (if hc : k0_cond5 i u f = 1#1 then
            arg11.view.writes (Elt F) f11
              [⟨Rect.unit (s := S512x512) ![0, 0] S512x512.size inb_S512x512_S512x512_0_0,
                  k0_pay3
                    (View.readAt (Elt F) arg8.view
                      (Rect.unit (s := S512x4096) ![0, 0] S512x4096.size inb_S512x4096_S512x4096_0_0).toLoadRect f8)
                    (View.readAt (Elt F) wbM1.view
                      (Rect.unit (s := S4096x512) ![0, 0] S4096x512.size inb_S4096x512_S4096x512_0_0).toLoadRect f14)
                    (View.readAt (Elt F) wbM3.view
                      (Rect.unit (s := S4096x512) ![0, 0] S4096x512.size inb_S4096x512_S4096x512_0_0).toLoadRect f15)⟩]
          else f11)
          [⟨Rect.unit (s := S512x512) ![256, 0] S256x512.size inb_S512x512_S256x512_256_0, k0_pay5⟩,
            ⟨Rect.unit (s := S512x512) ![0, 0] S256x512.size inb_S512x512_S256x512_0_0,
              k0_pay4
                (View.readAt (Elt F) arg8.view (Rect.unit (s := S512x4096) ![0, 0] S256x4096.size inb_S512x4096_S256x4096_0_0).toLoadRect f8)
                (View.readAt (Elt F) wbM1.view (Rect.unit (s := S4096x512) ![0, 0] S4096x512.size inb_S4096x512_S4096x512_0_0).toLoadRect f14)
                (View.readAt (Elt F) wbM3.view (Rect.unit (s := S4096x512) ![0, 0] S4096x512.size inb_S4096x512_S4096x512_0_0).toLoadRect f15)⟩]
      else
        if hc : k0_cond5 i u f = 1#1 then
          arg11.view.writes (Elt F) f11
            [⟨Rect.unit (s := S512x512) ![0, 0] S512x512.size inb_S512x512_S512x512_0_0,
                k0_pay3
                  (View.readAt (Elt F) arg8.view (Rect.unit (s := S512x4096) ![0, 0] S512x4096.size inb_S512x4096_S512x4096_0_0).toLoadRect f8)
                  (View.readAt (Elt F) wbM1.view (Rect.unit (s := S4096x512) ![0, 0] S4096x512.size inb_S4096x512_S4096x512_0_0).toLoadRect f14)
                  (View.readAt (Elt F) wbM3.view (Rect.unit (s := S4096x512) ![0, 0] S4096x512.size inb_S4096x512_S4096x512_0_0).toLoadRect f15)⟩]
        else f11)
      = pay i x b1 b3 u f := by
  subst h8; subst h14; subst h15
  have e14 := View.readAt_full wbM1.view f14 inb_S4096x512_S4096x512_0_0
  have e15 := View.readAt_full wbM3.view f15 inb_S4096x512_S4096x512_0_0
  rcases ho with ⟨h5, h6, h7⟩ | ⟨h5, h6, h7⟩ | ⟨h5, h6, h7⟩
  · rw [dif_neg h7, dif_neg h6, dif_pos h5]
    unfold pay
    rw [if_pos h5]
    refine (View.read_writes_full arg11.view f11 _ _ _).trans ?_
    rw [e14, e15]
    exact congrArg (fun v => k0_pay3 v _ _) (View.readAt_full arg8.view f8 _)
  · rw [dif_neg h7, dif_pos h6, dif_neg h5]
    unfold pay
    rw [if_neg h5, if_pos h6, e14, e15]
    funext y
    have hy0 : (y 0).val < 512 := (y 0).isLt
    have hy1 : (y 1).val < 512 := (y 1).isLt
    by_cases h : (y 0).val < 256
    · rw [dif_pos h]
      refine (View.read_writes_cons_rows_of_not_mem (o := 256) (W := 256) arg11.view f11 _ _ _ y rfl rfl (.inl h)).trans ?_
      refine (View.read_writes_cons_unit_of_mem arg11.view f11 _ _ [] y (upper y h) rfl fun a => ?_).trans ?_
      · match a with
        | ⟨0, _⟩ => exact (Nat.zero_add _).symm
        | ⟨1, _⟩ => exact (Nat.zero_add _).symm
      · have e8 : View.readAt (Elt F) arg8.view (Rect.unit (s := S512x4096) ![0, 0] S256x4096.size inb_S512x4096_S256x4096_0_0).toLoadRect f8
            = xTop (arg8.view.read (Elt F) f8) := by
          funext z
          rw [View.readAt_apply]
          refine congrArg (arg8.view.read (Elt F) f8) (funext fun a => Fin.ext ?_)
          match a with
          | ⟨0, _⟩ => show 0 + 1 * (z 0).val = (z 0).val; omega
          | ⟨1, _⟩ => show 0 + 1 * (z 1).val = (z 1).val; omega
        rw [e8]
    · rw [dif_neg h]
      refine View.read_writes_cons_unit_of_mem arg11.view f11 _ _ _ y (lower y h) rfl fun a => ?_
      match a with
      | ⟨0, _⟩ => show (y 0).val = 256 + ((y 0).val - 256); omega
      | ⟨1, _⟩ => exact (Nat.zero_add _).symm
  · rw [dif_pos h7]
    unfold pay
    rw [if_neg h5, if_neg h6]
    exact View.read_writes_full arg11.view _ _ _ _

/-- What a point leaves, the kept blocks being `b1` and `b3`. -/
def left (b1 b3 : Vec F S4096x512 .bf16) (S : sProp 𝕄) : sProp 𝕄 :=
  iprop(owns (c : Thread nD τ) arg8 fullShare x ∗ owns (c : Thread nD τ) arg11 fullShare (pay i x b1 b3 (word1 nuM nu) (word fuM fu (k0_off12 i) (k0_off12_inb i)))
    ∗ owns (c : Thread nD τ) wbM1 fullShare b1 ∗ owns (c : Thread nD τ) wbM3 fullShare b3 ∗ S ∗ tabs c te fi nx la fu nu ∗ (∃ W', owes (c : Thread nD τ) 0 W'))

/-- Both transfers at rest, and both under way from one offset. -/
def home2 : sProp 𝕄 := iprop(home stM1 wM1 cell1 c w1 ∗ home stM3 wM3 cell3 c w3)
def flying2 (off : Fin 3 → ℕ) (hb : ∀ a, off a + S1x4096x512.size a ≤ S8x4096x4096.size a) : sProp 𝕄 :=
  iprop(flying stM1 wM1 cell1 c w1 off hb ∗ flying stM3 wM3 cell3 c w3 off hb)

/-- A point that shares the blocks rounded before it, or uses none. -/
theorem runE (b1 b3 : Vec F S4096x512 .bf16) (S : sProp 𝕄) (h1 : ¬k0_cond1 i (word1 nuM nu) (word fiM fi (k0_off1 i) (k0_off1_inb i)) = 1#1)
    (ho : OneWay i (word1 nuM nu) (word fuM fu (k0_off12 i) (k0_off12_inb i))) (W : Waits sig Unit) (K : PUnit → sProp 𝕄) :
    iprop(owns (c : Thread nD τ) arg8 fullShare x ∗ (∃ d, owns (c : Thread nD τ) arg11 fullShare d)
        ∗ owns (c : Thread nD τ) wbM1 fullShare b1 ∗ owns (c : Thread nD τ) wbM3 fullShare b3 ∗ S ∗ tabs c te fi nx la fu nu ∗ owes (c : Thread nD τ) 0 W
        ∗ (left c i arg8 arg11 x te fi nx la fu nu b1 b3 S -∗ K ⟨⟩))
      ⊢ wp frame (wpE (defs₀ (F := F)) Variants.none c none) Set.univ (body i arg8 harg8 arg11 harg11) K := by
  unfold body
  rw [cc0_moe_up_eq_skeleton]; unfold cc0_moe_up_skel
  unfold owns tabs
  iintro ⟨⟨%f8, %e8, H8⟩, ⟨%d11, %f11, -, H11⟩, ⟨%f14, %e14, H14⟩, ⟨%f15, %e15, H15⟩, HS, ⟨HT0, HT1, HT2, HT3, HT4, HT5⟩, HW, Hk⟩
  dsimp only [word, word1] at h1
  sl_exec
  sl_step
  iapply Hk
  unfold left owns tabs
  isplitl [H8]
  · iexists _; isplitr; swap; · iexact H8
    ipureintro; exact e8
  isplitl [H11]
  · iexists _; isplitr; swap; · iexact H11
    ipureintro; exact read_out i arg8 arg11 x ho e8 e14 e15
  isplitl [H14]
  · iexists _; isplitr; swap; · iexact H14
    ipureintro; exact e14
  isplitl [H15]
  · iexists _; isplitr; swap; · iexact H15
    ipureintro; exact e15
  isplitl [HS]; · iexact HS
  isplitl [HT0 HT1 HT2 HT3 HT4 HT5]
  · isplitl [HT0]; · iexact HT0
    isplitl [HT1]; · iexact HT1
    isplitl [HT2]; · iexact HT2
    isplitl [HT3]; · iexact HT3
    isplitl [HT4]; · iexact HT4
    iexact HT5
  iexists _; iexact HW

/-- The first point, more experts to come: the blocks come in and are rounded, the next expert's are sent for. -/
theorem runA3 (h1 : k0_cond1 i (word1 nuM nu) (word fiM fi (k0_off1 i) (k0_off1_inb i)) = 1#1) (h2 : k0_cond2 i = 1#1)
    (hb3 : (∀ a, k0_off3 i (word teM te (k0_off2 i) (k0_off2_inb i h2)) a + S1x4096x512.size a ≤ S8x4096x4096.size a))
    (hb5 : (∀ a, k0_off5 i (word teM te (k0_off4 i) (k0_off4_inb i)) a + S1x4096x512.size a ≤ S8x4096x4096.size a))
    (h3 : k0_cond3 (word laM la (k0_off7 i) (k0_off7_inb i)) = 1#1) (h4 : ¬k0_cond4 i (word laM la (k0_off7 i) (k0_off7_inb i)) = 1#1)
    (hb9 : (∀ a, k0_off9 i (word nxM nx (k0_off8 i) (k0_off8_inb i)) a + S1x4096x512.size a ≤ S8x4096x4096.size a))
    (ho : OneWay i (word1 nuM nu) (word fuM fu (k0_off12 i) (k0_off12_inb i))) (W : Waits sig Unit) (K : PUnit → sProp 𝕄) :
    iprop(owns (c : Thread nD τ) arg8 fullShare x ∗ (∃ d, owns (c : Thread nD τ) arg11 fullShare d)
        ∗ (∃ d, owns (c : Thread nD τ) wbM1 fullShare d) ∗ (∃ d, owns (c : Thread nD τ) wbM3 fullShare d) ∗ home2 c w1 w3 ∗ tabs c te fi nx la fu nu ∗ owes (c : Thread nD τ) 0 W
        ∗ (left c i arg8 arg11 x te fi nx la fu nu (rnd (wblk wM1 w1 (k0_off3 i (word teM te (k0_off2 i) (k0_off2_inb i h2))) hb3)) (rnd (wblk wM3 w3 (k0_off3 i (word teM te (k0_off2 i) (k0_off2_inb i h2))) hb3)) (flying2 c w1 w3 (k0_off9 i (word nxM nx (k0_off8 i) (k0_off8_inb i))) hb9) -∗ K ⟨⟩))
      ⊢ wp frame (wpE (defs₀ (F := F)) Variants.none c none) Set.univ (body i arg8 harg8 arg11 harg11) K := by
  unfold body
  rw [cc0_moe_up_eq_skeleton]; unfold cc0_moe_up_skel
  unfold home2 home owns tabs
  iintro ⟨⟨%f8, %e8, H8⟩, ⟨%d11, %f11, -, H11⟩, ⟨%d14, %f14, -, H14⟩, ⟨%d15, %f15, -, H15⟩, ⟨⟨⟨%d12, %f12, -, H12⟩, Hq1, Hw1⟩, ⟨⟨%d13, %f13, -, H13⟩, Hq3, Hw3⟩⟩, ⟨HT0, HT1, HT2, HT3, HT4, HT5⟩, HW, Hk⟩
  have hw1 : k0_chk1 i (word1 nuM nu) (word fiM fi (k0_off1 i) (k0_off1_inb i)) (word teM te (k0_off2 i) (k0_off2_inb i h2)) := fun _ _ => hb3
  have hw2 : k0_chk2 i (word1 nuM nu) (word fiM fi (k0_off1 i) (k0_off1_inb i)) (word teM te (k0_off4 i) (k0_off4_inb i)) := fun _ => hb5
  have hw3 : k0_chk3 i (word1 nuM nu) (word fiM fi (k0_off1 i) (k0_off1_inb i)) (word laM la (k0_off7 i) (k0_off7_inb i)) (word nxM nx (k0_off8 i) (k0_off8_inb i)) := fun _ _ => hb9
  dsimp only [word, word1] at h1 hw1 hw2 h3 h4 hw3
  sl_exec (disch := first | sl_exact hw1 | sl_exact hw2 | sl_exact hw3)
  sl_step
  have hr1 := all_rows hL3
  have hr3 := all_rows hL5
  rw [View.read_writes_whole] at hr1 hr3
  iapply Hk
  unfold left flying2 flying owns tabs
  isplitl [H8]
  · iexists _; isplitr; swap; · iexact H8
    ipureintro; exact e8
  isplitl [H11]
  · iexists _; isplitr; swap; · iexact H11
    ipureintro; exact read_out i arg8 arg11 x ho e8 hr1 hr3
  isplitl [H14]
  · iexists _; isplitr; swap; · iexact H14
    ipureintro; exact hr1
  isplitl [H15]
  · iexists _; isplitr; swap; · iexact H15
    ipureintro; exact hr3
  isplitl [Hq1 Hw1 Hq3 Hw3]
  · isplitl [Hq1 Hw1]
    · iexists _
      isplitl [Hq1]; · iexact Hq1
      isplitl [Hw1]; · iexact Hw1
      ipureintro; refine (read_last stM1 _ _ _).trans ?_; rfl
    iexists _
    isplitl [Hq3]; · iexact Hq3
    isplitl [Hw3]; · iexact Hw3
    ipureintro; refine (read_last stM3 _ _ _).trans ?_; rfl
  isplitl [HT0 HT1 HT2 HT3 HT4 HT5]
  · isplitl [HT0]; · iexact HT0
    isplitl [HT1]; · iexact HT1
    isplitl [HT2]; · iexact HT2
    isplitl [HT3]; · iexact HT3
    isplitl [HT4]; · iexact HT4
    iexact HT5
  iexists _; iexact HW

/-- The first point, one expert only: the blocks come in and are rounded, the next column's are sent for. -/
theorem runA4 (h1 : k0_cond1 i (word1 nuM nu) (word fiM fi (k0_off1 i) (k0_off1_inb i)) = 1#1) (h2 : k0_cond2 i = 1#1)
    (hb3 : (∀ a, k0_off3 i (word teM te (k0_off2 i) (k0_off2_inb i h2)) a + S1x4096x512.size a ≤ S8x4096x4096.size a))
    (hb5 : (∀ a, k0_off5 i (word teM te (k0_off4 i) (k0_off4_inb i)) a + S1x4096x512.size a ≤ S8x4096x4096.size a))
    (h3 : ¬k0_cond3 (word laM la (k0_off7 i) (k0_off7_inb i)) = 1#1) (h4 : k0_cond4 i (word laM la (k0_off7 i) (k0_off7_inb i)) = 1#1)
    (hb11 : (∀ a, k0_off11 i (word nxM nx (k0_off10 i) (k0_off10_inb i)) a + S1x4096x512.size a ≤ S8x4096x4096.size a))
    (ho : OneWay i (word1 nuM nu) (word fuM fu (k0_off12 i) (k0_off12_inb i))) (W : Waits sig Unit) (K : PUnit → sProp 𝕄) :
    iprop(owns (c : Thread nD τ) arg8 fullShare x ∗ (∃ d, owns (c : Thread nD τ) arg11 fullShare d)
        ∗ (∃ d, owns (c : Thread nD τ) wbM1 fullShare d) ∗ (∃ d, owns (c : Thread nD τ) wbM3 fullShare d) ∗ home2 c w1 w3 ∗ tabs c te fi nx la fu nu ∗ owes (c : Thread nD τ) 0 W
        ∗ (left c i arg8 arg11 x te fi nx la fu nu (rnd (wblk wM1 w1 (k0_off3 i (word teM te (k0_off2 i) (k0_off2_inb i h2))) hb3)) (rnd (wblk wM3 w3 (k0_off3 i (word teM te (k0_off2 i) (k0_off2_inb i h2))) hb3)) (flying2 c w1 w3 (k0_off11 i (word nxM nx (k0_off10 i) (k0_off10_inb i))) hb11) -∗ K ⟨⟩))
      ⊢ wp frame (wpE (defs₀ (F := F)) Variants.none c none) Set.univ (body i arg8 harg8 arg11 harg11) K := by
  unfold body
  rw [cc0_moe_up_eq_skeleton]; unfold cc0_moe_up_skel
  unfold home2 home owns tabs
  iintro ⟨⟨%f8, %e8, H8⟩, ⟨%d11, %f11, -, H11⟩, ⟨%d14, %f14, -, H14⟩, ⟨%d15, %f15, -, H15⟩, ⟨⟨⟨%d12, %f12, -, H12⟩, Hq1, Hw1⟩, ⟨⟨%d13, %f13, -, H13⟩, Hq3, Hw3⟩⟩, ⟨HT0, HT1, HT2, HT3, HT4, HT5⟩, HW, Hk⟩
  have hw1 : k0_chk1 i (word1 nuM nu) (word fiM fi (k0_off1 i) (k0_off1_inb i)) (word teM te (k0_off2 i) (k0_off2_inb i h2)) := fun _ _ => hb3
  have hw2 : k0_chk2 i (word1 nuM nu) (word fiM fi (k0_off1 i) (k0_off1_inb i)) (word teM te (k0_off4 i) (k0_off4_inb i)) := fun _ => hb5
  have hw4 : k0_chk4 i (word1 nuM nu) (word fiM fi (k0_off1 i) (k0_off1_inb i)) (word laM la (k0_off7 i) (k0_off7_inb i)) (word nxM nx (k0_off10 i) (k0_off10_inb i)) := fun _ _ => hb11
  dsimp only [word, word1] at h1 hw1 hw2 h3 h4 hw4
  sl_exec (disch := first | sl_exact hw1 | sl_exact hw2 | sl_exact hw4)
  sl_step
  have hr1 := all_rows hL3
  have hr3 := all_rows hL5
  rw [View.read_writes_whole] at hr1 hr3
  iapply Hk
  unfold left flying2 flying owns tabs
  isplitl [H8]
  · iexists _; isplitr; swap; · iexact H8
    ipureintro; exact e8
  isplitl [H11]
  · iexists _; isplitr; swap; · iexact H11
    ipureintro; exact read_out i arg8 arg11 x ho e8 hr1 hr3
  isplitl [H14]
  · iexists _; isplitr; swap; · iexact H14
    ipureintro; exact hr1
  isplitl [H15]
  · iexists _; isplitr; swap; · iexact H15
    ipureintro; exact hr3
  isplitl [Hq1 Hw1 Hq3 Hw3]
  · isplitl [Hq1 Hw1]
    · iexists _
      isplitl [Hq1]; · iexact Hq1
      isplitl [Hw1]; · iexact Hw1
      ipureintro; refine (read_last stM1 _ _ _).trans ?_; rfl
    iexists _
    isplitl [Hq3]; · iexact Hq3
    isplitl [Hw3]; · iexact Hw3
    ipureintro; refine (read_last stM3 _ _ _).trans ?_; rfl
  isplitl [HT0 HT1 HT2 HT3 HT4 HT5]
  · isplitl [HT0]; · iexact HT0
    isplitl [HT1]; · iexact HT1
    isplitl [HT2]; · iexact HT2
    isplitl [HT3]; · iexact HT3
    isplitl [HT4]; · iexact HT4
    iexact HT5
  iexists _; iexact HW

/-- An expert's first point, not the last expert's: the blocks on their way come in and are rounded, the next expert's are sent for. -/
theorem runB3 (h1 : k0_cond1 i (word1 nuM nu) (word fiM fi (k0_off1 i) (k0_off1_inb i)) = 1#1) (h2 : ¬k0_cond2 i = 1#1)
    (off : Fin 3 → ℕ) (hb : ∀ a, off a + S1x4096x512.size a ≤ S8x4096x4096.size a)
    (hb5 : (∀ a, k0_off5 i (word teM te (k0_off4 i) (k0_off4_inb i)) a + S1x4096x512.size a ≤ S8x4096x4096.size a))
    (h3 : k0_cond3 (word laM la (k0_off7 i) (k0_off7_inb i)) = 1#1) (h4 : ¬k0_cond4 i (word laM la (k0_off7 i) (k0_off7_inb i)) = 1#1)
    (hb9 : (∀ a, k0_off9 i (word nxM nx (k0_off8 i) (k0_off8_inb i)) a + S1x4096x512.size a ≤ S8x4096x4096.size a))
    (ho : OneWay i (word1 nuM nu) (word fuM fu (k0_off12 i) (k0_off12_inb i))) (W : Waits sig Unit) (K : PUnit → sProp 𝕄) :
    iprop(owns (c : Thread nD τ) arg8 fullShare x ∗ (∃ d, owns (c : Thread nD τ) arg11 fullShare d)
        ∗ (∃ d, owns (c : Thread nD τ) wbM1 fullShare d) ∗ (∃ d, owns (c : Thread nD τ) wbM3 fullShare d) ∗ flying2 c w1 w3 off hb ∗ tabs c te fi nx la fu nu ∗ owes (c : Thread nD τ) 0 W
        ∗ (left c i arg8 arg11 x te fi nx la fu nu (rnd (wblk wM1 w1 off hb)) (rnd (wblk wM3 w3 off hb)) (flying2 c w1 w3 (k0_off9 i (word nxM nx (k0_off8 i) (k0_off8_inb i))) hb9) -∗ K ⟨⟩))
      ⊢ wp frame (wpE (defs₀ (F := F)) Variants.none c none) Set.univ (body i arg8 harg8 arg11 harg11) K := by
  unfold body
  rw [cc0_moe_up_eq_skeleton]; unfold cc0_moe_up_skel
  unfold flying2 flying owns tabs
  iintro ⟨⟨%f8, %e8, H8⟩, ⟨%d11, %f11, -, H11⟩, ⟨%d14, %f14, -, H14⟩, ⟨%d15, %f15, -, H15⟩, ⟨⟨%fd1, Hq1, Hw1, %hfd1⟩, ⟨%fd3, Hq3, Hw3, %hfd3⟩⟩, ⟨HT0, HT1, HT2, HT3, HT4, HT5⟩, HW, Hk⟩
  have hw2 : k0_chk2 i (word1 nuM nu) (word fiM fi (k0_off1 i) (k0_off1_inb i)) (word teM te (k0_off4 i) (k0_off4_inb i)) := fun _ => hb5
  have hw3 : k0_chk3 i (word1 nuM nu) (word fiM fi (k0_off1 i) (k0_off1_inb i)) (word laM la (k0_off7 i) (k0_off7_inb i)) (word nxM nx (k0_off8 i) (k0_off8_inb i)) := fun _ _ => hb9
  dsimp only [word, word1] at h1 hw2 h3 h4 hw3
  sl_exec (disch := first | sl_exact hw2 | sl_exact hw3)
  sl_step
  have hr1 := all_rows hL3
  have hr3 := all_rows hL5
  rw [hfd1] at hr1
  rw [hfd3] at hr3
  iapply Hk
  unfold left owns tabs
  isplitl [H8]
  · iexists _; isplitr; swap; · iexact H8
    ipureintro; exact e8
  isplitl [H11]
  · iexists _; isplitr; swap; · iexact H11
    ipureintro; exact read_out i arg8 arg11 x ho e8 hr1 hr3
  isplitl [H14]
  · iexists _; isplitr; swap; · iexact H14
    ipureintro; exact hr1
  isplitl [H15]
  · iexists _; isplitr; swap; · iexact H15
    ipureintro; exact hr3
  isplitl [Hq1 Hw1 Hq3 Hw3]
  · isplitl [Hq1 Hw1]
    · iexists _
      isplitl [Hq1]; · iexact Hq1
      isplitl [Hw1]; · iexact Hw1
      ipureintro; refine (read_last stM1 _ _ _).trans ?_; rfl
    iexists _
    isplitl [Hq3]; · iexact Hq3
    isplitl [Hw3]; · iexact Hw3
    ipureintro; refine (read_last stM3 _ _ _).trans ?_; rfl
  isplitl [HT0 HT1 HT2 HT3 HT4 HT5]
  · isplitl [HT0]; · iexact HT0
    isplitl [HT1]; · iexact HT1
    isplitl [HT2]; · iexact HT2
    isplitl [HT3]; · iexact HT3
    isplitl [HT4]; · iexact HT4
    iexact HT5
  iexists _; iexact HW

/-- The last expert's first point: the blocks on their way come in and are rounded, the next column's first are sent for. -/
theorem runB4 (h1 : k0_cond1 i (word1 nuM nu) (word fiM fi (k0_off1 i) (k0_off1_inb i)) = 1#1) (h2 : ¬k0_cond2 i = 1#1)
    (off : Fin 3 → ℕ) (hb : ∀ a, off a + S1x4096x512.size a ≤ S8x4096x4096.size a)
    (hb5 : (∀ a, k0_off5 i (word teM te (k0_off4 i) (k0_off4_inb i)) a + S1x4096x512.size a ≤ S8x4096x4096.size a))
    (h3 : ¬k0_cond3 (word laM la (k0_off7 i) (k0_off7_inb i)) = 1#1) (h4 : k0_cond4 i (word laM la (k0_off7 i) (k0_off7_inb i)) = 1#1)
    (hb11 : (∀ a, k0_off11 i (word nxM nx (k0_off10 i) (k0_off10_inb i)) a + S1x4096x512.size a ≤ S8x4096x4096.size a))
    (ho : OneWay i (word1 nuM nu) (word fuM fu (k0_off12 i) (k0_off12_inb i))) (W : Waits sig Unit) (K : PUnit → sProp 𝕄) :
    iprop(owns (c : Thread nD τ) arg8 fullShare x ∗ (∃ d, owns (c : Thread nD τ) arg11 fullShare d)
        ∗ (∃ d, owns (c : Thread nD τ) wbM1 fullShare d) ∗ (∃ d, owns (c : Thread nD τ) wbM3 fullShare d) ∗ flying2 c w1 w3 off hb ∗ tabs c te fi nx la fu nu ∗ owes (c : Thread nD τ) 0 W
        ∗ (left c i arg8 arg11 x te fi nx la fu nu (rnd (wblk wM1 w1 off hb)) (rnd (wblk wM3 w3 off hb)) (flying2 c w1 w3 (k0_off11 i (word nxM nx (k0_off10 i) (k0_off10_inb i))) hb11) -∗ K ⟨⟩))
      ⊢ wp frame (wpE (defs₀ (F := F)) Variants.none c none) Set.univ (body i arg8 harg8 arg11 harg11) K := by
  unfold body
  rw [cc0_moe_up_eq_skeleton]; unfold cc0_moe_up_skel
  unfold flying2 flying owns tabs
  iintro ⟨⟨%f8, %e8, H8⟩, ⟨%d11, %f11, -, H11⟩, ⟨%d14, %f14, -, H14⟩, ⟨%d15, %f15, -, H15⟩, ⟨⟨%fd1, Hq1, Hw1, %hfd1⟩, ⟨%fd3, Hq3, Hw3, %hfd3⟩⟩, ⟨HT0, HT1, HT2, HT3, HT4, HT5⟩, HW, Hk⟩
  have hw2 : k0_chk2 i (word1 nuM nu) (word fiM fi (k0_off1 i) (k0_off1_inb i)) (word teM te (k0_off4 i) (k0_off4_inb i)) := fun _ => hb5
  have hw4 : k0_chk4 i (word1 nuM nu) (word fiM fi (k0_off1 i) (k0_off1_inb i)) (word laM la (k0_off7 i) (k0_off7_inb i)) (word nxM nx (k0_off10 i) (k0_off10_inb i)) := fun _ _ => hb11
  dsimp only [word, word1] at h1 hw2 h3 h4 hw4
  sl_exec (disch := first | sl_exact hw2 | sl_exact hw4)
  sl_step
  have hr1 := all_rows hL3
  have hr3 := all_rows hL5
  rw [hfd1] at hr1
  rw [hfd3] at hr3
  iapply Hk
  unfold left owns tabs
  isplitl [H8]
  · iexists _; isplitr; swap; · iexact H8
    ipureintro; exact e8
  isplitl [H11]
  · iexists _; isplitr; swap; · iexact H11
    ipureintro; exact read_out i arg8 arg11 x ho e8 hr1 hr3
  isplitl [H14]
  · iexists _; isplitr; swap; · iexact H14
    ipureintro; exact hr1
  isplitl [H15]
  · iexists _; isplitr; swap; · iexact H15
    ipureintro; exact hr3
  isplitl [Hq1 Hw1 Hq3 Hw3]
  · isplitl [Hq1 Hw1]
    · iexists _
      isplitl [Hq1]; · iexact Hq1
      isplitl [Hw1]; · iexact Hw1
      ipureintro; refine (read_last stM1 _ _ _).trans ?_; rfl
    iexists _
    isplitl [Hq3]; · iexact Hq3
    isplitl [Hw3]; · iexact Hw3
    ipureintro; refine (read_last stM3 _ _ _).trans ?_; rfl
  isplitl [HT0 HT1 HT2 HT3 HT4 HT5]
  · isplitl [HT0]; · iexact HT0
    isplitl [HT1]; · iexact HT1
    isplitl [HT2]; · iexact HT2
    isplitl [HT3]; · iexact HT3
    isplitl [HT4]; · iexact HT4
    iexact HT5
  iexists _; iexact HW

/-- The last expert's first point in the last column: nothing more is sent for. -/
theorem runB0 (h1 : k0_cond1 i (word1 nuM nu) (word fiM fi (k0_off1 i) (k0_off1_inb i)) = 1#1) (h2 : ¬k0_cond2 i = 1#1)
    (off : Fin 3 → ℕ) (hb : ∀ a, off a + S1x4096x512.size a ≤ S8x4096x4096.size a)
    (hb5 : (∀ a, k0_off5 i (word teM te (k0_off4 i) (k0_off4_inb i)) a + S1x4096x512.size a ≤ S8x4096x4096.size a))
    (h3 : ¬k0_cond3 (word laM la (k0_off7 i) (k0_off7_inb i)) = 1#1) (h4 : ¬k0_cond4 i (word laM la (k0_off7 i) (k0_off7_inb i)) = 1#1)
    (ho : OneWay i (word1 nuM nu) (word fuM fu (k0_off12 i) (k0_off12_inb i))) (W : Waits sig Unit) (K : PUnit → sProp 𝕄) :
    iprop(owns (c : Thread nD τ) arg8 fullShare x ∗ (∃ d, owns (c : Thread nD τ) arg11 fullShare d)
        ∗ (∃ d, owns (c : Thread nD τ) wbM1 fullShare d) ∗ (∃ d, owns (c : Thread nD τ) wbM3 fullShare d) ∗ flying2 c w1 w3 off hb ∗ tabs c te fi nx la fu nu ∗ owes (c : Thread nD τ) 0 W
        ∗ (left c i arg8 arg11 x te fi nx la fu nu (rnd (wblk wM1 w1 off hb)) (rnd (wblk wM3 w3 off hb)) (home2 c w1 w3) -∗ K ⟨⟩))
      ⊢ wp frame (wpE (defs₀ (F := F)) Variants.none c none) Set.univ (body i arg8 harg8 arg11 harg11) K := by
  unfold body
  rw [cc0_moe_up_eq_skeleton]; unfold cc0_moe_up_skel
  unfold flying2 flying owns tabs
  iintro ⟨⟨%f8, %e8, H8⟩, ⟨%d11, %f11, -, H11⟩, ⟨%d14, %f14, -, H14⟩, ⟨%d15, %f15, -, H15⟩, ⟨⟨%fd1, Hq1, Hw1, %hfd1⟩, ⟨%fd3, Hq3, Hw3, %hfd3⟩⟩, ⟨HT0, HT1, HT2, HT3, HT4, HT5⟩, HW, Hk⟩
  have hw2 : k0_chk2 i (word1 nuM nu) (word fiM fi (k0_off1 i) (k0_off1_inb i)) (word teM te (k0_off4 i) (k0_off4_inb i)) := fun _ => hb5
  dsimp only [word, word1] at h1 hw2 h3 h4
  sl_exec (disch := first | sl_exact hw2)
  sl_step
  have hr1 := all_rows hL3
  have hr3 := all_rows hL5
  rw [hfd1] at hr1
  rw [hfd3] at hr3
  iapply Hk
  unfold left home2 home owns tabs
  isplitl [H8]
  · iexists _; isplitr; swap; · iexact H8
    ipureintro; exact e8
  isplitl [H11]
  · iexists _; isplitr; swap; · iexact H11
    ipureintro; exact read_out i arg8 arg11 x ho e8 hr1 hr3
  isplitl [H14]
  · iexists _; isplitr; swap; · iexact H14
    ipureintro; exact hr1
  isplitl [H15]
  · iexists _; isplitr; swap; · iexact H15
    ipureintro; exact hr3
  isplitl [Hq1 Hw1 Hq1_dst Hq3 Hw3 Hq3_dst]
  · isplitl [Hq1 Hw1 Hq1_dst]
    · isplitl [Hq1_dst]
      · iexists _, _; isplitr; swap; · iexact Hq1_dst
        ipureintro; rfl
      isplitl [Hq1]; · iexact Hq1
      iexact Hw1
    isplitl [Hq3_dst]
    · iexists _, _; isplitr; swap; · iexact Hq3_dst
      ipureintro; rfl
    isplitl [Hq3]; · iexact Hq3
    iexact Hw3
  isplitl [HT0 HT1 HT2 HT3 HT4 HT5]
  · isplitl [HT0]; · iexact HT0
    isplitl [HT1]; · iexact HT1
    isplitl [HT2]; · iexact HT2
    isplitl [HT3]; · iexact HT3
    isplitl [HT4]; · iexact HT4
    iexact HT5
  iexists _; iexact HW

end Run

end Cert.Up.Hand

end
-- ==== Proof.UpSched.lean ====
module

public import proofs.«01_k».proof.Proof.Gen.Up.Skeleton
public import Idealize.ShloMosaic.Lib.WordCmp
public import Idealize.ShloMosaic.Lib.Affine

@[expose] public section

set_option maxRecDepth 16384

/-! The tables' schedule, as numbers: how many tiles are in use, what each row's words say of the next, and what the body's
    conditions and offsets come to. -/

namespace Cert.Up.Tiles

open Cert.Up
open Idealize.ShloMosaic

/-! ## Words -/

theorem flag (b : BitVec 1) : Scalar.cmpi .ne (Scalar.extui b : BitVec 32) 0#32 = 1#1 ↔ b = 1#1 := by revert b; decide
theorem both (a b : BitVec 1) : Scalar.andi a b = 1#1 ↔ a = 1#1 ∧ b = 1#1 := by revert a b; decide
theorem flip (a : BitVec 1) : Scalar.xori a 1#1 = 1#1 ↔ ¬a = 1#1 := by revert a; decide
theorem same (a b : BitVec 32) : Scalar.cmpi .eq a b = 1#1 ↔ a = b := IntOp.cmpi_eq
theorem less (a b : BitVec 32) : Scalar.cmpi .slt a b = 1#1 ↔ a.toInt < b.toInt := IntOp.cmpi_slt

/-- The number of tiles in use, of the 40: the table of one read as a number. -/
def used (u : BitVec 32) : ℕ := min 40 u.toInt.toNat

theorem used_le (u : BitVec 32) : used u ≤ 40 := min_le_left _ _

theorem lt_used (u : BitVec 32) {n : ℕ} (hn : n < 40) : (BitVec.ofNat 32 n).toInt < u.toInt ↔ n < used u := by
  rw [WordCmp.toInt_ofNat_of_lt (by omega)]; unfold used; omega

/-- The row block the first window reads at tile `n`: its own, or the last one in use. -/
def row (u : BitVec 32) (n : ℕ) : ℕ := min n (used u - 1)

theorem row_lt (u : BitVec 32) {n : ℕ} (hn : n < 40) : row u n < 40 := by unfold row; omega
theorem row_of_lt {u : BitVec 32} {n : ℕ} (h : n < used u) : row u n = n := by unfold row; omega

theorem row_word (u : BitVec 32) (hu : 0 < used u) {n : ℕ} (hn : n < 40) :
    (Scalar.minsi (BitVec.ofNat 32 n) (Scalar.subi u 1#32)).toNat = row u n := by
  have hu1 : 1 ≤ u.toInt := by unfold used at hu; omega
  have hn' : (BitVec.ofNat 32 n).toNat = n := WordCmp.toNat_ofNat_of_lt (by omega)
  have hlt : u.toNat < 2 ^ 31 := by
    rw [BitVec.toInt_eq_toNat_cond] at hu1; split at hu1 <;> omega
  have hi : u.toInt = (u.toNat : ℤ) := WordCmp.toInt_eq_toNat_of_lt_half hlt
  have hs : (u - 1#32).toNat = u.toNat - 1 := by
    rw [BitVec.toNat_sub]; simp; omega
  have hsi : (u - 1#32).toInt = (u.toNat : ℤ) - 1 := by
    rw [WordCmp.toInt_eq_toNat_of_lt_half (by rw [hs]; omega), hs]; omega
  have e : Scalar.minsi (BitVec.ofNat 32 n) (Scalar.subi u 1#32)
      = if (BitVec.ofNat 32 n).slt (u - 1#32) then BitVec.ofNat 32 n else u - 1#32 := rfl
  rw [e]
  unfold row used
  split
  · rename_i h
    rw [BitVec.slt_iff_toInt_lt, WordCmp.toInt_ofNat_of_lt (by omega), hsi] at h
    rw [hn']; omega
  · rename_i h
    rw [BitVec.slt_iff_toInt_lt, WordCmp.toInt_ofNat_of_lt (by omega), hsi] at h
    rw [hs]; omega

/-! ## The body's conditions and offsets -/

section Conds
variable (i : grid0.Coords) (u f : BitVec 32)

theorem coord1_lt : (i 1).val < 40 := (i 1).isLt
theorem coord0_lt : (i 0).val < 8 := (i 0).isLt

theorem cond1_iff (v : BitVec 32) : k0_cond1 i u v = 1#1 ↔ (i 1).val < used u ∧ v = 1#32 := by
  unfold k0_cond1; simp only [flag, both, same, less, lt_used u (coord1_lt i)]
theorem cond2_iff : k0_cond2 i = 1#1 ↔ (i 0).val = 0 ∧ (i 1).val = 0 := by
  have h0 := coord0_lt i; have h1 := coord1_lt i
  have e : ∀ k : ℕ, k < 40 → (BitVec.ofNat 32 k = 0#32 ↔ k = 0) := fun k hk => by
    rw [← BitVec.toNat_inj, WordCmp.toNat_ofNat_of_lt (by omega)]; rfl
  unfold k0_cond2; simp only [flag, both, same, e _ h1, e _ (show (i 0).val < 40 by omega)]
theorem cond3_iff (v : BitVec 32) : k0_cond3 v = 1#1 ↔ ¬v = 1#32 := by
  unfold k0_cond3; simp only [flag, flip, same]
theorem cond4_iff (v : BitVec 32) : k0_cond4 i v = 1#1 ↔ v = 1#32 ∧ (i 0).val + 1 < 8 := by
  have h0 := coord0_lt i
  have e : Scalar.addi (BitVec.ofNat 32 (i 0).val) 1#32 = BitVec.ofNat 32 ((i 0).val + 1) := by
    apply BitVec.eq_of_toNat_eq
    show (BitVec.ofNat 32 (i 0).val + 1#32).toNat = _
    simp
  have e8 : (8#32 : BitVec 32).toInt = 8 := by decide
  unfold k0_cond4
  simp only [flag, both, same, less, e]
  rw [WordCmp.toInt_ofNat_of_lt (by omega), e8]
  constructor <;> rintro ⟨a, b⟩ <;> exact ⟨a, by omega⟩
theorem cond5_iff : k0_cond5 i u f = 1#1 ↔ (i 1).val < used u ∧ f = 1#32 := by
  unfold k0_cond5; simp only [flag, both, same, less, lt_used u (coord1_lt i)]
theorem cond6_iff : k0_cond6 i u f = 1#1 ↔ (i 1).val < used u ∧ ¬f = 1#32 := by
  unfold k0_cond6; simp only [flag, both, flip, same, less, lt_used u (coord1_lt i)]
theorem cond7_iff : k0_cond7 i u = 1#1 ↔ ¬(i 1).val < used u := by
  unfold k0_cond7; simp only [flag, flip, less, lt_used u (coord1_lt i)]

theorem col_word (k : ℕ) (hk : k < 9) : (BitVec.ofNat 32 k * 512#32).toNat = 512 * k := by
  rw [BitVec.toNat_mul, WordCmp.toNat_ofNat_of_lt (by omega)]
  show k * 512 % 2 ^ 32 = _
  omega

theorem off3_eq (e : BitVec 32) : k0_off3 i e = ![e.toNat, 0, 512 * (i 0).val] := by
  have := col_word (i 0).val (by have := coord0_lt i; omega)
  unfold k0_off3; simp only [Scalar.muli, IntOp.muli]; rw [this]
theorem off5_eq (e : BitVec 32) : k0_off5 i e = ![e.toNat, 0, 512 * (i 0).val] := by
  have := col_word (i 0).val (by have := coord0_lt i; omega)
  unfold k0_off5; simp only [Scalar.muli, IntOp.muli]; rw [this]
theorem off9_eq (e : BitVec 32) : k0_off9 i e = ![e.toNat, 0, 512 * (i 0).val] := by
  have := col_word (i 0).val (by have := coord0_lt i; omega)
  unfold k0_off9; simp only [Scalar.muli, IntOp.muli]; rw [this]
theorem off11_eq (e : BitVec 32) : k0_off11 i e = ![e.toNat, 0, 512 * ((i 0).val + 1)] := by
  have := col_word ((i 0).val + 1) (by have := coord0_lt i; omega)
  have h0 := coord0_lt i
  have e1 : BitVec.ofNat 32 (i 0).val + 1#32 = BitVec.ofNat 32 ((i 0).val + 1) := by
    apply BitVec.eq_of_toNat_eq; simp
  unfold k0_off11; simp only [Scalar.muli, IntOp.muli, Scalar.addi, IntOp.addi]; rw [e1, this]

theorem tile_word : (Scalar.indexCast (BitVec.ofNat 32 (i 1).val) : Index).toNat = (i 1).val := by
  have := coord1_lt i
  show (BitVec.ofNat 32 (i 1).val).toNat = _
  exact WordCmp.toNat_ofNat_of_lt (by omega)

theorem off1_eq : k0_off1 i = ![(i 1).val] := by unfold k0_off1; simp only [tile_word]
theorem off2_eq : k0_off2 i = ![(i 1).val] := by unfold k0_off2; simp only [tile_word]
theorem off4_eq : k0_off4 i = ![(i 1).val] := by unfold k0_off4; simp only [tile_word]
theorem off7_eq : k0_off7 i = ![(i 1).val] := by unfold k0_off7; simp only [tile_word]
theorem off8_eq : k0_off8 i = ![(i 1).val] := by unfold k0_off8; simp only [tile_word]
theorem off10_eq : k0_off10 i = ![(i 1).val] := by unfold k0_off10; simp only [tile_word]
theorem off12_eq : k0_off12 i = ![(i 1).val] := by unfold k0_off12; simp only [tile_word]
end Conds

/-! ## The schedule -/

/-- What the tables say of one another: some tile is in use, the first one fetches, the experts in use are eight, the last tile in
    use ends the round, and a tile either shares its predecessor's expert, carrying its words on, or is the one its
    predecessor sent for. -/
structure Sched (te fi nx la : ℕ → BitVec 32) (u : BitVec 32) : Prop where
  some_used : 0 < used u
  first : fi 0 = 1#32
  expert : ∀ n, n < used u → (te n).toNat < 8
  last : la (used u - 1) = 1#32 ∧ nx (used u - 1) = te 0
  step : ∀ n, n + 1 < used u →
    (te n = te (n + 1) ∧ ¬fi (n + 1) = 1#32 ∧ nx n = nx (n + 1) ∧ (la n = 1#32 ↔ la (n + 1) = 1#32))
      ∨ (fi (n + 1) = 1#32 ∧ nx n = te (n + 1) ∧ ¬la n = 1#32)

variable {te fi nx la : ℕ → BitVec 32} {u : BitVec 32}

/-- The expert sent for at a tile in use is one of the eight. -/
theorem Sched.next_expert (h : Sched te fi nx la u) (n : ℕ) (hn : n < used u) : (nx n).toNat < 8 := by
  obtain ⟨k, hk⟩ : ∃ k, n + k + 1 = used u := ⟨used u - 1 - n, by omega⟩
  induction k generalizing n with
  | zero =>
    have e : n = used u - 1 := by omega
    rw [e, h.last.2]; exact h.expert 0 h.some_used
  | succ k ih =>
    rcases h.step n (by omega) with ⟨-, -, e, -⟩ | ⟨-, e, -⟩
    · rw [e]; exact ih (n + 1) (by omega) (by omega)
    · rw [e]; exact h.expert (n + 1) (by omega)

end Cert.Up.Tiles

end
-- ==== Proof.UpFrame.lean ====
module

public import proofs.«01_k».proof.Proof.UpRuns
public import proofs.«01_k».proof.Proof.UpSched
public import Idealize.ShloMosaic.Lib.Claim

@[expose] public section

set_option maxRecDepth 16384

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of this proof: the pipeline's, beside the counters of the transfers the body issues. -/
local notation "𝕄" => MT nD τ sig Unit (Elt F) ℕ (Pipeline.UD sig nD τ) ℕ

/-! ## The tables as numbers -/

variable (m : (ℓ : Loc nD τ sig) → Buf (Elt F) ℓ) (ρ : Dev nD → PrngReg)

/-- The arrays as launched. -/
abbrev V (c : Dev nD) (b : Ref sig .tc) : Buf (Elt F) ((c : Thread nD τ).loc b) := m ((c : Thread nD τ).loc b)

/-- Word `n` of a table of 40. -/
def wd (T : S40.Idx → BitVec 32) (n : ℕ) : BitVec 32 := T (fun a => ⟨n % 40, by match a with | ⟨0, _⟩ => exact Nat.mod_lt _ (by decide)⟩)

abbrev teW (c : Dev nD) : ℕ → BitVec 32 := wd (V m c main_arg0)
abbrev fiW (c : Dev nD) : ℕ → BitVec 32 := wd (V m c main_arg1)
abbrev nxW (c : Dev nD) : ℕ → BitVec 32 := wd (V m c main_arg2)
abbrev laW (c : Dev nD) : ℕ → BitVec 32 := wd (V m c main_arg3)
abbrev fuW (c : Dev nD) : ℕ → BitVec 32 := wd (V m c main_arg4)
/-- The table of one. -/
abbrev uW (c : Dev nD) : BitVec 32 := word1 nuM (V m c main_arg5)

/-- The tables keep the schedule. -/
def Plan : Prop := ∀ c : Dev nD, Tiles.Sched (teW m c) (fiW m c) (nxW m c) (laW m c) (uW m c)

/-- A word a point loads is the table's word at the point's tile. -/
theorem word_eq {c : Dev nD} (M : Memref sig .tc .smem S40 .i32) (f : Buf (Elt F) (M.view.loc (c : Thread nD τ))) {off : Fin 1 → ℕ}
    (hb : ∀ a, off a + S1.size a ≤ S40.size a) {n : ℕ} (h : off = ![n]) (hn : n < 40) :
    word M f off hb = wd (M.view.read (Elt F) f) n := by
  subst h
  unfold wd
  dsimp only [word]
  rw [View.readAt_apply]
  refine congrArg (M.view.read (Elt F) f) (funext fun a => Fin.ext ?_)
  match a with
  | ⟨0, _⟩ =>
    show n + 1 * _ = n % 40
    rw [Nat.mod_eq_of_lt hn]
    have h0 : ((Shape.Idx.first (numel1_S1.symm ▸ Nat.one_pos) : S1.Idx) 0).val < 1 := ((Shape.Idx.first (numel1_S1.symm ▸ Nat.one_pos) : S1.Idx) 0).isLt
    have h0' : ((Shape.Idx.first (numel1_S1.symm ▸ Nat.one_pos) : S1.Idx) 0).val = 0 := by omega
    exact (congrArg (fun z => n + 1 * z) h0').trans (by omega)

/-- Exactly one way of storing applies at each point, whatever the tables hold. -/
theorem oneWay (i : grid0.Coords) (u f : BitVec 32) : OneWay i u f := by
  unfold OneWay
  rw [Tiles.cond5_iff, Tiles.cond6_iff, Tiles.cond7_iff]
  by_cases h : (i 1).val < Tiles.used u <;> by_cases h' : f = 1#32 <;> simp [h, h']

/-! ## The pipeline at the tables -/

/-- The tables' contents. -/
def tbl : pre0.Contents (Elt F) := fun j => V m (0 : Dev nD) (pre0.ref j)
theorem V_pre (c : Dev nD) (j : Fin 6) : V m c (pre0.ref j) = tbl m j := by
  obtain rfl : c = 0 := Subsingleton.elim _ _; rfl

theorem whole_words (n : Fin 40) (ix : Fin 2 → ℕ) (e : ix = ![n.val, 0]) (h : ∀ a, (ix a + 1) * S512x4096.size a ≤ S20480x4096.size a) :
    (Rect.block (s := S20480x4096) S512x4096.size ix h).WholeWords (EltTy.packing .bf16) := by
  subst e
  revert h
  revert n
  decide +kernel

/-- The first window's block at a point: the tile's own row block, or the last in use. -/
theorem index0 (h : Plan m) (i : grid0.Coords) : cc0_transform_0 inb_S1_S1_0 numel1_S1 (tbl m) i = ![Tiles.row (uW m 0) (i 1).val, 0] := by
  have e := Tiles.row_word (uW m 0) (h 0).some_used (Tiles.coord1_lt i)
  unfold cc0_transform_0
  exact congrArg (fun z => ![z, 0]) e

theorem ok (h : Plan m) : ok0 (F := F) (tbl m) := fun i => by
  have hr := Tiles.row_lt (uW m 0) (Tiles.coord1_lt i)
  have e := index0 m h i
  have hb : ∀ a, (cc0_transform_0 inb_S1_S1_0 numel1_S1 (tbl m) i a + 1) * S512x4096.size a ≤ S20480x4096.size a := by
    rw [e]
    intro a
    match a with
    | ⟨0, _⟩ => show (Tiles.row (uW m 0) (i 1).val + 1) * 512 ≤ 20480; omega
    | ⟨1, _⟩ => show (0 + 1) * 4096 ≤ 4096; omega
  exact ⟨hb, .inr (whole_words ⟨_, hr⟩ _ e hb)⟩

abbrev adm (h : Plan m) : (pcfg0 (F := F)).Adm := ⟨tbl m, ok m h⟩
abbrev cfgM (h : Plan m) : Pipeline.Cfg sig Λ₀ := cfg0 (adm m h)

theorem coords0 : ∀ t : Fin grid0.N, (grid0.coords t 0).val = t.val / 40 := by decide +kernel
theorem coords1 : ∀ t : Fin grid0.N, (grid0.coords t 1).val = t.val % 40 := by decide +kernel

/-- A window's block at a point, read off its array as launched. -/
def iblk (h : Plan m) (c : Dev nD) (w : Fin (cfgM m h).W) (t : Fin (cfgM m h).N) :
    (((cfgM m h).win w).xblock ((cfgM m h).grid.coords t)).Idx → Elt F ((cfgM m h).win w).elt :=
  (((cfgM m h).win w).blk t).view.read (Elt F) (V m c (Pipeline.arrRef spec0 w))

/-! ## What the body keeps -/

abbrev eoff (e j : ℕ) : Fin 3 → ℕ := ![e % 8, 0, 512 * (j % 8)]
theorem einb (e j : ℕ) : ∀ a, eoff e j a + S1x4096x512.size a ≤ S8x4096x4096.size a := fun a => by
  match a with
  | ⟨0, _⟩ => show e % 8 + 1 ≤ 8; omega
  | ⟨1, _⟩ => show 0 + 4096 ≤ 4096; omega
  | ⟨2, _⟩ => show 512 * (j % 8) + 512 ≤ 4096; omega

/-- Column block `j` of expert `e`, rounded, of each weight. -/
def kept1 (c : Dev nD) (e j : ℕ) : Vec F S4096x512 .bf16 := rnd (wblk (c := c) wM1 (V m c main_arg7) (eoff e j) (einb e j))
def kept3 (c : Dev nD) (e j : ℕ) : Vec F S4096x512 .bf16 := rnd (wblk (c := c) wM3 (V m c main_arg8) (eoff e j) (einb e j))
/-- Column block `j` of expert `e` on its way, of each weight. -/
def fl (c : Dev nD) (e j : ℕ) : sProp 𝕄 := flying2 c (V m c main_arg7) (V m c main_arg8) (eoff e j) (einb e j)
def rest (c : Dev nD) : sProp 𝕄 := home2 c (V m c main_arg7) (V m c main_arg8)

/-- What is on its way after tile `n` of column block `j`. -/
def next (c : Dev nD) (j n : ℕ) : sProp 𝕄 :=
  if laW m c n = 1#32 then (if j + 1 < 8 then fl m c (nxW m c n).toNat (j + 1) else rest m c) else fl m c (nxW m c n).toNat j

/-- What the body keeps after tile `n` of column block `j`. -/
def held (c : Dev nD) (j n : ℕ) : sProp 𝕄 :=
  iprop(owns (c : Thread nD τ) wbM1 fullShare (kept1 m c (teW m c n).toNat j) ∗ owns (c : Thread nD τ) wbM3 fullShare (kept3 m c (teW m c n).toNat j)
    ∗ next m c j n)

/-- What the body keeps before point `p`. -/
def keep (c : Dev nD) (p : ℕ) : sProp 𝕄 :=
  if p = 0 then iprop((∃ d, owns (c : Thread nD τ) wbM1 fullShare d) ∗ (∃ d, owns (c : Thread nD τ) wbM3 fullShare d) ∗ rest m c)
  else held m c ((p - 1) / 40) (Tiles.row (uW m c) ((p - 1) % 40))

/-- The tables the body reads. -/
def tabsV (c : Dev nD) : sProp 𝕄 :=
  tabs c (V m c main_arg0) (V m c main_arg1) (V m c main_arg2) (V m c main_arg3) (V m c main_arg4) (V m c main_arg5)

/-- The block a point leaves. -/
def put (c : Dev nD) (t : Fin grid0.N) (x : Vec F S512x4096 .bf16) : Vec F S512x512 .bf16 :=
  pay (grid0.coords t) x (kept1 m c (teW m c (Tiles.row (uW m c) (t.val % 40))).toNat (t.val / 40))
    (kept3 m c (teW m c (Tiles.row (uW m c) (t.val % 40))).toNat (t.val / 40)) (uW m c)
    (word fuM (V m c main_arg4) (k0_off12 (grid0.coords t)) (k0_off12_inb (grid0.coords t)))

section Step
variable {m} (h : Plan m) (c : Dev nD) (t : Fin grid0.N)
include h

theorem t_lt (t : Fin grid0.N) : t.val < 320 := lt_of_lt_of_eq t.isLt N_0

/-- A point that fetches finds its own blocks on their way. -/
theorem incoming (h0 : ¬t.val = 0) (hu : t.val % 40 < Tiles.used (uW m c)) (hf : fiW m c (t.val % 40) = 1#32) :
    next m c ((t.val - 1) / 40) (Tiles.row (uW m c) ((t.val - 1) % 40)) = fl m c (teW m c (t.val % 40)).toNat (t.val / 40) := by
  have ht := t_lt h t
  have hle := Tiles.used_le (uW m c)
  unfold next
  by_cases hn : t.val % 40 = 0
  · have e1 : (t.val - 1) / 40 + 1 = t.val / 40 := by omega
    have e2 : Tiles.row (uW m c) ((t.val - 1) % 40) = Tiles.used (uW m c) - 1 := by unfold Tiles.row; omega
    rw [e2, if_pos (h c).last.1, (h c).last.2, e1, if_pos (by omega), hn]
  · have e1 : (t.val - 1) / 40 = t.val / 40 := by omega
    have e2 : Tiles.row (uW m c) ((t.val - 1) % 40) = t.val % 40 - 1 := by unfold Tiles.row; omega
    have e3 : t.val % 40 - 1 + 1 = t.val % 40 := by omega
    rw [e1, e2]
    rcases (h c).step (t.val % 40 - 1) (by omega) with ⟨-, a, -, -⟩ | ⟨-, a, b⟩
    · rw [e3] at a; exact absurd hf a
    · rw [e3] at a; rw [if_neg b, a]

/-- A point that fetches nothing keeps what its predecessor kept. -/
theorem held_same (hn : ¬(t.val % 40 < Tiles.used (uW m c) ∧ fiW m c (t.val % 40) = 1#32)) :
    ¬t.val = 0 ∧ held m c ((t.val - 1) / 40) (Tiles.row (uW m c) ((t.val - 1) % 40)) = held m c (t.val / 40) (Tiles.row (uW m c) (t.val % 40)) := by
  have ht := t_lt h t
  have hle := Tiles.used_le (uW m c)
  have hp := (h c).some_used
  have hn0 : ¬t.val % 40 = 0 := fun e => hn ⟨by omega, by rw [e]; exact (h c).first⟩
  have e1 : (t.val - 1) / 40 = t.val / 40 := by omega
  refine ⟨fun e => hn0 (by omega), ?_⟩
  rw [e1]
  by_cases hu : t.val % 40 < Tiles.used (uW m c)
  · have e2 : Tiles.row (uW m c) ((t.val - 1) % 40) = t.val % 40 - 1 := by unfold Tiles.row; omega
    have e3 : t.val % 40 - 1 + 1 = t.val % 40 := by omega
    rw [e2, Tiles.row_of_lt hu]
    rcases (h c).step (t.val % 40 - 1) (by omega) with ⟨a, -, b, d⟩ | ⟨a, -, -⟩
    · rw [e3] at a b d
      unfold held next
      rw [a, b]
      simp only [d]
    · rw [e3] at a; exact absurd ⟨hu, a⟩ hn
  · have e2 : Tiles.row (uW m c) ((t.val - 1) % 40) = Tiles.row (uW m c) (t.val % 40) := by unfold Tiles.row; omega
    rw [e2]

end Step

/-- What a run leaves, said of the tables. -/
theorem left_to (c : Dev nD) (t : Fin grid0.N) (x : Vec F S512x4096 .bf16) (arg8 : Memref sig .tc .vmem S512x4096 .bf16)
    (arg11 : Memref sig .tc .vmem S512x512 .bf16) (b1 b3 : Vec F S4096x512 .bf16) (S : sProp 𝕄)
    (e1 : b1 = kept1 m c (teW m c (Tiles.row (uW m c) (t.val % 40))).toNat (t.val / 40))
    (e3 : b3 = kept3 m c (teW m c (Tiles.row (uW m c) (t.val % 40))).toNat (t.val / 40))
    (eS : S = next m c (t.val / 40) (Tiles.row (uW m c) (t.val % 40))) (K : PUnit → sProp 𝕄) :
    iprop(iprop(owns (c : Thread nD τ) arg8 fullShare x ∗ owns (c : Thread nD τ) arg11 fullShare (put m c t x)
        ∗ held m c (t.val / 40) (Tiles.row (uW m c) (t.val % 40)) ∗ tabsV m c ∗ (∃ W', owes (c : Thread nD τ) 0 W')) -∗ K ⟨⟩)
      ⊢ iprop(left c (grid0.coords t) arg8 arg11 x (V m c main_arg0) (V m c main_arg1) (V m c main_arg2) (V m c main_arg3) (V m c main_arg4)
          (V m c main_arg5) b1 b3 S -∗ K ⟨⟩) := by
  subst e1; subst e3; subst eS
  unfold left held put tabsV
  iintro Hk ⟨H8, H11, H14, H15, HS, HT, HW⟩
  iapply Hk
  isplitl [H8]; · iexact H8
  isplitl [H11]; · iexact H11
  isplitl [H14 H15 HS]
  · isplitl [H14]; · iexact H14
    isplitl [H15]; · iexact H15
    iexact HS
  isplitl [HT]; · iexact HT
  iexact HW

set_option maxHeartbeats 1000000 in
/-- The step of what is kept: what a run needs of it and what the run gives back, by the point's case. -/
theorem keep_step (h : Plan m) (c : Dev nD) (t : Fin grid0.N) (W : Waits sig Unit) (K : PUnit → sProp 𝕄) (x : Vec F S512x4096 .bf16)
    (arg8 : Memref sig .tc .vmem S512x4096 .bf16) (harg8 : arg8.IsWhole) (arg11 : Memref sig .tc .vmem S512x512 .bf16) (harg11 : arg11.IsWhole) :
    iprop(owns (c : Thread nD τ) arg8 fullShare x ∗ (∃ d, owns (c : Thread nD τ) arg11 fullShare d) ∗ keep m c t.val ∗ tabsV m c ∗ owes (c : Thread nD τ) 0 W
        ∗ (iprop(owns (c : Thread nD τ) arg8 fullShare x ∗ owns (c : Thread nD τ) arg11 fullShare (put m c t x)
            ∗ keep m c (t.val + 1) ∗ tabsV m c ∗ (∃ W', owes (c : Thread nD τ) 0 W')) -∗ K ⟨⟩))
      ⊢ wp frame (wpE (defs₀ (F := F)) Variants.none c none) Set.univ (body (grid0.coords t) arg8 harg8 arg11 harg11) K := by
  have ht := t_lt h t
  have c0 := coords0 t
  have c1 := coords1 t
  have hn : t.val % 40 < 40 := Nat.mod_lt _ (by decide)
  have wfi : word fiM (V m c main_arg1) (k0_off1 (grid0.coords t)) (k0_off1_inb (grid0.coords t)) = fiW m c (t.val % 40) :=
    word_eq fiM (V m c main_arg1) _ (by rw [Tiles.off1_eq, c1]) hn
  have wla : word laM (V m c main_arg3) (k0_off7 (grid0.coords t)) (k0_off7_inb (grid0.coords t)) = laW m c (t.val % 40) :=
    word_eq laM (V m c main_arg3) _ (by rw [Tiles.off7_eq, c1]) hn
  have wte4 : word teM (V m c main_arg0) (k0_off4 (grid0.coords t)) (k0_off4_inb (grid0.coords t)) = teW m c (t.val % 40) :=
    word_eq teM (V m c main_arg0) _ (by rw [Tiles.off4_eq, c1]) hn
  have wnx8 : word nxM (V m c main_arg2) (k0_off8 (grid0.coords t)) (k0_off8_inb (grid0.coords t)) = nxW m c (t.val % 40) :=
    word_eq nxM (V m c main_arg2) _ (by rw [Tiles.off8_eq, c1]) hn
  have wnx10 : word nxM (V m c main_arg2) (k0_off10 (grid0.coords t)) (k0_off10_inb (grid0.coords t)) = nxW m c (t.val % 40) :=
    word_eq nxM (V m c main_arg2) _ (by rw [Tiles.off10_eq, c1]) hn
  have ho := oneWay (grid0.coords t) (uW m c) (word fuM (V m c main_arg4) (k0_off12 (grid0.coords t)) (k0_off12_inb (grid0.coords t)))
  rw [show keep m c (t.val + 1) = held m c (t.val / 40) (Tiles.row (uW m c) (t.val % 40)) from by
    unfold keep; rw [if_neg (by omega), Nat.add_sub_cancel]]
  by_cases hc1 : t.val % 40 < Tiles.used (uW m c) ∧ fiW m c (t.val % 40) = 1#32
  swap
  · obtain ⟨h0, hh⟩ := held_same h c t hc1
    have h1 : ¬k0_cond1 (grid0.coords t) (uW m c) (word fiM (V m c main_arg1) (k0_off1 (grid0.coords t)) (k0_off1_inb (grid0.coords t))) = 1#1 := by
      rw [wfi, Tiles.cond1_iff, c1]; exact hc1
    rw [show keep m c t.val = held m c (t.val / 40) (Tiles.row (uW m c) (t.val % 40)) from by
      unfold keep; rw [if_neg h0]; exact hh]
    iintro ⟨H8, H11, HK, HT, HW, Hk⟩
    unfold held
    icases HK with ⟨H14, H15, HS⟩
    iapply (runE c (grid0.coords t) arg8 harg8 arg11 harg11 x (V m c main_arg0) (V m c main_arg1) (V m c main_arg2) (V m c main_arg3) (V m c main_arg4)
      (V m c main_arg5) _ _ _ h1 ho W K)
    isplitl [H8]; · iexact H8
    isplitl [H11]; · iexact H11
    isplitl [H14]; · iexact H14
    isplitl [H15]; · iexact H15
    isplitl [HS]; · iexact HS
    isplitl [HT]; · unfold tabsV; iexact HT
    isplitl [HW]; · iexact HW
    iapply (left_to m c t x arg8 arg11 _ _ _ rfl rfl rfl K)
    unfold held
    iexact Hk
  have hrow : Tiles.row (uW m c) (t.val % 40) = t.val % 40 := Tiles.row_of_lt hc1.1
  have hte : (teW m c (t.val % 40)).toNat < 8 := (h c).expert _ hc1.1
  have hnx : (nxW m c (t.val % 40)).toNat < 8 := (h c).next_expert _ hc1.1
  have h1 : k0_cond1 (grid0.coords t) (uW m c) (word fiM (V m c main_arg1) (k0_off1 (grid0.coords t)) (k0_off1_inb (grid0.coords t))) = 1#1 := by
    rw [wfi, Tiles.cond1_iff, c1]; exact hc1
  have he5 : k0_off5 (grid0.coords t) (word teM (V m c main_arg0) (k0_off4 (grid0.coords t)) (k0_off4_inb (grid0.coords t)))
      = eoff (teW m c (t.val % 40)).toNat (t.val / 40) := by
    rw [wte4, Tiles.off5_eq, c0, eoff, Nat.mod_eq_of_lt hte, Nat.mod_eq_of_lt (show t.val / 40 < 8 by omega)]
  have he9 : k0_off9 (grid0.coords t) (word nxM (V m c main_arg2) (k0_off8 (grid0.coords t)) (k0_off8_inb (grid0.coords t)))
      = eoff (nxW m c (t.val % 40)).toNat (t.val / 40) := by
    rw [wnx8, Tiles.off9_eq, c0, eoff, Nat.mod_eq_of_lt hnx, Nat.mod_eq_of_lt (show t.val / 40 < 8 by omega)]
  have hb5 : (∀ a, k0_off5 (grid0.coords t) (word teM (V m c main_arg0) (k0_off4 (grid0.coords t)) (k0_off4_inb (grid0.coords t))) a + S1x4096x512.size a ≤ S8x4096x4096.size a) := by
    rw [he5]; exact einb _ _
  have hb9 : (∀ a, k0_off9 (grid0.coords t) (word nxM (V m c main_arg2) (k0_off8 (grid0.coords t)) (k0_off8_inb (grid0.coords t))) a + S1x4096x512.size a ≤ S8x4096x4096.size a) := by
    rw [he9]; exact einb _ _
  have he11 : t.val / 40 + 1 < 8 → k0_off11 (grid0.coords t) (word nxM (V m c main_arg2) (k0_off10 (grid0.coords t)) (k0_off10_inb (grid0.coords t)))
      = eoff (nxW m c (t.val % 40)).toNat (t.val / 40 + 1) := fun hj => by
    rw [wnx10, Tiles.off11_eq, c0, eoff, Nat.mod_eq_of_lt hnx, Nat.mod_eq_of_lt hj]
  have hb11 : t.val / 40 + 1 < 8 → (∀ a, k0_off11 (grid0.coords t) (word nxM (V m c main_arg2) (k0_off10 (grid0.coords t)) (k0_off10_inb (grid0.coords t))) a + S1x4096x512.size a ≤ S8x4096x4096.size a) := fun hj => by
    rw [he11 hj]; exact einb _ _
  have e9 : laW m c (t.val % 40) ≠ 1#32 →
      flying2 c (V m c main_arg7) (V m c main_arg8) _ hb9 = next m c (t.val / 40) (Tiles.row (uW m c) (t.val % 40)) := fun hl => by
    unfold next fl; rw [hrow, if_neg hl]; unfold flying2; rw [flying_congr _ _ _ _ _ he9 _ (einb _ _), flying_congr _ _ _ _ _ he9 _ (einb _ _)]
  have e11 : ∀ (hl : laW m c (t.val % 40) = 1#32) (hj : t.val / 40 + 1 < 8),
      flying2 c (V m c main_arg7) (V m c main_arg8) _ (hb11 hj) = next m c (t.val / 40) (Tiles.row (uW m c) (t.val % 40)) := fun hl hj => by
    unfold next fl; rw [hrow, if_pos hl, if_pos hj]; unfold flying2
    rw [flying_congr _ _ _ _ _ (he11 hj) _ (einb _ _), flying_congr _ _ _ _ _ (he11 hj) _ (einb _ _)]
  have h3i : k0_cond3 (word laM (V m c main_arg3) (k0_off7 (grid0.coords t)) (k0_off7_inb (grid0.coords t))) = 1#1 ↔ laW m c (t.val % 40) ≠ 1#32 := by
    rw [wla, Tiles.cond3_iff]
  have h4i : k0_cond4 (grid0.coords t) (word laM (V m c main_arg3) (k0_off7 (grid0.coords t)) (k0_off7_inb (grid0.coords t))) = 1#1
      ↔ laW m c (t.val % 40) = 1#32 ∧ t.val / 40 + 1 < 8 := by
    rw [wla, Tiles.cond4_iff, c0]
  by_cases h0 : t.val = 0
  · have h2 : k0_cond2 (grid0.coords t) = 1#1 := by rw [Tiles.cond2_iff, c0, c1]; omega
    have wte2 : word teM (V m c main_arg0) (k0_off2 (grid0.coords t)) (k0_off2_inb (grid0.coords t) h2) = teW m c (t.val % 40) :=
      word_eq teM (V m c main_arg0) _ (by rw [Tiles.off2_eq, c1]) hn
    have he3 : k0_off3 (grid0.coords t) (word teM (V m c main_arg0) (k0_off2 (grid0.coords t)) (k0_off2_inb (grid0.coords t) h2))
        = eoff (teW m c (t.val % 40)).toNat (t.val / 40) := by
      rw [wte2, Tiles.off3_eq, c0, eoff, Nat.mod_eq_of_lt hte, Nat.mod_eq_of_lt (show t.val / 40 < 8 by omega)]
    have hb3 : (∀ a, k0_off3 (grid0.coords t) (word teM (V m c main_arg0) (k0_off2 (grid0.coords t)) (k0_off2_inb (grid0.coords t) h2)) a + S1x4096x512.size a ≤ S8x4096x4096.size a) := by
      rw [he3]; exact einb _ _
    have k1 : rnd (wblk (c := c) wM1 (V m c main_arg7) _ hb3) = kept1 m c (teW m c (Tiles.row (uW m c) (t.val % 40))).toNat (t.val / 40) := by
      rw [hrow]; unfold kept1; rw [wblk_congr (c := c) wM1 _ he3 _ (einb _ _)]
    have k3 : rnd (wblk (c := c) wM3 (V m c main_arg8) _ hb3) = kept3 m c (teW m c (Tiles.row (uW m c) (t.val % 40))).toNat (t.val / 40) := by
      rw [hrow]; unfold kept3; rw [wblk_congr (c := c) wM3 _ he3 _ (einb _ _)]
    rw [show keep m c t.val = iprop((∃ d, owns (c : Thread nD τ) wbM1 fullShare d) ∗ (∃ d, owns (c : Thread nD τ) wbM3 fullShare d) ∗ rest m c) from by
      unfold keep; rw [if_pos h0]]
    by_cases hl : laW m c (t.val % 40) = 1#32
    · have hj : t.val / 40 + 1 < 8 := by omega
      unfold rest
      iintro ⟨H8, H11, ⟨H14, H15, HS⟩, HT, HW, Hk⟩
      iapply (runA4 c (grid0.coords t) arg8 harg8 arg11 harg11 x (V m c main_arg7) (V m c main_arg8) (V m c main_arg0) (V m c main_arg1) (V m c main_arg2)
        (V m c main_arg3) (V m c main_arg4) (V m c main_arg5) h1 h2 hb3 hb5 (fun hx => (h3i.1 hx) hl) (h4i.2 ⟨hl, hj⟩) (hb11 hj) ho W K)
      isplitl [H8]; · iexact H8
      isplitl [H11]; · iexact H11
      isplitl [H14]; · iexact H14
      isplitl [H15]; · iexact H15
      isplitl [HS]; · iexact HS
      isplitl [HT]; · unfold tabsV; iexact HT
      isplitl [HW]; · iexact HW
      iapply (left_to m c t x arg8 arg11 _ _ _ k1 k3 (e11 hl hj) K)
      iexact Hk
    · unfold rest
      iintro ⟨H8, H11, ⟨H14, H15, HS⟩, HT, HW, Hk⟩
      iapply (runA3 c (grid0.coords t) arg8 harg8 arg11 harg11 x (V m c main_arg7) (V m c main_arg8) (V m c main_arg0) (V m c main_arg1) (V m c main_arg2)
        (V m c main_arg3) (V m c main_arg4) (V m c main_arg5) h1 h2 hb3 hb5 (h3i.2 hl) (fun hx => hl (h4i.1 hx).1) hb9 ho W K)
      isplitl [H8]; · iexact H8
      isplitl [H11]; · iexact H11
      isplitl [H14]; · iexact H14
      isplitl [H15]; · iexact H15
      isplitl [HS]; · iexact HS
      isplitl [HT]; · unfold tabsV; iexact HT
      isplitl [HW]; · iexact HW
      iapply (left_to m c t x arg8 arg11 _ _ _ k1 k3 (e9 hl) K)
      iexact Hk
  have h2 : ¬k0_cond2 (grid0.coords t) = 1#1 := by rw [Tiles.cond2_iff, c0, c1]; omega
  have k1 : rnd (wblk (c := c) wM1 (V m c main_arg7) (eoff (teW m c (t.val % 40)).toNat (t.val / 40)) (einb _ _))
      = kept1 m c (teW m c (Tiles.row (uW m c) (t.val % 40))).toNat (t.val / 40) := by
    rw [hrow]; rfl
  have k3 : rnd (wblk (c := c) wM3 (V m c main_arg8) (eoff (teW m c (t.val % 40)).toNat (t.val / 40)) (einb _ _))
      = kept3 m c (teW m c (Tiles.row (uW m c) (t.val % 40))).toNat (t.val / 40) := by
    rw [hrow]; rfl
  rw [show keep m c t.val = iprop(owns (c : Thread nD τ) wbM1 fullShare (kept1 m c (teW m c (Tiles.row (uW m c) ((t.val - 1) % 40))).toNat ((t.val - 1) / 40))
      ∗ owns (c : Thread nD τ) wbM3 fullShare (kept3 m c (teW m c (Tiles.row (uW m c) ((t.val - 1) % 40))).toNat ((t.val - 1) / 40))
      ∗ fl m c (teW m c (t.val % 40)).toNat (t.val / 40)) from by
    unfold keep held; rw [if_neg h0, incoming h c t h0 hc1.1 hc1.2]]
  unfold fl
  iintro ⟨H8, H11, ⟨H14, H15, HS⟩, HT, HW, Hk⟩
  by_cases hl : laW m c (t.val % 40) = 1#32
  · by_cases hj : t.val / 40 + 1 < 8
    · iapply (runB4 c (grid0.coords t) arg8 harg8 arg11 harg11 x (V m c main_arg7) (V m c main_arg8) (V m c main_arg0) (V m c main_arg1) (V m c main_arg2)
        (V m c main_arg3) (V m c main_arg4) (V m c main_arg5) h1 h2 _ (einb _ _) hb5 (fun hx => (h3i.1 hx) hl) (h4i.2 ⟨hl, hj⟩) (hb11 hj) ho W K)
      isplitl [H8]; · iexact H8
      isplitl [H11]; · iexact H11
      isplitl [H14]; · iexists _; iexact H14
      isplitl [H15]; · iexists _; iexact H15
      isplitl [HS]; · iexact HS
      isplitl [HT]; · unfold tabsV; iexact HT
      isplitl [HW]; · iexact HW
      iapply (left_to m c t x arg8 arg11 _ _ _ k1 k3 (e11 hl hj) K)
      iexact Hk
    · iapply (runB0 c (grid0.coords t) arg8 harg8 arg11 harg11 x (V m c main_arg7) (V m c main_arg8) (V m c main_arg0) (V m c main_arg1) (V m c main_arg2)
        (V m c main_arg3) (V m c main_arg4) (V m c main_arg5) h1 h2 _ (einb _ _) hb5 (fun hx => (h3i.1 hx) hl) (fun hx => hj (h4i.1 hx).2) ho W K)
      isplitl [H8]; · iexact H8
      isplitl [H11]; · iexact H11
      isplitl [H14]; · iexists _; iexact H14
      isplitl [H15]; · iexists _; iexact H15
      isplitl [HS]; · iexact HS
      isplitl [HT]; · unfold tabsV; iexact HT
      isplitl [HW]; · iexact HW
      iapply (left_to m c t x arg8 arg11 _ _ _ k1 k3 (by unfold next rest; rw [hrow, if_pos hl, if_neg hj]) K)
      iexact Hk
  · iapply (runB3 c (grid0.coords t) arg8 harg8 arg11 harg11 x (V m c main_arg7) (V m c main_arg8) (V m c main_arg0) (V m c main_arg1) (V m c main_arg2)
      (V m c main_arg3) (V m c main_arg4) (V m c main_arg5) h1 h2 _ (einb _ _) hb5 (h3i.2 hl) (fun hx => hl (h4i.1 hx).1) hb9 ho W K)
    isplitl [H8]; · iexact H8
    isplitl [H11]; · iexact H11
    isplitl [H14]; · iexists _; iexact H14
    isplitl [H15]; · iexists _; iexact H15
    isplitl [HS]; · iexact HS
    isplitl [HT]; · unfold tabsV; iexact HT
    isplitl [HW]; · iexact HW
    iapply (left_to m c t x arg8 arg11 _ _ _ k1 k3 (e9 hl) K)
    iexact Hk

/-! ## The proof data of the pipeline -/

/-- The proof data: the arrays as launched, the first window's block left in place, the tables' choice in the second's. -/
def dats (h : Plan m) (_ : Fin 1) (c : Dev nD) : Dat τ (Elt F) Unit ℕ (Pipeline.UD sig nD τ) ℕ (cfgM m h) c where
  A w := V m c (Pipeline.arrRef spec0 w)
  after w t := match w with
    | ⟨0, _⟩ => iblk m h c 0 t
    | ⟨1, _⟩ => put m c t (iblk m h c 0 t)
  Φ p := iprop((∃ r, prngReg c r) ∗ keep m c p.val ∗ tabsV m c)
  q _ := fullShare
  owed _ := 0

variable (h : Plan m)

theorem A_eq (c : Dev nD) (w : Fin (cfgM m h).W) : (dats m h 0 c).A w = V m c (Pipeline.arrRef spec0 w) := by
  dsimp only [dats]
theorem after0_0 (c : Dev nD) (t : Fin (cfgM m h).N) : (dats m h 0 c).after 0 t = iblk m h c 0 t := by dsimp only [dats]; try rfl
theorem after0_1 (c : Dev nD) (t : Fin (cfgM m h).N) : (dats m h 0 c).after 1 t = put m c t (iblk m h c 0 t) := by
  dsimp only [dats]; try rfl

theorem Phi_eq (c : Dev nD) (p : Fin ((cfgM m h).N + 1)) :
    (dats m h 0 c).Φ p = iprop((∃ r, prngReg c r) ∗ keep m c p.val ∗ tabsV m c) := by dsimp only [dats]
theorem owed_eq (c : Dev nD) (p : Fin ((cfgM m h).N + 1)) : (dats m h 0 c).owed p = 0 := by dsimp only [dats]

/-- The first window's buffer holds its block at every point. -/
theorem before0_0 (c : Dev nD) (t : Fin (cfgM m h).N) (d) : (dats m h 0 c).before 0 t d = iblk m h c 0 t :=
  ((dats m h 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- Each window's buffer at a point. -/
abbrev ms0_0 (t : Fin (cfgM m h).N) : Memref sig .tc .vmem S512x4096 .bf16 := spec0_0.stage ((cfgM m h).slots t 0)
abbrev hs0_0 (t : Fin (cfgM m h).N) : (ms0_0 m h t).IsWhole := hstage0_0 (((cfgM m h).slots t 0).cast nbuf0_0)
abbrev ms0_1 (t : Fin (cfgM m h).N) : Memref sig .tc .vmem S512x512 .bf16 := spec0_1.stage ((cfgM m h).slots t 1)
abbrev hs0_1 (t : Fin (cfgM m h).N) : (ms0_1 m h t).IsWhole := hstage0_1 (((cfgM m h).slots t 1).cast nbuf0_1)

/-- What the body is entered with at point `t`, and what it leaves. -/
def bodyPre (c : Dev nD) (t : Fin (cfgM m h).N) : sProp 𝕄 :=
  iprop((dats m h 0 c).Φ t.castSucc ∗ (dats m h 0 c).owesAt () t.castSucc
    ∗ (∃ d, owns (c : Thread nD τ) (ms0_0 m h t) fullShare ((dats m h 0 c).before 0 t d))
    ∗ (∃ d, owns (c : Thread nD τ) (ms0_1 m h t) fullShare ((dats m h 0 c).before 1 t d)))
def bodyPost (c : Dev nD) (t : Fin (cfgM m h).N) : sProp 𝕄 :=
  iprop((dats m h 0 c).Φ t.succ ∗ (dats m h 0 c).owesAt () t.succ
    ∗ owns (c : Thread nD τ) (ms0_0 m h t) fullShare ((dats m h 0 c).after 0 t)
    ∗ owns (c : Thread nD τ) (ms0_1 m h t) fullShare ((dats m h 0 c).after 1 t))

/-- The body at every point. -/
theorem sound_body (c : Dev nD) (t : Fin (cfgM m h).N) :
    bodyPre m h c t ⊢ wp frame (wpE (defs₀ (F := F)) Variants.none c none) Set.univ
      (body (grid0.coords t) (ms0_0 m h t) (hs0_0 m h t) (ms0_1 m h t) (hs0_1 m h t)) (fun _ => bodyPost m h c t) := by
  unfold bodyPre bodyPost
  simp only [before0_0]
  rw [after0_0, after0_1]
  rw [Phi_eq, Phi_eq, Fin.val_castSucc, Fin.val_succ]
  unfold Dat.owesAt Pipeline.owesWithin
  rw [owed_eq, owed_eq]
  iintro ⟨⟨Hg, HK, HT⟩, ⟨%W, -, HW⟩, ⟨%d0, H0⟩, ⟨%d1, H1⟩⟩
  iapply (keep_step m h c t W _ (iblk m h c 0 t) _ _ _ _)
  isplitl [H0]; · iexact H0
  isplitl [H1]; · iexists _; iexact H1
  isplitl [HK]; · iexact HK
  isplitl [HT]; · iexact HT
  isplitl [HW]; · iexact HW
  iintro ⟨H0, H1, HK, HT, ⟨%W', HW'⟩⟩
  isplitl [Hg HK HT]
  · isplitl [Hg]; · iexact Hg
    isplitl [HK]; · iexact HK
    iexact HT
  isplitl [HW']
  · iexists W'; isplitr; · ipureintro; exact fun _ _ => Or.inl trivial
    iexact HW'
  isplitl [H0]; · iexact H0
  iexact H1

theorem defs₀_row (t : Fin (cfgM m h).N) :
    defs₀ (F := F) .tc (cfgM m h).body ((cfgM m h).bodyArgs t ((cfgM m h).slots t))
      = body (grid0.coords t) (ms0_0 m h t) (hs0_0 m h t) (ms0_1 m h t) (hs0_1 m h t) := by
  unfold defs₀; rw [Defs.onTc_tc]

/-- The result's window is written at every point. -/
theorem idle1 (t : Fin (cfgM m h).N) : (cfgM m h).idle 1 ((cfgM m h).grid.coords t) = false := by
  show idle0 (tbl m) 1 (grid0.coords t) = false
  show (!(k0_cond5 (grid0.coords t) _ _ == 1#1) && !(k0_cond6 (grid0.coords t) _ _ == 1#1) && !(k0_cond7 (grid0.coords t) _ == 1#1)) = false
  rcases oneWay (grid0.coords t) ((tbl m).atD 5 ![0]) ((tbl m).atD 4 (k0_off12 (grid0.coords t))) with ⟨a, b, d⟩ | ⟨a, b, d⟩ | ⟨a, b, d⟩ <;> simp [a, b, d]

theorem body_obligation (c : Dev nD) : BodyObligation (dats (F := F) m h 0 c) (defs₀ (F := F)) Variants.none () Set.univ := fun t => by
  rw [bigSep_W0, bigSep_W0, defs₀_row m h]
  refine triple_restated (sound_body m h c t) rfl .rfl fun _ => ?_
  have e : idle0 (tbl m) 1 ((pcfg0.gridAt (tbl m)).coords t) = false := idle1 m h t
  dsimp only
  rw [e]
  exact .rfl

/-! ## The launch -/

/-- @main up to the call, at this algebra. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The body's own cells. -/
abbrev osem0 : Fin 2 → SemLoc sig := fun | 0 => cell1 | 1 => cell3 | ⟨_ + 2, h⟩ => absurd h (Nat.not_lt.2 (Nat.le_add_left _ _))
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), cell1) 0 ∗ semVal ((c : Thread nD τ), cell3) 0) := by
  rw [Pipeline.ownSems0_eq_of_list c osem0 [0, 1] (by decide) (by decide)]; rfl
/-- The arrays the body's transfers read. -/
def H0 : Finset (Ref sig .tc) := {main_arg7, main_arg8}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(wPt wM1 c (V m c main_arg7) ∗ wPt wM3 c (V m c main_arg8)) := by
  rw [BI.bigSep_eq_bigSepL_of_eq [main_arg7, main_arg8] (by decide) (by decide)]; rfl

theorem PhiD0_eq (c : Dev nD) :
    (Pipeline.ΦD osem0 spec0 H0 (V m) c : sProp 𝕄)
      = iprop(iprop((∃ d, owns (c : Thread nD τ) stM1 fullShare d) ∗ (∃ d, owns (c : Thread nD τ) stM3 fullShare d)
            ∗ (∃ d, owns (c : Thread nD τ) wbM1 fullShare d) ∗ (∃ d, owns (c : Thread nD τ) wbM3 fullShare d))
          ∗ (∃ r, prngReg c r) ∗ iprop(semVal ((c : Thread nD τ), cell1) 0 ∗ semVal ((c : Thread nD τ), cell3) 0)
          ∗ iprop(wPt wM1 c (V m c main_arg7) ∗ wPt wM3 c (V m c main_arg8))) := by
  rw [Pipeline.ΦD_eq, scopedRest0_eq, ownSems00_eq, hbmPts0_eq]
  simp only [stM1, stM3, wbM1, wbM3, owns_whole]; try rfl

theorem PhiT0_eq (c : Dev nD) : (Pipeline.ΦT pre0 (tbl m) c : sProp 𝕄) = tabsV m c := by
  obtain rfl : c = 0 := Subsingleton.elim _ _
  unfold Pipeline.ΦT Pipeline.prefHeld
  rw [bigSep_univ_eq_bigSepL [(0 : Fin 6), (1 : Fin 6), (2 : Fin 6), (3 : Fin 6), (4 : Fin 6), (5 : Fin 6)] (by decide) (by decide)]
  rfl

theorem phi_in (c : Dev nD) : iprop(Pipeline.ΦD osem0 spec0 H0 (V m) c ∗ Pipeline.ΦT pre0 (tbl m) c) ⊢ (dats m h 0 c).Φ 0 := by
  rw [PhiD0_eq, PhiT0_eq]
  rw [Phi_eq]
  show _ ⊢ iprop((∃ r, prngReg c r) ∗ keep m c 0 ∗ tabsV m c)
  unfold keep rest home2 home
  rw [if_pos rfl]
  iintro ⟨⟨⟨HS1, HS3, HB1, HB3⟩, Hg, ⟨Hq1, Hq3⟩, ⟨Hw1, Hw3⟩⟩, HT⟩
  isplitl [Hg]; · iexact Hg
  isplitr [HT]
  · isplitl [HB1]; · iexact HB1
    isplitl [HB3]; · iexact HB3
    isplitl [HS1 Hq1 Hw1]
    · isplitl [HS1]; · iexact HS1
      isplitl [Hq1]; · iexact Hq1
      iexact Hw1
    isplitl [HS3]; · iexact HS3
    isplitl [Hq3]; · iexact Hq3
    iexact Hw3
  iexact HT

theorem phi_out (c : Dev nD) : (dats m h 0 c).Φ (Fin.last (cfgM m h).N) ⊢ Pipeline.ΦD osem0 spec0 H0 (V m) c := by
  rw [PhiD0_eq, Phi_eq]
  show iprop((∃ r, prngReg c r) ∗ keep m c grid0.N ∗ tabsV m c) ⊢ _
  have e : Tiles.row (uW m c) ((320 - 1) % 40) = Tiles.used (uW m c) - 1 := by
    have := Tiles.used_le (uW m c)
    unfold Tiles.row; omega
  rw [N_0]
  unfold keep held next
  rw [if_neg (by decide), e, if_pos (h c).last.1, if_neg (by decide)]
  unfold rest home2 home
  iintro ⟨Hg, ⟨HB1, HB3, ⟨⟨HS1, Hq1, Hw1⟩, ⟨HS3, Hq3, Hw3⟩⟩⟩, HT⟩
  isplitl [HS1 HS3 HB1 HB3]
  · isplitl [HS1]; · iexact HS1
    isplitl [HS3]; · iexact HS3
    isplitl [HB1]; · iexists _; iexact HB1
    iexists _; iexact HB3
  isplitl [Hg]; · iexact Hg
  isplitl [Hq1 Hq3]
  · isplitl [Hq1]; · iexact Hq1
    iexact Hq3
  isplitl [Hw1]; · iexact Hw1
  iexact Hw3

set_option backward.isDefEq.respectTransparency.types false in
/-- The run: every array ends as the pipeline's data say, the cells at zero. -/
theorem run_main : θ_run defs (onTc (τ := τ) (main (F := F))) (s₀ m ρ)
    (fun r => Pipeline.FramePost (Pipeline.pin pcfgs fun _ => adm m h) (dats m h) 0 (V m) r ∧ r.2.sem = fun _ => 0) :=
  Pipeline.θ_run_frameP_dma (Q' := _) pcfgs (fun _ => adm m h) (dats m h) (0 : Fin 1) launch0 osem0 defs₀ Variants.none ownSemFacts0 H0 H0_sub m ρ main
    (hbody := fun c => (body_obligation m h c).loose) (hshare := fun c => (dats m h 0 c).share_full fun _ => rfl)
    (howed := fun _ _ => rfl) (V := V m) (hmain := hmain m Variants.none) (hA := A_eq m h) (hpf := V_pre m)
    (hin := phi_in m h) (hout := phi_out m h)

include h in
/-- The frame: the arguments end as they were, the cells at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ hr => ⟨fun c =>
    ⟨(hr.1 c).2 main_arg0 (by decide : main_arg0 ∈ Pipeline.restRefs sig spec0),
      (hr.1 c).2 main_arg1 (by decide : main_arg1 ∈ Pipeline.restRefs sig spec0),
      (hr.1 c).2 main_arg2 (by decide : main_arg2 ∈ Pipeline.restRefs sig spec0),
      (hr.1 c).2 main_arg3 (by decide : main_arg3 ∈ Pipeline.restRefs sig spec0),
      (hr.1 c).2 main_arg4 (by decide : main_arg4 ∈ Pipeline.restRefs sig spec0),
      (hr.1 c).2 main_arg5 (by decide : main_arg5 ∈ Pipeline.restRefs sig spec0),
      ((hr.1 c).1 0).trans (((dats m h 0 c).arrAt_in 0 rfl _).trans (A_eq m h c 0)),
      (hr.1 c).2 main_arg7 (by decide : main_arg7 ∈ Pipeline.restRefs sig spec0),
      (hr.1 c).2 main_arg8 (by decide : main_arg8 ∈ Pipeline.restRefs sig spec0)⟩, hr.2⟩) (run_main m ρ h)

end Cert.Up.Hand

end
-- ==== Proof.UpIdealFrame.lean ====
module

public import proofs.«01_k».proof.Proof.UpFrame
public import proofs.«01_k».proof.Proof.Gen.UpIdeal

/-!
# The program over the reals is the program

The two are one text, so what is proved of the one for every reading of its floats is proved of the other.
-/

@[expose] public section

noncomputable section

namespace Cert.UpIdeal.Hand

open Idealize.ShloMosaic Idealize.ShloMosaic.TcCoe Idealize.SL.Sem

variable {F : FTy → Type} [FloatOps F]

/-- The two tables of bodies agree. -/
theorem bodies_eq : Cert.UpIdeal.defs₀ (F := F) = Cert.Up.defs₀ (F := F) := by
  unfold Cert.UpIdeal.defs₀ Cert.Up.defs₀
  refine congrArg Defs.onTc (funext fun l => funext fun a => ?_)
  rcases l with ⟨_ | _, h⟩
  · rcases a with ⟨_, _⟩
    exact rfl
  · omega

/-- So do the tables with the pipeline's own bodies. -/
theorem defs_eq : Cert.UpIdeal.defs (F := F) = Cert.Up.defs (F := F) := by
  unfold Cert.UpIdeal.defs Cert.Up.defs
  exact congrArg (Pipeline.defs _) bodies_eq

set_option backward.isDefEq.respectTransparency.types false in
/-- The frame: the arguments end as they were, the cells at zero. -/
theorem frame (m : (ℓ : Loc nD τ sig) → Buf (Elt F) ℓ) (h : Cert.Up.Hand.Plan m) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  rw [defs_eq]
  exact Cert.Up.Hand.frame m ρ h

end Cert.UpIdeal.Hand
end
-- ==== Proof.UpReference.lean ====
module

public import proofs.«01_k».proof.Proof.UpSched
public import proofs.«01_k».proof.Proof.Gen.UpRefIdeal.Run
public import Idealize.ShloMosaic.Lib.Pipeline.ValueKit
public import Idealize.ShloMosaic.Lib.Routing.Words

/-!
# The expert layer's reference at one entry

The reference sums over the eight experts, each term under the bit "this token's tile is the expert's and the token is in
use". At a token in use exactly one bit is set, and the sum is that expert's gated product; elsewhere it is zero.
-/

@[expose] public section

set_option maxRecDepth 16384

noncomputable section

namespace Cert.Up.Experts

open Idealize.ShloMosaic Idealize.ShloMosaic.TcCoe Idealize.SL.Sem
open Cert.UpRefIdeal Cert.UpRefIdeal.Gen

/-- The number of a token's tile: its position divided by 512. -/
def TILE : IVec S20480 32 := Routing.pyDiv bcast_S_S20480 (iotaInDim S20480 32 0) (constantI S_ 32 512#32)

/-- Whether a token is in the first half of its tile. -/
def HALF : IVec S20480 1 :=
  cmpi .slt (Routing.pyRem bcast_S_S20480 (iotaInDim S20480 32 0) (constantI S_ 32 512#32))
    (broadcastInDim S20480 ![] bcast_S_S20480 (constantI S_ 32 256#32))

/-- A word per tile, repeated over the tile's tokens. -/
def REP (T : IVec S40 32) : IVec S20480 32 :=
  shapeCast S20480 (broadcastInDim S40x512 ![0] bcast_S40_S40x512_0 T) shapeCasts_S40x512_S20480

/-- Whether a token is in use. -/
def VALID (full : IVec S40 32) (nu : IVec S1 32) : IVec S20480 1 :=
  andi (cmpi .slt TILE (broadcastInDim S20480 ![] bcast_S_S20480 (shapeCast S_ nu shapeCasts_S1_S_)))
    (ori (cmpi .eq (REP full) (broadcastInDim S20480 ![] bcast_S_S20480 (constantI S_ 32 1#32))) HALF)

/-- The tokens times one expert's weights. -/
def DOT (X : FVec Ideal S20480x4096 .bf16) (W : FVec Ideal S8x4096x4096 .f32) (off : Fin 3 → ℕ)
    (h : S8x4096x4096.Slices off S1x4096x4096) : FVec Ideal S20480x4096 .f32 :=
  Host.dotGeneral dot_S20480x4096_S4096x4096_S20480x4096_1_0_0_1_n_n none (extf .f32 X bitsLt_bf16_f32)
    (shapeCast S4096x4096 (extractStridedSlice S1x4096x4096 off W h) shapeCasts_S1x4096x4096_S4096x4096)

/-- One expert's term of the sum, at the tokens whose bit is set. -/
def TERM (te full : IVec S40 32) (nu : IVec S1 32) (X : FVec Ideal S20480x4096 .bf16) (W1 W3 : FVec Ideal S8x4096x4096 .f32)
    (e : BitVec 32) (off : Fin 3 → ℕ) (h : S8x4096x4096.Slices off S1x4096x4096) : FVec Ideal S20480x4096 .f32 :=
  mulf (broadcastInDim S20480x4096 ![0, 1] bcast_S20480x1_S20480x4096_0_1 (broadcastInDim S20480x1 ![0] bcast_S20480_S20480x1_0
      (uitofp .f32 (andi (VALID full nu) (cmpi .eq (REP te) (broadcastInDim S20480 ![] bcast_S_S20480 (constantI S_ 32 e)))))))
    (mulf (mulf (DOT X W1 off h) (Host.divf (broadcastInDim S20480x4096 ![] bcast_S_S20480x4096 (constant S_ .f32 0x3F800000#32))
        (addf (broadcastInDim S20480x4096 ![] bcast_S_S20480x4096 (constant S_ .f32 0x3F800000#32))
          (Host.exp (Host.negf (DOT X W1 off h)))))) (DOT X W3 off h))

/-- The reference's result, as a function of the tables, the tokens and the weights. -/
def REF (te full : IVec S40 32) (nu : IVec S1 32) (X : FVec Ideal S20480x4096 .bf16) (W1 W3 : FVec Ideal S8x4096x4096 .f32) :
    FVec Ideal S20480x4096 .bf16 :=
  truncf .bf16 (addf (addf (addf (addf (addf (addf (addf (addf
    (broadcastInDim S20480x4096 ![] bcast_S_S20480x4096 (constant S_ .f32 0x00000000#32))
    (TERM te full nu X W1 W3 0#32 ![0, 0, 0] slices_S8x4096x4096_S1x4096x4096_0_0_0))
    (TERM te full nu X W1 W3 1#32 ![1, 0, 0] slices_S8x4096x4096_S1x4096x4096_1_0_0))
    (TERM te full nu X W1 W3 2#32 ![2, 0, 0] slices_S8x4096x4096_S1x4096x4096_2_0_0))
    (TERM te full nu X W1 W3 3#32 ![3, 0, 0] slices_S8x4096x4096_S1x4096x4096_3_0_0))
    (TERM te full nu X W1 W3 4#32 ![4, 0, 0] slices_S8x4096x4096_S1x4096x4096_4_0_0))
    (TERM te full nu X W1 W3 5#32 ![5, 0, 0] slices_S8x4096x4096_S1x4096x4096_5_0_0))
    (TERM te full nu X W1 W3 6#32 ![6, 0, 0] slices_S8x4096x4096_S1x4096x4096_6_0_0))
    (TERM te full nu X W1 W3 7#32 ![7, 0, 0] slices_S8x4096x4096_S1x4096x4096_7_0_0)) bitsLt_bf16_f32

/-- The reference's result at equal arguments. -/
theorem ref_congr {te te' full full' : IVec S40 32} {nu nu' : IVec S1 32} {X X' : FVec Ideal S20480x4096 .bf16}
    {W1 W1' W3 W3' : FVec Ideal S8x4096x4096 .f32} (ht : te = te') (hf : full = full') (hn : nu = nu') (hX : X = X') (h1 : W1 = W1')
    (h3 : W3 = W3') : REF te full nu X W1 W3 = REF te' full' nu' X' W1' W3' := by
  subst ht hf hn hX h1 h3; rfl

/-- The tile's number of token `s`. -/
theorem tile_at (s : Fin 20480) : TILE (ix1 s) = BitVec.ofNat 32 (s.val / 512) :=
  Routing.pyDiv_ap bcast_S_S20480 _ _ (ix1 s) rfl rfl (by have := s.isLt; omega) (by decide) (by decide)

/-- A repeated word at token `s` is its tile's. -/
theorem rep_at (T : IVec S40 32) (s : Fin 20480) : REP T (ix1 s) = T (ix1 ⟨s.val / 512, by have := s.isLt; omega⟩) := by
  pointwise [REP]

/-- Whether token `s` is in the first half of its tile. -/
theorem half_at (s : Fin 20480) : HALF (ix1 s) = 1#1 ↔ s.val % 512 < 256 := by
  have e : Routing.pyRem bcast_S_S20480 (iotaInDim S20480 32 0) (constantI S_ 32 512#32) (ix1 s) = BitVec.ofNat 32 (s.val % 512) :=
    Routing.pyRem_ap bcast_S_S20480 _ _ (ix1 s) rfl rfl (by have := s.isLt; omega) (by decide) (by decide)
  have h : HALF (ix1 s) = IntOp.cmpi .slt (BitVec.ofNat 32 (s.val % 512)) (BitVec.ofNat 32 256) := by
    rw [← e]; rfl
  rw [h, IntOp.cmpi_slt, WordCmp.toInt_ofNat_of_lt (by omega), WordCmp.toInt_ofNat_of_lt (by decide)]
  omega

/-- Whether token `s` is in use, the table of tiles `full` and the number of tiles in use being given. -/
def inUse (full : IVec S40 32) (nu : IVec S1 32) (s : Fin 20480) : Prop :=
  s.val / 512 < Tiles.used (nu (ix1 0)) ∧ (full (ix1 ⟨s.val / 512, by have := s.isLt; omega⟩) = 1#32 ∨ s.val % 512 < 256)

theorem either (a b : BitVec 1) : IntOp.ori a b = 1#1 ↔ a = 1#1 ∨ b = 1#1 := by revert a b; decide
theorem andi_iff (a b : BitVec 1) : IntOp.andi a b = 1#1 ↔ a = 1#1 ∧ b = 1#1 := by revert a b; decide

/-- A token's bit is set when its tile is in use, and the tile is full or the token is in its first half. -/
theorem valid_at (full : IVec S40 32) (nu : IVec S1 32) (s : Fin 20480) : VALID full nu (ix1 s) = 1#1 ↔ inUse full nu s := by
  have hs : s.val / 512 < 40 := by have := s.isLt; omega
  have h : VALID full nu (ix1 s) = IntOp.andi (IntOp.cmpi .slt (TILE (ix1 s)) (nu (ix1 0)))
      (IntOp.ori (IntOp.cmpi .eq (REP full (ix1 s)) 1#32) (HALF (ix1 s))) := by
    pointwise [VALID]
  rw [h, tile_at, rep_at, andi_iff, either, half_at, IntOp.cmpi_slt, IntOp.cmpi_eq, Tiles.lt_used _ hs]
  exact Iff.rfl

/-- The product's entry at token `s`, channel `d` is the row times the expert's column. -/
theorem dot_at (X : FVec Ideal S20480x4096 .bf16) (W : FVec Ideal S8x4096x4096 .f32) (e : Fin 8)
    (h : S8x4096x4096.Slices ![e.val, 0, 0] S1x4096x4096) (s : Fin 20480) (d : Fin 4096) :
    (DOT X W ![e.val, 0, 0] h (ix2 s d) : EReal) = ∑ k : Fin 4096, (X (ix2 s k) : EReal) * W (ix3 e k d) := by
  pointwise [DOT]

/-- The gated product of a token with an expert's weights. -/
def GATED (X : FVec Ideal S20480x4096 .bf16) (W1 W3 : FVec Ideal S8x4096x4096 .f32) (e : Fin 8) (s : Fin 20480) (d : Fin 4096) :
    EReal :=
  (∑ k : Fin 4096, (X (ix2 s k) : EReal) * W1 (ix3 e k d)) * Ideal.logistic (∑ k : Fin 4096, (X (ix2 s k) : EReal) * W1 (ix3 e k d))
    * ∑ k : Fin 4096, (X (ix2 s k) : EReal) * W3 (ix3 e k d)

section Term
variable (te full : IVec S40 32) (nu : IVec S1 32) (X : FVec Ideal S20480x4096 .bf16) (W1 W3 : FVec Ideal S8x4096x4096 .f32)

/-- A term at one entry: the bit as a number times the gated product. -/
theorem term_at (e : Fin 8) (w : BitVec 32) (h : S8x4096x4096.Slices ![e.val, 0, 0] S1x4096x4096) (s : Fin 20480) (d : Fin 4096) :
    (TERM te full nu X W1 W3 w ![e.val, 0, 0] h (ix2 s d) : EReal)
      = (FloatOps.uitofp (F := Ideal) .f32 (IntOp.andi (VALID full nu (ix1 s))
          (IntOp.cmpi .eq (te (ix1 ⟨s.val / 512, by have := s.isLt; omega⟩)) w)) : EReal) * GATED X W1 W3 e s d := by
  rw [← rep_at te s, GATED, ← dot_at X W1 e h, ← dot_at X W3 e h]
  pointwise [TERM]
  rfl

/-- The term counts. -/
theorem term_on (e : Fin 8) (w : BitVec 32) (h : S8x4096x4096.Slices ![e.val, 0, 0] S1x4096x4096) (s : Fin 20480) (d : Fin 4096)
    (hv : inUse full nu s) (he : te (ix1 ⟨s.val / 512, by have := s.isLt; omega⟩) = w) :
    (TERM te full nu X W1 W3 w ![e.val, 0, 0] h (ix2 s d) : EReal) = GATED X W1 W3 e s d := by
  rw [term_at, (andi_iff _ _).mpr ⟨(valid_at full nu s).mpr hv, IntOp.cmpi_eq.mpr he⟩]
  have e1 : (FloatOps.uitofp (F := Ideal) .f32 (1#1 : BitVec 1) : EReal) = 1 := by
    show (((1#1 : BitVec 1).toNat : ℝ) : EReal) = 1
    norm_num
  rw [e1, one_mul]

/-- The term does not count. -/
theorem term_off (e : Fin 8) (w : BitVec 32) (h : S8x4096x4096.Slices ![e.val, 0, 0] S1x4096x4096) (s : Fin 20480) (d : Fin 4096)
    (hv : ¬(inUse full nu s ∧ te (ix1 ⟨s.val / 512, by have := s.isLt; omega⟩) = w)) :
    (TERM te full nu X W1 W3 w ![e.val, 0, 0] h (ix2 s d) : EReal) = 0 := by
  have hb : IntOp.andi (VALID full nu (ix1 s)) (IntOp.cmpi .eq (te (ix1 ⟨s.val / 512, by have := s.isLt; omega⟩)) w) = 0#1 := by
    have h1 : ¬_ = 1#1 := fun hb => hv (((andi_iff _ _).mp hb).imp (valid_at full nu s).mp IntOp.cmpi_eq.mp)
    revert h1
    generalize IntOp.andi (VALID full nu (ix1 s)) (IntOp.cmpi .eq (te (ix1 ⟨s.val / 512, by have := s.isLt; omega⟩)) w) = z
    revert z; decide
  rw [term_at, hb]
  have e0 : (FloatOps.uitofp (F := Ideal) .f32 (0#1 : BitVec 1) : EReal) = 0 := by
    show (((0#1 : BitVec 1).toNat : ℝ) : EReal) = 0
    norm_num
  rw [e0, zero_mul]

/-- The result at one entry is the sum of the eight terms. -/
theorem ref_sum (s : Fin 20480) (d : Fin 4096) : (REF te full nu X W1 W3 (ix2 s d) : EReal)
    = (TERM te full nu X W1 W3 0#32 ![0, 0, 0] slices_S8x4096x4096_S1x4096x4096_0_0_0 (ix2 s d) : EReal)
    + (TERM te full nu X W1 W3 1#32 ![1, 0, 0] slices_S8x4096x4096_S1x4096x4096_1_0_0 (ix2 s d) : EReal)
    + (TERM te full nu X W1 W3 2#32 ![2, 0, 0] slices_S8x4096x4096_S1x4096x4096_2_0_0 (ix2 s d) : EReal)
    + (TERM te full nu X W1 W3 3#32 ![3, 0, 0] slices_S8x4096x4096_S1x4096x4096_3_0_0 (ix2 s d) : EReal)
    + (TERM te full nu X W1 W3 4#32 ![4, 0, 0] slices_S8x4096x4096_S1x4096x4096_4_0_0 (ix2 s d) : EReal)
    + (TERM te full nu X W1 W3 5#32 ![5, 0, 0] slices_S8x4096x4096_S1x4096x4096_5_0_0 (ix2 s d) : EReal)
    + (TERM te full nu X W1 W3 6#32 ![6, 0, 0] slices_S8x4096x4096_S1x4096x4096_6_0_0 (ix2 s d) : EReal)
    + (TERM te full nu X W1 W3 7#32 ![7, 0, 0] slices_S8x4096x4096_S1x4096x4096_7_0_0 (ix2 s d) : EReal) := by
  pointwise [REF]

/-- One expert's slice of the weights. -/
theorem sl (k : Fin 8) : S8x4096x4096.Slices ![k.val, 0, 0] S1x4096x4096 := by
  fin_cases k
  exacts [slices_S8x4096x4096_S1x4096x4096_0_0_0, slices_S8x4096x4096_S1x4096x4096_1_0_0, slices_S8x4096x4096_S1x4096x4096_2_0_0,
    slices_S8x4096x4096_S1x4096x4096_3_0_0, slices_S8x4096x4096_S1x4096x4096_4_0_0, slices_S8x4096x4096_S1x4096x4096_5_0_0,
    slices_S8x4096x4096_S1x4096x4096_6_0_0, slices_S8x4096x4096_S1x4096x4096_7_0_0]

/-- Expert `k`'s term at one entry. -/
def term (s : Fin 20480) (d : Fin 4096) (k : Fin 8) : EReal :=
  TERM te full nu X W1 W3 (BitVec.ofNat 32 k.val) ![k.val, 0, 0] (sl k) (ix2 s d)

theorem ref_terms (s : Fin 20480) (d : Fin 4096) : (REF te full nu X W1 W3 (ix2 s d) : EReal)
    = term te full nu X W1 W3 s d 0 + term te full nu X W1 W3 s d 1 + term te full nu X W1 W3 s d 2 + term te full nu X W1 W3 s d 3
      + term te full nu X W1 W3 s d 4 + term te full nu X W1 W3 s d 5 + term te full nu X W1 W3 s d 6 + term te full nu X W1 W3 s d 7 :=
  ref_sum te full nu X W1 W3 s d

/-- Off the tokens in use the result is zero. -/
theorem ref_off (s : Fin 20480) (d : Fin 4096) (hv : ¬inUse full nu s) : (REF te full nu X W1 W3 (ix2 s d) : EReal) = 0 := by
  have z : ∀ k, term te full nu X W1 W3 s d k = 0 := fun k => term_off te full nu X W1 W3 k _ _ s d fun h => hv h.1
  rw [ref_terms]
  simp only [z, add_zero]

/-- At a token in use the result is the gated product with its tile's expert. -/
theorem ref_on (s : Fin 20480) (d : Fin 4096) (e : Fin 8) (hv : inUse full nu s)
    (he : te (ix1 ⟨s.val / 512, by have := s.isLt; omega⟩) = BitVec.ofNat 32 e.val) :
    (REF te full nu X W1 W3 (ix2 s d) : EReal) = GATED X W1 W3 e s d := by
  have t : ∀ k, term te full nu X W1 W3 s d k = if k = e then GATED X W1 W3 e s d else 0 := fun k => by
    split
    · rename_i hk; subst hk; exact term_on te full nu X W1 W3 k _ _ s d hv he
    · rename_i hk
      refine term_off te full nu X W1 W3 k _ _ s d fun hh => hk (Fin.ext ?_)
      have := congrArg BitVec.toNat (hh.2.symm.trans he)
      rw [BitVec.toNat_ofNat, BitVec.toNat_ofNat] at this
      omega
  rw [ref_terms]
  simp only [t]
  fin_cases e <;> simp

end Term

end Cert.Up.Experts
end
-- ==== Proof.UpPrinted.lean ====
module

public import proofs.«01_k».proof.Proof.UpReference

/-!
# The expert layer's reference, as its run leaves it

The run of the reference leaves its operations' composed term. That term is the sum the reference is written as.
-/

@[expose] public section

set_option maxRecDepth 16384

noncomputable section

namespace Cert.UpRefIdeal.Experts

open Idealize.ShloMosaic Idealize.ShloMosaic.TcCoe Idealize.SL.Sem Idealize.ShloMosaic.StableHlo
open Cert.UpRefIdeal Cert.UpRefIdeal.Gen Cert.UpRefIdeal.Value
open Cert.Up.Experts (REF TERM DOT VALID REP)

variable (V0 : Valuation τ sig (Elt Ideal))

/-- The arguments the result reads: the tables of experts, of full tiles and of the number in use, the tokens, the two weights. -/
abbrev TE : IVec S40 32 := V0 (Proc.devRef .tc main_arg0)
abbrev FU : IVec S40 32 := V0 (Proc.devRef .tc main_arg4)
abbrev NU : IVec S1 32 := V0 (Proc.devRef .tc main_arg5)
abbrev XS : FVec Ideal S20480x4096 .bf16 := V0 (Proc.devRef .tc main_arg6)
abbrev W1 : FVec Ideal S8x4096x4096 .f32 := V0 (Proc.devRef .tc main_arg7)
abbrev W3 : FVec Ideal S8x4096x4096 .f32 := V0 (Proc.devRef .tc main_arg8)

/-- The experts of the tokens' tiles. -/
theorem rep : res_main_v7 V0 = REP (TE V0) := rfl
/-- The tokens in use. -/
theorem valid : res_main_v16 V0 = VALID (FU V0) (NU V0) := rfl
/-- The tokens widened. -/
theorem tok : res_main_v17 V0 = extf (F := Ideal) .f32 (XS V0) bitsLt_bf16_f32 := rfl
/-- The tokens times expert 0's first weight. -/
theorem dot0 : res_main_v26 V0 = DOT (XS V0) (W1 V0) ![0, 0, 0] slices_S8x4096x4096_S1x4096x4096_0_0_0 := rfl
/-- The tokens times expert 1's first weight. -/
theorem dot1 : res_main_v42 V0 = DOT (XS V0) (W1 V0) ![1, 0, 0] slices_S8x4096x4096_S1x4096x4096_1_0_0 := rfl
/-- The tokens times expert 2's first weight. -/
theorem dot2 : res_main_v58 V0 = DOT (XS V0) (W1 V0) ![2, 0, 0] slices_S8x4096x4096_S1x4096x4096_2_0_0 := rfl
/-- The tokens times expert 3's first weight. -/
theorem dot3 : res_main_v74 V0 = DOT (XS V0) (W1 V0) ![3, 0, 0] slices_S8x4096x4096_S1x4096x4096_3_0_0 := rfl
/-- The tokens times expert 4's first weight. -/
theorem dot4 : res_main_v90 V0 = DOT (XS V0) (W1 V0) ![4, 0, 0] slices_S8x4096x4096_S1x4096x4096_4_0_0 := rfl
/-- The tokens times expert 5's first weight. -/
theorem dot5 : res_main_v106 V0 = DOT (XS V0) (W1 V0) ![5, 0, 0] slices_S8x4096x4096_S1x4096x4096_5_0_0 := rfl
/-- The tokens times expert 6's first weight. -/
theorem dot6 : res_main_v122 V0 = DOT (XS V0) (W1 V0) ![6, 0, 0] slices_S8x4096x4096_S1x4096x4096_6_0_0 := rfl
/-- The tokens times expert 7's first weight. -/
theorem dot7 : res_main_v138 V0 = DOT (XS V0) (W1 V0) ![7, 0, 0] slices_S8x4096x4096_S1x4096x4096_7_0_0 := rfl

/-- One expert's term as the run leaves it. -/
abbrev PT (u : FVec Ideal S20480x4096 .f32) (e : BitVec 32) (off : Fin 3 → ℕ) (h : S8x4096x4096.Slices off S1x4096x4096) : FVec Ideal S20480x4096 .f32 :=
  mulf (broadcastInDim S20480x4096 ![0, 1] bcast_S20480x1_S20480x4096_0_1 (broadcastInDim S20480x1 ![0] bcast_S20480_S20480x1_0 (uitofp .f32 (andi (res_main_v16 V0) (cmpi .eq (res_main_v7 V0) (broadcastInDim S20480 ![] bcast_S_S20480 (constantI S_ 32 e))))))) (mulf (mulf u (Host.divf (broadcastInDim S20480x4096 ![] bcast_S_S20480x4096 (constant S_ .f32 0x3F800000#32)) (addf (broadcastInDim S20480x4096 ![] bcast_S_S20480x4096 (constant S_ .f32 0x3F800000#32)) (Host.exp (Host.negf u))))) (Host.dotGeneral (φ₁ := .f32) (φ₂ := .f32) dot_S20480x4096_S4096x4096_S20480x4096_1_0_0_1_n_n none (res_main_v17 V0) (shapeCast S4096x4096 (extractStridedSlice S1x4096x4096 off (V0 (Proc.devRef .tc main_arg8)) h) shapeCasts_S1x4096x4096_S4096x4096)))

/-- The term the run leaves is the reference's. -/
theorem term_eq (u : FVec Ideal S20480x4096 .f32) (e : BitVec 32) (off : Fin 3 → ℕ) (h : S8x4096x4096.Slices off S1x4096x4096)
    (hu : u = DOT (XS V0) (W1 V0) off h) : PT V0 u e off h = TERM (TE V0) (FU V0) (NU V0) (XS V0) (W1 V0) (W3 V0) e off h := by
  unfold PT
  rw [valid, rep, tok, hu]
  rfl

/-- The sum of the first five terms. -/
theorem five : res_main_v98 V0 = addf (addf (addf (addf (addf
    (broadcastInDim S20480x4096 ![] bcast_S_S20480x4096 (constant (F := Ideal) S_ .f32 0x00000000#32))
    (PT V0 (res_main_v26 V0) 0#32 ![0, 0, 0] slices_S8x4096x4096_S1x4096x4096_0_0_0))
    (PT V0 (res_main_v42 V0) 1#32 ![1, 0, 0] slices_S8x4096x4096_S1x4096x4096_1_0_0))
    (PT V0 (res_main_v58 V0) 2#32 ![2, 0, 0] slices_S8x4096x4096_S1x4096x4096_2_0_0))
    (PT V0 (res_main_v74 V0) 3#32 ![3, 0, 0] slices_S8x4096x4096_S1x4096x4096_3_0_0))
    (PT V0 (res_main_v90 V0) 4#32 ![4, 0, 0] slices_S8x4096x4096_S1x4096x4096_4_0_0) := by
  unfold res_main_v98 PT; rfl

/-- The result the run leaves is the reference's sum. -/
theorem printed : truncf .bf16 (addf (addf (addf (res_main_v98 V0)
    (PT V0 (res_main_v106 V0) 5#32 ![5, 0, 0] slices_S8x4096x4096_S1x4096x4096_5_0_0))
    (PT V0 (res_main_v122 V0) 6#32 ![6, 0, 0] slices_S8x4096x4096_S1x4096x4096_6_0_0))
    (PT V0 (res_main_v138 V0) 7#32 ![7, 0, 0] slices_S8x4096x4096_S1x4096x4096_7_0_0)) bitsLt_bf16_f32
      = REF (TE V0) (FU V0) (NU V0) (XS V0) (W1 V0) (W3 V0) := by
  rw [five, term_eq V0 _ _ _ _ (dot0 V0), term_eq V0 _ _ _ _ (dot1 V0), term_eq V0 _ _ _ _ (dot2 V0), term_eq V0 _ _ _ _ (dot3 V0),
    term_eq V0 _ _ _ _ (dot4 V0), term_eq V0 _ _ _ _ (dot5 V0), term_eq V0 _ _ _ _ (dot6 V0), term_eq V0 _ _ _ _ (dot7 V0)]
  unfold REF; rfl

/-- The run of the reference leaves the reference's sum of the arguments. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v147)
        = REF (m ((c.tc : Thread nD τ).loc main_arg0)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8)) :=
  (θ_run defs _ _).mono (fun _ h c => by
    refine (h c).1.trans ?_
    have e := printed (launchContents m c)
    unfold PT at e
    refine Eq.trans ?_ e
    rfl) (Value.run m ρ)

end Cert.UpRefIdeal.Experts
end
-- ==== Proof.UpPre.lean ====
module

public import proofs.«01_k».proof.Defs
public import proofs.«01_k».proof.Proof.UpFrame
public import Idealize.ShloMosaic.Lib.Pipeline.ValueKit

/-!
# The tables' schedule, from the precondition
-/

@[expose] public section

set_option maxRecDepth 16384

noncomputable section

namespace Cert.Up.Plans

open Idealize.ShloMosaic Idealize.ShloMosaic.TcCoe Idealize.SL.Sem
open Cert.Pre_moe_up_scheduled

/-- The shapes the precondition's operations take fit one another. -/
theorem facts : Cert.Pre_moe_up_scheduled.Facts := by
  constructor <;> decide

theorem ori_iff (a b : BitVec 1) : IntOp.ori a b = 1#1 ↔ a = 1#1 ∨ b = 1#1 := by revert a b; decide
theorem andi_iff (a b : BitVec 1) : IntOp.andi a b = 1#1 ↔ a = 1#1 ∧ b = 1#1 := by revert a b; decide
theorem not_iff (a : BitVec 1) : ~~~a = 1#1 ↔ ¬a = 1#1 := by revert a; decide
theorem bits_iff (a b : BitVec 1) : IntOp.cmpi .eq a b = 1#1 ↔ (a = 1#1 ↔ b = 1#1) := by revert a b; decide
theorem select_iff (c a b : BitVec 1) : Scalar.select c a b = 1#1 ↔ (c = 1#1 ∧ a = 1#1) ∨ (¬c = 1#1 ∧ b = 1#1) := by
  revert c a b; decide

section Read
variable {F : FTy → Type} [FloatOps F] [Cert.Pre_moe_up_scheduled.Facts]
variable (te fi nx la fu : IVec S40 32) (nu : IVec S1 32) (X : FVec F S20480x4096 .bf16) (W1 W3 : FVec F S8x4096x4096 .f32)

theorem p1 (h : (fn te fi nx la fu nu X W1 W3).1 = fun _ => 1#1) : 1 ≤ (nu (ix1 0)).toInt := by
  have h := congrFun h (ix1 0)
  pointwise [fn, fn_part1, fn_part2, fn_part3, fn_where] at h
  rw [IntOp.cmpi_sge] at h
  exact h

theorem p2 (h : (fn te fi nx la fu nu X W1 W3).2.1 = fun _ => 1#1) : fi (ix1 0) = 1#32 := by
  have h := congrFun h (ix1 0)
  pointwise [fn, fn_part1, fn_part2, fn_part3, fn_where] at h
  simpa only [IntOp.cmpi_eq] using h

theorem p3 (h : (fn te fi nx la fu nu X W1 W3).2.2.1 = fun _ => 1#1) (n : Fin 40) (hn : (BitVec.ofNat 32 n.val).toInt < (nu (ix1 0)).toInt) :
    0 ≤ (te (ix1 n)).toInt ∧ (te (ix1 n)).toInt < 8 := by
  have h := congrFun h (ix1 n)
  pointwise [fn, fn_part1, fn_part2, fn_part3, fn_where] at h
  simp only [ori_iff, andi_iff, not_iff, IntOp.cmpi_slt, IntOp.cmpi_sge] at h
  rcases h with h | h
  · exact absurd hn h
  · exact h

theorem p4 (h : (fn te fi nx la fu nu X W1 W3).2.2.2.1 = fun _ => 1#1) (n : Fin 40)
    (hn : BitVec.ofNat 32 n.val = nu (ix1 0) - 1#32 ∨ (n.val = 39 ∧ (BitVec.ofNat 32 n.val).toInt < (nu (ix1 0)).toInt)) :
    la (ix1 n) = 1#32 ∧ nx (ix1 n) = te (ix1 0) := by
  have h := congrFun h (ix1 n)
  pointwise [fn, fn_part1, fn_part2, fn_part3, fn_where] at h
  simp only [ori_iff, andi_iff, not_iff, IntOp.cmpi_slt, IntOp.cmpi_eq] at h
  rcases h with h | h
  · refine absurd ?_ h
    rcases hn with hn | ⟨hn, hu⟩
    · exact Or.inl hn
    · exact Or.inr ⟨by rw [hn], hu⟩
  · exact h

theorem p5 (h : (fn te fi nx la fu nu X W1 W3).2.2.2.2 = fun _ => 1#1) (n : ℕ) (hn : n + 1 < 40)
    (hu : (BitVec.ofNat 32 (n + 1)).toInt < (nu (ix1 0)).toInt) :
    (te (ix1 ⟨n, by omega⟩) = te (ix1 ⟨n + 1, hn⟩) ∧ ¬fi (ix1 ⟨n + 1, hn⟩) = 1#32 ∧ nx (ix1 ⟨n, by omega⟩) = nx (ix1 ⟨n + 1, hn⟩)
        ∧ (la (ix1 ⟨n, by omega⟩) = 1#32 ↔ la (ix1 ⟨n + 1, hn⟩) = 1#32))
      ∨ (fi (ix1 ⟨n + 1, hn⟩) = 1#32 ∧ nx (ix1 ⟨n, by omega⟩) = te (ix1 ⟨n + 1, hn⟩) ∧ ¬la (ix1 ⟨n, by omega⟩) = 1#32) := by
  have h := congrFun h (ix1 ⟨n, by omega⟩)
  pointwise [fn, fn_part1, fn_part2, fn_part3, fn_where] at h
  simp only [ori_iff, andi_iff, not_iff, select_iff, bits_iff, IntOp.cmpi_slt, IntOp.cmpi_eq, IntOp.cmpi_ne, Nat.add_comm 1 n] at h
  rcases h with h | ⟨a, ⟨b, c⟩, d⟩ | ⟨-, ⟨a, b⟩, c⟩
  · exact absurd hu h
  · exact Or.inl ⟨a, b, c, d⟩
  · exact Or.inr ⟨a, b, c⟩

/-- The five results say that the tables keep the schedule. -/
theorem keeps (h1 : (fn te fi nx la fu nu X W1 W3).1 = fun _ => 1#1) (h2 : (fn te fi nx la fu nu X W1 W3).2.1 = fun _ => 1#1)
    (h3 : (fn te fi nx la fu nu X W1 W3).2.2.1 = fun _ => 1#1) (h4 : (fn te fi nx la fu nu X W1 W3).2.2.2.1 = fun _ => 1#1)
    (h5 : (fn te fi nx la fu nu X W1 W3).2.2.2.2 = fun _ => 1#1) :
    Tiles.Sched (Hand.wd te) (Hand.wd fi) (Hand.wd nx) (Hand.wd la) (nu (ix1 0)) := by
  have u1 := p1 te fi nx la fu nu X W1 W3 h1
  have hle := Tiles.used_le (nu (ix1 0))
  have w : ∀ (T : IVec S40 32) (n : ℕ) (hn : n < 40), Hand.wd T n = T (ix1 ⟨n, hn⟩) := fun T n hn => by
    unfold Hand.wd
    congr 1
    funext a; apply Fin.ext
    match a with
    | ⟨0, _⟩ => exact Nat.mod_eq_of_lt hn
  have hp : 0 < Tiles.used (nu (ix1 0)) := by unfold Tiles.used; omega
  have t0 := w te 0 (by decide)
  refine ⟨hp, ?_, fun n hn => ?_, ?_, fun n hn => ?_⟩
  · rw [w fi 0 (by decide)]; exact p2 te fi nx la fu nu X W1 W3 h2
  · have hn' : n < 40 := by omega
    rw [w te n hn']
    have := p3 te fi nx la fu nu X W1 W3 h3 ⟨n, hn'⟩ ((Tiles.lt_used _ hn').mpr hn)
    rw [BitVec.toInt_eq_toNat_cond] at this
    split at this <;> omega
  · have hn' : Tiles.used (nu (ix1 0)) - 1 < 40 := by omega
    rw [w la _ hn', w nx _ hn', t0]
    refine p4 te fi nx la fu nu X W1 W3 h4 ⟨_, hn'⟩ ?_
    by_cases hb : (nu (ix1 0)).toInt ≤ 40
    · left
      have hv : Tiles.used (nu (ix1 0)) = (nu (ix1 0)).toNat := by
        unfold Tiles.used
        rw [BitVec.toInt_eq_toNat_cond] at *
        split at u1 <;> split at hb <;> omega
      apply BitVec.eq_of_toNat_eq
      show (BitVec.ofNat 32 (Tiles.used (nu (ix1 0)) - 1)).toNat = _
      rw [BitVec.toNat_sub, BitVec.toNat_ofNat, hv]
      rw [hv] at hp hle
      simp; omega
    · right
      have hv : Tiles.used (nu (ix1 0)) = 40 := by unfold Tiles.used; omega
      exact ⟨by show Tiles.used (nu (ix1 0)) - 1 = 39; omega, (Tiles.lt_used _ hn').mpr (by show Tiles.used (nu (ix1 0)) - 1 < _; omega)⟩
  · have hn' : n + 1 < 40 := by omega
    rw [w te n (by omega), w te _ hn', w fi _ hn', w nx n (by omega), w nx _ hn', w la n (by omega), w la _ hn']
    exact p5 te fi nx la fu nu X W1 W3 h5 n hn' ((Tiles.lt_used _ hn').mpr hn)

end Read

/-- The table of one has one index. -/
theorem only (i j : S1.Idx) : i = j := funext fun a => by
  match a with
  | ⟨0, _⟩ => exact Subsingleton.elim (α := Fin 1) _ _

/-- The word the table of one is loaded as is its only entry. -/
theorem one_word {F : FTy → Type} [FloatOps F] (m : (ℓ : Loc Cert.Up.nD Cert.Up.τ Cert.Up.sig) → Buf (Elt F) ℓ) (c : Dev Cert.Up.nD) :
    Cert.Up.Hand.uW m c = (m ((c : Thread Cert.Up.nD Cert.Up.τ).loc Cert.Up.main_arg5) : IVec S1 32) (ix1 0) :=
  congrArg (m ((c : Thread Cert.Up.nD Cert.Up.τ).loc Cert.Up.main_arg5) : IVec S1 32) (only _ _)

/-- Under the precondition the launched tables keep the schedule. -/
theorem plan [Cert.Pre_moe_up_scheduled.Facts] (m : (ℓ : Loc Cert.Up.nD Cert.Up.τ Cert.Up.sig) → Buf (Elt Bits) ℓ)
    (h : Cert.Pre_Up m) : Cert.Up.Hand.Plan m := fun c => by
  obtain ⟨h1, h2, h3, h4, h5⟩ := h c
  have k := keeps (F := Bits) _ _ _ _ _ _ _ _ _ h1 h2 h3 h4 h5
  rw [one_word]
  exact k

/-- Under the precondition the launched tables keep the schedule, over the extended reals. -/
theorem plan_ideal [Cert.Pre_moe_up_scheduled.Facts] (m : (ℓ : Loc Cert.UpIdeal.nD Cert.UpIdeal.τ Cert.UpIdeal.sig) → Buf (Elt Ideal) ℓ)
    (h : Cert.Pre_UpIdeal m) : Cert.Up.Hand.Plan (F := Ideal) m := fun c => by
  obtain ⟨h1, h2, h3, h4, h5⟩ := h c
  have k := keeps (F := Ideal) _ _ _ _ _ _ _ _ _ h1 h2 h3 h4 h5
  rw [one_word]
  exact k

end Cert.Up.Plans
end
-- ==== Proof.UpValue.lean ====
module

public import proofs.«01_k».proof.Proof.UpIdealFrame
public import proofs.«01_k».proof.Proof.UpReference
public import proofs.«01_k».proof.Proof.UpPre
public import proofs.«01_k».proof.Proof.GatesValue
public import Idealize.ShloMosaic.Lib.Pipeline.ValueKit
public import Idealize.ShloMosaic.Lib.Pipeline.Covers
public import Idealize.ShloMosaic.Lib.Pipeline.ReadBack
public import Idealize.ShloMosaic.Lib.ValueLayout

/-!
# The expert layer equals its reference

At a point whose tile is in use the body stores the gated product of its token tile with the kept column block of the tile's
expert, over all rows or over the first half of them; every other row it stores is zero. The reference's sum over the experts
comes to the same at every entry.
-/

@[expose] public section

set_option maxRecDepth 16384

noncomputable section

namespace Cert.Up.Experts

open Idealize.ShloMosaic Idealize.ShloMosaic.TcCoe Idealize.SL.Sem
open Cert.Up Cert.Up.Gen Cert.Up.Hand

/-- The gated product of a row with the columns of two blocks. -/
def gate (a b : EReal) : EReal := a * Ideal.logistic a * b

/-- The word of one half. -/
theorem half_word : Ideal.ofBits FTy.f32 1056964608#32 = ((1 / 2 : ℝ) : EReal) := by
  have hb : (BitVec.extractLsb' 31 1 1056964608#32 = 1#1) = False := by decide
  norm_num [Ideal.ofBits, Ideal.ieee, Nat.shiftRight_eq_div_pow, hb]

/-- A full tile's block at one entry. -/
theorem pay3_at (x : FVec Ideal S512x4096 .bf16) (b1 b3 : FVec Ideal S4096x512 .bf16) (r l : Fin 512) :
    (k0_pay3 (F := Ideal) x b1 b3 (ix2 r l) : EReal)
      = gate (∑ k : Fin 4096, (x (ix2 r k) : EReal) * b1 (ix2 k l)) (∑ k : Fin 4096, (x (ix2 r k) : EReal) * b3 (ix2 k l)) := by
  rw [gate, ← Cert.Gates.Sig.half_tanh, ← half_word]
  open_payloads; pointwise

/-- A half tile's block at one entry. -/
theorem pay4_at (x : FVec Ideal S256x4096 .bf16) (b1 b3 : FVec Ideal S4096x512 .bf16) (r : Fin 256) (l : Fin 512) :
    (k0_pay4 (F := Ideal) x b1 b3 (ix2 r l) : EReal)
      = gate (∑ k : Fin 4096, (x (ix2 r k) : EReal) * b1 (ix2 k l)) (∑ k : Fin 4096, (x (ix2 r k) : EReal) * b3 (ix2 k l)) := by
  rw [gate, ← Cert.Gates.Sig.half_tanh, ← half_word]
  open_payloads; pointwise

/-- The lower half of a half tile is zero. -/
theorem pay5_at (y : S256x512.Idx) : (k0_pay5 (F := Ideal) y : EReal) = 0 := by
  open_payloads; pointwise
/-- A tile out of use is zero. -/
theorem pay6_at (y : S512x512.Idx) : (k0_pay6 (F := Ideal) y : EReal) = 0 := by
  open_payloads; pointwise

variable (m : (ℓ : Loc nD τ sig) → Buf (Elt Ideal) ℓ)

/-- An array read at an index with the coordinates of expert `e`, row `k`, column `l` of column tile `j`. -/
theorem block_at (W : S8x4096x4096.Idx → EReal) (e j : ℕ) (he : e < 8) (hj : j < 8)
    (i : S8x4096x4096.Idx) (k : Fin 4096) (l : Fin 512)
    (h0 : (i 0).val = e % 8 + 1 * 0) (h1 : (i 1).val = 0 + 1 * k.val) (h2 : (i 2).val = 512 * (j % 8) + 1 * l.val) :
    W i = W (ix3 ⟨e, he⟩ k ⟨512 * j + l, by omega⟩) := by
  refine congrArg W (funext fun a => Fin.ext ?_)
  match a with
  | ⟨0, _⟩ => exact h0.trans (by rw [Nat.mod_eq_of_lt he]; rfl)
  | ⟨1, _⟩ => exact h1.trans (by rw [zero_add, one_mul]; rfl)
  | ⟨2, _⟩ => exact h2.trans (by rw [Nat.mod_eq_of_lt hj, one_mul]; rfl)

/-- A kept column block of the first weight at one entry is the weight's entry in its expert and column tile. -/
theorem kept1_at (c : Dev nD) (e j : ℕ) (k : Fin 4096) (l : Fin 512) (he : e < 8) (hj : j < 8) :
    kept1 m c e j (ix2 k l) = m ((c : Thread nD τ).loc main_arg7) (ix3 ⟨e, he⟩ k ⟨512 * j + l, by omega⟩) := by
  unfold kept1 wblk
  rw [rnd_at]
  unfold wSl
  rw [Memref.read_squeeze_slice (hc := (by decide : S1x4096x512.ShapeCasts S4096x512))]
  refine (ValueIdx.shapeCast_1ab_ab_apply _ _ k l).trans ?_
  rw [View.readAt_apply]
  exact block_at (V m c main_arg7) e j he hj _ k l rfl rfl rfl

/-- A kept column block of the second weight at one entry is the weight's entry in its expert and column tile. -/
theorem kept3_at (c : Dev nD) (e j : ℕ) (k : Fin 4096) (l : Fin 512) (he : e < 8) (hj : j < 8) :
    kept3 m c e j (ix2 k l) = m ((c : Thread nD τ).loc main_arg8) (ix3 ⟨e, he⟩ k ⟨512 * j + l, by omega⟩) := by
  unfold kept3 wblk
  rw [rnd_at]
  unfold wSl
  rw [Memref.read_squeeze_slice (hc := (by decide : S1x4096x512.ShapeCasts S4096x512))]
  refine (ValueIdx.shapeCast_1ab_ab_apply _ _ k l).trans ?_
  rw [View.readAt_apply]
  exact block_at (V m c main_arg8) e j he hj _ k l rfl rfl rfl

/-- The second window's block at a point: the tile's rows, the slow axis's column tile. -/
theorem idx1 : ∀ t : Fin grid0.N, cc0_transform_3 (grid0.coords t) = ![t.val % 40, t.val / 40] := by decide +kernel

/-- The blocks written cover the array. -/
theorem covers (h : Plan m) : ((cfgM m h).win 1).Covers := by
  refine Pipeline.Window.covers_of_index_surj _ rfl (fun a => ?_) fun β => ?_
  · match a with
    | ⟨0, _⟩ => exact (by decide : 0 < 512)
    | ⟨1, _⟩ => exact (by decide : 0 < 512)
  · have hp : (β ⟨0, Nat.zero_lt_two⟩).val < 40 := lt_of_lt_of_eq (β ⟨0, Nat.zero_lt_two⟩).isLt (show (20480 + 512 - 1) / 512 = 40 by norm_num)
    have hq : (β ⟨1, Nat.one_lt_two⟩).val < 8 := lt_of_lt_of_eq (β ⟨1, Nat.one_lt_two⟩).isLt (show (4096 + 512 - 1) / 512 = 8 by norm_num)
    have key : ∀ p q : ℕ, p < 40 → q < 8 → (q * 40 + p < 320 ∧ (q * 40 + p) % 40 = p ∧ (q * 40 + p) / 40 = q) := fun p q _ _ => by omega
    obtain ⟨hN, e0, e1⟩ := key _ _ hp hq
    refine ⟨(⟨_, hN⟩ : Fin grid0.N), fun a => ?_⟩
    refine (congrFun (idx1 ⟨_, hN⟩) a).trans ?_
    match a with
    | ⟨0, _⟩ => exact e0
    | ⟨1, _⟩ => exact e1

/-- A table's word at a tile. -/
theorem wd_at (T : S40.Idx → BitVec 32) (n : ℕ) (hn : n < 40) : wd T n = T (ix1 ⟨n, hn⟩) := by
  unfold wd; congr 1; funext a; apply Fin.ext
  match a with | ⟨0, _⟩ => exact Nat.mod_eq_of_lt hn

/-- The token tile at a point in use, at one entry. -/
theorem tok_at (h : Plan m) (c : Dev nD) (t : Fin grid0.N) (ht : t.val % 40 < Tiles.used (uW m c)) (r : Fin 512) (k : Fin 4096) :
    iblk m h c 0 t (ix2 r k) = m ((c : Thread nD τ).loc main_arg6) (ix2 ⟨t.val % 40 * 512 + r, by omega⟩ k) := by
  have hc : c = 0 := Subsingleton.elim _ _
  subst hc
  show V m 0 main_arg6 ((((cfgM m h).win 0).blk t).view.emb (ix2 r k)) = _
  refine congrArg (V m 0 main_arg6) (funext fun a => Fin.ext ?_)
  refine (((cfgM m h).win 0).rect_emb_val t (ix2 r k) a).trans ?_
  have e : ((cfgM m h).win 0).index t a = (![t.val % 40, 0] : Fin 2 → ℕ) a := by
    refine (congrFun (index0 m h (grid0.coords t)) a).trans ?_
    rw [coords1, Tiles.row_of_lt ht]
  rw [e]
  match a with
  | ⟨0, _⟩ => rfl
  | ⟨1, _⟩ => show 0 * 4096 + k.val = k.val; omega

/-- A tile in use of expert `e`: its rows' gated products with the kept blocks are the reference's. -/
theorem gate_at (h : Plan m) (c : Dev nD) (t : Fin grid0.N) (ht : t.val % 40 < Tiles.used (uW m c)) (e : ℕ) (he : e < 8) (r l : Fin 512)
    (x : FVec Ideal S512x4096 .bf16) (b1 b3 : FVec Ideal S4096x512 .bf16) (hx : x = iblk m h c 0 t)
    (h1 : b1 = kept1 m c e (t.val / 40)) (h3 : b3 = kept3 m c e (t.val / 40)) :
    gate (∑ k : Fin 4096, (x (ix2 r k) : EReal) * b1 (ix2 k l)) (∑ k : Fin 4096, (x (ix2 r k) : EReal) * b3 (ix2 k l))
      = GATED (m ((c : Thread nD τ).loc main_arg6)) (m ((c : Thread nD τ).loc main_arg7)) (m ((c : Thread nD τ).loc main_arg8)) ⟨e, he⟩
          ⟨t.val % 40 * 512 + r, by omega⟩ ⟨512 * (t.val / 40) + l, by have := t.isLt; change t.val < 320 at this; omega⟩ := by
  have hj : t.val / 40 < 8 := by have := t.isLt; change t.val < 320 at this; omega
  have ex : ∀ k : Fin 4096, x (ix2 r k) = _ := fun k => (congrFun hx _).trans (tok_at m h c t ht r k)
  have e1 : ∀ k : Fin 4096, b1 (ix2 k l) = _ := fun k => (congrFun h1 _).trans (kept1_at m c e (t.val / 40) k l he hj)
  have e3 : ∀ k : Fin 4096, b3 (ix2 k l) = _ := fun k => (congrFun h3 _).trans (kept3_at m c e (t.val / 40) k l he hj)
  simp only [ex, e1, e3]
  rfl

/-- What a point stores, at one entry, is the reference's entry. -/
theorem put_at (h : Plan m) (c : Dev nD) (t : Fin grid0.N) (r l : Fin 512) :
    (put m c t (iblk m h c 0 t) (ix2 r l) : EReal)
      = REF (m ((c : Thread nD τ).loc main_arg0)) (m ((c : Thread nD τ).loc main_arg4)) (m ((c : Thread nD τ).loc main_arg5))
          (m ((c : Thread nD τ).loc main_arg6)) (m ((c : Thread nD τ).loc main_arg7)) (m ((c : Thread nD τ).loc main_arg8))
          (ix2 ⟨t.val % 40 * 512 + r, by omega⟩ ⟨512 * (t.val / 40) + l, by have := t.isLt; change t.val < 320 at this; omega⟩) := by
  have hN : t.val < 320 := t.isLt
  have hn : t.val % 40 < 40 := Nat.mod_lt _ (by decide)
  have hs : (t.val % 40 * 512 + r.val) / 512 = t.val % 40 := by omega
  have hr : (t.val % 40 * 512 + r.val) % 512 = r.val := by omega
  have hu : uW m c = m ((c : Thread nD τ).loc main_arg5) (ix1 0) := Cert.Up.Plans.one_word m c
  have ifull : ∀ p : (t.val % 40 * 512 + r.val) / 512 < 40, (ix1 ⟨(t.val % 40 * 512 + r.val) / 512, p⟩ : S40.Idx) = ix1 ⟨t.val % 40, hn⟩ := fun p =>
    congrArg ix1 (Fin.ext hs)
  have hf : word fuM (V m c main_arg4) (k0_off12 (grid0.coords t)) (k0_off12_inb (grid0.coords t))
      = m ((c : Thread nD τ).loc main_arg4) (ix1 ⟨t.val % 40, hn⟩) :=
    (word_eq fuM (V m c main_arg4) _ (by rw [Tiles.off12_eq, coords1]) hn).trans (wd_at _ _ hn)
  have hte : teW m c (t.val % 40) = m ((c : Thread nD τ).loc main_arg0) (ix1 ⟨t.val % 40, hn⟩) := wd_at _ _ hn
  have c1 := coords1 t
  unfold put Cert.Up.Hand.pay
  by_cases ht : t.val % 40 < Tiles.used (uW m c)
  · rw [Tiles.row_of_lt ht]
    have he := (h c).expert _ ht
    have hw : ∀ p : (t.val % 40 * 512 + r.val) / 512 < 40, m ((c : Thread nD τ).loc main_arg0) (ix1 ⟨(t.val % 40 * 512 + r.val) / 512, p⟩)
        = BitVec.ofNat 32 (teW m c (t.val % 40)).toNat := fun p => by rw [ifull p, ← hte]; simp
    by_cases hfull : m ((c : Thread nD τ).loc main_arg4) (ix1 ⟨t.val % 40, hn⟩) = 1#32
    · rw [if_pos ((Tiles.cond5_iff _ _ _).2 ⟨by rw [c1]; exact ht, hf.trans hfull⟩)]
      refine (pay3_at _ _ _ r l).trans ((gate_at m h c t ht _ he r l _ _ _ rfl rfl rfl).trans (ref_on _ _ _ _ _ _ _ _ ⟨_, he⟩ ?_ (hw _)).symm)
      refine ⟨by rw [hs, ← hu]; exact ht, Or.inl ?_⟩
      rw [ifull]; exact hfull
    · rw [if_neg (fun hc => hfull (hf.symm.trans ((Tiles.cond5_iff _ _ _).1 hc).2)),
        if_pos ((Tiles.cond6_iff _ _ _).2 ⟨by rw [c1]; exact ht, fun hc => hfull (hf.symm.trans hc)⟩)]
      by_cases hlow : r.val < 256
      · refine (dif_pos hlow).trans ?_
        refine (pay4_at _ _ _ ⟨r.val, hlow⟩ l).trans ((gate_at m h c t ht _ he r l _ _ _ rfl rfl rfl).trans (ref_on _ _ _ _ _ _ _ _ ⟨_, he⟩ ?_ (hw _)).symm)
        exact ⟨by rw [hs, ← hu]; exact ht, Or.inr (by rw [hr]; exact hlow)⟩
      · refine (dif_neg hlow).trans ((pay5_at _).trans (ref_off _ _ _ _ _ _ _ _ ?_).symm)
        rintro ⟨-, hx | hx⟩
        · rw [ifull] at hx; exact hfull hx
        · rw [hr] at hx; exact hlow hx
  · rw [if_neg (fun hc => ht (by have := ((Tiles.cond5_iff _ _ _).1 hc).1; rwa [c1] at this)),
      if_neg (fun hc => ht (by have := ((Tiles.cond6_iff _ _ _).1 hc).1; rwa [c1] at this))]
    refine (pay6_at _).trans (ref_off _ _ _ _ _ _ _ _ ?_).symm
    rintro ⟨hx, -⟩
    rw [hs, ← hu] at hx; exact ht hx

/-- The output array after the run is the reference's result. -/
theorem final (h : Plan m) (c : Dev nD) : (dats m h 0 c).arrAt 1 (cfgM m h).N
    = REF (m ((c : Thread nD τ).loc main_arg0)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m h 0 c).arrAt_eq_of_covers 1 _ (covers m h) fun t _ y => ?_
  have ht : t.val < 320 := t.isLt
  show (dats m h 0 c).after 1 t y = _
  rw [after0_1]
  refine (congrArg (put m c t (iblk m h c 0 t)) (eq_ix2 (n0 := 512) (n1 := 512) y)).trans ((put_at m h c t (y ⟨0, Nat.zero_lt_two⟩) (y ⟨1, Nat.one_lt_two⟩)).trans ?_)
  refine congrArg _ (funext fun a => Fin.ext ?_)
  refine Eq.trans ?_ (((cfgM m h).win 1).rect_emb_val t y a).symm
  rw [show ((cfgM m h).win 1).index t a = (![t.val % 40, t.val / 40] : Fin 2 → ℕ) a from congrFun (idx1 t) a]
  match a with
  | ⟨0, _⟩ => rfl
  | ⟨1, _⟩ => show 512 * (t.val / 40) + _ = t.val / 40 * 512 + _; rw [Nat.mul_comm]; rfl

end Cert.Up.Experts

namespace Cert.UpIdeal.Experts

open Idealize.ShloMosaic Idealize.ShloMosaic.TcCoe Idealize.SL.Sem Cert.Up.Experts

set_option backward.isDefEq.respectTransparency.types false in
/-- The program over the reals ends with the reference's result in its output and its arguments as they were. -/
theorem result (m : (ℓ : Loc nD τ sig) → Buf (Elt Ideal) ℓ) (h : Cert.Up.Hand.Plan m) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = REF (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  rw [Hand.defs_eq]
  exact θ_run_mono (θ_run_and (Cert.Up.Hand.run_main m ρ h) (Cert.Up.Hand.frame m ρ h)) fun r hr c =>
    ⟨((hr.1.1 c).1 1).trans (final m h c), hr.2.1 c⟩

end Cert.UpIdeal.Experts
end
-- ==== Proof.DownRuns.lean ====
module

public import proofs.«01_k».proof.Proof.Gen.Down.Launch
public import proofs.«01_k».proof.Proof.Gen.Down.Loops
public import Idealize.ShloMosaic.Lib.Pipeline.FrameBody
public import Idealize.ShloMosaic.Lib.Transfers
public import Idealize.ShloMosaic.Lib.WritesUnit
public import Idealize.ShloMosaic.Lib.VecWindow
public import Idealize.ShloMosaic.Lib.Tactic
public import Idealize.ShloMosaic.Lib.Pointwise
public import Idealize.ShloMosaic.Lib.WordCmp

@[expose] public section

set_option maxRecDepth 16384

noncomputable section

namespace Cert.Down.Hand

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of this proof: the pipeline's, beside the counters of the transfers the body issues. -/
local notation "𝕄" => MT nD τ sig Unit (Elt F) ℕ (Pipeline.UD sig nD τ) ℕ

/-! ## The buffers the body keeps from point to point -/

/-- The buffer a column block of the weights lands in, and the block rounded to bf16. -/
abbrev stM1 : Memref sig .tc .vmem S4096x1024 .f32 := Memref.whole cc0_scratch0
abbrev wbM1 : Memref sig .tc .vmem S4096x1024 .bf16 := Memref.whole cc0_scratch1
/-- The weights, left in HBM. -/
abbrev wM1 : Memref sig .tc .hbm S8x4096x4096 .f32 := Memref.whole main_arg7
/-- The tables, in SMEM. -/
abbrev teM : Memref sig .tc .smem S40 .i32 := Memref.whole main_arg0
abbrev fiM : Memref sig .tc .smem S40 .i32 := Memref.whole main_arg1
abbrev nxM : Memref sig .tc .smem S40 .i32 := Memref.whole main_arg2
abbrev laM : Memref sig .tc .smem S40 .i32 := Memref.whole main_arg3
abbrev fuM : Memref sig .tc .smem S40 .i32 := Memref.whole main_arg4
abbrev nuM : Memref sig .tc .smem S1 .i32 := Memref.whole main_arg5
/-- The cell the transfer completes on. -/
abbrev cell1 : SemLoc sig := SemLoc.dma ((cc0_scratch2.slice (Rect.unit (s := S1) ![0] S1.size inb_S1_S1_0)).squeeze S_ squeezes_S1_S_).sem

/-- A block of columns, rounded to bf16. -/
abbrev rnd (x : Vec F S4096x1024 .f32) : Vec F S4096x1024 .bf16 := truncf .bf16 x bitsLt_bf16_f32

theorem rnd_at (x : Vec F S4096x1024 .f32) (y : S4096x1024.Idx) : rnd x y = FloatOps.truncf .bf16 bitsLt_bf16_f32 (x y) := rfl

/-! ## The state between points -/

/-- 1024 columns of one expert's weights, from the offsets `off`. -/
abbrev wSl (M : Memref sig .tc .hbm S8x4096x4096 .f32) (off : Fin 3 → ℕ) (hb : ∀ a, off a + S1x4096x1024.size a ≤ S8x4096x4096.size a) :
    Memref sig .tc .hbm S4096x1024 .f32 :=
  (M.slice (Rect.unit (s := S8x4096x4096) off S1x4096x1024.size hb) (fun _ => rfl)).squeeze S4096x1024 squeezes_S1x4096x1024_S4096x1024

/-- What those columns hold. -/
def wblk (M : Memref sig .tc .hbm S8x4096x4096 .f32) {c : Dev nD} (w : Buf (Elt F) (M.view.loc (c : Thread nD τ))) (off : Fin 3 → ℕ)
    (hb : ∀ a, off a + S1x4096x1024.size a ≤ S8x4096x4096.size a) : Vec F S4096x1024 .f32 :=
  (wSl M off hb).view.read (Elt F) w

theorem wblk_congr (M : Memref sig .tc .hbm S8x4096x4096 .f32) {c : Dev nD} (w : Buf (Elt F) (M.view.loc (c : Thread nD τ))) {off off' : Fin 3 → ℕ} (h : off = off')
    (hb : ∀ a, off a + S1x4096x1024.size a ≤ S8x4096x4096.size a) (hb' : ∀ a, off' a + S1x4096x1024.size a ≤ S8x4096x4096.size a) :
    wblk M w off hb = wblk M w off' hb' := by subst h; rfl

/-- A weight held whole, apart from what a transfer has lent. -/
abbrev wPt (M : Memref sig .tc .hbm S8x4096x4096 .f32) (c : Dev nD) (w : Buf (Elt F) (M.view.loc (c : Thread nD τ))) : sProp 𝕄 :=
  M.view.loc (c : Thread nD τ) ↦{fullShare} w

/-- A table, held at half the full share. -/
abbrev tbPt (c : Dev nD) {S : Shape} (M : Memref sig .tc .smem S .i32) (f : Buf (Elt F) (M.view.loc (c : Thread nD τ))) : sProp 𝕄 :=
  M.view.loc (c : Thread nD τ) ↦{fullShare.right} f

/-- No transfer under way on a cell: the landing buffer at anything, the cell at zero, the weights whole. -/
def home (st : Memref sig .tc .vmem S4096x1024 .f32) (M : Memref sig .tc .hbm S8x4096x4096 .f32) (q : SemLoc sig) (c : Dev nD)
    (w : Buf (Elt F) (M.view.loc (c : Thread nD τ))) : sProp 𝕄 :=
  iprop((∃ d, owns (c : Thread nD τ) st fullShare d) ∗ semVal ((c : Thread nD τ), q) 0 ∗ wPt M c w)

/-- The columns at `off` on their way into the landing buffer, the rest of the weights at hand. -/
def flying (st : Memref sig .tc .vmem S4096x1024 .f32) (M : Memref sig .tc .hbm S8x4096x4096 .f32) (q : SemLoc sig) (c : Dev nD)
    (w : Buf (Elt F) (M.view.loc (c : Thread nD τ))) (off : Fin 3 → ℕ)
    (hb : ∀ a, off a + S1x4096x1024.size a ≤ S8x4096x4096.size a) : sProp 𝕄 :=
  iprop(∃ fd, Transfers.Flight countersEmb (c : Thread nD τ) q () 524288
        iprop((st.view.loc (c : Thread nD τ) ↦[st.view.set]{fullShare} fd) ∗ (M.view.loc (c : Thread nD τ) ↦[(wSl M off hb).view.set]{fullShare} w))
      ∗ (M.view.loc (c : Thread nD τ) ↦[Finset.univ \ (wSl M off hb).view.set]{fullShare} w)
      ∗ ⌜st.view.read (Elt F) fd = wblk M w off hb⌝)

theorem flying_congr (st : Memref sig .tc .vmem S4096x1024 .f32) (M : Memref sig .tc .hbm S8x4096x4096 .f32) (q : SemLoc sig) (c : Dev nD)
    (w : Buf (Elt F) (M.view.loc (c : Thread nD τ))) {off off' : Fin 3 → ℕ} (h : off = off')
    (hb : ∀ a, off a + S1x4096x1024.size a ≤ S8x4096x4096.size a) (hb' : ∀ a, off' a + S1x4096x1024.size a ≤ S8x4096x4096.size a) :
    flying st M q c w off hb = flying st M q c w off' hb' := by subst h; rfl

/-! ## The loop that rounds the staged block, 128 rows a trip -/

section Loop
variable (c : Dev nD) (i : grid0.Coords) (arg8 : Memref sig .tc .vmem S512x4096 .bf16) (harg8 : arg8.IsWhole)
  (arg10 : Memref sig .tc .vmem S512x1024 .f32) (harg10 : arg10.IsWhole)

/-- A trip rounds the next 128 rows of the staged block and leaves the others. -/
theorem trip_rows (st : Memref sig .tc .vmem S4096x1024 .f32) (wb : Memref sig .tc .vmem S4096x1024 .bf16)
    (p : Vec F S128x1024 .f32 → FVec F S128x1024 .bf16) (hp : ∀ v z, p v z = FloatOps.truncf .bf16 bitsLt_bf16_f32 (v z))
    (X : BufTy.Contents (Elt F) st.view.ty) (k : Fin (Scf.trips k0_t1_loop.lb k0_t1_loop.ub k0_t1_loop.st))
    (hk : k.val < 32) (f : BufTy.Contents (Elt F) wb.view.ty)
    (hf : ∀ y : S4096x1024.Idx, (y 0).val < 128 * k.val → wb.view.read (Elt F) f y = rnd (st.view.read (Elt F) X) y)
    (y : S4096x1024.Idx) (hy : (y 0).val < 128 * (k.val + 1)) :
    wb.view.read (Elt F) (wb.view.writes (Elt F) f
        [⟨Rect.unit (s := S4096x1024) (k0_off6 k) S128x1024.size (k0_off6_inb k),
            p (View.readAt (Elt F) st.view (Rect.unit (s := S4096x1024) (k0_off6 k) S128x1024.size (k0_off6_inb k)).toLoadRect X)⟩]) y
      = rnd (st.view.read (Elt F) X) y := by
  by_cases h : (y 0).val < 128 * k.val
  · refine (View.read_writes_cons_rows_of_not_mem wb.view f _ _ [] y (k0_off6_eq k) rfl (.inl h)).trans ?_
    exact hf y h
  · have hx : ∀ a, (![128 * k.val, 0] : Fin 2 → ℕ) a ≤ (y a).val ∧ (y a).val < (![128 * k.val, 0] : Fin 2 → ℕ) a + S128x1024.size a := by
      have h1 := (y 1).isLt
      intro a
      fin_cases a
      · exact ⟨Nat.le_of_not_lt h, by show (y 0).val < 128 * k.val + 128; omega⟩
      · exact ⟨Nat.zero_le _, by show (y 1).val < 0 + 1024; exact (by simpa using h1 : (y 1).val < 1024) |>.trans_eq (Nat.zero_add _).symm⟩
    refine (View.read_writes_cons_unit_of_mem wb.view f _ _ [] y (show (Rect.unit (s := S4096x1024) (k0_off6 k) S128x1024.size (k0_off6_inb k)).shape.Idx from Rect.unitLocal (s := S4096x1024) (off := ![128 * k.val, 0]) (size := S128x1024.size) y hx) (k0_off6_eq k) fun a => ?_).trans ?_
    · have := hx a
      rw [Rect.unitLocal_val]; omega
    · rw [hp, rnd_at, View.readAt_apply]
      refine congrArg (FloatOps.truncf .bf16 bitsLt_bf16_f32) (congrArg (st.view.read (Elt F) X) (funext fun a => Fin.ext ?_))
      have := hx a
      have e : k0_off6 k a = (![128 * k.val, 0] : Fin 2 → ℕ) a := congrFun (k0_off6_eq k) a
      show k0_off6 k a + 1 * ((y a).val - (![128 * k.val, 0] : Fin 2 → ℕ) a) = (y a).val
      omega

theorem pay1_at (v : Vec F S128x1024 .f32) (z : S128x1024.Idx) : k0_pay1 v z = FloatOps.truncf .bf16 bitsLt_bf16_f32 (v z) := by
  simp only [k0_pay1, shapeCast_id]; rfl

/-- Before trip `k` the first `128 * k` rows of the block are rounded. -/
def loopPre (X1 : Buf (Elt F) (stM1.view.loc (c : Thread nD τ))) (k : ℕ) : sProp 𝕄 :=
  iprop((stM1.view.loc (c : Thread nD τ) ↦[stM1.view.set]{fullShare} X1)
    ∗ (∃ f, (wbM1.view.loc (c : Thread nD τ) ↦[wbM1.view.set]{fullShare} f)
        ∗ ⌜∀ y : S4096x1024.Idx, (y 0).val < 128 * k → wbM1.view.read (Elt F) f y = rnd (stM1.view.read (Elt F) X1) y⌝))

set_option warn.classDefReducibility false in
@[sl_loop] def loopInv (𝒱 : Variants) (bd : Option 𝒱.V) (E : Set ℕ) (X1 : Buf (Elt F) (stM1.view.loc (c : Thread nD τ))) :
    LoopInvTy_k0_t1 (F := F) Unit ℕ (Pipeline.UD sig nD τ) ℕ 𝒱 c bd E i teM (Memref.isWhole_whole _) fiM (Memref.isWhole_whole _) nxM (Memref.isWhole_whole _)
      laM (Memref.isWhole_whole _) fuM (Memref.isWhole_whole _) nuM (Memref.isWhole_whole _) arg8 harg8 wM1 (Memref.isWhole_whole _)
      arg10 harg10 stM1 (Memref.isWhole_whole _) wbM1 (Memref.isWhole_whole _) cc0_scratch2 where
  inv k _ := loopPre c X1 k
  step k acc := by
    have hk : k.val < 32 := Nat.lt_of_lt_of_le k.isLt k0_t1_abs.2.1
    unfold loopPre
    iintro ⟨HX1, ⟨%f1, HW1, %hf1⟩⟩
    unfold k0_t1_body
    sl_exec
    sl_step
    isplitl [HX1]; · iexact HX1
    iexists _; isplitl [HW1]; · iexact HW1
    ipureintro
    intro y hy
    exact trip_rows stM1 wbM1 k0_pay1 pay1_at _ k hk _ hf1 _ hy

end Loop

theorem trips_eq : 4096 ≤ 128 * Scf.trips k0_t1_loop.lb k0_t1_loop.ub k0_t1_loop.st := by decide +kernel

/-- After the loop a whole block is rounded. -/
theorem all_rows {wb : Memref sig .tc .vmem S4096x1024 .bf16} {f : BufTy.Contents (Elt F) wb.view.ty} {v : Vec F S4096x1024 .f32}
    (h : ∀ y : S4096x1024.Idx, (y 0).val < 128 * Scf.trips k0_t1_loop.lb k0_t1_loop.ub k0_t1_loop.st →
      wb.view.read (Elt F) f y = rnd v y) : wb.view.read (Elt F) f = rnd v :=
  funext fun y => h y (lt_of_lt_of_le (y 0).isLt trips_eq)

/-- A landing buffer reads what landed last. -/
theorem read_last (st : Memref sig .tc .vmem S4096x1024 .f32) (f : BufTy.Contents (Elt F) st.view.ty) (v : Vec F S4096x1024 .f32)
    (L : List (View.Piece (Elt F) S4096x1024 .f32)) :
    st.view.read (Elt F) (st.view.writes (Elt F) f (⟨Rect.whole S4096x1024, v⟩ :: L)) = v := by
  rw [← List.singleton_append, View.writes_append]
  exact View.read_writes_whole st.view _ v

/-! ## The words the body loads -/

/-- The word of a table of 40 at the offsets `off`. -/
abbrev word {c : Dev nD} (M : Memref sig .tc .smem S40 .i32) (f : Buf (Elt F) (M.view.loc (c : Thread nD τ))) (off : Fin 1 → ℕ)
    (hb : ∀ a, off a + S1.size a ≤ S40.size a) : Elt F .i32 :=
  M.view.readAt (Elt F) (Rect.unit (s := S40) off S1.size hb).toLoadRect f (Shape.Idx.first (numel1_S1.symm ▸ Nat.one_pos))
/-- The word of the table of one. -/
abbrev word1 {c : Dev nD} (M : Memref sig .tc .smem S1 .i32) (f : Buf (Elt F) (M.view.loc (c : Thread nD τ))) : Elt F .i32 :=
  M.view.readAt (Elt F) (Rect.unit (s := S1) ![0] S1.size inb_S1_S1_0).toLoadRect f (Shape.Idx.first (numel1_S1.symm ▸ Nat.one_pos))

section Run
variable (c : Dev nD) (i : grid0.Coords) (arg8 : Memref sig .tc .vmem S512x4096 .bf16) (harg8 : arg8.IsWhole)
  (arg10 : Memref sig .tc .vmem S512x1024 .f32) (harg10 : arg10.IsWhole)
  (x : Vec F S512x4096 .bf16) (w1 : Buf (Elt F) (wM1.view.loc (c : Thread nD τ)))
  (te : Buf (Elt F) (teM.view.loc (c : Thread nD τ))) (fi : Buf (Elt F) (fiM.view.loc (c : Thread nD τ)))
  (nx : Buf (Elt F) (nxM.view.loc (c : Thread nD τ))) (la : Buf (Elt F) (laM.view.loc (c : Thread nD τ)))
  (fu : Buf (Elt F) (fuM.view.loc (c : Thread nD τ))) (nu : Buf (Elt F) (nuM.view.loc (c : Thread nD τ)))

/-- The body at the operands of one point. -/
abbrev body : Prog (TpuEff nD τ sig (Elt F) Λ₀ .tc) PUnit :=
  cc0_moe_down i teM (Memref.isWhole_whole _) fiM (Memref.isWhole_whole _) nxM (Memref.isWhole_whole _)
      laM (Memref.isWhole_whole _) fuM (Memref.isWhole_whole _) nuM (Memref.isWhole_whole _) arg8 harg8 wM1 (Memref.isWhole_whole _)
      arg10 harg10 stM1 (Memref.isWhole_whole _) wbM1 (Memref.isWhole_whole _) cc0_scratch2

/-- The tables, all six. -/
def tabs : sProp 𝕄 :=
  iprop(tbPt c teM te ∗ tbPt c fiM fi ∗ tbPt c nxM nx ∗ tbPt c laM la ∗ tbPt c fuM fu ∗ tbPt c nuM nu)

/-- The first 256 rows of a block of tokens. -/
def xTop (x : Vec F S512x4096 .bf16) : Vec F S256x4096 .bf16 :=
  fun z => x (ix2 (⟨(z 0).val, lt_trans (z 0).isLt (by decide)⟩ : Fin 512) (⟨(z 1).val, (z 1).isLt⟩ : Fin 4096))
/-- An index of the first 256 rows, and one of the others counted from 256. -/
def upper (y : S512x1024.Idx) (h : (y 0).val < 256) : S256x1024.Idx := ix2 (⟨(y 0).val, h⟩ : Fin 256) (⟨(y 1).val, (y 1).isLt⟩ : Fin 1024)
def lower (y : S512x1024.Idx) (h : ¬(y 0).val < 256) : S256x1024.Idx :=
  ix2 (⟨(y 0).val - 256, by have : (y 0).val < 512 := (y 0).isLt; omega⟩ : Fin 256) (⟨(y 1).val, (y 1).isLt⟩ : Fin 1024)

/-- The block a point leaves: all its rows, its first 256 and zeros, or zeros, as the tables say. -/
def pay (x : Vec F S512x4096 .bf16) (b1 : Vec F S4096x1024 .bf16) (u f : BitVec 32) : Vec F S512x1024 .f32 :=
  if k0_cond5 i u f = 1#1 then k0_pay2 x b1
  else if k0_cond6 i u f = 1#1 then fun y => if h : (y 0).val < 256 then k0_pay3 (xTop x) b1 (upper y h) else k0_pay4 (lower y h)
  else k0_pay5

/-- One and only one of the three ways of storing applies. -/
def OneWay (u f : BitVec 32) : Prop :=
  (k0_cond5 i u f = 1#1 ∧ ¬k0_cond6 i u f = 1#1 ∧ ¬k0_cond7 i u = 1#1)
  ∨ (¬k0_cond5 i u f = 1#1 ∧ k0_cond6 i u f = 1#1 ∧ ¬k0_cond7 i u = 1#1)
  ∨ (¬k0_cond5 i u f = 1#1 ∧ ¬k0_cond6 i u f = 1#1 ∧ k0_cond7 i u = 1#1)

/-- The result's buffer reads the block the tables call for, its operands the buffers' contents. -/
theorem read_out {f8 : BufTy.Contents (Elt F) arg8.view.ty} {f10 : BufTy.Contents (Elt F) arg10.view.ty} {f14 : BufTy.Contents (Elt F) wbM1.view.ty} {b1 : Vec F S4096x1024 .bf16} {u f : BitVec 32} (ho : OneWay i u f)
    (h8 : arg8.view.read (Elt F) f8 = x) (h14 : wbM1.view.read (Elt F) f14 = b1) :
    arg10.view.read (Elt F) (if hc : k0_cond7 i u = 1#1 then
      arg10.view.writes (Elt F)
        (if hc : k0_cond6 i u f = 1#1 then
          arg10.view.writes (Elt F)
            (if hc : k0_cond5 i u f = 1#1 then
              arg10.view.writes (Elt F) f10
                [⟨Rect.unit (s := S512x1024) ![0, 0] S512x1024.size inb_S512x1024_S512x1024_0_0,
                    k0_pay2
                      (View.readAt (Elt F) arg8.view
                        (Rect.unit (s := S512x4096) ![0, 0] S512x4096.size inb_S512x4096_S512x4096_0_0).toLoadRect f8)
                      (View.readAt (Elt F) wbM1.view
                        (Rect.unit (s := S4096x1024) ![0, 0] S4096x1024.size inb_S4096x1024_S4096x1024_0_0).toLoadRect f14)⟩]
            else f10)
            [⟨Rect.unit (s := S512x1024) ![256, 0] S256x1024.size inb_S512x1024_S256x1024_256_0, k0_pay4⟩,
              ⟨Rect.unit (s := S512x1024) ![0, 0] S256x1024.size inb_S512x1024_S256x1024_0_0,
                k0_pay3
                  (View.readAt (Elt F) arg8.view
                    (Rect.unit (s := S512x4096) ![0, 0] S256x4096.size inb_S512x4096_S256x4096_0_0).toLoadRect f8)
                  (View.readAt (Elt F) wbM1.view
                    (Rect.unit (s := S4096x1024) ![0, 0] S4096x1024.size inb_S4096x1024_S4096x1024_0_0).toLoadRect f14)⟩]
        else
          if hc : k0_cond5 i u f = 1#1 then
            arg10.view.writes (Elt F) f10
              [⟨Rect.unit (s := S512x1024) ![0, 0] S512x1024.size inb_S512x1024_S512x1024_0_0,
                  k0_pay2
                    (View.readAt (Elt F) arg8.view
                      (Rect.unit (s := S512x4096) ![0, 0] S512x4096.size inb_S512x4096_S512x4096_0_0).toLoadRect f8)
                    (View.readAt (Elt F) wbM1.view
                      (Rect.unit (s := S4096x1024) ![0, 0] S4096x1024.size inb_S4096x1024_S4096x1024_0_0).toLoadRect f14)⟩]
          else f10)
        [⟨Rect.unit (s := S512x1024) ![0, 0] S512x1024.size inb_S512x1024_S512x1024_0_0, k0_pay5⟩]
    else
      if hc : k0_cond6 i u f = 1#1 then
        arg10.view.writes (Elt F)
          (if hc : k0_cond5 i u f = 1#1 then
            arg10.view.writes (Elt F) f10
              [⟨Rect.unit (s := S512x1024) ![0, 0] S512x1024.size inb_S512x1024_S512x1024_0_0,
                  k0_pay2
                    (View.readAt (Elt F) arg8.view
                      (Rect.unit (s := S512x4096) ![0, 0] S512x4096.size inb_S512x4096_S512x4096_0_0).toLoadRect f8)
                    (View.readAt (Elt F) wbM1.view
                      (Rect.unit (s := S4096x1024) ![0, 0] S4096x1024.size inb_S4096x1024_S4096x1024_0_0).toLoadRect f14)⟩]
          else f10)
          [⟨Rect.unit (s := S512x1024) ![256, 0] S256x1024.size inb_S512x1024_S256x1024_256_0, k0_pay4⟩,
            ⟨Rect.unit (s := S512x1024) ![0, 0] S256x1024.size inb_S512x1024_S256x1024_0_0,
              k0_pay3
                (View.readAt (Elt F) arg8.view (Rect.unit (s := S512x4096) ![0, 0] S256x4096.size inb_S512x4096_S256x4096_0_0).toLoadRect f8)
                (View.readAt (Elt F) wbM1.view (Rect.unit (s := S4096x1024) ![0, 0] S4096x1024.size inb_S4096x1024_S4096x1024_0_0).toLoadRect f14)⟩]
      else
        if hc : k0_cond5 i u f = 1#1 then
          arg10.view.writes (Elt F) f10
            [⟨Rect.unit (s := S512x1024) ![0, 0] S512x1024.size inb_S512x1024_S512x1024_0_0,
                k0_pay2
                  (View.readAt (Elt F) arg8.view (Rect.unit (s := S512x4096) ![0, 0] S512x4096.size inb_S512x4096_S512x4096_0_0).toLoadRect f8)
                  (View.readAt (Elt F) wbM1.view (Rect.unit (s := S4096x1024) ![0, 0] S4096x1024.size inb_S4096x1024_S4096x1024_0_0).toLoadRect f14)⟩]
        else f10)
      = pay i x b1 u f := by
  subst h8; subst h14
  have e14 := View.readAt_full wbM1.view f14 inb_S4096x1024_S4096x1024_0_0
  rcases ho with ⟨h5, h6, h7⟩ | ⟨h5, h6, h7⟩ | ⟨h5, h6, h7⟩
  · rw [dif_neg h7, dif_neg h6, dif_pos h5]
    unfold pay
    rw [if_pos h5]
    refine (View.read_writes_full arg10.view f10 _ _ _).trans ?_
    rw [e14]
    exact congrArg (fun v => k0_pay2 v _) (View.readAt_full arg8.view f8 _)
  · rw [dif_neg h7, dif_pos h6, dif_neg h5]
    unfold pay
    rw [if_neg h5, if_pos h6, e14]
    funext y
    have hy0 : (y 0).val < 512 := (y 0).isLt
    have hy1 : (y 1).val < 1024 := (y 1).isLt
    by_cases h : (y 0).val < 256
    · rw [dif_pos h]
      refine (View.read_writes_cons_rows_of_not_mem (o := 256) (W := 256) arg10.view f10 _ _ _ y rfl rfl (.inl h)).trans ?_
      refine (View.read_writes_cons_unit_of_mem arg10.view f10 _ _ [] y (upper y h) rfl fun a => ?_).trans ?_
      · match a with
        | ⟨0, _⟩ => exact (Nat.zero_add _).symm
        | ⟨1, _⟩ => exact (Nat.zero_add _).symm
      · have e8 : View.readAt (Elt F) arg8.view (Rect.unit (s := S512x4096) ![0, 0] S256x4096.size inb_S512x4096_S256x4096_0_0).toLoadRect f8
            = xTop (arg8.view.read (Elt F) f8) := by
          funext z
          rw [View.readAt_apply]
          refine congrArg (arg8.view.read (Elt F) f8) (funext fun a => Fin.ext ?_)
          match a with
          | ⟨0, _⟩ => show 0 + 1 * (z 0).val = (z 0).val; omega
          | ⟨1, _⟩ => show 0 + 1 * (z 1).val = (z 1).val; omega
        rw [e8]
    · rw [dif_neg h]
      refine View.read_writes_cons_unit_of_mem arg10.view f10 _ _ _ y (lower y h) rfl fun a => ?_
      match a with
      | ⟨0, _⟩ => show (y 0).val = 256 + ((y 0).val - 256); omega
      | ⟨1, _⟩ => exact (Nat.zero_add _).symm
  · rw [dif_pos h7]
    unfold pay
    rw [if_neg h5, if_neg h6]
    exact View.read_writes_full arg10.view _ _ _ _

/-- What a point leaves, the kept block being `b1`. -/
def left (b1 : Vec F S4096x1024 .bf16) (S : sProp 𝕄) : sProp 𝕄 :=
  iprop(owns (c : Thread nD τ) arg8 fullShare x ∗ owns (c : Thread nD τ) arg10 fullShare (pay i x b1 (word1 nuM nu) (word fuM fu (k0_off12 i) (k0_off12_inb i)))
    ∗ owns (c : Thread nD τ) wbM1 fullShare b1 ∗ S ∗ tabs c te fi nx la fu nu ∗ (∃ W', owes (c : Thread nD τ) 0 W'))

/-- The transfer at rest, and under way from an offset. -/
def atRest : sProp 𝕄 := home stM1 wM1 cell1 c w1
def onWay (off : Fin 3 → ℕ) (hb : ∀ a, off a + S1x4096x1024.size a ≤ S8x4096x4096.size a) : sProp 𝕄 := flying stM1 wM1 cell1 c w1 off hb

/-- A point that shares the block rounded before it, or uses none. -/
theorem runE (b1 : Vec F S4096x1024 .bf16) (S : sProp 𝕄) (h1 : ¬k0_cond1 i (word1 nuM nu) (word fiM fi (k0_off1 i) (k0_off1_inb i)) = 1#1)
    (ho : OneWay i (word1 nuM nu) (word fuM fu (k0_off12 i) (k0_off12_inb i))) (W : Waits sig Unit) (K : PUnit → sProp 𝕄) :
    iprop(owns (c : Thread nD τ) arg8 fullShare x ∗ (∃ d, owns (c : Thread nD τ) arg10 fullShare d)
        ∗ owns (c : Thread nD τ) wbM1 fullShare b1 ∗ S ∗ tabs c te fi nx la fu nu ∗ owes (c : Thread nD τ) 0 W
        ∗ (left c i arg8 arg10 x te fi nx la fu nu b1 S -∗ K ⟨⟩))
      ⊢ wp frame (wpE (defs₀ (F := F)) Variants.none c none) Set.univ (body i arg8 harg8 arg10 harg10) K := by
  unfold body
  rw [cc0_moe_down_eq_skeleton]; unfold cc0_moe_down_skel
  unfold owns tabs
  iintro ⟨⟨%f8, %e8, H8⟩, ⟨%d10, %f10, -, H10⟩, ⟨%f14, %e14, H14⟩, HS, ⟨HT0, HT1, HT2, HT3, HT4, HT5⟩, HW, Hk⟩
  dsimp only [word, word1] at h1
  sl_exec
  sl_step
  iapply Hk
  unfold left owns tabs
  isplitl [H8]
  · iexists _; isplitr; swap; · iexact H8
    ipureintro; exact e8
  isplitl [H10]
  · iexists _; isplitr; swap; · iexact H10
    ipureintro; exact read_out i arg8 arg10 x ho e8 e14
  isplitl [H14]
  · iexists _; isplitr; swap; · iexact H14
    ipureintro; exact e14
  isplitl [HS]; · iexact HS
  isplitl [HT0 HT1 HT2 HT3 HT4 HT5]
  · isplitl [HT0]; · iexact HT0
    isplitl [HT1]; · iexact HT1
    isplitl [HT2]; · iexact HT2
    isplitl [HT3]; · iexact HT3
    isplitl [HT4]; · iexact HT4
    iexact HT5
  iexists _; iexact HW

/-- The first point, more experts to come: the block comes in and is rounded, the next expert's is sent for. -/
theorem runA3 (h1 : k0_cond1 i (word1 nuM nu) (word fiM fi (k0_off1 i) (k0_off1_inb i)) = 1#1) (h2 : k0_cond2 i = 1#1)
    (hb3 : (∀ a, k0_off3 i (word teM te (k0_off2 i) (k0_off2_inb i h2)) a + S1x4096x1024.size a ≤ S8x4096x4096.size a))
    (hb5 : (∀ a, k0_off5 i (word teM te (k0_off4 i) (k0_off4_inb i)) a + S1x4096x1024.size a ≤ S8x4096x4096.size a))
    (h3 : k0_cond3 (word laM la (k0_off7 i) (k0_off7_inb i)) = 1#1) (h4 : ¬k0_cond4 i (word laM la (k0_off7 i) (k0_off7_inb i)) = 1#1)
    (hb9 : (∀ a, k0_off9 i (word nxM nx (k0_off8 i) (k0_off8_inb i)) a + S1x4096x1024.size a ≤ S8x4096x4096.size a))
    (ho : OneWay i (word1 nuM nu) (word fuM fu (k0_off12 i) (k0_off12_inb i))) (W : Waits sig Unit) (K : PUnit → sProp 𝕄) :
    iprop(owns (c : Thread nD τ) arg8 fullShare x ∗ (∃ d, owns (c : Thread nD τ) arg10 fullShare d)
        ∗ (∃ d, owns (c : Thread nD τ) wbM1 fullShare d) ∗ atRest c w1 ∗ tabs c te fi nx la fu nu ∗ owes (c : Thread nD τ) 0 W
        ∗ (left c i arg8 arg10 x te fi nx la fu nu (rnd (wblk wM1 w1 (k0_off3 i (word teM te (k0_off2 i) (k0_off2_inb i h2))) hb3)) (onWay c w1 (k0_off9 i (word nxM nx (k0_off8 i) (k0_off8_inb i))) hb9) -∗ K ⟨⟩))
      ⊢ wp frame (wpE (defs₀ (F := F)) Variants.none c none) Set.univ (body i arg8 harg8 arg10 harg10) K := by
  unfold body
  rw [cc0_moe_down_eq_skeleton]; unfold cc0_moe_down_skel
  unfold atRest home owns tabs
  iintro ⟨⟨%f8, %e8, H8⟩, ⟨%d10, %f10, -, H10⟩, ⟨%d14, %f14, -, H14⟩, ⟨⟨%d12, %f12, -, H12⟩, Hq1, Hw1⟩, ⟨HT0, HT1, HT2, HT3, HT4, HT5⟩, HW, Hk⟩
  have hw1 : k0_chk1 i (word1 nuM nu) (word fiM fi (k0_off1 i) (k0_off1_inb i)) (word teM te (k0_off2 i) (k0_off2_inb i h2)) := fun _ _ => hb3
  have hw2 : k0_chk2 i (word1 nuM nu) (word fiM fi (k0_off1 i) (k0_off1_inb i)) (word teM te (k0_off4 i) (k0_off4_inb i)) := fun _ => hb5
  have hw3 : k0_chk3 i (word1 nuM nu) (word fiM fi (k0_off1 i) (k0_off1_inb i)) (word laM la (k0_off7 i) (k0_off7_inb i)) (word nxM nx (k0_off8 i) (k0_off8_inb i)) := fun _ _ => hb9
  dsimp only [word, word1] at h1 hw1 hw2 h3 h4 hw3
  sl_exec (disch := first | sl_exact hw1 | sl_exact hw2 | sl_exact hw3)
  sl_step
  have hr1 := all_rows hL2
  rw [View.read_writes_whole] at hr1
  iapply Hk
  unfold left onWay flying owns tabs
  isplitl [H8]
  · iexists _; isplitr; swap; · iexact H8
    ipureintro; exact e8
  isplitl [H10]
  · iexists _; isplitr; swap; · iexact H10
    ipureintro; exact read_out i arg8 arg10 x ho e8 hr1
  isplitl [H14]
  · iexists _; isplitr; swap; · iexact H14
    ipureintro; exact hr1
  isplitl [Hq1 Hw1]
  · iexists _
    isplitl [Hq1]; · iexact Hq1
    isplitl [Hw1]; · iexact Hw1
    ipureintro; refine (read_last stM1 _ _ _).trans ?_; rfl
  isplitl [HT0 HT1 HT2 HT3 HT4 HT5]
  · isplitl [HT0]; · iexact HT0
    isplitl [HT1]; · iexact HT1
    isplitl [HT2]; · iexact HT2
    isplitl [HT3]; · iexact HT3
    isplitl [HT4]; · iexact HT4
    iexact HT5
  iexists _; iexact HW

/-- The first point, one expert only: the block comes in and is rounded, the next column's is sent for. -/
theorem runA4 (h1 : k0_cond1 i (word1 nuM nu) (word fiM fi (k0_off1 i) (k0_off1_inb i)) = 1#1) (h2 : k0_cond2 i = 1#1)
    (hb3 : (∀ a, k0_off3 i (word teM te (k0_off2 i) (k0_off2_inb i h2)) a + S1x4096x1024.size a ≤ S8x4096x4096.size a))
    (hb5 : (∀ a, k0_off5 i (word teM te (k0_off4 i) (k0_off4_inb i)) a + S1x4096x1024.size a ≤ S8x4096x4096.size a))
    (h3 : ¬k0_cond3 (word laM la (k0_off7 i) (k0_off7_inb i)) = 1#1) (h4 : k0_cond4 i (word laM la (k0_off7 i) (k0_off7_inb i)) = 1#1)
    (hb11 : (∀ a, k0_off11 i (word nxM nx (k0_off10 i) (k0_off10_inb i)) a + S1x4096x1024.size a ≤ S8x4096x4096.size a))
    (ho : OneWay i (word1 nuM nu) (word fuM fu (k0_off12 i) (k0_off12_inb i))) (W : Waits sig Unit) (K : PUnit → sProp 𝕄) :
    iprop(owns (c : Thread nD τ) arg8 fullShare x ∗ (∃ d, owns (c : Thread nD τ) arg10 fullShare d)
        ∗ (∃ d, owns (c : Thread nD τ) wbM1 fullShare d) ∗ atRest c w1 ∗ tabs c te fi nx la fu nu ∗ owes (c : Thread nD τ) 0 W
        ∗ (left c i arg8 arg10 x te fi nx la fu nu (rnd (wblk wM1 w1 (k0_off3 i (word teM te (k0_off2 i) (k0_off2_inb i h2))) hb3)) (onWay c w1 (k0_off11 i (word nxM nx (k0_off10 i) (k0_off10_inb i))) hb11) -∗ K ⟨⟩))
      ⊢ wp frame (wpE (defs₀ (F := F)) Variants.none c none) Set.univ (body i arg8 harg8 arg10 harg10) K := by
  unfold body
  rw [cc0_moe_down_eq_skeleton]; unfold cc0_moe_down_skel
  unfold atRest home owns tabs
  iintro ⟨⟨%f8, %e8, H8⟩, ⟨%d10, %f10, -, H10⟩, ⟨%d14, %f14, -, H14⟩, ⟨⟨%d12, %f12, -, H12⟩, Hq1, Hw1⟩, ⟨HT0, HT1, HT2, HT3, HT4, HT5⟩, HW, Hk⟩
  have hw1 : k0_chk1 i (word1 nuM nu) (word fiM fi (k0_off1 i) (k0_off1_inb i)) (word teM te (k0_off2 i) (k0_off2_inb i h2)) := fun _ _ => hb3
  have hw2 : k0_chk2 i (word1 nuM nu) (word fiM fi (k0_off1 i) (k0_off1_inb i)) (word teM te (k0_off4 i) (k0_off4_inb i)) := fun _ => hb5
  have hw4 : k0_chk4 i (word1 nuM nu) (word fiM fi (k0_off1 i) (k0_off1_inb i)) (word laM la (k0_off7 i) (k0_off7_inb i)) (word nxM nx (k0_off10 i) (k0_off10_inb i)) := fun _ _ => hb11
  dsimp only [word, word1] at h1 hw1 hw2 h3 h4 hw4
  sl_exec (disch := first | sl_exact hw1 | sl_exact hw2 | sl_exact hw4)
  sl_step
  have hr1 := all_rows hL2
  rw [View.read_writes_whole] at hr1
  iapply Hk
  unfold left onWay flying owns tabs
  isplitl [H8]
  · iexists _; isplitr; swap; · iexact H8
    ipureintro; exact e8
  isplitl [H10]
  · iexists _; isplitr; swap; · iexact H10
    ipureintro; exact read_out i arg8 arg10 x ho e8 hr1
  isplitl [H14]
  · iexists _; isplitr; swap; · iexact H14
    ipureintro; exact hr1
  isplitl [Hq1 Hw1]
  · iexists _
    isplitl [Hq1]; · iexact Hq1
    isplitl [Hw1]; · iexact Hw1
    ipureintro; refine (read_last stM1 _ _ _).trans ?_; rfl
  isplitl [HT0 HT1 HT2 HT3 HT4 HT5]
  · isplitl [HT0]; · iexact HT0
    isplitl [HT1]; · iexact HT1
    isplitl [HT2]; · iexact HT2
    isplitl [HT3]; · iexact HT3
    isplitl [HT4]; · iexact HT4
    iexact HT5
  iexists _; iexact HW

/-- An expert's first point, not the last expert's: the block on its way comes in and is rounded, the next expert's is sent for. -/
theorem runB3 (h1 : k0_cond1 i (word1 nuM nu) (word fiM fi (k0_off1 i) (k0_off1_inb i)) = 1#1) (h2 : ¬k0_cond2 i = 1#1)
    (off : Fin 3 → ℕ) (hb : ∀ a, off a + S1x4096x1024.size a ≤ S8x4096x4096.size a)
    (hb5 : (∀ a, k0_off5 i (word teM te (k0_off4 i) (k0_off4_inb i)) a + S1x4096x1024.size a ≤ S8x4096x4096.size a))
    (h3 : k0_cond3 (word laM la (k0_off7 i) (k0_off7_inb i)) = 1#1) (h4 : ¬k0_cond4 i (word laM la (k0_off7 i) (k0_off7_inb i)) = 1#1)
    (hb9 : (∀ a, k0_off9 i (word nxM nx (k0_off8 i) (k0_off8_inb i)) a + S1x4096x1024.size a ≤ S8x4096x4096.size a))
    (ho : OneWay i (word1 nuM nu) (word fuM fu (k0_off12 i) (k0_off12_inb i))) (W : Waits sig Unit) (K : PUnit → sProp 𝕄) :
    iprop(owns (c : Thread nD τ) arg8 fullShare x ∗ (∃ d, owns (c : Thread nD τ) arg10 fullShare d)
        ∗ (∃ d, owns (c : Thread nD τ) wbM1 fullShare d) ∗ onWay c w1 off hb ∗ tabs c te fi nx la fu nu ∗ owes (c : Thread nD τ) 0 W
        ∗ (left c i arg8 arg10 x te fi nx la fu nu (rnd (wblk wM1 w1 off hb)) (onWay c w1 (k0_off9 i (word nxM nx (k0_off8 i) (k0_off8_inb i))) hb9) -∗ K ⟨⟩))
      ⊢ wp frame (wpE (defs₀ (F := F)) Variants.none c none) Set.univ (body i arg8 harg8 arg10 harg10) K := by
  unfold body
  rw [cc0_moe_down_eq_skeleton]; unfold cc0_moe_down_skel
  unfold onWay flying owns tabs
  iintro ⟨⟨%f8, %e8, H8⟩, ⟨%d10, %f10, -, H10⟩, ⟨%d14, %f14, -, H14⟩, ⟨%fd1, Hq1, Hw1, %hfd1⟩, ⟨HT0, HT1, HT2, HT3, HT4, HT5⟩, HW, Hk⟩
  have hw2 : k0_chk2 i (word1 nuM nu) (word fiM fi (k0_off1 i) (k0_off1_inb i)) (word teM te (k0_off4 i) (k0_off4_inb i)) := fun _ => hb5
  have hw3 : k0_chk3 i (word1 nuM nu) (word fiM fi (k0_off1 i) (k0_off1_inb i)) (word laM la (k0_off7 i) (k0_off7_inb i)) (word nxM nx (k0_off8 i) (k0_off8_inb i)) := fun _ _ => hb9
  dsimp only [word, word1] at h1 hw2 h3 h4 hw3
  sl_exec (disch := first | sl_exact hw2 | sl_exact hw3)
  sl_step
  have hr1 := all_rows hL2
  rw [hfd1] at hr1
  iapply Hk
  unfold left owns tabs
  isplitl [H8]
  · iexists _; isplitr; swap; · iexact H8
    ipureintro; exact e8
  isplitl [H10]
  · iexists _; isplitr; swap; · iexact H10
    ipureintro; exact read_out i arg8 arg10 x ho e8 hr1
  isplitl [H14]
  · iexists _; isplitr; swap; · iexact H14
    ipureintro; exact hr1
  isplitl [Hq1 Hw1]
  · iexists _
    isplitl [Hq1]; · iexact Hq1
    isplitl [Hw1]; · iexact Hw1
    ipureintro; refine (read_last stM1 _ _ _).trans ?_; rfl
  isplitl [HT0 HT1 HT2 HT3 HT4 HT5]
  · isplitl [HT0]; · iexact HT0
    isplitl [HT1]; · iexact HT1
    isplitl [HT2]; · iexact HT2
    isplitl [HT3]; · iexact HT3
    isplitl [HT4]; · iexact HT4
    iexact HT5
  iexists _; iexact HW

/-- The last expert's first point: the block on its way comes in and is rounded, the next column's first is sent for. -/
theorem runB4 (h1 : k0_cond1 i (word1 nuM nu) (word fiM fi (k0_off1 i) (k0_off1_inb i)) = 1#1) (h2 : ¬k0_cond2 i = 1#1)
    (off : Fin 3 → ℕ) (hb : ∀ a, off a + S1x4096x1024.size a ≤ S8x4096x4096.size a)
    (hb5 : (∀ a, k0_off5 i (word teM te (k0_off4 i) (k0_off4_inb i)) a + S1x4096x1024.size a ≤ S8x4096x4096.size a))
    (h3 : ¬k0_cond3 (word laM la (k0_off7 i) (k0_off7_inb i)) = 1#1) (h4 : k0_cond4 i (word laM la (k0_off7 i) (k0_off7_inb i)) = 1#1)
    (hb11 : (∀ a, k0_off11 i (word nxM nx (k0_off10 i) (k0_off10_inb i)) a + S1x4096x1024.size a ≤ S8x4096x4096.size a))
    (ho : OneWay i (word1 nuM nu) (word fuM fu (k0_off12 i) (k0_off12_inb i))) (W : Waits sig Unit) (K : PUnit → sProp 𝕄) :
    iprop(owns (c : Thread nD τ) arg8 fullShare x ∗ (∃ d, owns (c : Thread nD τ) arg10 fullShare d)
        ∗ (∃ d, owns (c : Thread nD τ) wbM1 fullShare d) ∗ onWay c w1 off hb ∗ tabs c te fi nx la fu nu ∗ owes (c : Thread nD τ) 0 W
        ∗ (left c i arg8 arg10 x te fi nx la fu nu (rnd (wblk wM1 w1 off hb)) (onWay c w1 (k0_off11 i (word nxM nx (k0_off10 i) (k0_off10_inb i))) hb11) -∗ K ⟨⟩))
      ⊢ wp frame (wpE (defs₀ (F := F)) Variants.none c none) Set.univ (body i arg8 harg8 arg10 harg10) K := by
  unfold body
  rw [cc0_moe_down_eq_skeleton]; unfold cc0_moe_down_skel
  unfold onWay flying owns tabs
  iintro ⟨⟨%f8, %e8, H8⟩, ⟨%d10, %f10, -, H10⟩, ⟨%d14, %f14, -, H14⟩, ⟨%fd1, Hq1, Hw1, %hfd1⟩, ⟨HT0, HT1, HT2, HT3, HT4, HT5⟩, HW, Hk⟩
  have hw2 : k0_chk2 i (word1 nuM nu) (word fiM fi (k0_off1 i) (k0_off1_inb i)) (word teM te (k0_off4 i) (k0_off4_inb i)) := fun _ => hb5
  have hw4 : k0_chk4 i (word1 nuM nu) (word fiM fi (k0_off1 i) (k0_off1_inb i)) (word laM la (k0_off7 i) (k0_off7_inb i)) (word nxM nx (k0_off10 i) (k0_off10_inb i)) := fun _ _ => hb11
  dsimp only [word, word1] at h1 hw2 h3 h4 hw4
  sl_exec (disch := first | sl_exact hw2 | sl_exact hw4)
  sl_step
  have hr1 := all_rows hL2
  rw [hfd1] at hr1
  iapply Hk
  unfold left owns tabs
  isplitl [H8]
  · iexists _; isplitr; swap; · iexact H8
    ipureintro; exact e8
  isplitl [H10]
  · iexists _; isplitr; swap; · iexact H10
    ipureintro; exact read_out i arg8 arg10 x ho e8 hr1
  isplitl [H14]
  · iexists _; isplitr; swap; · iexact H14
    ipureintro; exact hr1
  isplitl [Hq1 Hw1]
  · iexists _
    isplitl [Hq1]; · iexact Hq1
    isplitl [Hw1]; · iexact Hw1
    ipureintro; refine (read_last stM1 _ _ _).trans ?_; rfl
  isplitl [HT0 HT1 HT2 HT3 HT4 HT5]
  · isplitl [HT0]; · iexact HT0
    isplitl [HT1]; · iexact HT1
    isplitl [HT2]; · iexact HT2
    isplitl [HT3]; · iexact HT3
    isplitl [HT4]; · iexact HT4
    iexact HT5
  iexists _; iexact HW

/-- The last expert's first point in the last column: nothing more is sent for. -/
theorem runB0 (h1 : k0_cond1 i (word1 nuM nu) (word fiM fi (k0_off1 i) (k0_off1_inb i)) = 1#1) (h2 : ¬k0_cond2 i = 1#1)
    (off : Fin 3 → ℕ) (hb : ∀ a, off a + S1x4096x1024.size a ≤ S8x4096x4096.size a)
    (hb5 : (∀ a, k0_off5 i (word teM te (k0_off4 i) (k0_off4_inb i)) a + S1x4096x1024.size a ≤ S8x4096x4096.size a))
    (h3 : ¬k0_cond3 (word laM la (k0_off7 i) (k0_off7_inb i)) = 1#1) (h4 : ¬k0_cond4 i (word laM la (k0_off7 i) (k0_off7_inb i)) = 1#1)
    (ho : OneWay i (word1 nuM nu) (word fuM fu (k0_off12 i) (k0_off12_inb i))) (W : Waits sig Unit) (K : PUnit → sProp 𝕄) :
    iprop(owns (c : Thread nD τ) arg8 fullShare x ∗ (∃ d, owns (c : Thread nD τ) arg10 fullShare d)
        ∗ (∃ d, owns (c : Thread nD τ) wbM1 fullShare d) ∗ onWay c w1 off hb ∗ tabs c te fi nx la fu nu ∗ owes (c : Thread nD τ) 0 W
        ∗ (left c i arg8 arg10 x te fi nx la fu nu (rnd (wblk wM1 w1 off hb)) (atRest c w1) -∗ K ⟨⟩))
      ⊢ wp frame (wpE (defs₀ (F := F)) Variants.none c none) Set.univ (body i arg8 harg8 arg10 harg10) K := by
  unfold body
  rw [cc0_moe_down_eq_skeleton]; unfold cc0_moe_down_skel
  unfold onWay flying owns tabs
  iintro ⟨⟨%f8, %e8, H8⟩, ⟨%d10, %f10, -, H10⟩, ⟨%d14, %f14, -, H14⟩, ⟨%fd1, Hq1, Hw1, %hfd1⟩, ⟨HT0, HT1, HT2, HT3, HT4, HT5⟩, HW, Hk⟩
  have hw2 : k0_chk2 i (word1 nuM nu) (word fiM fi (k0_off1 i) (k0_off1_inb i)) (word teM te (k0_off4 i) (k0_off4_inb i)) := fun _ => hb5
  dsimp only [word, word1] at h1 hw2 h3 h4
  sl_exec (disch := first | sl_exact hw2)
  sl_step
  have hr1 := all_rows hL2
  rw [hfd1] at hr1
  iapply Hk
  unfold left atRest home owns tabs
  isplitl [H8]
  · iexists _; isplitr; swap; · iexact H8
    ipureintro; exact e8
  isplitl [H10]
  · iexists _; isplitr; swap; · iexact H10
    ipureintro; exact read_out i arg8 arg10 x ho e8 hr1
  isplitl [H14]
  · iexists _; isplitr; swap; · iexact H14
    ipureintro; exact hr1
  isplitl [Hq1 Hw1 Hq1_dst]
  · isplitl [Hq1_dst]
    · iexists _, _; isplitr; swap; · iexact Hq1_dst
      ipureintro; rfl
    isplitl [Hq1]; · iexact Hq1
    iexact Hw1
  isplitl [HT0 HT1 HT2 HT3 HT4 HT5]
  · isplitl [HT0]; · iexact HT0
    isplitl [HT1]; · iexact HT1
    isplitl [HT2]; · iexact HT2
    isplitl [HT3]; · iexact HT3
    isplitl [HT4]; · iexact HT4
    iexact HT5
  iexists _; iexact HW

end Run

end Cert.Down.Hand

end
-- ==== Proof.DownSched.lean ====
module

public import proofs.«01_k».proof.Proof.Gen.Down.Skeleton
public import Idealize.ShloMosaic.Lib.WordCmp
public import Idealize.ShloMosaic.Lib.Affine

@[expose] public section

set_option maxRecDepth 16384

/-! The tables' schedule, as numbers: how many tiles are in use, what each row's words say of the next, and what the body's
    conditions and offsets come to. -/

namespace Cert.Down.Tiles

open Cert.Down
open Idealize.ShloMosaic

/-! ## Words -/

theorem flag (b : BitVec 1) : Scalar.cmpi .ne (Scalar.extui b : BitVec 32) 0#32 = 1#1 ↔ b = 1#1 := by revert b; decide
theorem both (a b : BitVec 1) : Scalar.andi a b = 1#1 ↔ a = 1#1 ∧ b = 1#1 := by revert a b; decide
theorem flip (a : BitVec 1) : Scalar.xori a 1#1 = 1#1 ↔ ¬a = 1#1 := by revert a; decide
theorem same (a b : BitVec 32) : Scalar.cmpi .eq a b = 1#1 ↔ a = b := IntOp.cmpi_eq
theorem less (a b : BitVec 32) : Scalar.cmpi .slt a b = 1#1 ↔ a.toInt < b.toInt := IntOp.cmpi_slt

/-- The number of tiles in use, of the 40: the table of one read as a number. -/
def used (u : BitVec 32) : ℕ := min 40 u.toInt.toNat

theorem used_le (u : BitVec 32) : used u ≤ 40 := min_le_left _ _

theorem lt_used (u : BitVec 32) {n : ℕ} (hn : n < 40) : (BitVec.ofNat 32 n).toInt < u.toInt ↔ n < used u := by
  rw [WordCmp.toInt_ofNat_of_lt (by omega)]; unfold used; omega

/-- The row block the first window reads at tile `n`: its own, or the last one in use. -/
def row (u : BitVec 32) (n : ℕ) : ℕ := min n (used u - 1)

theorem row_lt (u : BitVec 32) {n : ℕ} (hn : n < 40) : row u n < 40 := by unfold row; omega
theorem row_of_lt {u : BitVec 32} {n : ℕ} (h : n < used u) : row u n = n := by unfold row; omega

theorem row_word (u : BitVec 32) (hu : 0 < used u) {n : ℕ} (hn : n < 40) :
    (Scalar.minsi (BitVec.ofNat 32 n) (Scalar.subi u 1#32)).toNat = row u n := by
  have hu1 : 1 ≤ u.toInt := by unfold used at hu; omega
  have hn' : (BitVec.ofNat 32 n).toNat = n := WordCmp.toNat_ofNat_of_lt (by omega)
  have hlt : u.toNat < 2 ^ 31 := by
    rw [BitVec.toInt_eq_toNat_cond] at hu1; split at hu1 <;> omega
  have hi : u.toInt = (u.toNat : ℤ) := WordCmp.toInt_eq_toNat_of_lt_half hlt
  have hs : (u - 1#32).toNat = u.toNat - 1 := by
    rw [BitVec.toNat_sub]; simp; omega
  have hsi : (u - 1#32).toInt = (u.toNat : ℤ) - 1 := by
    rw [WordCmp.toInt_eq_toNat_of_lt_half (by rw [hs]; omega), hs]; omega
  have e : Scalar.minsi (BitVec.ofNat 32 n) (Scalar.subi u 1#32)
      = if (BitVec.ofNat 32 n).slt (u - 1#32) then BitVec.ofNat 32 n else u - 1#32 := rfl
  rw [e]
  unfold row used
  split
  · rename_i h
    rw [BitVec.slt_iff_toInt_lt, WordCmp.toInt_ofNat_of_lt (by omega), hsi] at h
    rw [hn']; omega
  · rename_i h
    rw [BitVec.slt_iff_toInt_lt, WordCmp.toInt_ofNat_of_lt (by omega), hsi] at h
    rw [hs]; omega

/-! ## The body's conditions and offsets -/

section Conds
variable (i : grid0.Coords) (u f : BitVec 32)

theorem coord1_lt : (i 1).val < 40 := (i 1).isLt
theorem coord0_lt : (i 0).val < 4 := (i 0).isLt

theorem cond1_iff (v : BitVec 32) : k0_cond1 i u v = 1#1 ↔ (i 1).val < used u ∧ v = 1#32 := by
  unfold k0_cond1; simp only [flag, both, same, less, lt_used u (coord1_lt i)]
theorem cond2_iff : k0_cond2 i = 1#1 ↔ (i 0).val = 0 ∧ (i 1).val = 0 := by
  have h0 := coord0_lt i; have h1 := coord1_lt i
  have e : ∀ k : ℕ, k < 40 → (BitVec.ofNat 32 k = 0#32 ↔ k = 0) := fun k hk => by
    rw [← BitVec.toNat_inj, WordCmp.toNat_ofNat_of_lt (by omega)]; rfl
  unfold k0_cond2; simp only [flag, both, same, e _ h1, e _ (show (i 0).val < 40 by omega)]
theorem cond3_iff (v : BitVec 32) : k0_cond3 v = 1#1 ↔ ¬v = 1#32 := by
  unfold k0_cond3; simp only [flag, flip, same]
theorem cond4_iff (v : BitVec 32) : k0_cond4 i v = 1#1 ↔ v = 1#32 ∧ (i 0).val + 1 < 4 := by
  have h0 := coord0_lt i
  have e : Scalar.addi (BitVec.ofNat 32 (i 0).val) 1#32 = BitVec.ofNat 32 ((i 0).val + 1) := by
    apply BitVec.eq_of_toNat_eq
    show (BitVec.ofNat 32 (i 0).val + 1#32).toNat = _
    simp
  have e4 : (4#32 : BitVec 32).toInt = 4 := by decide
  unfold k0_cond4
  simp only [flag, both, same, less, e]
  rw [WordCmp.toInt_ofNat_of_lt (by omega), e4]
  constructor <;> rintro ⟨a, b⟩ <;> exact ⟨a, by omega⟩
theorem cond5_iff : k0_cond5 i u f = 1#1 ↔ (i 1).val < used u ∧ f = 1#32 := by
  unfold k0_cond5; simp only [flag, both, same, less, lt_used u (coord1_lt i)]
theorem cond6_iff : k0_cond6 i u f = 1#1 ↔ (i 1).val < used u ∧ ¬f = 1#32 := by
  unfold k0_cond6; simp only [flag, both, flip, same, less, lt_used u (coord1_lt i)]
theorem cond7_iff : k0_cond7 i u = 1#1 ↔ ¬(i 1).val < used u := by
  unfold k0_cond7; simp only [flag, flip, less, lt_used u (coord1_lt i)]

theorem col_word (k : ℕ) (hk : k < 5) : (BitVec.ofNat 32 k * 1024#32).toNat = 1024 * k := by
  rw [BitVec.toNat_mul, WordCmp.toNat_ofNat_of_lt (by omega)]
  show k * 1024 % 2 ^ 32 = _
  omega

theorem off3_eq (e : BitVec 32) : k0_off3 i e = ![e.toNat, 0, 1024 * (i 0).val] := by
  have := col_word (i 0).val (by have := coord0_lt i; omega)
  unfold k0_off3; simp only [Scalar.muli, IntOp.muli]; rw [this]
theorem off5_eq (e : BitVec 32) : k0_off5 i e = ![e.toNat, 0, 1024 * (i 0).val] := by
  have := col_word (i 0).val (by have := coord0_lt i; omega)
  unfold k0_off5; simp only [Scalar.muli, IntOp.muli]; rw [this]
theorem off9_eq (e : BitVec 32) : k0_off9 i e = ![e.toNat, 0, 1024 * (i 0).val] := by
  have := col_word (i 0).val (by have := coord0_lt i; omega)
  unfold k0_off9; simp only [Scalar.muli, IntOp.muli]; rw [this]
theorem off11_eq (e : BitVec 32) : k0_off11 i e = ![e.toNat, 0, 1024 * ((i 0).val + 1)] := by
  have := col_word ((i 0).val + 1) (by have := coord0_lt i; omega)
  have h0 := coord0_lt i
  have e1 : BitVec.ofNat 32 (i 0).val + 1#32 = BitVec.ofNat 32 ((i 0).val + 1) := by
    apply BitVec.eq_of_toNat_eq; simp
  unfold k0_off11; simp only [Scalar.muli, IntOp.muli, Scalar.addi, IntOp.addi]; rw [e1, this]

theorem tile_word : (Scalar.indexCast (BitVec.ofNat 32 (i 1).val) : Index).toNat = (i 1).val := by
  have := coord1_lt i
  show (BitVec.ofNat 32 (i 1).val).toNat = _
  exact WordCmp.toNat_ofNat_of_lt (by omega)

theorem off1_eq : k0_off1 i = ![(i 1).val] := by unfold k0_off1; simp only [tile_word]
theorem off2_eq : k0_off2 i = ![(i 1).val] := by unfold k0_off2; simp only [tile_word]
theorem off4_eq : k0_off4 i = ![(i 1).val] := by unfold k0_off4; simp only [tile_word]
theorem off7_eq : k0_off7 i = ![(i 1).val] := by unfold k0_off7; simp only [tile_word]
theorem off8_eq : k0_off8 i = ![(i 1).val] := by unfold k0_off8; simp only [tile_word]
theorem off10_eq : k0_off10 i = ![(i 1).val] := by unfold k0_off10; simp only [tile_word]
theorem off12_eq : k0_off12 i = ![(i 1).val] := by unfold k0_off12; simp only [tile_word]
end Conds

/-! ## The schedule -/

/-- What the tables say of one another: some tile is in use, the first one fetches, the experts in use are eight, the last tile in
    use ends the round, and a tile either shares its predecessor's expert, carrying its words on, or is the one its
    predecessor sent for. -/
structure Sched (te fi nx la : ℕ → BitVec 32) (u : BitVec 32) : Prop where
  some_used : 0 < used u
  first : fi 0 = 1#32
  expert : ∀ n, n < used u → (te n).toNat < 8
  last : la (used u - 1) = 1#32 ∧ nx (used u - 1) = te 0
  step : ∀ n, n + 1 < used u →
    (te n = te (n + 1) ∧ ¬fi (n + 1) = 1#32 ∧ nx n = nx (n + 1) ∧ (la n = 1#32 ↔ la (n + 1) = 1#32))
      ∨ (fi (n + 1) = 1#32 ∧ nx n = te (n + 1) ∧ ¬la n = 1#32)

variable {te fi nx la : ℕ → BitVec 32} {u : BitVec 32}

/-- The expert sent for at a tile in use is one of the eight. -/
theorem Sched.next_expert (h : Sched te fi nx la u) (n : ℕ) (hn : n < used u) : (nx n).toNat < 8 := by
  obtain ⟨k, hk⟩ : ∃ k, n + k + 1 = used u := ⟨used u - 1 - n, by omega⟩
  induction k generalizing n with
  | zero =>
    have e : n = used u - 1 := by omega
    rw [e, h.last.2]; exact h.expert 0 h.some_used
  | succ k ih =>
    rcases h.step n (by omega) with ⟨-, -, e, -⟩ | ⟨-, e, -⟩
    · rw [e]; exact ih (n + 1) (by omega) (by omega)
    · rw [e]; exact h.expert (n + 1) (by omega)

end Cert.Down.Tiles

end
-- ==== Proof.DownFrame.lean ====
module

public import proofs.«01_k».proof.Proof.DownRuns
public import proofs.«01_k».proof.Proof.DownSched
public import Idealize.ShloMosaic.Lib.Claim

@[expose] public section

set_option maxRecDepth 16384

noncomputable section

namespace Cert.Down.Hand

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of this proof: the pipeline's, beside the counters of the transfers the body issues. -/
local notation "𝕄" => MT nD τ sig Unit (Elt F) ℕ (Pipeline.UD sig nD τ) ℕ

/-! ## The tables as numbers -/

variable (m : (ℓ : Loc nD τ sig) → Buf (Elt F) ℓ) (ρ : Dev nD → PrngReg)

/-- The arrays as launched. -/
abbrev V (c : Dev nD) (b : Ref sig .tc) : Buf (Elt F) ((c : Thread nD τ).loc b) := m ((c : Thread nD τ).loc b)

/-- Word `n` of a table of 40. -/
def wd (T : S40.Idx → BitVec 32) (n : ℕ) : BitVec 32 := T (fun a => ⟨n % 40, by match a with | ⟨0, _⟩ => exact Nat.mod_lt _ (by decide)⟩)

abbrev teW (c : Dev nD) : ℕ → BitVec 32 := wd (V m c main_arg0)
abbrev fiW (c : Dev nD) : ℕ → BitVec 32 := wd (V m c main_arg1)
abbrev nxW (c : Dev nD) : ℕ → BitVec 32 := wd (V m c main_arg2)
abbrev laW (c : Dev nD) : ℕ → BitVec 32 := wd (V m c main_arg3)
abbrev fuW (c : Dev nD) : ℕ → BitVec 32 := wd (V m c main_arg4)
/-- The table of one. -/
abbrev uW (c : Dev nD) : BitVec 32 := word1 nuM (V m c main_arg5)

/-- The tables keep the schedule. -/
def Plan : Prop := ∀ c : Dev nD, Tiles.Sched (teW m c) (fiW m c) (nxW m c) (laW m c) (uW m c)

/-- A word a point loads is the table's word at the point's tile. -/
theorem word_eq {c : Dev nD} (M : Memref sig .tc .smem S40 .i32) (f : Buf (Elt F) (M.view.loc (c : Thread nD τ))) {off : Fin 1 → ℕ}
    (hb : ∀ a, off a + S1.size a ≤ S40.size a) {n : ℕ} (h : off = ![n]) (hn : n < 40) :
    word M f off hb = wd (M.view.read (Elt F) f) n := by
  subst h
  unfold wd
  dsimp only [word]
  rw [View.readAt_apply]
  refine congrArg (M.view.read (Elt F) f) (funext fun a => Fin.ext ?_)
  match a with
  | ⟨0, _⟩ =>
    show n + 1 * _ = n % 40
    rw [Nat.mod_eq_of_lt hn]
    have h0 : ((Shape.Idx.first (numel1_S1.symm ▸ Nat.one_pos) : S1.Idx) 0).val < 1 := ((Shape.Idx.first (numel1_S1.symm ▸ Nat.one_pos) : S1.Idx) 0).isLt
    have h0' : ((Shape.Idx.first (numel1_S1.symm ▸ Nat.one_pos) : S1.Idx) 0).val = 0 := by omega
    exact (congrArg (fun z => n + 1 * z) h0').trans (by omega)

/-- Exactly one way of storing applies at each point, whatever the tables hold. -/
theorem oneWay (i : grid0.Coords) (u f : BitVec 32) : OneWay i u f := by
  unfold OneWay
  rw [Tiles.cond5_iff, Tiles.cond6_iff, Tiles.cond7_iff]
  by_cases h : (i 1).val < Tiles.used u <;> by_cases h' : f = 1#32 <;> simp [h, h']

/-! ## The pipeline at the tables -/

/-- The tables' contents. -/
def tbl : pre0.Contents (Elt F) := fun j => V m (0 : Dev nD) (pre0.ref j)
theorem V_pre (c : Dev nD) (j : Fin 6) : V m c (pre0.ref j) = tbl m j := by
  obtain rfl : c = 0 := Subsingleton.elim _ _; rfl

theorem whole_words (n : Fin 40) (ix : Fin 2 → ℕ) (e : ix = ![n.val, 0]) (h : ∀ a, (ix a + 1) * S512x4096.size a ≤ S20480x4096.size a) :
    (Rect.block (s := S20480x4096) S512x4096.size ix h).WholeWords (EltTy.packing .bf16) := by
  subst e
  revert h
  revert n
  decide +kernel

/-- The first window's block at a point: the tile's own row block, or the last in use. -/
theorem index0 (h : Plan m) (i : grid0.Coords) : cc0_transform_0 inb_S1_S1_0 numel1_S1 (tbl m) i = ![Tiles.row (uW m 0) (i 1).val, 0] := by
  have e := Tiles.row_word (uW m 0) (h 0).some_used (Tiles.coord1_lt i)
  unfold cc0_transform_0
  exact congrArg (fun z => ![z, 0]) e

theorem ok (h : Plan m) : ok0 (F := F) (tbl m) := fun i => by
  have hr := Tiles.row_lt (uW m 0) (Tiles.coord1_lt i)
  have e := index0 m h i
  have hb : ∀ a, (cc0_transform_0 inb_S1_S1_0 numel1_S1 (tbl m) i a + 1) * S512x4096.size a ≤ S20480x4096.size a := by
    rw [e]
    intro a
    match a with
    | ⟨0, _⟩ => show (Tiles.row (uW m 0) (i 1).val + 1) * 512 ≤ 20480; omega
    | ⟨1, _⟩ => show (0 + 1) * 4096 ≤ 4096; omega
  exact ⟨hb, .inr (whole_words ⟨_, hr⟩ _ e hb)⟩

abbrev adm (h : Plan m) : (pcfg0 (F := F)).Adm := ⟨tbl m, ok m h⟩
abbrev cfgM (h : Plan m) : Pipeline.Cfg sig Λ₀ := cfg0 (adm m h)

theorem coords0 : ∀ t : Fin grid0.N, (grid0.coords t 0).val = t.val / 40 := by decide +kernel
theorem coords1 : ∀ t : Fin grid0.N, (grid0.coords t 1).val = t.val % 40 := by decide +kernel

/-- A window's block at a point, read off its array as launched. -/
def iblk (h : Plan m) (c : Dev nD) (w : Fin (cfgM m h).W) (t : Fin (cfgM m h).N) :
    (((cfgM m h).win w).xblock ((cfgM m h).grid.coords t)).Idx → Elt F ((cfgM m h).win w).elt :=
  (((cfgM m h).win w).blk t).view.read (Elt F) (V m c (Pipeline.arrRef spec0 w))

/-! ## What the body keeps -/

abbrev eoff (e j : ℕ) : Fin 3 → ℕ := ![e % 8, 0, 1024 * (j % 4)]
theorem einb (e j : ℕ) : ∀ a, eoff e j a + S1x4096x1024.size a ≤ S8x4096x4096.size a := fun a => by
  match a with
  | ⟨0, _⟩ => show e % 8 + 1 ≤ 8; omega
  | ⟨1, _⟩ => show 0 + 4096 ≤ 4096; omega
  | ⟨2, _⟩ => show 1024 * (j % 4) + 1024 ≤ 4096; omega

/-- Column block `j` of expert `e`, rounded. -/
def kept1 (c : Dev nD) (e j : ℕ) : Vec F S4096x1024 .bf16 := rnd (wblk (c := c) wM1 (V m c main_arg7) (eoff e j) (einb e j))
/-- Column block `j` of expert `e` on its way. -/
def fl (c : Dev nD) (e j : ℕ) : sProp 𝕄 := onWay c (V m c main_arg7) (eoff e j) (einb e j)
def rest (c : Dev nD) : sProp 𝕄 := atRest c (V m c main_arg7)

/-- What is on its way after tile `n` of column block `j`. -/
def next (c : Dev nD) (j n : ℕ) : sProp 𝕄 :=
  if laW m c n = 1#32 then (if j + 1 < 4 then fl m c (nxW m c n).toNat (j + 1) else rest m c) else fl m c (nxW m c n).toNat j

/-- What the body keeps after tile `n` of column block `j`. -/
def held (c : Dev nD) (j n : ℕ) : sProp 𝕄 :=
  iprop(owns (c : Thread nD τ) wbM1 fullShare (kept1 m c (teW m c n).toNat j)
    ∗ next m c j n)

/-- What the body keeps before point `p`. -/
def keep (c : Dev nD) (p : ℕ) : sProp 𝕄 :=
  if p = 0 then iprop((∃ d, owns (c : Thread nD τ) wbM1 fullShare d) ∗ rest m c)
  else held m c ((p - 1) / 40) (Tiles.row (uW m c) ((p - 1) % 40))

/-- The tables the body reads. -/
def tabsV (c : Dev nD) : sProp 𝕄 :=
  tabs c (V m c main_arg0) (V m c main_arg1) (V m c main_arg2) (V m c main_arg3) (V m c main_arg4) (V m c main_arg5)

/-- The block a point leaves. -/
def put (c : Dev nD) (t : Fin grid0.N) (x : Vec F S512x4096 .bf16) : Vec F S512x1024 .f32 :=
  pay (grid0.coords t) x (kept1 m c (teW m c (Tiles.row (uW m c) (t.val % 40))).toNat (t.val / 40)) (uW m c)
    (word fuM (V m c main_arg4) (k0_off12 (grid0.coords t)) (k0_off12_inb (grid0.coords t)))

section Step
variable {m} (h : Plan m) (c : Dev nD) (t : Fin grid0.N)
include h

theorem t_lt (t : Fin grid0.N) : t.val < 160 := lt_of_lt_of_eq t.isLt N_0

/-- A point that fetches finds its own blocks on their way. -/
theorem incoming (h0 : ¬t.val = 0) (hu : t.val % 40 < Tiles.used (uW m c)) (hf : fiW m c (t.val % 40) = 1#32) :
    next m c ((t.val - 1) / 40) (Tiles.row (uW m c) ((t.val - 1) % 40)) = fl m c (teW m c (t.val % 40)).toNat (t.val / 40) := by
  have ht := t_lt h t
  have hle := Tiles.used_le (uW m c)
  unfold next
  by_cases hn : t.val % 40 = 0
  · have e1 : (t.val - 1) / 40 + 1 = t.val / 40 := by omega
    have e2 : Tiles.row (uW m c) ((t.val - 1) % 40) = Tiles.used (uW m c) - 1 := by unfold Tiles.row; omega
    rw [e2, if_pos (h c).last.1, (h c).last.2, e1, if_pos (by omega), hn]
  · have e1 : (t.val - 1) / 40 = t.val / 40 := by omega
    have e2 : Tiles.row (uW m c) ((t.val - 1) % 40) = t.val % 40 - 1 := by unfold Tiles.row; omega
    have e3 : t.val % 40 - 1 + 1 = t.val % 40 := by omega
    rw [e1, e2]
    rcases (h c).step (t.val % 40 - 1) (by omega) with ⟨-, a, -, -⟩ | ⟨-, a, b⟩
    · rw [e3] at a; exact absurd hf a
    · rw [e3] at a; rw [if_neg b, a]

/-- A point that fetches nothing keeps what its predecessor kept. -/
theorem held_same (hn : ¬(t.val % 40 < Tiles.used (uW m c) ∧ fiW m c (t.val % 40) = 1#32)) :
    ¬t.val = 0 ∧ held m c ((t.val - 1) / 40) (Tiles.row (uW m c) ((t.val - 1) % 40)) = held m c (t.val / 40) (Tiles.row (uW m c) (t.val % 40)) := by
  have ht := t_lt h t
  have hle := Tiles.used_le (uW m c)
  have hp := (h c).some_used
  have hn0 : ¬t.val % 40 = 0 := fun e => hn ⟨by omega, by rw [e]; exact (h c).first⟩
  have e1 : (t.val - 1) / 40 = t.val / 40 := by omega
  refine ⟨fun e => hn0 (by omega), ?_⟩
  rw [e1]
  by_cases hu : t.val % 40 < Tiles.used (uW m c)
  · have e2 : Tiles.row (uW m c) ((t.val - 1) % 40) = t.val % 40 - 1 := by unfold Tiles.row; omega
    have e3 : t.val % 40 - 1 + 1 = t.val % 40 := by omega
    rw [e2, Tiles.row_of_lt hu]
    rcases (h c).step (t.val % 40 - 1) (by omega) with ⟨a, -, b, d⟩ | ⟨a, -, -⟩
    · rw [e3] at a b d
      unfold held next
      rw [a, b]
      simp only [d]
    · rw [e3] at a; exact absurd ⟨hu, a⟩ hn
  · have e2 : Tiles.row (uW m c) ((t.val - 1) % 40) = Tiles.row (uW m c) (t.val % 40) := by unfold Tiles.row; omega
    rw [e2]

end Step

/-- What a run leaves, said of the tables. -/
theorem left_to (c : Dev nD) (t : Fin grid0.N) (x : Vec F S512x4096 .bf16) (arg8 : Memref sig .tc .vmem S512x4096 .bf16)
    (arg10 : Memref sig .tc .vmem S512x1024 .f32) (b1 : Vec F S4096x1024 .bf16) (S : sProp 𝕄)
    (e1 : b1 = kept1 m c (teW m c (Tiles.row (uW m c) (t.val % 40))).toNat (t.val / 40))
    (eS : S = next m c (t.val / 40) (Tiles.row (uW m c) (t.val % 40))) (K : PUnit → sProp 𝕄) :
    iprop(iprop(owns (c : Thread nD τ) arg8 fullShare x ∗ owns (c : Thread nD τ) arg10 fullShare (put m c t x)
        ∗ held m c (t.val / 40) (Tiles.row (uW m c) (t.val % 40)) ∗ tabsV m c ∗ (∃ W', owes (c : Thread nD τ) 0 W')) -∗ K ⟨⟩)
      ⊢ iprop(left c (grid0.coords t) arg8 arg10 x (V m c main_arg0) (V m c main_arg1) (V m c main_arg2) (V m c main_arg3) (V m c main_arg4)
          (V m c main_arg5) b1 S -∗ K ⟨⟩) := by
  subst e1; subst eS
  unfold left held put tabsV
  iintro Hk ⟨H8, H10, H14, HS, HT, HW⟩
  iapply Hk
  isplitl [H8]; · iexact H8
  isplitl [H10]; · iexact H10
  isplitl [H14 HS]
  · isplitl [H14]; · iexact H14
    iexact HS
  isplitl [HT]; · iexact HT
  iexact HW

set_option maxHeartbeats 1000000 in
/-- The step of what is kept: what a run needs of it and what the run gives back, by the point's case. -/
theorem keep_step (h : Plan m) (c : Dev nD) (t : Fin grid0.N) (W : Waits sig Unit) (K : PUnit → sProp 𝕄) (x : Vec F S512x4096 .bf16)
    (arg8 : Memref sig .tc .vmem S512x4096 .bf16) (harg8 : arg8.IsWhole) (arg10 : Memref sig .tc .vmem S512x1024 .f32) (harg10 : arg10.IsWhole) :
    iprop(owns (c : Thread nD τ) arg8 fullShare x ∗ (∃ d, owns (c : Thread nD τ) arg10 fullShare d) ∗ keep m c t.val ∗ tabsV m c ∗ owes (c : Thread nD τ) 0 W
        ∗ (iprop(owns (c : Thread nD τ) arg8 fullShare x ∗ owns (c : Thread nD τ) arg10 fullShare (put m c t x)
            ∗ keep m c (t.val + 1) ∗ tabsV m c ∗ (∃ W', owes (c : Thread nD τ) 0 W')) -∗ K ⟨⟩))
      ⊢ wp frame (wpE (defs₀ (F := F)) Variants.none c none) Set.univ (body (grid0.coords t) arg8 harg8 arg10 harg10) K := by
  have ht := t_lt h t
  have c0 := coords0 t
  have c1 := coords1 t
  have hn : t.val % 40 < 40 := Nat.mod_lt _ (by decide)
  have wfi : word fiM (V m c main_arg1) (k0_off1 (grid0.coords t)) (k0_off1_inb (grid0.coords t)) = fiW m c (t.val % 40) :=
    word_eq fiM (V m c main_arg1) _ (by rw [Tiles.off1_eq, c1]) hn
  have wla : word laM (V m c main_arg3) (k0_off7 (grid0.coords t)) (k0_off7_inb (grid0.coords t)) = laW m c (t.val % 40) :=
    word_eq laM (V m c main_arg3) _ (by rw [Tiles.off7_eq, c1]) hn
  have wte4 : word teM (V m c main_arg0) (k0_off4 (grid0.coords t)) (k0_off4_inb (grid0.coords t)) = teW m c (t.val % 40) :=
    word_eq teM (V m c main_arg0) _ (by rw [Tiles.off4_eq, c1]) hn
  have wnx8 : word nxM (V m c main_arg2) (k0_off8 (grid0.coords t)) (k0_off8_inb (grid0.coords t)) = nxW m c (t.val % 40) :=
    word_eq nxM (V m c main_arg2) _ (by rw [Tiles.off8_eq, c1]) hn
  have wnx10 : word nxM (V m c main_arg2) (k0_off10 (grid0.coords t)) (k0_off10_inb (grid0.coords t)) = nxW m c (t.val % 40) :=
    word_eq nxM (V m c main_arg2) _ (by rw [Tiles.off10_eq, c1]) hn
  have ho := oneWay (grid0.coords t) (uW m c) (word fuM (V m c main_arg4) (k0_off12 (grid0.coords t)) (k0_off12_inb (grid0.coords t)))
  rw [show keep m c (t.val + 1) = held m c (t.val / 40) (Tiles.row (uW m c) (t.val % 40)) from by
    unfold keep; rw [if_neg (by omega), Nat.add_sub_cancel]]
  by_cases hc1 : t.val % 40 < Tiles.used (uW m c) ∧ fiW m c (t.val % 40) = 1#32
  swap
  · obtain ⟨h0, hh⟩ := held_same h c t hc1
    have h1 : ¬k0_cond1 (grid0.coords t) (uW m c) (word fiM (V m c main_arg1) (k0_off1 (grid0.coords t)) (k0_off1_inb (grid0.coords t))) = 1#1 := by
      rw [wfi, Tiles.cond1_iff, c1]; exact hc1
    rw [show keep m c t.val = held m c (t.val / 40) (Tiles.row (uW m c) (t.val % 40)) from by
      unfold keep; rw [if_neg h0]; exact hh]
    iintro ⟨H8, H10, HK, HT, HW, Hk⟩
    unfold held
    icases HK with ⟨H14, HS⟩
    iapply (runE c (grid0.coords t) arg8 harg8 arg10 harg10 x (V m c main_arg0) (V m c main_arg1) (V m c main_arg2) (V m c main_arg3) (V m c main_arg4)
      (V m c main_arg5) _ _ h1 ho W K)
    isplitl [H8]; · iexact H8
    isplitl [H10]; · iexact H10
    isplitl [H14]; · iexact H14
    isplitl [HS]; · iexact HS
    isplitl [HT]; · unfold tabsV; iexact HT
    isplitl [HW]; · iexact HW
    iapply (left_to m c t x arg8 arg10 _ _ rfl rfl K)
    unfold held
    iexact Hk
  have hrow : Tiles.row (uW m c) (t.val % 40) = t.val % 40 := Tiles.row_of_lt hc1.1
  have hte : (teW m c (t.val % 40)).toNat < 8 := (h c).expert _ hc1.1
  have hnx : (nxW m c (t.val % 40)).toNat < 8 := (h c).next_expert _ hc1.1
  have h1 : k0_cond1 (grid0.coords t) (uW m c) (word fiM (V m c main_arg1) (k0_off1 (grid0.coords t)) (k0_off1_inb (grid0.coords t))) = 1#1 := by
    rw [wfi, Tiles.cond1_iff, c1]; exact hc1
  have he5 : k0_off5 (grid0.coords t) (word teM (V m c main_arg0) (k0_off4 (grid0.coords t)) (k0_off4_inb (grid0.coords t)))
      = eoff (teW m c (t.val % 40)).toNat (t.val / 40) := by
    rw [wte4, Tiles.off5_eq, c0, eoff, Nat.mod_eq_of_lt hte, Nat.mod_eq_of_lt (show t.val / 40 < 4 by omega)]
  have he9 : k0_off9 (grid0.coords t) (word nxM (V m c main_arg2) (k0_off8 (grid0.coords t)) (k0_off8_inb (grid0.coords t)))
      = eoff (nxW m c (t.val % 40)).toNat (t.val / 40) := by
    rw [wnx8, Tiles.off9_eq, c0, eoff, Nat.mod_eq_of_lt hnx, Nat.mod_eq_of_lt (show t.val / 40 < 4 by omega)]
  have hb5 : (∀ a, k0_off5 (grid0.coords t) (word teM (V m c main_arg0) (k0_off4 (grid0.coords t)) (k0_off4_inb (grid0.coords t))) a + S1x4096x1024.size a ≤ S8x4096x4096.size a) := by
    rw [he5]; exact einb _ _
  have hb9 : (∀ a, k0_off9 (grid0.coords t) (word nxM (V m c main_arg2) (k0_off8 (grid0.coords t)) (k0_off8_inb (grid0.coords t))) a + S1x4096x1024.size a ≤ S8x4096x4096.size a) := by
    rw [he9]; exact einb _ _
  have he11 : t.val / 40 + 1 < 4 → k0_off11 (grid0.coords t) (word nxM (V m c main_arg2) (k0_off10 (grid0.coords t)) (k0_off10_inb (grid0.coords t)))
      = eoff (nxW m c (t.val % 40)).toNat (t.val / 40 + 1) := fun hj => by
    rw [wnx10, Tiles.off11_eq, c0, eoff, Nat.mod_eq_of_lt hnx, Nat.mod_eq_of_lt hj]
  have hb11 : t.val / 40 + 1 < 4 → (∀ a, k0_off11 (grid0.coords t) (word nxM (V m c main_arg2) (k0_off10 (grid0.coords t)) (k0_off10_inb (grid0.coords t))) a + S1x4096x1024.size a ≤ S8x4096x4096.size a) := fun hj => by
    rw [he11 hj]; exact einb _ _
  have e9 : laW m c (t.val % 40) ≠ 1#32 →
      onWay c (V m c main_arg7) _ hb9 = next m c (t.val / 40) (Tiles.row (uW m c) (t.val % 40)) := fun hl => by
    unfold next fl; rw [hrow, if_neg hl]; unfold onWay; rw [flying_congr _ _ _ _ _ he9 _ (einb _ _)]
  have e11 : ∀ (hl : laW m c (t.val % 40) = 1#32) (hj : t.val / 40 + 1 < 4),
      onWay c (V m c main_arg7) _ (hb11 hj) = next m c (t.val / 40) (Tiles.row (uW m c) (t.val % 40)) := fun hl hj => by
    unfold next fl; rw [hrow, if_pos hl, if_pos hj]; unfold onWay
    rw [flying_congr _ _ _ _ _ (he11 hj) _ (einb _ _)]
  have h3i : k0_cond3 (word laM (V m c main_arg3) (k0_off7 (grid0.coords t)) (k0_off7_inb (grid0.coords t))) = 1#1 ↔ laW m c (t.val % 40) ≠ 1#32 := by
    rw [wla, Tiles.cond3_iff]
  have h4i : k0_cond4 (grid0.coords t) (word laM (V m c main_arg3) (k0_off7 (grid0.coords t)) (k0_off7_inb (grid0.coords t))) = 1#1
      ↔ laW m c (t.val % 40) = 1#32 ∧ t.val / 40 + 1 < 4 := by
    rw [wla, Tiles.cond4_iff, c0]
  by_cases h0 : t.val = 0
  · have h2 : k0_cond2 (grid0.coords t) = 1#1 := by rw [Tiles.cond2_iff, c0, c1]; omega
    have wte2 : word teM (V m c main_arg0) (k0_off2 (grid0.coords t)) (k0_off2_inb (grid0.coords t) h2) = teW m c (t.val % 40) :=
      word_eq teM (V m c main_arg0) _ (by rw [Tiles.off2_eq, c1]) hn
    have he3 : k0_off3 (grid0.coords t) (word teM (V m c main_arg0) (k0_off2 (grid0.coords t)) (k0_off2_inb (grid0.coords t) h2))
        = eoff (teW m c (t.val % 40)).toNat (t.val / 40) := by
      rw [wte2, Tiles.off3_eq, c0, eoff, Nat.mod_eq_of_lt hte, Nat.mod_eq_of_lt (show t.val / 40 < 4 by omega)]
    have hb3 : (∀ a, k0_off3 (grid0.coords t) (word teM (V m c main_arg0) (k0_off2 (grid0.coords t)) (k0_off2_inb (grid0.coords t) h2)) a + S1x4096x1024.size a ≤ S8x4096x4096.size a) := by
      rw [he3]; exact einb _ _
    have k1 : rnd (wblk (c := c) wM1 (V m c main_arg7) _ hb3) = kept1 m c (teW m c (Tiles.row (uW m c) (t.val % 40))).toNat (t.val / 40) := by
      rw [hrow]; unfold kept1; rw [wblk_congr (c := c) wM1 _ he3 _ (einb _ _)]
    rw [show keep m c t.val = iprop((∃ d, owns (c : Thread nD τ) wbM1 fullShare d) ∗ rest m c) from by
      unfold keep; rw [if_pos h0]]
    by_cases hl : laW m c (t.val % 40) = 1#32
    · have hj : t.val / 40 + 1 < 4 := by omega
      unfold rest
      iintro ⟨H8, H10, ⟨H14, HS⟩, HT, HW, Hk⟩
      iapply (runA4 c (grid0.coords t) arg8 harg8 arg10 harg10 x (V m c main_arg7) (V m c main_arg0) (V m c main_arg1) (V m c main_arg2)
        (V m c main_arg3) (V m c main_arg4) (V m c main_arg5) h1 h2 hb3 hb5 (fun hx => (h3i.1 hx) hl) (h4i.2 ⟨hl, hj⟩) (hb11 hj) ho W K)
      isplitl [H8]; · iexact H8
      isplitl [H10]; · iexact H10
      isplitl [H14]; · iexact H14
      isplitl [HS]; · iexact HS
      isplitl [HT]; · unfold tabsV; iexact HT
      isplitl [HW]; · iexact HW
      iapply (left_to m c t x arg8 arg10 _ _ k1 (e11 hl hj) K)
      iexact Hk
    · unfold rest
      iintro ⟨H8, H10, ⟨H14, HS⟩, HT, HW, Hk⟩
      iapply (runA3 c (grid0.coords t) arg8 harg8 arg10 harg10 x (V m c main_arg7) (V m c main_arg0) (V m c main_arg1) (V m c main_arg2)
        (V m c main_arg3) (V m c main_arg4) (V m c main_arg5) h1 h2 hb3 hb5 (h3i.2 hl) (fun hx => hl (h4i.1 hx).1) hb9 ho W K)
      isplitl [H8]; · iexact H8
      isplitl [H10]; · iexact H10
      isplitl [H14]; · iexact H14
      isplitl [HS]; · iexact HS
      isplitl [HT]; · unfold tabsV; iexact HT
      isplitl [HW]; · iexact HW
      iapply (left_to m c t x arg8 arg10 _ _ k1 (e9 hl) K)
      iexact Hk
  have h2 : ¬k0_cond2 (grid0.coords t) = 1#1 := by rw [Tiles.cond2_iff, c0, c1]; omega
  have k1 : rnd (wblk (c := c) wM1 (V m c main_arg7) (eoff (teW m c (t.val % 40)).toNat (t.val / 40)) (einb _ _))
      = kept1 m c (teW m c (Tiles.row (uW m c) (t.val % 40))).toNat (t.val / 40) := by
    rw [hrow]; rfl
  rw [show keep m c t.val = iprop(owns (c : Thread nD τ) wbM1 fullShare (kept1 m c (teW m c (Tiles.row (uW m c) ((t.val - 1) % 40))).toNat ((t.val - 1) / 40))
      ∗ fl m c (teW m c (t.val % 40)).toNat (t.val / 40)) from by
    unfold keep held; rw [if_neg h0, incoming h c t h0 hc1.1 hc1.2]]
  unfold fl
  iintro ⟨H8, H10, ⟨H14, HS⟩, HT, HW, Hk⟩
  by_cases hl : laW m c (t.val % 40) = 1#32
  · by_cases hj : t.val / 40 + 1 < 4
    · iapply (runB4 c (grid0.coords t) arg8 harg8 arg10 harg10 x (V m c main_arg7) (V m c main_arg0) (V m c main_arg1) (V m c main_arg2)
        (V m c main_arg3) (V m c main_arg4) (V m c main_arg5) h1 h2 _ (einb _ _) hb5 (fun hx => (h3i.1 hx) hl) (h4i.2 ⟨hl, hj⟩) (hb11 hj) ho W K)
      isplitl [H8]; · iexact H8
      isplitl [H10]; · iexact H10
      isplitl [H14]; · iexists _; iexact H14
      isplitl [HS]; · iexact HS
      isplitl [HT]; · unfold tabsV; iexact HT
      isplitl [HW]; · iexact HW
      iapply (left_to m c t x arg8 arg10 _ _ k1 (e11 hl hj) K)
      iexact Hk
    · iapply (runB0 c (grid0.coords t) arg8 harg8 arg10 harg10 x (V m c main_arg7) (V m c main_arg0) (V m c main_arg1) (V m c main_arg2)
        (V m c main_arg3) (V m c main_arg4) (V m c main_arg5) h1 h2 _ (einb _ _) hb5 (fun hx => (h3i.1 hx) hl) (fun hx => hj (h4i.1 hx).2) ho W K)
      isplitl [H8]; · iexact H8
      isplitl [H10]; · iexact H10
      isplitl [H14]; · iexists _; iexact H14
      isplitl [HS]; · iexact HS
      isplitl [HT]; · unfold tabsV; iexact HT
      isplitl [HW]; · iexact HW
      iapply (left_to m c t x arg8 arg10 _ _ k1 (by unfold next rest; rw [hrow, if_pos hl, if_neg hj]) K)
      iexact Hk
  · iapply (runB3 c (grid0.coords t) arg8 harg8 arg10 harg10 x (V m c main_arg7) (V m c main_arg0) (V m c main_arg1) (V m c main_arg2)
      (V m c main_arg3) (V m c main_arg4) (V m c main_arg5) h1 h2 _ (einb _ _) hb5 (h3i.2 hl) (fun hx => hl (h4i.1 hx).1) hb9 ho W K)
    isplitl [H8]; · iexact H8
    isplitl [H10]; · iexact H10
    isplitl [H14]; · iexists _; iexact H14
    isplitl [HS]; · iexact HS
    isplitl [HT]; · unfold tabsV; iexact HT
    isplitl [HW]; · iexact HW
    iapply (left_to m c t x arg8 arg10 _ _ k1 (e9 hl) K)
    iexact Hk

/-! ## The proof data of the pipeline -/

/-- The proof data: the arrays as launched, the first window's block left in place, the tables' choice in the second's. -/
def dats (h : Plan m) (_ : Fin 1) (c : Dev nD) : Dat τ (Elt F) Unit ℕ (Pipeline.UD sig nD τ) ℕ (cfgM m h) c where
  A w := V m c (Pipeline.arrRef spec0 w)
  after w t := match w with
    | ⟨0, _⟩ => iblk m h c 0 t
    | ⟨1, _⟩ => put m c t (iblk m h c 0 t)
  Φ p := iprop((∃ r, prngReg c r) ∗ keep m c p.val ∗ tabsV m c)
  q _ := fullShare
  owed _ := 0

variable (h : Plan m)

theorem A_eq (c : Dev nD) (w : Fin (cfgM m h).W) : (dats m h 0 c).A w = V m c (Pipeline.arrRef spec0 w) := by
  dsimp only [dats]
theorem after0_0 (c : Dev nD) (t : Fin (cfgM m h).N) : (dats m h 0 c).after 0 t = iblk m h c 0 t := by dsimp only [dats]; try rfl
theorem after0_1 (c : Dev nD) (t : Fin (cfgM m h).N) : (dats m h 0 c).after 1 t = put m c t (iblk m h c 0 t) := by
  dsimp only [dats]; try rfl

theorem Phi_eq (c : Dev nD) (p : Fin ((cfgM m h).N + 1)) :
    (dats m h 0 c).Φ p = iprop((∃ r, prngReg c r) ∗ keep m c p.val ∗ tabsV m c) := by dsimp only [dats]
theorem owed_eq (c : Dev nD) (p : Fin ((cfgM m h).N + 1)) : (dats m h 0 c).owed p = 0 := by dsimp only [dats]

/-- The first window's buffer holds its block at every point. -/
theorem before0_0 (c : Dev nD) (t : Fin (cfgM m h).N) (d) : (dats m h 0 c).before 0 t d = iblk m h c 0 t :=
  ((dats m h 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- Each window's buffer at a point. -/
abbrev ms0_0 (t : Fin (cfgM m h).N) : Memref sig .tc .vmem S512x4096 .bf16 := spec0_0.stage ((cfgM m h).slots t 0)
abbrev hs0_0 (t : Fin (cfgM m h).N) : (ms0_0 m h t).IsWhole := hstage0_0 (((cfgM m h).slots t 0).cast nbuf0_0)
abbrev ms0_1 (t : Fin (cfgM m h).N) : Memref sig .tc .vmem S512x1024 .f32 := spec0_1.stage ((cfgM m h).slots t 1)
abbrev hs0_1 (t : Fin (cfgM m h).N) : (ms0_1 m h t).IsWhole := hstage0_1 (((cfgM m h).slots t 1).cast nbuf0_1)

/-- What the body is entered with at point `t`, and what it leaves. -/
def bodyPre (c : Dev nD) (t : Fin (cfgM m h).N) : sProp 𝕄 :=
  iprop((dats m h 0 c).Φ t.castSucc ∗ (dats m h 0 c).owesAt () t.castSucc
    ∗ (∃ d, owns (c : Thread nD τ) (ms0_0 m h t) fullShare ((dats m h 0 c).before 0 t d))
    ∗ (∃ d, owns (c : Thread nD τ) (ms0_1 m h t) fullShare ((dats m h 0 c).before 1 t d)))
def bodyPost (c : Dev nD) (t : Fin (cfgM m h).N) : sProp 𝕄 :=
  iprop((dats m h 0 c).Φ t.succ ∗ (dats m h 0 c).owesAt () t.succ
    ∗ owns (c : Thread nD τ) (ms0_0 m h t) fullShare ((dats m h 0 c).after 0 t)
    ∗ owns (c : Thread nD τ) (ms0_1 m h t) fullShare ((dats m h 0 c).after 1 t))

/-- The body at every point. -/
theorem sound_body (c : Dev nD) (t : Fin (cfgM m h).N) :
    bodyPre m h c t ⊢ wp frame (wpE (defs₀ (F := F)) Variants.none c none) Set.univ
      (body (grid0.coords t) (ms0_0 m h t) (hs0_0 m h t) (ms0_1 m h t) (hs0_1 m h t)) (fun _ => bodyPost m h c t) := by
  unfold bodyPre bodyPost
  simp only [before0_0]
  rw [after0_0, after0_1]
  rw [Phi_eq, Phi_eq, Fin.val_castSucc, Fin.val_succ]
  unfold Dat.owesAt Pipeline.owesWithin
  rw [owed_eq, owed_eq]
  iintro ⟨⟨Hg, HK, HT⟩, ⟨%W, -, HW⟩, ⟨%d0, H0⟩, ⟨%d1, H1⟩⟩
  iapply (keep_step m h c t W _ (iblk m h c 0 t) _ _ _ _)
  isplitl [H0]; · iexact H0
  isplitl [H1]; · iexists _; iexact H1
  isplitl [HK]; · iexact HK
  isplitl [HT]; · iexact HT
  isplitl [HW]; · iexact HW
  iintro ⟨H0, H1, HK, HT, ⟨%W', HW'⟩⟩
  isplitl [Hg HK HT]
  · isplitl [Hg]; · iexact Hg
    isplitl [HK]; · iexact HK
    iexact HT
  isplitl [HW']
  · iexists W'; isplitr; · ipureintro; exact fun _ _ => Or.inl trivial
    iexact HW'
  isplitl [H0]; · iexact H0
  iexact H1

theorem defs₀_row (t : Fin (cfgM m h).N) :
    defs₀ (F := F) .tc (cfgM m h).body ((cfgM m h).bodyArgs t ((cfgM m h).slots t))
      = body (grid0.coords t) (ms0_0 m h t) (hs0_0 m h t) (ms0_1 m h t) (hs0_1 m h t) := by
  unfold defs₀; rw [Defs.onTc_tc]

/-- The result's window is written at every point. -/
theorem idle1 (t : Fin (cfgM m h).N) : (cfgM m h).idle 1 ((cfgM m h).grid.coords t) = false := by
  show idle0 (tbl m) 1 (grid0.coords t) = false
  show (!(k0_cond5 (grid0.coords t) _ _ == 1#1) && !(k0_cond6 (grid0.coords t) _ _ == 1#1) && !(k0_cond7 (grid0.coords t) _ == 1#1)) = false
  rcases oneWay (grid0.coords t) ((tbl m).atD 5 ![0]) ((tbl m).atD 4 (k0_off12 (grid0.coords t))) with ⟨a, b, d⟩ | ⟨a, b, d⟩ | ⟨a, b, d⟩ <;> simp [a, b, d]

theorem body_obligation (c : Dev nD) : BodyObligation (dats (F := F) m h 0 c) (defs₀ (F := F)) Variants.none () Set.univ := fun t => by
  rw [bigSep_W0, bigSep_W0, defs₀_row m h]
  refine triple_restated (sound_body m h c t) rfl .rfl fun _ => ?_
  have e : idle0 (tbl m) 1 ((pcfg0.gridAt (tbl m)).coords t) = false := idle1 m h t
  dsimp only
  rw [e]
  exact .rfl

/-! ## The launch -/

/-- @main up to the call, at this algebra. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The body's own cell. -/
abbrev osem0 : Fin 1 → SemLoc sig := fun | 0 => cell1 | ⟨_ + 1, h⟩ => absurd h (Nat.not_lt.2 (Nat.le_add_left _ _))
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), cell1) 0 := by
  rw [Pipeline.ownSems0_eq_of_list c osem0 [0] (by decide) (by decide)]; rfl
/-- The array the body's transfers read. -/
def H0 : Finset (Ref sig .tc) := {main_arg7}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = wPt wM1 c (V m c main_arg7) := by
  rw [BI.bigSep_eq_bigSepL_of_eq [main_arg7] (by decide) (by decide)]; rfl

theorem PhiD0_eq (c : Dev nD) :
    (Pipeline.ΦD osem0 spec0 H0 (V m) c : sProp 𝕄)
      = iprop(iprop((∃ d, owns (c : Thread nD τ) stM1 fullShare d) ∗ (∃ d, owns (c : Thread nD τ) wbM1 fullShare d))
          ∗ (∃ r, prngReg c r) ∗ semVal ((c : Thread nD τ), cell1) 0
          ∗ wPt wM1 c (V m c main_arg7)) := by
  rw [Pipeline.ΦD_eq, scopedRest0_eq, ownSems00_eq, hbmPts0_eq]
  simp only [stM1, wbM1, owns_whole]; try rfl

theorem PhiT0_eq (c : Dev nD) : (Pipeline.ΦT pre0 (tbl m) c : sProp 𝕄) = tabsV m c := by
  obtain rfl : c = 0 := Subsingleton.elim _ _
  unfold Pipeline.ΦT Pipeline.prefHeld
  rw [bigSep_univ_eq_bigSepL [(0 : Fin 6), (1 : Fin 6), (2 : Fin 6), (3 : Fin 6), (4 : Fin 6), (5 : Fin 6)] (by decide) (by decide)]
  rfl

theorem phi_in (c : Dev nD) : iprop(Pipeline.ΦD osem0 spec0 H0 (V m) c ∗ Pipeline.ΦT pre0 (tbl m) c) ⊢ (dats m h 0 c).Φ 0 := by
  rw [PhiD0_eq, PhiT0_eq]
  rw [Phi_eq]
  show _ ⊢ iprop((∃ r, prngReg c r) ∗ keep m c 0 ∗ tabsV m c)
  unfold keep rest atRest home
  rw [if_pos rfl]
  iintro ⟨⟨⟨HS1, HB1⟩, Hg, Hq1, Hw1⟩, HT⟩
  isplitl [Hg]; · iexact Hg
  isplitr [HT]
  · isplitl [HB1]; · iexact HB1
    isplitl [HS1]; · iexact HS1
    isplitl [Hq1]; · iexact Hq1
    iexact Hw1
  iexact HT

theorem phi_out (c : Dev nD) : (dats m h 0 c).Φ (Fin.last (cfgM m h).N) ⊢ Pipeline.ΦD osem0 spec0 H0 (V m) c := by
  rw [PhiD0_eq, Phi_eq]
  show iprop((∃ r, prngReg c r) ∗ keep m c grid0.N ∗ tabsV m c) ⊢ _
  have e : Tiles.row (uW m c) ((160 - 1) % 40) = Tiles.used (uW m c) - 1 := by
    have := Tiles.used_le (uW m c)
    unfold Tiles.row; omega
  rw [N_0]
  unfold keep held next
  rw [if_neg (by decide), e, if_pos (h c).last.1, if_neg (by decide)]
  unfold rest atRest home
  iintro ⟨Hg, ⟨HB1, HS1, Hq1, Hw1⟩, HT⟩
  isplitl [HS1 HB1]
  · isplitl [HS1]; · iexact HS1
    iexists _; iexact HB1
  isplitl [Hg]; · iexact Hg
  isplitl [Hq1]; · iexact Hq1
  iexact Hw1

set_option backward.isDefEq.respectTransparency.types false in
/-- The run: every array ends as the pipeline's data say, the cells at zero. -/
theorem run_main : θ_run defs (onTc (τ := τ) (main (F := F))) (s₀ m ρ)
    (fun r => Pipeline.FramePost (Pipeline.pin pcfgs fun _ => adm m h) (dats m h) 0 (V m) r ∧ r.2.sem = fun _ => 0) :=
  Pipeline.θ_run_frameP_dma (Q' := _) pcfgs (fun _ => adm m h) (dats m h) (0 : Fin 1) launch0 osem0 defs₀ Variants.none ownSemFacts0 H0 H0_sub m ρ main
    (hbody := fun c => (body_obligation m h c).loose) (hshare := fun c => (dats m h 0 c).share_full fun _ => rfl)
    (howed := fun _ _ => rfl) (V := V m) (hmain := hmain m Variants.none) (hA := A_eq m h) (hpf := V_pre m)
    (hin := phi_in m h) (hout := phi_out m h)

include h in
/-- The frame: the arguments end as they were, the cells at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hr => ⟨fun c =>
    ⟨(hr.1 c).2 main_arg0 (by decide : main_arg0 ∈ Pipeline.restRefs sig spec0),
      (hr.1 c).2 main_arg1 (by decide : main_arg1 ∈ Pipeline.restRefs sig spec0),
      (hr.1 c).2 main_arg2 (by decide : main_arg2 ∈ Pipeline.restRefs sig spec0),
      (hr.1 c).2 main_arg3 (by decide : main_arg3 ∈ Pipeline.restRefs sig spec0),
      (hr.1 c).2 main_arg4 (by decide : main_arg4 ∈ Pipeline.restRefs sig spec0),
      (hr.1 c).2 main_arg5 (by decide : main_arg5 ∈ Pipeline.restRefs sig spec0),
      ((hr.1 c).1 0).trans (((dats m h 0 c).arrAt_in 0 rfl _).trans (A_eq m h c 0)),
      (hr.1 c).2 main_arg7 (by decide : main_arg7 ∈ Pipeline.restRefs sig spec0)⟩, hr.2⟩) (run_main m ρ h)

end Cert.Down.Hand

end
-- ==== Proof.DownIdealFrame.lean ====
module

public import proofs.«01_k».proof.Proof.DownFrame
public import proofs.«01_k».proof.Proof.Gen.DownIdeal

/-!
# The program over the reals is the program

The two are one text, so what is proved of the one for every reading of its floats is proved of the other.
-/

@[expose] public section

noncomputable section

namespace Cert.DownIdeal.Hand

open Idealize.ShloMosaic Idealize.ShloMosaic.TcCoe Idealize.SL.Sem

variable {F : FTy → Type} [FloatOps F]

/-- The two tables of bodies agree. -/
theorem bodies_eq : Cert.DownIdeal.defs₀ (F := F) = Cert.Down.defs₀ (F := F) := by
  unfold Cert.DownIdeal.defs₀ Cert.Down.defs₀
  refine congrArg Defs.onTc (funext fun l => funext fun a => ?_)
  rcases l with ⟨_ | _, h⟩
  · rcases a with ⟨_, _⟩
    exact rfl
  · omega

/-- So do the tables with the pipeline's own bodies. -/
theorem defs_eq : Cert.DownIdeal.defs (F := F) = Cert.Down.defs (F := F) := by
  unfold Cert.DownIdeal.defs Cert.Down.defs
  exact congrArg (Pipeline.defs _) bodies_eq

set_option backward.isDefEq.respectTransparency.types false in
/-- The frame: the arguments end as they were, the cells at zero. -/
theorem frame (m : (ℓ : Loc nD τ sig) → Buf (Elt F) ℓ) (h : Cert.Down.Hand.Plan m) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq]
  exact Cert.Down.Hand.frame m ρ h

end Cert.DownIdeal.Hand
end
-- ==== Proof.DownReference.lean ====
module

public import proofs.«01_k».proof.Proof.DownSched
public import proofs.«01_k».proof.Proof.Gen.DownRefIdeal.Run
public import Idealize.ShloMosaic.Lib.Pipeline.ValueKit
public import Idealize.ShloMosaic.Lib.Routing.Words

/-!
# The expert layer's reference at one entry

The reference sums over the eight experts, each term under the bit "this token's tile is the expert's and the token is in
use". At a token in use exactly one bit is set, and the sum is that expert's product; elsewhere it is zero.
-/

@[expose] public section

set_option maxRecDepth 16384

noncomputable section

namespace Cert.Down.Experts

open Idealize.ShloMosaic Idealize.ShloMosaic.TcCoe Idealize.SL.Sem
open Cert.DownRefIdeal Cert.DownRefIdeal.Gen

/-- The number of a token's tile: its position divided by 512. -/
def TILE : IVec S20480 32 := Routing.pyDiv bcast_S_S20480 (iotaInDim S20480 32 0) (constantI S_ 32 512#32)

/-- Whether a token is in the first half of its tile. -/
def HALF : IVec S20480 1 :=
  cmpi .slt (Routing.pyRem bcast_S_S20480 (iotaInDim S20480 32 0) (constantI S_ 32 512#32))
    (broadcastInDim S20480 ![] bcast_S_S20480 (constantI S_ 32 256#32))

/-- A word per tile, repeated over the tile's tokens. -/
def REP (T : IVec S40 32) : IVec S20480 32 :=
  shapeCast S20480 (broadcastInDim S40x512 ![0] bcast_S40_S40x512_0 T) shapeCasts_S40x512_S20480

/-- Whether a token is in use. -/
def VALID (full : IVec S40 32) (nu : IVec S1 32) : IVec S20480 1 :=
  andi (cmpi .slt TILE (broadcastInDim S20480 ![] bcast_S_S20480 (shapeCast S_ nu shapeCasts_S1_S_)))
    (ori (cmpi .eq (REP full) (broadcastInDim S20480 ![] bcast_S_S20480 (constantI S_ 32 1#32))) HALF)

/-- The tokens times one expert's weights. -/
def DOT (X : FVec Ideal S20480x4096 .bf16) (W : FVec Ideal S8x4096x4096 .f32) (off : Fin 3 → ℕ)
    (h : S8x4096x4096.Slices off S1x4096x4096) : FVec Ideal S20480x4096 .f32 :=
  Host.dotGeneral dot_S20480x4096_S4096x4096_S20480x4096_1_0_0_1_n_n none (extf .f32 X bitsLt_bf16_f32)
    (shapeCast S4096x4096 (extractStridedSlice S1x4096x4096 off W h) shapeCasts_S1x4096x4096_S4096x4096)

/-- One expert's term of the sum, at the tokens whose bit is set. -/
def TERM (te full : IVec S40 32) (nu : IVec S1 32) (X : FVec Ideal S20480x4096 .bf16) (W : FVec Ideal S8x4096x4096 .f32)
    (e : BitVec 32) (off : Fin 3 → ℕ) (h : S8x4096x4096.Slices off S1x4096x4096) : FVec Ideal S20480x4096 .f32 :=
  mulf (broadcastInDim S20480x4096 ![0, 1] bcast_S20480x1_S20480x4096_0_1 (broadcastInDim S20480x1 ![0] bcast_S20480_S20480x1_0
      (uitofp .f32 (andi (VALID full nu) (cmpi .eq (REP te) (broadcastInDim S20480 ![] bcast_S_S20480 (constantI S_ 32 e)))))))
    (DOT X W off h)

/-- The reference's result, as a function of the tables, the tokens and the weights. -/
def REF (te full : IVec S40 32) (nu : IVec S1 32) (X : FVec Ideal S20480x4096 .bf16) (W : FVec Ideal S8x4096x4096 .f32) :
    FVec Ideal S20480x4096 .f32 :=
  addf (addf (addf (addf (addf (addf (addf (addf
    (broadcastInDim S20480x4096 ![] bcast_S_S20480x4096 (constant S_ .f32 0x00000000#32))
    (TERM te full nu X W 0#32 ![0, 0, 0] slices_S8x4096x4096_S1x4096x4096_0_0_0))
    (TERM te full nu X W 1#32 ![1, 0, 0] slices_S8x4096x4096_S1x4096x4096_1_0_0))
    (TERM te full nu X W 2#32 ![2, 0, 0] slices_S8x4096x4096_S1x4096x4096_2_0_0))
    (TERM te full nu X W 3#32 ![3, 0, 0] slices_S8x4096x4096_S1x4096x4096_3_0_0))
    (TERM te full nu X W 4#32 ![4, 0, 0] slices_S8x4096x4096_S1x4096x4096_4_0_0))
    (TERM te full nu X W 5#32 ![5, 0, 0] slices_S8x4096x4096_S1x4096x4096_5_0_0))
    (TERM te full nu X W 6#32 ![6, 0, 0] slices_S8x4096x4096_S1x4096x4096_6_0_0))
    (TERM te full nu X W 7#32 ![7, 0, 0] slices_S8x4096x4096_S1x4096x4096_7_0_0)

/-- The reference's result at equal arguments. -/
theorem ref_congr {te te' full full' : IVec S40 32} {nu nu' : IVec S1 32} {X X' : FVec Ideal S20480x4096 .bf16}
    {W W' : FVec Ideal S8x4096x4096 .f32} (ht : te = te') (hf : full = full') (hn : nu = nu') (hX : X = X') (h1 : W = W') : REF te full nu X W = REF te' full' nu' X' W' := by
  subst ht hf hn hX h1; rfl

/-- The tile's number of token `s`. -/
theorem tile_at (s : Fin 20480) : TILE (ix1 s) = BitVec.ofNat 32 (s.val / 512) :=
  Routing.pyDiv_ap bcast_S_S20480 _ _ (ix1 s) rfl rfl (by have := s.isLt; omega) (by decide) (by decide)

/-- A repeated word at token `s` is its tile's. -/
theorem rep_at (T : IVec S40 32) (s : Fin 20480) : REP T (ix1 s) = T (ix1 ⟨s.val / 512, by have := s.isLt; omega⟩) := by
  pointwise [REP]

/-- Whether token `s` is in the first half of its tile. -/
theorem half_at (s : Fin 20480) : HALF (ix1 s) = 1#1 ↔ s.val % 512 < 256 := by
  have e : Routing.pyRem bcast_S_S20480 (iotaInDim S20480 32 0) (constantI S_ 32 512#32) (ix1 s) = BitVec.ofNat 32 (s.val % 512) :=
    Routing.pyRem_ap bcast_S_S20480 _ _ (ix1 s) rfl rfl (by have := s.isLt; omega) (by decide) (by decide)
  have h : HALF (ix1 s) = IntOp.cmpi .slt (BitVec.ofNat 32 (s.val % 512)) (BitVec.ofNat 32 256) := by
    rw [← e]; rfl
  rw [h, IntOp.cmpi_slt, WordCmp.toInt_ofNat_of_lt (by omega), WordCmp.toInt_ofNat_of_lt (by decide)]
  omega

/-- Whether token `s` is in use, the table of tiles `full` and the number of tiles in use being given. -/
def inUse (full : IVec S40 32) (nu : IVec S1 32) (s : Fin 20480) : Prop :=
  s.val / 512 < Tiles.used (nu (ix1 0)) ∧ (full (ix1 ⟨s.val / 512, by have := s.isLt; omega⟩) = 1#32 ∨ s.val % 512 < 256)

theorem either (a b : BitVec 1) : IntOp.ori a b = 1#1 ↔ a = 1#1 ∨ b = 1#1 := by revert a b; decide
theorem andi_iff (a b : BitVec 1) : IntOp.andi a b = 1#1 ↔ a = 1#1 ∧ b = 1#1 := by revert a b; decide

/-- A token's bit is set when its tile is in use, and the tile is full or the token is in its first half. -/
theorem valid_at (full : IVec S40 32) (nu : IVec S1 32) (s : Fin 20480) : VALID full nu (ix1 s) = 1#1 ↔ inUse full nu s := by
  have hs : s.val / 512 < 40 := by have := s.isLt; omega
  have h : VALID full nu (ix1 s) = IntOp.andi (IntOp.cmpi .slt (TILE (ix1 s)) (nu (ix1 0)))
      (IntOp.ori (IntOp.cmpi .eq (REP full (ix1 s)) 1#32) (HALF (ix1 s))) := by
    pointwise [VALID]
  rw [h, tile_at, rep_at, andi_iff, either, half_at, IntOp.cmpi_slt, IntOp.cmpi_eq, Tiles.lt_used _ hs]
  exact Iff.rfl

/-- The product's entry at token `s`, channel `d` is the row times the expert's column. -/
theorem dot_at (X : FVec Ideal S20480x4096 .bf16) (W : FVec Ideal S8x4096x4096 .f32) (e : Fin 8)
    (h : S8x4096x4096.Slices ![e.val, 0, 0] S1x4096x4096) (s : Fin 20480) (d : Fin 4096) :
    (DOT X W ![e.val, 0, 0] h (ix2 s d) : EReal) = ∑ k : Fin 4096, (X (ix2 s k) : EReal) * W (ix3 e k d) := by
  pointwise [DOT]

/-- A token's row times a column of an expert's weights. -/
def PRODUCT (X : FVec Ideal S20480x4096 .bf16) (W : FVec Ideal S8x4096x4096 .f32) (e : Fin 8) (s : Fin 20480) (d : Fin 4096) : EReal :=
  ∑ k : Fin 4096, (X (ix2 s k) : EReal) * W (ix3 e k d)

section Term
variable (te full : IVec S40 32) (nu : IVec S1 32) (X : FVec Ideal S20480x4096 .bf16) (W : FVec Ideal S8x4096x4096 .f32)

/-- A term at one entry: the bit as a number times the product. -/
theorem term_at (e : Fin 8) (w : BitVec 32) (h : S8x4096x4096.Slices ![e.val, 0, 0] S1x4096x4096) (s : Fin 20480) (d : Fin 4096) :
    (TERM te full nu X W w ![e.val, 0, 0] h (ix2 s d) : EReal)
      = (FloatOps.uitofp (F := Ideal) .f32 (IntOp.andi (VALID full nu (ix1 s))
          (IntOp.cmpi .eq (te (ix1 ⟨s.val / 512, by have := s.isLt; omega⟩)) w)) : EReal) * PRODUCT X W e s d := by
  rw [← rep_at te s, PRODUCT, ← dot_at X W e h]
  pointwise [TERM]

/-- The term counts. -/
theorem term_on (e : Fin 8) (w : BitVec 32) (h : S8x4096x4096.Slices ![e.val, 0, 0] S1x4096x4096) (s : Fin 20480) (d : Fin 4096)
    (hv : inUse full nu s) (he : te (ix1 ⟨s.val / 512, by have := s.isLt; omega⟩) = w) :
    (TERM te full nu X W w ![e.val, 0, 0] h (ix2 s d) : EReal) = PRODUCT X W e s d := by
  rw [term_at, (andi_iff _ _).mpr ⟨(valid_at full nu s).mpr hv, IntOp.cmpi_eq.mpr he⟩]
  have e1 : (FloatOps.uitofp (F := Ideal) .f32 (1#1 : BitVec 1) : EReal) = 1 := by
    show (((1#1 : BitVec 1).toNat : ℝ) : EReal) = 1
    norm_num
  rw [e1, one_mul]

/-- The term does not count. -/
theorem term_off (e : Fin 8) (w : BitVec 32) (h : S8x4096x4096.Slices ![e.val, 0, 0] S1x4096x4096) (s : Fin 20480) (d : Fin 4096)
    (hv : ¬(inUse full nu s ∧ te (ix1 ⟨s.val / 512, by have := s.isLt; omega⟩) = w)) :
    (TERM te full nu X W w ![e.val, 0, 0] h (ix2 s d) : EReal) = 0 := by
  have hb : IntOp.andi (VALID full nu (ix1 s)) (IntOp.cmpi .eq (te (ix1 ⟨s.val / 512, by have := s.isLt; omega⟩)) w) = 0#1 := by
    have h1 : ¬_ = 1#1 := fun hb => hv (((andi_iff _ _).mp hb).imp (valid_at full nu s).mp IntOp.cmpi_eq.mp)
    revert h1
    generalize IntOp.andi (VALID full nu (ix1 s)) (IntOp.cmpi .eq (te (ix1 ⟨s.val / 512, by have := s.isLt; omega⟩)) w) = z
    revert z; decide
  rw [term_at, hb]
  have e0 : (FloatOps.uitofp (F := Ideal) .f32 (0#1 : BitVec 1) : EReal) = 0 := by
    show (((0#1 : BitVec 1).toNat : ℝ) : EReal) = 0
    norm_num
  rw [e0, zero_mul]

/-- The result at one entry is the sum of the eight terms. -/
theorem ref_sum (s : Fin 20480) (d : Fin 4096) : (REF te full nu X W (ix2 s d) : EReal)
    = (TERM te full nu X W 0#32 ![0, 0, 0] slices_S8x4096x4096_S1x4096x4096_0_0_0 (ix2 s d) : EReal)
    + (TERM te full nu X W 1#32 ![1, 0, 0] slices_S8x4096x4096_S1x4096x4096_1_0_0 (ix2 s d) : EReal)
    + (TERM te full nu X W 2#32 ![2, 0, 0] slices_S8x4096x4096_S1x4096x4096_2_0_0 (ix2 s d) : EReal)
    + (TERM te full nu X W 3#32 ![3, 0, 0] slices_S8x4096x4096_S1x4096x4096_3_0_0 (ix2 s d) : EReal)
    + (TERM te full nu X W 4#32 ![4, 0, 0] slices_S8x4096x4096_S1x4096x4096_4_0_0 (ix2 s d) : EReal)
    + (TERM te full nu X W 5#32 ![5, 0, 0] slices_S8x4096x4096_S1x4096x4096_5_0_0 (ix2 s d) : EReal)
    + (TERM te full nu X W 6#32 ![6, 0, 0] slices_S8x4096x4096_S1x4096x4096_6_0_0 (ix2 s d) : EReal)
    + (TERM te full nu X W 7#32 ![7, 0, 0] slices_S8x4096x4096_S1x4096x4096_7_0_0 (ix2 s d) : EReal) := by
  pointwise [REF]

/-- One expert's slice of the weights. -/
theorem sl (k : Fin 8) : S8x4096x4096.Slices ![k.val, 0, 0] S1x4096x4096 := by
  fin_cases k
  exacts [slices_S8x4096x4096_S1x4096x4096_0_0_0, slices_S8x4096x4096_S1x4096x4096_1_0_0, slices_S8x4096x4096_S1x4096x4096_2_0_0,
    slices_S8x4096x4096_S1x4096x4096_3_0_0, slices_S8x4096x4096_S1x4096x4096_4_0_0, slices_S8x4096x4096_S1x4096x4096_5_0_0,
    slices_S8x4096x4096_S1x4096x4096_6_0_0, slices_S8x4096x4096_S1x4096x4096_7_0_0]

/-- Expert `k`'s term at one entry. -/
def term (s : Fin 20480) (d : Fin 4096) (k : Fin 8) : EReal :=
  TERM te full nu X W (BitVec.ofNat 32 k.val) ![k.val, 0, 0] (sl k) (ix2 s d)

theorem ref_terms (s : Fin 20480) (d : Fin 4096) : (REF te full nu X W (ix2 s d) : EReal)
    = term te full nu X W s d 0 + term te full nu X W s d 1 + term te full nu X W s d 2 + term te full nu X W s d 3
      + term te full nu X W s d 4 + term te full nu X W s d 5 + term te full nu X W s d 6 + term te full nu X W s d 7 :=
  ref_sum te full nu X W s d

/-- Off the tokens in use the result is zero. -/
theorem ref_off (s : Fin 20480) (d : Fin 4096) (hv : ¬inUse full nu s) : (REF te full nu X W (ix2 s d) : EReal) = 0 := by
  have z : ∀ k, term te full nu X W s d k = 0 := fun k => term_off te full nu X W k _ _ s d fun h => hv h.1
  rw [ref_terms]
  simp only [z, add_zero]

/-- At a token in use the result is the product with its tile's expert. -/
theorem ref_on (s : Fin 20480) (d : Fin 4096) (e : Fin 8) (hv : inUse full nu s)
    (he : te (ix1 ⟨s.val / 512, by have := s.isLt; omega⟩) = BitVec.ofNat 32 e.val) :
    (REF te full nu X W (ix2 s d) : EReal) = PRODUCT X W e s d := by
  have t : ∀ k, term te full nu X W s d k = if k = e then PRODUCT X W e s d else 0 := fun k => by
    split
    · rename_i hk; subst hk; exact term_on te full nu X W k _ _ s d hv he
    · rename_i hk
      refine term_off te full nu X W k _ _ s d fun hh => hk (Fin.ext ?_)
      have := congrArg BitVec.toNat (hh.2.symm.trans he)
      rw [BitVec.toNat_ofNat, BitVec.toNat_ofNat] at this
      omega
  rw [ref_terms]
  simp only [t]
  fin_cases e <;> simp

end Term

end Cert.Down.Experts
end
-- ==== Proof.DownPrinted.lean ====
module

public import proofs.«01_k».proof.Proof.DownReference

/-!
# The expert layer's second reference, as its run leaves it

The run of the reference leaves its operations' composed term. That term is the sum the reference is written as.
-/

@[expose] public section

set_option maxRecDepth 16384

noncomputable section

namespace Cert.DownRefIdeal.Experts

open Idealize.ShloMosaic Idealize.ShloMosaic.TcCoe Idealize.SL.Sem Idealize.ShloMosaic.StableHlo
open Cert.DownRefIdeal Cert.DownRefIdeal.Gen Cert.DownRefIdeal.Value
open Cert.Down.Experts (REF TERM DOT VALID REP TILE HALF)

/-- The result the run leaves is the reference's sum. -/
theorem printed (m : (ℓ : Loc nD τ sig) → Buf (Elt Ideal) ℓ) (c : Dev nD) : res_main_v106 m c
    = REF (m ((c.tc : Thread nD τ).loc main_arg0)) (m ((c.tc : Thread nD τ).loc main_arg4)) (m ((c.tc : Thread nD τ).loc main_arg5))
        (m ((c.tc : Thread nD τ).loc main_arg6)) (m ((c.tc : Thread nD τ).loc main_arg7)) := by
  unfold res_main_v106 REF TERM DOT VALID REP TILE HALF
  rfl

/-- The run of the reference leaves the reference's sum of the arguments. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v106)
        = REF (m ((c.tc : Thread nD τ).loc main_arg0)) (m ((c.tc : Thread nD τ).loc main_arg4)) (m ((c.tc : Thread nD τ).loc main_arg5))
            (m ((c.tc : Thread nD τ).loc main_arg6)) (m ((c.tc : Thread nD τ).loc main_arg7)) :=
  (θ_run defs _ _).mono (fun _ h c => (h c).1.trans (printed m c)) (Value.run m ρ)

end Cert.DownRefIdeal.Experts
end
-- ==== Proof.DownPre.lean ====
module

public import proofs.«01_k».proof.Defs
public import proofs.«01_k».proof.Proof.DownFrame
public import Idealize.ShloMosaic.Lib.Pipeline.ValueKit

/-!
# The tables' schedule, from the precondition
-/

@[expose] public section

set_option maxRecDepth 16384

noncomputable section

namespace Cert.Down.Plans

open Idealize.ShloMosaic Idealize.ShloMosaic.TcCoe Idealize.SL.Sem
open Cert.Pre_moe_down_scheduled

/-- The shapes the precondition's operations take fit one another. -/
theorem facts : Cert.Pre_moe_down_scheduled.Facts := by
  constructor <;> decide

theorem ori_iff (a b : BitVec 1) : IntOp.ori a b = 1#1 ↔ a = 1#1 ∨ b = 1#1 := by revert a b; decide
theorem andi_iff (a b : BitVec 1) : IntOp.andi a b = 1#1 ↔ a = 1#1 ∧ b = 1#1 := by revert a b; decide
theorem not_iff (a : BitVec 1) : ~~~a = 1#1 ↔ ¬a = 1#1 := by revert a; decide
theorem bits_iff (a b : BitVec 1) : IntOp.cmpi .eq a b = 1#1 ↔ (a = 1#1 ↔ b = 1#1) := by revert a b; decide
theorem select_iff (c a b : BitVec 1) : Scalar.select c a b = 1#1 ↔ (c = 1#1 ∧ a = 1#1) ∨ (¬c = 1#1 ∧ b = 1#1) := by
  revert c a b; decide

section Read
variable {F : FTy → Type} [FloatOps F] [Cert.Pre_moe_down_scheduled.Facts]
variable (te fi nx la fu : IVec S40 32) (nu : IVec S1 32) (X : FVec F S20480x4096 .bf16) (W1 : FVec F S8x4096x4096 .f32)

theorem p1 (h : (fn te fi nx la fu nu X W1).1 = fun _ => 1#1) : 1 ≤ (nu (ix1 0)).toInt := by
  have h := congrFun h (ix1 0)
  pointwise [fn, fn_part1, fn_part2, fn_part3, fn_where] at h
  rw [IntOp.cmpi_sge] at h
  exact h

theorem p2 (h : (fn te fi nx la fu nu X W1).2.1 = fun _ => 1#1) : fi (ix1 0) = 1#32 := by
  have h := congrFun h (ix1 0)
  pointwise [fn, fn_part1, fn_part2, fn_part3, fn_where] at h
  simpa only [IntOp.cmpi_eq] using h

theorem p3 (h : (fn te fi nx la fu nu X W1).2.2.1 = fun _ => 1#1) (n : Fin 40) (hn : (BitVec.ofNat 32 n.val).toInt < (nu (ix1 0)).toInt) :
    0 ≤ (te (ix1 n)).toInt ∧ (te (ix1 n)).toInt < 8 := by
  have h := congrFun h (ix1 n)
  pointwise [fn, fn_part1, fn_part2, fn_part3, fn_where] at h
  simp only [ori_iff, andi_iff, not_iff, IntOp.cmpi_slt, IntOp.cmpi_sge] at h
  rcases h with h | h
  · exact absurd hn h
  · exact h

theorem p4 (h : (fn te fi nx la fu nu X W1).2.2.2.1 = fun _ => 1#1) (n : Fin 40)
    (hn : BitVec.ofNat 32 n.val = nu (ix1 0) - 1#32 ∨ (n.val = 39 ∧ (BitVec.ofNat 32 n.val).toInt < (nu (ix1 0)).toInt)) :
    la (ix1 n) = 1#32 ∧ nx (ix1 n) = te (ix1 0) := by
  have h := congrFun h (ix1 n)
  pointwise [fn, fn_part1, fn_part2, fn_part3, fn_where] at h
  simp only [ori_iff, andi_iff, not_iff, IntOp.cmpi_slt, IntOp.cmpi_eq] at h
  rcases h with h | h
  · refine absurd ?_ h
    rcases hn with hn | ⟨hn, hu⟩
    · exact Or.inl hn
    · exact Or.inr ⟨by rw [hn], hu⟩
  · exact h

theorem p5 (h : (fn te fi nx la fu nu X W1).2.2.2.2 = fun _ => 1#1) (n : ℕ) (hn : n + 1 < 40)
    (hu : (BitVec.ofNat 32 (n + 1)).toInt < (nu (ix1 0)).toInt) :
    (te (ix1 ⟨n, by omega⟩) = te (ix1 ⟨n + 1, hn⟩) ∧ ¬fi (ix1 ⟨n + 1, hn⟩) = 1#32 ∧ nx (ix1 ⟨n, by omega⟩) = nx (ix1 ⟨n + 1, hn⟩)
        ∧ (la (ix1 ⟨n, by omega⟩) = 1#32 ↔ la (ix1 ⟨n + 1, hn⟩) = 1#32))
      ∨ (fi (ix1 ⟨n + 1, hn⟩) = 1#32 ∧ nx (ix1 ⟨n, by omega⟩) = te (ix1 ⟨n + 1, hn⟩) ∧ ¬la (ix1 ⟨n, by omega⟩) = 1#32) := by
  have h := congrFun h (ix1 ⟨n, by omega⟩)
  pointwise [fn, fn_part1, fn_part2, fn_part3, fn_where] at h
  simp only [ori_iff, andi_iff, not_iff, select_iff, bits_iff, IntOp.cmpi_slt, IntOp.cmpi_eq, IntOp.cmpi_ne, Nat.add_comm 1 n] at h
  rcases h with h | ⟨a, ⟨b, c⟩, d⟩ | ⟨-, ⟨a, b⟩, c⟩
  · exact absurd hu h
  · exact Or.inl ⟨a, b, c, d⟩
  · exact Or.inr ⟨a, b, c⟩

/-- The five results say that the tables keep the schedule. -/
theorem keeps (h1 : (fn te fi nx la fu nu X W1).1 = fun _ => 1#1) (h2 : (fn te fi nx la fu nu X W1).2.1 = fun _ => 1#1)
    (h3 : (fn te fi nx la fu nu X W1).2.2.1 = fun _ => 1#1) (h4 : (fn te fi nx la fu nu X W1).2.2.2.1 = fun _ => 1#1)
    (h5 : (fn te fi nx la fu nu X W1).2.2.2.2 = fun _ => 1#1) :
    Tiles.Sched (Hand.wd te) (Hand.wd fi) (Hand.wd nx) (Hand.wd la) (nu (ix1 0)) := by
  have u1 := p1 te fi nx la fu nu X W1 h1
  have hle := Tiles.used_le (nu (ix1 0))
  have w : ∀ (T : IVec S40 32) (n : ℕ) (hn : n < 40), Hand.wd T n = T (ix1 ⟨n, hn⟩) := fun T n hn => by
    unfold Hand.wd
    congr 1
    funext a; apply Fin.ext
    match a with
    | ⟨0, _⟩ => exact Nat.mod_eq_of_lt hn
  have hp : 0 < Tiles.used (nu (ix1 0)) := by unfold Tiles.used; omega
  have t0 := w te 0 (by decide)
  refine ⟨hp, ?_, fun n hn => ?_, ?_, fun n hn => ?_⟩
  · rw [w fi 0 (by decide)]; exact p2 te fi nx la fu nu X W1 h2
  · have hn' : n < 40 := by omega
    rw [w te n hn']
    have := p3 te fi nx la fu nu X W1 h3 ⟨n, hn'⟩ ((Tiles.lt_used _ hn').mpr hn)
    rw [BitVec.toInt_eq_toNat_cond] at this
    split at this <;> omega
  · have hn' : Tiles.used (nu (ix1 0)) - 1 < 40 := by omega
    rw [w la _ hn', w nx _ hn', t0]
    refine p4 te fi nx la fu nu X W1 h4 ⟨_, hn'⟩ ?_
    by_cases hb : (nu (ix1 0)).toInt ≤ 40
    · left
      have hv : Tiles.used (nu (ix1 0)) = (nu (ix1 0)).toNat := by
        unfold Tiles.used
        rw [BitVec.toInt_eq_toNat_cond] at *
        split at u1 <;> split at hb <;> omega
      apply BitVec.eq_of_toNat_eq
      show (BitVec.ofNat 32 (Tiles.used (nu (ix1 0)) - 1)).toNat = _
      rw [BitVec.toNat_sub, BitVec.toNat_ofNat, hv]
      rw [hv] at hp hle
      simp; omega
    · right
      have hv : Tiles.used (nu (ix1 0)) = 40 := by unfold Tiles.used; omega
      exact ⟨by show Tiles.used (nu (ix1 0)) - 1 = 39; omega, (Tiles.lt_used _ hn').mpr (by show Tiles.used (nu (ix1 0)) - 1 < _; omega)⟩
  · have hn' : n + 1 < 40 := by omega
    rw [w te n (by omega), w te _ hn', w fi _ hn', w nx n (by omega), w nx _ hn', w la n (by omega), w la _ hn']
    exact p5 te fi nx la fu nu X W1 h5 n hn' ((Tiles.lt_used _ hn').mpr hn)

end Read

/-- The table of one has one index. -/
theorem only (i j : S1.Idx) : i = j := funext fun a => by
  match a with
  | ⟨0, _⟩ => exact Subsingleton.elim (α := Fin 1) _ _

/-- The word the table of one is loaded as is its only entry. -/
theorem one_word {F : FTy → Type} [FloatOps F] (m : (ℓ : Loc Cert.Down.nD Cert.Down.τ Cert.Down.sig) → Buf (Elt F) ℓ) (c : Dev Cert.Down.nD) :
    Cert.Down.Hand.uW m c = (m ((c : Thread Cert.Down.nD Cert.Down.τ).loc Cert.Down.main_arg5) : IVec S1 32) (ix1 0) :=
  congrArg (m ((c : Thread Cert.Down.nD Cert.Down.τ).loc Cert.Down.main_arg5) : IVec S1 32) (only _ _)

/-- Under the precondition the launched tables keep the schedule. -/
theorem plan [Cert.Pre_moe_down_scheduled.Facts] (m : (ℓ : Loc Cert.Down.nD Cert.Down.τ Cert.Down.sig) → Buf (Elt Bits) ℓ)
    (h : Cert.Pre_Down m) : Cert.Down.Hand.Plan m := fun c => by
  obtain ⟨h1, h2, h3, h4, h5⟩ := h c
  have k := keeps (F := Bits) _ _ _ _ _ _ _ _ h1 h2 h3 h4 h5
  rw [one_word]
  exact k

/-- Under the precondition the launched tables keep the schedule, over the extended reals. -/
theorem plan_ideal [Cert.Pre_moe_down_scheduled.Facts] (m : (ℓ : Loc Cert.DownIdeal.nD Cert.DownIdeal.τ Cert.DownIdeal.sig) → Buf (Elt Ideal) ℓ)
    (h : Cert.Pre_DownIdeal m) : Cert.Down.Hand.Plan (F := Ideal) m := fun c => by
  obtain ⟨h1, h2, h3, h4, h5⟩ := h c
  have k := keeps (F := Ideal) _ _ _ _ _ _ _ _ h1 h2 h3 h4 h5
  rw [one_word]
  exact k

end Cert.Down.Plans
end
-- ==== Proof.DownValue.lean ====
module

public import proofs.«01_k».proof.Proof.DownIdealFrame
public import proofs.«01_k».proof.Proof.DownReference
public import proofs.«01_k».proof.Proof.DownPre
public import Idealize.ShloMosaic.Lib.Pipeline.ValueKit
public import Idealize.ShloMosaic.Lib.Pipeline.Covers
public import Idealize.ShloMosaic.Lib.Pipeline.ReadBack
public import Idealize.ShloMosaic.Lib.ValueLayout

/-!
# The expert layer equals its reference

At a point whose tile is in use the body stores the product of its token tile with the kept column block of the tile's
expert, over all rows or over the first half of them; every other row it stores is zero. The reference's sum over the experts
comes to the same at every entry.
-/

@[expose] public section

set_option maxRecDepth 16384

noncomputable section

namespace Cert.Down.Experts

open Idealize.ShloMosaic Idealize.ShloMosaic.TcCoe Idealize.SL.Sem
open Cert.Down Cert.Down.Gen Cert.Down.Hand

/-- A full tile's block at one entry. -/
theorem pay2_at (x : FVec Ideal S512x4096 .bf16) (b1 : FVec Ideal S4096x1024 .bf16) (r : Fin 512) (l : Fin 1024) :
    (k0_pay2 (F := Ideal) x b1 (ix2 r l) : EReal) = ∑ k : Fin 4096, (x (ix2 r k) : EReal) * b1 (ix2 k l) := by
  open_payloads; pointwise

/-- A half tile's block at one entry. -/
theorem pay3_at (x : FVec Ideal S256x4096 .bf16) (b1 : FVec Ideal S4096x1024 .bf16) (r : Fin 256) (l : Fin 1024) :
    (k0_pay3 (F := Ideal) x b1 (ix2 r l) : EReal) = ∑ k : Fin 4096, (x (ix2 r k) : EReal) * b1 (ix2 k l) := by
  open_payloads; pointwise

/-- The lower half of a half tile is zero. -/
theorem pay4_at (y : S256x1024.Idx) : (k0_pay4 (F := Ideal) y : EReal) = 0 := by
  open_payloads; pointwise
/-- A tile out of use is zero. -/
theorem pay5_at (y : S512x1024.Idx) : (k0_pay5 (F := Ideal) y : EReal) = 0 := by
  open_payloads; pointwise

variable (m : (ℓ : Loc nD τ sig) → Buf (Elt Ideal) ℓ)

/-- An array read at an index with the coordinates of expert `e`, row `k`, column `l` of column tile `j`. -/
theorem block_at (W : S8x4096x4096.Idx → EReal) (e j : ℕ) (he : e < 8) (hj : j < 4)
    (i : S8x4096x4096.Idx) (k : Fin 4096) (l : Fin 1024)
    (h0 : (i 0).val = e % 8 + 1 * 0) (h1 : (i 1).val = 0 + 1 * k.val) (h2 : (i 2).val = 1024 * (j % 4) + 1 * l.val) :
    W i = W (ix3 ⟨e, he⟩ k ⟨1024 * j + l, by omega⟩) := by
  refine congrArg W (funext fun a => Fin.ext ?_)
  match a with
  | ⟨0, _⟩ => exact h0.trans (by rw [Nat.mod_eq_of_lt he]; rfl)
  | ⟨1, _⟩ => exact h1.trans (by rw [zero_add, one_mul]; rfl)
  | ⟨2, _⟩ => exact h2.trans (by rw [Nat.mod_eq_of_lt hj, one_mul]; rfl)

/-- A kept column block at one entry is the weight's entry in its expert and column tile. -/
theorem kept1_at (c : Dev nD) (e j : ℕ) (k : Fin 4096) (l : Fin 1024) (he : e < 8) (hj : j < 4) :
    kept1 m c e j (ix2 k l) = m ((c : Thread nD τ).loc main_arg7) (ix3 ⟨e, he⟩ k ⟨1024 * j + l, by omega⟩) := by
  unfold kept1 wblk
  rw [rnd_at]
  unfold wSl
  rw [Memref.read_squeeze_slice (hc := (by decide : S1x4096x1024.ShapeCasts S4096x1024))]
  refine (ValueIdx.shapeCast_1ab_ab_apply _ _ k l).trans ?_
  rw [View.readAt_apply]
  exact block_at (V m c main_arg7) e j he hj _ k l rfl rfl rfl

/-- The second window's block at a point: the tile's rows, the slow axis's column tile. -/
theorem idx1 : ∀ t : Fin grid0.N, cc0_transform_2 (grid0.coords t) = ![t.val % 40, t.val / 40] := by decide +kernel

/-- The blocks written cover the array. -/
theorem covers (h : Plan m) : ((cfgM m h).win 1).Covers := by
  refine Pipeline.Window.covers_of_index_surj _ rfl (fun a => ?_) fun β => ?_
  · match a with
    | ⟨0, _⟩ => exact (by decide : 0 < 512)
    | ⟨1, _⟩ => exact (by decide : 0 < 1024)
  · have hp : (β ⟨0, Nat.zero_lt_two⟩).val < 40 := lt_of_lt_of_eq (β ⟨0, Nat.zero_lt_two⟩).isLt (show (20480 + 512 - 1) / 512 = 40 by norm_num)
    have hq : (β ⟨1, Nat.one_lt_two⟩).val < 4 := lt_of_lt_of_eq (β ⟨1, Nat.one_lt_two⟩).isLt (show (4096 + 1024 - 1) / 1024 = 4 by norm_num)
    have key : ∀ p q : ℕ, p < 40 → q < 4 → (q * 40 + p < 160 ∧ (q * 40 + p) % 40 = p ∧ (q * 40 + p) / 40 = q) := fun p q _ _ => by omega
    obtain ⟨hN, e0, e1⟩ := key _ _ hp hq
    refine ⟨(⟨_, hN⟩ : Fin grid0.N), fun a => ?_⟩
    refine (congrFun (idx1 ⟨_, hN⟩) a).trans ?_
    match a with
    | ⟨0, _⟩ => exact e0
    | ⟨1, _⟩ => exact e1

/-- A table's word at a tile. -/
theorem wd_at (T : S40.Idx → BitVec 32) (n : ℕ) (hn : n < 40) : wd T n = T (ix1 ⟨n, hn⟩) := by
  unfold wd; congr 1; funext a; apply Fin.ext
  match a with | ⟨0, _⟩ => exact Nat.mod_eq_of_lt hn

/-- The token tile at a point in use, at one entry. -/
theorem tok_at (h : Plan m) (c : Dev nD) (t : Fin grid0.N) (ht : t.val % 40 < Tiles.used (uW m c)) (r : Fin 512) (k : Fin 4096) :
    iblk m h c 0 t (ix2 r k) = m ((c : Thread nD τ).loc main_arg6) (ix2 ⟨t.val % 40 * 512 + r, by omega⟩ k) := by
  have hc : c = 0 := Subsingleton.elim _ _
  subst hc
  show V m 0 main_arg6 ((((cfgM m h).win 0).blk t).view.emb (ix2 r k)) = _
  refine congrArg (V m 0 main_arg6) (funext fun a => Fin.ext ?_)
  refine (((cfgM m h).win 0).rect_emb_val t (ix2 r k) a).trans ?_
  have e : ((cfgM m h).win 0).index t a = (![t.val % 40, 0] : Fin 2 → ℕ) a := by
    refine (congrFun (index0 m h (grid0.coords t)) a).trans ?_
    rw [coords1, Tiles.row_of_lt ht]
  rw [e]
  match a with
  | ⟨0, _⟩ => rfl
  | ⟨1, _⟩ => show 0 * 4096 + k.val = k.val; omega

/-- A tile in use of expert `e`: its rows' products with the kept block are the reference's. -/
theorem product_at (h : Plan m) (c : Dev nD) (t : Fin grid0.N) (ht : t.val % 40 < Tiles.used (uW m c)) (e : ℕ) (he : e < 8) (r : Fin 512) (l : Fin 1024)
    (x : FVec Ideal S512x4096 .bf16) (b1 : FVec Ideal S4096x1024 .bf16) (hx : x = iblk m h c 0 t) (h1 : b1 = kept1 m c e (t.val / 40)) :
    ∑ k : Fin 4096, (x (ix2 r k) : EReal) * b1 (ix2 k l)
      = PRODUCT (m ((c : Thread nD τ).loc main_arg6)) (m ((c : Thread nD τ).loc main_arg7)) ⟨e, he⟩
          ⟨t.val % 40 * 512 + r, by omega⟩ ⟨1024 * (t.val / 40) + l, by have := t.isLt; change t.val < 160 at this; omega⟩ := by
  have hj : t.val / 40 < 4 := by have := t.isLt; change t.val < 160 at this; omega
  have ex : ∀ k : Fin 4096, x (ix2 r k) = _ := fun k => (congrFun hx _).trans (tok_at m h c t ht r k)
  have e1 : ∀ k : Fin 4096, b1 (ix2 k l) = _ := fun k => (congrFun h1 _).trans (kept1_at m c e (t.val / 40) k l he hj)
  simp only [ex, e1]
  rfl

/-- What a point stores, at one entry, is the reference's entry. -/
theorem put_at (h : Plan m) (c : Dev nD) (t : Fin grid0.N) (r : Fin 512) (l : Fin 1024) :
    (put m c t (iblk m h c 0 t) (ix2 r l) : EReal)
      = REF (m ((c : Thread nD τ).loc main_arg0)) (m ((c : Thread nD τ).loc main_arg4)) (m ((c : Thread nD τ).loc main_arg5))
          (m ((c : Thread nD τ).loc main_arg6)) (m ((c : Thread nD τ).loc main_arg7))
          (ix2 ⟨t.val % 40 * 512 + r, by omega⟩ ⟨1024 * (t.val / 40) + l, by have := t.isLt; change t.val < 160 at this; omega⟩) := by
  have hN : t.val < 160 := t.isLt
  have hn : t.val % 40 < 40 := Nat.mod_lt _ (by decide)
  have hs : (t.val % 40 * 512 + r.val) / 512 = t.val % 40 := by omega
  have hr : (t.val % 40 * 512 + r.val) % 512 = r.val := by omega
  have hu : uW m c = m ((c : Thread nD τ).loc main_arg5) (ix1 0) := Cert.Down.Plans.one_word m c
  have ifull : ∀ p : (t.val % 40 * 512 + r.val) / 512 < 40, (ix1 ⟨(t.val % 40 * 512 + r.val) / 512, p⟩ : S40.Idx) = ix1 ⟨t.val % 40, hn⟩ := fun p =>
    congrArg ix1 (Fin.ext hs)
  have hf : word fuM (V m c main_arg4) (k0_off12 (grid0.coords t)) (k0_off12_inb (grid0.coords t))
      = m ((c : Thread nD τ).loc main_arg4) (ix1 ⟨t.val % 40, hn⟩) :=
    (word_eq fuM (V m c main_arg4) _ (by rw [Tiles.off12_eq, coords1]) hn).trans (wd_at _ _ hn)
  have hte : teW m c (t.val % 40) = m ((c : Thread nD τ).loc main_arg0) (ix1 ⟨t.val % 40, hn⟩) := wd_at _ _ hn
  have c1 := coords1 t
  unfold put Cert.Down.Hand.pay
  by_cases ht : t.val % 40 < Tiles.used (uW m c)
  · rw [Tiles.row_of_lt ht]
    have he := (h c).expert _ ht
    have hw : ∀ p : (t.val % 40 * 512 + r.val) / 512 < 40, m ((c : Thread nD τ).loc main_arg0) (ix1 ⟨(t.val % 40 * 512 + r.val) / 512, p⟩)
        = BitVec.ofNat 32 (teW m c (t.val % 40)).toNat := fun p => by rw [ifull p, ← hte]; simp
    by_cases hfull : m ((c : Thread nD τ).loc main_arg4) (ix1 ⟨t.val % 40, hn⟩) = 1#32
    · rw [if_pos ((Tiles.cond5_iff _ _ _).2 ⟨by rw [c1]; exact ht, hf.trans hfull⟩)]
      refine (pay2_at _ _ r l).trans ((product_at m h c t ht _ he r l _ _ rfl rfl).trans (ref_on _ _ _ _ _ _ _ ⟨_, he⟩ ?_ (hw _)).symm)
      refine ⟨by rw [hs, ← hu]; exact ht, Or.inl ?_⟩
      rw [ifull]; exact hfull
    · rw [if_neg (fun hc => hfull (hf.symm.trans ((Tiles.cond5_iff _ _ _).1 hc).2)),
        if_pos ((Tiles.cond6_iff _ _ _).2 ⟨by rw [c1]; exact ht, fun hc => hfull (hf.symm.trans hc)⟩)]
      by_cases hlow : r.val < 256
      · refine (dif_pos hlow).trans ?_
        refine (pay3_at _ _ ⟨r.val, hlow⟩ l).trans ((product_at m h c t ht _ he r l _ _ rfl rfl).trans (ref_on _ _ _ _ _ _ _ ⟨_, he⟩ ?_ (hw _)).symm)
        exact ⟨by rw [hs, ← hu]; exact ht, Or.inr (by rw [hr]; exact hlow)⟩
      · refine (dif_neg hlow).trans ((pay4_at _).trans (ref_off _ _ _ _ _ _ _ ?_).symm)
        rintro ⟨-, hx | hx⟩
        · rw [ifull] at hx; exact hfull hx
        · rw [hr] at hx; exact hlow hx
  · rw [if_neg (fun hc => ht (by have := ((Tiles.cond5_iff _ _ _).1 hc).1; rwa [c1] at this)),
      if_neg (fun hc => ht (by have := ((Tiles.cond6_iff _ _ _).1 hc).1; rwa [c1] at this))]
    refine (pay5_at _).trans (ref_off _ _ _ _ _ _ _ ?_).symm
    rintro ⟨hx, -⟩
    rw [hs, ← hu] at hx; exact ht hx

/-- The output array after the run is the reference's result. -/
theorem final (h : Plan m) (c : Dev nD) : (dats m h 0 c).arrAt 1 (cfgM m h).N
    = REF (m ((c : Thread nD τ).loc main_arg0)) (m ((c : Thread nD τ).loc main_arg4)) (m ((c : Thread nD τ).loc main_arg5))
        (m ((c : Thread nD τ).loc main_arg6)) (m ((c : Thread nD τ).loc main_arg7)) := by
  refine (dats m h 0 c).arrAt_eq_of_covers 1 _ (covers m h) fun t _ y => ?_
  have ht : t.val < 160 := t.isLt
  show (dats m h 0 c).after 1 t y = _
  rw [after0_1]
  refine (congrArg (put m c t (iblk m h c 0 t)) (eq_ix2 (n0 := 512) (n1 := 1024) y)).trans ((put_at m h c t (y ⟨0, Nat.zero_lt_two⟩) (y ⟨1, Nat.one_lt_two⟩)).trans ?_)
  refine congrArg _ (funext fun a => Fin.ext ?_)
  refine Eq.trans ?_ (((cfgM m h).win 1).rect_emb_val t y a).symm
  rw [show ((cfgM m h).win 1).index t a = (![t.val % 40, t.val / 40] : Fin 2 → ℕ) a from congrFun (idx1 t) a]
  match a with
  | ⟨0, _⟩ => rfl
  | ⟨1, _⟩ => show 1024 * (t.val / 40) + _ = t.val / 40 * 1024 + _; rw [Nat.mul_comm]; rfl

end Cert.Down.Experts

namespace Cert.DownIdeal.Experts

open Idealize.ShloMosaic Idealize.ShloMosaic.TcCoe Idealize.SL.Sem Cert.Down.Experts

set_option backward.isDefEq.respectTransparency.types false in
/-- The program over the reals ends with the reference's result in its output and its arguments as they were. -/
theorem result (m : (ℓ : Loc nD τ sig) → Buf (Elt Ideal) ℓ) (h : Cert.Down.Hand.Plan m) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = REF (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  rw [Hand.defs_eq]
  exact θ_run_mono (θ_run_and (Cert.Down.Hand.run_main m ρ h) (Cert.Down.Hand.frame m ρ h)) fun r hr c =>
    ⟨((hr.1.1 c).1 1).trans (final m h c), hr.2.1 c⟩

end Cert.DownIdeal.Experts
end
-- ==== Proof.WoutFrame.lean ====
module

public import proofs.«01_k».proof.Proof.Gen.Wout.Frame
public import proofs.«01_k».proof.Proof.Gen.Wout.Loops
public import Idealize.ShloMosaic.Lib.Pipeline.FrameBody
public import Idealize.ShloMosaic.Lib.Transfers
public import Idealize.ShloMosaic.Lib.WritesUnit
public import Idealize.ShloMosaic.Lib.VecWindow
public import Idealize.ShloMosaic.Lib.Tactic
public import Idealize.ShloMosaic.Lib.Pointwise
public import Idealize.ShloMosaic.Lib.WordCmp

@[expose] public section

set_option maxRecDepth 6144

noncomputable section

namespace Cert.Wout.Hand

open Cert.Wout Cert.Wout.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of this proof: the pipeline's, beside the counters of the transfers the body issues. -/
local notation "𝕄" => MT nD τ sig Unit (Elt F) ℕ (Pipeline.UD sig nD τ) ℕ

/-! ## The buffers the body keeps from point to point -/

/-- The buffer one column block of the weights lands in. -/
abbrev stM : Memref sig .tc .vmem S4096x1024 .f32 := Memref.whole cc0_scratch0
/-- The column block rounded to bf16, kept for the points that share it. -/
abbrev wbM : Memref sig .tc .vmem S4096x1024 .bf16 := Memref.whole cc0_scratch1
/-- The weights, left in HBM. -/
abbrev wM : Memref sig .tc .hbm S4096x4096 .f32 := Memref.whole main_arg1

/-- A block of columns, rounded to bf16. -/
abbrev rnd (x : Vec F S4096x1024 .f32) : Vec F S4096x1024 .bf16 := truncf .bf16 x bitsLt_bf16_f32

theorem rnd_at (x : Vec F S4096x1024 .f32) (y : S4096x1024.Idx) : rnd x y = FloatOps.truncf .bf16 bitsLt_bf16_f32 (x y) := rfl

/-! ## The state between points -/

theorem col_inb (j : ℕ) : ∀ a, (![0, 1024 * (j % 4)] : Fin 2 → ℕ) a + S4096x1024.size a ≤ S4096x4096.size a := by
  have := Nat.mod_lt j (by decide : 0 < 4)
  intro a
  fin_cases a
  · show 0 + 4096 ≤ 4096; omega
  · show 1024 * (j % 4) + 1024 ≤ 4096; omega

/-- 1024 columns of the weights, from the offsets `off`. -/
abbrev wSl (off : Fin 2 → ℕ) (hb : ∀ a, off a + S4096x1024.size a ≤ S4096x4096.size a) : Memref sig .tc .hbm S4096x1024 .f32 :=
  wM.slice (Rect.unit (s := S4096x4096) off S4096x1024.size hb) (fun _ => rfl)

/-- What those columns hold. -/
def wblk {c : Dev nD} (w : Buf (Elt F) (wM.view.loc (c : Thread nD τ))) (off : Fin 2 → ℕ)
    (hb : ∀ a, off a + S4096x1024.size a ≤ S4096x4096.size a) : Vec F S4096x1024 .f32 :=
  (wSl off hb).view.read (Elt F) w

theorem wblk_congr {c : Dev nD} (w : Buf (Elt F) (wM.view.loc (c : Thread nD τ))) {off off' : Fin 2 → ℕ} (h : off = off')
    (hb : ∀ a, off a + S4096x1024.size a ≤ S4096x4096.size a) (hb' : ∀ a, off' a + S4096x1024.size a ≤ S4096x4096.size a) :
    wblk w off hb = wblk w off' hb' := by subst h; rfl

/-- The weights held whole, apart from what a transfer has lent. -/
abbrev wPt (c : Dev nD) (w : Buf (Elt F) (wM.view.loc (c : Thread nD τ))) : sProp 𝕄 :=
  wM.view.loc (c : Thread nD τ) ↦{fullShare} w

/-- No transfer under way: the landing buffer at anything, the cell at zero, the weights whole. -/
def home (c : Dev nD) (w : Buf (Elt F) (wM.view.loc (c : Thread nD τ))) : sProp 𝕄 :=
  iprop((∃ d, owns (c : Thread nD τ) stM fullShare d) ∗ semVal ((c : Thread nD τ), SemLoc.dma cc0_scratch2.sem) 0 ∗ wPt c w)

/-- The columns at `off` on their way into the landing buffer, the other columns of the weights at hand. -/
def flying (c : Dev nD) (w : Buf (Elt F) (wM.view.loc (c : Thread nD τ))) (off : Fin 2 → ℕ)
    (hb : ∀ a, off a + S4096x1024.size a ≤ S4096x4096.size a) : sProp 𝕄 :=
  iprop(∃ fd, Transfers.Flight countersEmb (c : Thread nD τ) (SemLoc.dma cc0_scratch2.sem) () 524288
        iprop((stM.view.loc (c : Thread nD τ) ↦[stM.view.set]{fullShare} fd) ∗ (wM.view.loc (c : Thread nD τ) ↦[(wSl off hb).view.set]{fullShare} w))
      ∗ (wM.view.loc (c : Thread nD τ) ↦[Finset.univ \ (wSl off hb).view.set]{fullShare} w)
      ∗ ⌜stM.view.read (Elt F) fd = wblk w off hb⌝)

theorem flying_congr (c : Dev nD) (w : Buf (Elt F) (wM.view.loc (c : Thread nD τ))) {off off' : Fin 2 → ℕ} (h : off = off')
    (hb : ∀ a, off a + S4096x1024.size a ≤ S4096x4096.size a) (hb' : ∀ a, off' a + S4096x1024.size a ≤ S4096x4096.size a) :
    flying c w off hb = flying c w off' hb' := by subst h; rfl

/-! ## The loop that rounds the staged block, 128 rows a trip -/

section Loop
variable (c : Dev nD) (i : grid0.Coords) (arg2 : Memref sig .tc .vmem S512x4096 .bf16) (harg2 : arg2.IsWhole)
  (arg3 : Memref sig .tc .hbm S4096x4096 .f32) (harg3 : arg3.IsWhole)
  (arg4 : Memref sig .tc .vmem S512x1024 .f32) (harg4 : arg4.IsWhole) (arg5 : Memref sig .tc .vmem S512x1024 .f32) (harg5 : arg5.IsWhole)
  (h1 : k0_cond1 i = 1#1)

/-- Before trip `k` the first `128 * k` rows are rounded. -/
def loopPre (X : Buf (Elt F) (stM.view.loc (c : Thread nD τ))) (k : ℕ) : sProp 𝕄 :=
  iprop((stM.view.loc (c : Thread nD τ) ↦[stM.view.set]{fullShare} X)
    ∗ (∃ f, (wbM.view.loc (c : Thread nD τ) ↦[wbM.view.set]{fullShare} f)
        ∗ ⌜∀ y : S4096x1024.Idx, (y 0).val < 128 * k → wbM.view.read (Elt F) f y = rnd (stM.view.read (Elt F) X) y⌝))

include h1 in
/-- One trip rounds the next 128 rows and leaves the others. -/
theorem trip_rows (X : Buf (Elt F) (stM.view.loc (c : Thread nD τ))) (k : Fin (Scf.trips k0_t1_loop.lb k0_t1_loop.ub k0_t1_loop.st))
    (hk : k.val < 32) (f : Buf (Elt F) (wbM.view.loc (c : Thread nD τ)))
    (hf : ∀ y : S4096x1024.Idx, (y 0).val < 128 * k.val → wbM.view.read (Elt F) f y = rnd (stM.view.read (Elt F) X) y)
    (y : S4096x1024.Idx) (hy : (y 0).val < 128 * (k.val + 1)) :
    wbM.view.read (Elt F) (wbM.view.writes (Elt F) f
        [⟨Rect.unit (s := S4096x1024) (k0_off3 k) S128x1024.size (k0_off3_inb i k h1),
            k0_pay1 (View.readAt (Elt F) stM.view (Rect.unit (s := S4096x1024) (k0_off3 k) S128x1024.size (k0_off3_inb i k h1)).toLoadRect X)⟩]) y
      = rnd (stM.view.read (Elt F) X) y := by
  by_cases h : (y 0).val < 128 * k.val
  · refine (View.read_writes_cons_rows_of_not_mem wbM.view f _ _ [] y (k0_off3_eq k) rfl (.inl h)).trans ?_
    exact hf y h
  · have hx : ∀ a, (![128 * k.val, 0] : Fin 2 → ℕ) a ≤ (y a).val ∧ (y a).val < (![128 * k.val, 0] : Fin 2 → ℕ) a + S128x1024.size a := by
      have h1 := (y 1).isLt
      intro a
      fin_cases a
      · exact ⟨Nat.le_of_not_lt h, by show (y 0).val < 128 * k.val + 128; omega⟩
      · exact ⟨Nat.zero_le _, by show (y 1).val < 0 + 1024; exact (by simpa using h1 : (y 1).val < 1024) |>.trans_eq (Nat.zero_add _).symm⟩
    refine (View.read_writes_cons_unit_of_mem wbM.view f _ _ [] y (show (Rect.unit (s := S4096x1024) (k0_off3 k) S128x1024.size (k0_off3_inb i k h1)).shape.Idx from Rect.unitLocal (s := S4096x1024) (off := ![128 * k.val, 0]) (size := S128x1024.size) y hx) (k0_off3_eq k) fun a => ?_).trans ?_
    · have := hx a
      rw [Rect.unitLocal_val]; omega
    · simp only [k0_pay1, shapeCast_id]
      show FloatOps.truncf .bf16 bitsLt_bf16_f32 _ = _
      rw [rnd_at, View.readAt_apply]
      refine congrArg (FloatOps.truncf .bf16 bitsLt_bf16_f32) (congrArg (stM.view.read (Elt F) X) (funext fun a => Fin.ext ?_))
      have := hx a
      have e : k0_off3 k a = (![128 * k.val, 0] : Fin 2 → ℕ) a := congrFun (k0_off3_eq k) a
      show k0_off3 k a + 1 * ((y a).val - (![128 * k.val, 0] : Fin 2 → ℕ) a) = (y a).val
      omega

set_option warn.classDefReducibility false in
@[sl_loop] def loopInv (𝒱 : Variants) (bd : Option 𝒱.V) (E : Set ℕ) (X : Buf (Elt F) (stM.view.loc (c : Thread nD τ))) :
    LoopInvTy_k0_t1 (F := F) Unit ℕ (Pipeline.UD sig nD τ) ℕ 𝒱 c bd E i arg2 harg2 arg3 harg3 arg4 harg4 arg5 harg5 stM (Memref.isWhole_whole _) wbM (Memref.isWhole_whole _) cc0_scratch2 h1 where
  inv k _ := loopPre c X k
  step k acc := by
    have hk : k.val < 32 := Nat.lt_of_lt_of_le k.isLt k0_t1_abs.2.1
    unfold loopPre
    iintro ⟨HX, ⟨%f, HW, %hf⟩⟩
    unfold k0_t1_body
    sl_exec
    sl_step
    isplitl [HX]; · iexact HX
    iexists _; isplitl [HW]; · iexact HW
    ipureintro
    intro y hy
    exact trip_rows c i h1 _ k hk _ hf _ hy

end Loop

/-! ## The body's four runs -/

theorem trips_eq : 4096 ≤ 128 * Scf.trips k0_t1_loop.lb k0_t1_loop.ub k0_t1_loop.st := by decide +kernel

/-- After the loop the whole block is rounded. -/
theorem all_rows {c : Dev nD} {f : Buf (Elt F) (wbM.view.loc (c : Thread nD τ))} {v : Vec F S4096x1024 .f32}
    (h : ∀ y : S4096x1024.Idx, (y 0).val < 128 * Scf.trips k0_t1_loop.lb k0_t1_loop.ub k0_t1_loop.st →
      wbM.view.read (Elt F) f y = rnd v y) : wbM.view.read (Elt F) f = rnd v :=
  funext fun y => h y (lt_of_lt_of_le (y 0).isLt trips_eq)

/-- The landing buffer reads what landed last. -/
theorem read_last {c : Dev nD} (f : Buf (Elt F) (stM.view.loc (c : Thread nD τ))) (v : Vec F S4096x1024 .f32)
    (L : List (View.Piece (Elt F) S4096x1024 .f32)) :
    stM.view.read (Elt F) (stM.view.writes (Elt F) f (⟨Rect.whole S4096x1024, v⟩ :: L)) = v := by
  rw [← List.singleton_append, View.writes_append]
  exact View.read_writes_whole stM.view _ v

section Run
variable (c : Dev nD) (i : grid0.Coords) (arg2 : Memref sig .tc .vmem S512x4096 .bf16) (harg2 : arg2.IsWhole)
  (arg4 : Memref sig .tc .vmem S512x1024 .f32) (harg4 : arg4.IsWhole) (arg5 : Memref sig .tc .vmem S512x1024 .f32) (harg5 : arg5.IsWhole)
  (x : Vec F S512x4096 .bf16) (r : Vec F S512x1024 .f32) (w : Buf (Elt F) (wM.view.loc (c : Thread nD τ)))

/-- The body at the operands of one point. -/
abbrev body : Prog (TpuEff nD τ sig (Elt F) Λ₀ .tc) PUnit :=
  cc0_matmul i arg2 harg2 wM (Memref.isWhole_whole _) arg4 harg4 arg5 harg5 stM (Memref.isWhole_whole _) wbM (Memref.isWhole_whole _) cc0_scratch2

/-- What a point leaves, the kept block being `b`: the sum's block in the result's buffer, the state `S` of the transfers. -/
def left (b : Vec F S4096x1024 .bf16) (S : sProp 𝕄) : sProp 𝕄 :=
  iprop(owns (c : Thread nD τ) arg2 fullShare x ∗ owns (c : Thread nD τ) arg4 fullShare r ∗ owns (c : Thread nD τ) arg5 fullShare (k0_pay2 x b r)
    ∗ owns (c : Thread nD τ) wbM fullShare b ∗ S ∗ (∃ W', owes (c : Thread nD τ) 0 W'))

include harg2 harg4 harg5 in
/-- The result's buffer reads the stored payload, its operands the two buffers' contents. -/
theorem read_out {f2 : BufTy.Contents (Elt F) arg2.view.ty} {f4 : BufTy.Contents (Elt F) arg4.view.ty} {f5 : BufTy.Contents (Elt F) arg5.view.ty} {fb : BufTy.Contents (Elt F) wbM.view.ty}
    {b : Vec F S4096x1024 .bf16} (h2 : arg2.view.read (Elt F) f2 = x) (h4 : arg4.view.read (Elt F) f4 = r) (hb : wbM.view.read (Elt F) fb = b) :
    arg5.view.read (Elt F) (arg5.view.writes (Elt F) f5 [⟨Rect.unit (s := S512x1024) ![0, 0] S512x1024.size inb_S512x1024_S512x1024_0_0,
        k0_pay2 (View.readAt (Elt F) arg2.view (Rect.unit (s := S512x4096) ![0, 0] S512x4096.size inb_S512x4096_S512x4096_0_0).toLoadRect f2)
          (View.readAt (Elt F) wbM.view (Rect.unit (s := S4096x1024) ![0, 0] S4096x1024.size inb_S4096x1024_S4096x1024_0_0).toLoadRect fb)
          (View.readAt (Elt F) arg4.view (Rect.unit (s := S512x1024) ![0, 0] S512x1024.size inb_S512x1024_S512x1024_0_0).toLoadRect f4)⟩])
      = k0_pay2 x b r := by
  subst h2; subst h4; subst hb
  refine (View.read_writes_full arg5.view f5 _ _ _).trans ?_
  rw [View.readAt_full arg2.view f2, View.readAt_full wbM.view fb, View.readAt_full arg4.view f4]

/-- The first point: the first block comes in and is rounded, the next one is sent for. -/
theorem runA (h1 : k0_cond1 i = 1#1) (h2 : k0_cond2 i = 1#1) (h3 : k0_cond3 i = 1#1) (W : Waits sig Unit) (K : PUnit → sProp 𝕄) :
    iprop(owns (c : Thread nD τ) arg2 fullShare x ∗ owns (c : Thread nD τ) arg4 fullShare r ∗ (∃ d, owns (c : Thread nD τ) arg5 fullShare d)
        ∗ (∃ d, owns (c : Thread nD τ) wbM fullShare d) ∗ home c w ∗ owes (c : Thread nD τ) 0 W
        ∗ (left c arg2 arg4 arg5 x r (rnd (wblk w (k0_off1 i) (k0_off1_inb i h1 h2))) (flying c w (k0_off4 i) (k0_off4_inb i h1 h3)) -∗ K ⟨⟩))
      ⊢ wp frame (wpE (defs₀ (F := F)) Variants.none c none) Set.univ (body i arg2 harg2 arg4 harg4 arg5 harg5) K := by
  unfold body
  rw [cc0_matmul_eq_skeleton]; unfold cc0_matmul_skel
  unfold home owns
  iintro ⟨⟨%f2, %e2, H2⟩, ⟨%f4, %e4, H4⟩, ⟨%d5, %f5, -, H5⟩, ⟨%db, %fb, -, HB⟩, ⟨⟨%ds, %fs, -, HS⟩, Hq, Hw⟩, HW, Hk⟩
  sl_exec
  sl_step
  have hb := all_rows hL2
  rw [View.read_writes_whole] at hb
  iapply Hk
  unfold left owns flying
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact read_out arg2 harg2 arg4 harg4 arg5 harg5 x r e2 e4 hb
  isplitl [HB]
  · iexists _; isplitr; swap; · iexact HB
    ipureintro; exact hb
  isplitl [Hq Hw]
  · iexists _
    isplitl [Hq]; · iexact Hq
    isplitl [Hw]; · iexact Hw
    ipureintro; refine (read_last (c := c) _ _ _).trans ?_; rfl
  iexists _; iexact HW

/-- A later block's first point but the last block's: the block on its way comes in and is rounded, the next one is sent for. -/
theorem runB (off : Fin 2 → ℕ) (hb : ∀ a, off a + S4096x1024.size a ≤ S4096x4096.size a) (h1 : k0_cond1 i = 1#1) (h2 : ¬k0_cond2 i = 1#1) (h3 : k0_cond3 i = 1#1)
    (W : Waits sig Unit) (K : PUnit → sProp 𝕄) :
    iprop(owns (c : Thread nD τ) arg2 fullShare x ∗ owns (c : Thread nD τ) arg4 fullShare r ∗ (∃ d, owns (c : Thread nD τ) arg5 fullShare d)
        ∗ (∃ d, owns (c : Thread nD τ) wbM fullShare d) ∗ flying c w off hb ∗ owes (c : Thread nD τ) 0 W
        ∗ (left c arg2 arg4 arg5 x r (rnd (wblk w off hb)) (flying c w (k0_off4 i) (k0_off4_inb i h1 h3)) -∗ K ⟨⟩))
      ⊢ wp frame (wpE (defs₀ (F := F)) Variants.none c none) Set.univ (body i arg2 harg2 arg4 harg4 arg5 harg5) K := by
  unfold body
  rw [cc0_matmul_eq_skeleton]; unfold cc0_matmul_skel
  unfold flying owns
  iintro ⟨⟨%f2, %e2, H2⟩, ⟨%f4, %e4, H4⟩, ⟨%d5, %f5, -, H5⟩, ⟨%db, %fb, -, HB⟩, ⟨%fd, Hq, Hw, %hfd⟩, HW, Hk⟩
  sl_exec
  sl_step
  have hb := all_rows hL2
  rw [hfd] at hb
  iapply Hk
  unfold left owns
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact read_out arg2 harg2 arg4 harg4 arg5 harg5 x r e2 e4 hb
  isplitl [HB]
  · iexists _; isplitr; swap; · iexact HB
    ipureintro; exact hb
  isplitl [Hq Hw]
  · iexists _
    isplitl [Hq]; · iexact Hq
    isplitl [Hw]; · iexact Hw
    ipureintro; refine (read_last (c := c) _ _ _).trans ?_; rfl
  iexists _; iexact HW

/-- The last block's first point: nothing more is sent for. -/
theorem runC (off : Fin 2 → ℕ) (hb : ∀ a, off a + S4096x1024.size a ≤ S4096x4096.size a) (h1 : k0_cond1 i = 1#1) (h2 : ¬k0_cond2 i = 1#1) (h3 : ¬k0_cond3 i = 1#1)
    (W : Waits sig Unit) (K : PUnit → sProp 𝕄) :
    iprop(owns (c : Thread nD τ) arg2 fullShare x ∗ owns (c : Thread nD τ) arg4 fullShare r ∗ (∃ d, owns (c : Thread nD τ) arg5 fullShare d)
        ∗ (∃ d, owns (c : Thread nD τ) wbM fullShare d) ∗ flying c w off hb ∗ owes (c : Thread nD τ) 0 W
        ∗ (left c arg2 arg4 arg5 x r (rnd (wblk w off hb)) (home c w) -∗ K ⟨⟩))
      ⊢ wp frame (wpE (defs₀ (F := F)) Variants.none c none) Set.univ (body i arg2 harg2 arg4 harg4 arg5 harg5) K := by
  unfold body
  rw [cc0_matmul_eq_skeleton]; unfold cc0_matmul_skel
  unfold flying owns
  iintro ⟨⟨%f2, %e2, H2⟩, ⟨%f4, %e4, H4⟩, ⟨%d5, %f5, -, H5⟩, ⟨%db, %fb, -, HB⟩, ⟨%fd, Hq, Hw, %hfd⟩, HW, Hk⟩
  sl_exec
  sl_step
  have hb := all_rows hL2
  rw [hfd] at hb
  iapply Hk
  unfold left home owns
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact read_out arg2 harg2 arg4 harg4 arg5 harg5 x r e2 e4 hb
  isplitl [HB]
  · iexists _; isplitr; swap; · iexact HB
    ipureintro; exact hb
  isplitl [Hq Hw Hq_dst]
  · isplitl [Hq_dst]
    · iexists _, _; isplitr; swap; · iexact Hq_dst
      ipureintro; rfl
    isplitl [Hq]; · iexact Hq
    iexact Hw
  iexists _; iexact HW

/-- A point that shares the block rounded before it. -/
theorem runD (b : Vec F S4096x1024 .bf16) (S : sProp 𝕄) (h1 : ¬k0_cond1 i = 1#1) (W : Waits sig Unit) (K : PUnit → sProp 𝕄) :
    iprop(owns (c : Thread nD τ) arg2 fullShare x ∗ owns (c : Thread nD τ) arg4 fullShare r ∗ (∃ d, owns (c : Thread nD τ) arg5 fullShare d)
        ∗ owns (c : Thread nD τ) wbM fullShare b ∗ S ∗ owes (c : Thread nD τ) 0 W
        ∗ (left c arg2 arg4 arg5 x r b S -∗ K ⟨⟩))
      ⊢ wp frame (wpE (defs₀ (F := F)) Variants.none c none) Set.univ (body i arg2 harg2 arg4 harg4 arg5 harg5) K := by
  unfold body
  rw [cc0_matmul_eq_skeleton]; unfold cc0_matmul_skel
  unfold owns
  iintro ⟨⟨%f2, %e2, H2⟩, ⟨%f4, %e4, H4⟩, ⟨%d5, %f5, -, H5⟩, ⟨%fb, %hb, HB⟩, HS, HW, Hk⟩
  sl_exec
  sl_step
  iapply Hk
  unfold left owns
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact read_out arg2 harg2 arg4 harg4 arg5 harg5 x r e2 e4 hb
  isplitl [HB]
  · iexists _; isplitr; swap; · iexact HB
    ipureintro; exact hb
  isplitl [HS]; · iexact HS
  iexists _; iexact HW

end Run

/-! ## The proof data of the pipeline -/

variable (m : (ℓ : Loc nD τ sig) → Buf (Elt F) ℓ) (ρ : Dev nD → PrngReg)

/-- Column block `j` of the weights as launched, rounded. -/
def kept (c : Dev nD) (j : ℕ) : Vec F S4096x1024 .bf16 := rnd (wblk (c := c) (V m c main_arg1) ![0, 1024 * (j % 4)] (col_inb j))

/-- Column block `j` of the weights on its way. -/
def coming (c : Dev nD) (j : ℕ) : sProp 𝕄 := flying c (V m c main_arg1) ![0, 1024 * (j % 4)] (col_inb j)

/-- What the body keeps before point `p`: the block its predecessor used, the next block on its way unless there is none. -/
def keep (c : Dev nD) (p : ℕ) : sProp 𝕄 :=
  if p = 0 then iprop((∃ d, owns (c : Thread nD τ) wbM fullShare d) ∗ home c (V m c main_arg1))
  else iprop(owns (c : Thread nD τ) wbM fullShare (kept m c ((p - 1) / 16))
    ∗ (if 48 < p then home c (V m c main_arg1) else coming m c ((p - 1) / 16 + 1)))

/-- The proof data: the arrays as launched, the first two windows' blocks left in place, the sum's block in the third's. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (kept m c (t.val / 16)) (iblk m c 1 t)
  Φ p := iprop((∃ r, prngReg c r) ∗ keep m c p.val)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay2 (iblk m c 0 t) (kept m c (t.val / 16)) (iblk m c 1 t) := by
  dsimp only [dats]

/-- The first two windows' buffers hold their blocks at every point. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The points -/

theorem cond1_iff : ∀ t : Fin grid0.N, k0_cond1 (grid0.coords t) = 1#1 ↔ t.val % 16 = 0 := by decide +kernel
theorem cond2_iff : ∀ t : Fin grid0.N, k0_cond2 (grid0.coords t) = 1#1 ↔ t.val < 16 := by decide +kernel
theorem cond3_iff : ∀ t : Fin grid0.N, k0_cond3 (grid0.coords t) = 1#1 ↔ t.val < 48 := by decide +kernel
theorem off1_eq : ∀ t : Fin grid0.N, k0_off1 (grid0.coords t) = ![0, 1024 * (t.val / 16 % 4)] := by decide +kernel
theorem off4_eq : ∀ t : Fin grid0.N, t.val < 48 → k0_off4 (grid0.coords t) = ![0, 1024 * ((t.val / 16 + 1) % 4)] := by decide +kernel

/-- What the body is entered with at point `t`, the first two windows' blocks named. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The step of what is kept, by the point's case: what a run needs of it and what the run gives back. -/
theorem keep_step (c : Dev nD) (t : Fin cfg0.N) (W : Waits sig Unit) (K : PUnit → sProp 𝕄) (x : Vec F S512x4096 .bf16) (r : Vec F S512x1024 .f32)
    (arg2 : Memref sig .tc .vmem S512x4096 .bf16) (harg2 : arg2.IsWhole) (arg4 : Memref sig .tc .vmem S512x1024 .f32) (harg4 : arg4.IsWhole) (arg5 : Memref sig .tc .vmem S512x1024 .f32) (harg5 : arg5.IsWhole) :
    iprop(owns (c : Thread nD τ) arg2 fullShare x ∗ owns (c : Thread nD τ) arg4 fullShare r ∗ (∃ d, owns (c : Thread nD τ) arg5 fullShare d) ∗ keep m c t.val ∗ owes (c : Thread nD τ) 0 W
        ∗ (iprop(owns (c : Thread nD τ) arg2 fullShare x ∗ owns (c : Thread nD τ) arg4 fullShare r ∗ owns (c : Thread nD τ) arg5 fullShare (k0_pay2 x (kept m c (t.val / 16)) r)
            ∗ keep m c (t.val + 1) ∗ (∃ W', owes (c : Thread nD τ) 0 W')) -∗ K ⟨⟩))
      ⊢ wp frame (wpE (defs₀ (F := F)) Variants.none c none) Set.univ (body (grid0.coords t) arg2 harg2 arg4 harg4 arg5 harg5) K := by
  have ht : t.val < 64 := lt_of_lt_of_eq t.isLt N_0
  unfold keep
  rw [if_neg (by omega : ¬t.val + 1 = 0), Nat.add_sub_cancel]
  by_cases h0 : t.val = 0
  · have h1 := (cond1_iff t).2 (by omega)
    have h2 := (cond2_iff t).2 (by omega)
    have h3 := (cond3_iff t).2 (by omega)
    rw [if_pos h0, if_neg (by omega)]
    iintro ⟨H2, H4, H5, ⟨HB, HS⟩, HW, Hk⟩
    iapply (runA c (grid0.coords t) arg2 harg2 arg4 harg4 arg5 harg5 x r (V m c main_arg1) h1 h2 h3 W K)
    isplitl [H2]; · iexact H2
    isplitl [H4]; · iexact H4
    isplitl [H5]; · iexact H5
    isplitl [HB]; · iexact HB
    isplitl [HS]; · iexact HS
    isplitl [HW]; · iexact HW
    unfold left kept coming
    rw [wblk_congr (c := c) (V m c main_arg1) (off1_eq t) _ (col_inb _), flying_congr c (V m c main_arg1) (off4_eq t (by omega)) _ (col_inb _)]
    iintro ⟨H2, H4, H5, HB, HS, HW⟩
    iapply Hk
    isplitl [H2]; · iexact H2
    isplitl [H4]; · iexact H4
    isplitl [H5]; · iexact H5
    isplitl [HB HS]
    · isplitl [HB]; · iexact HB
      iexact HS
    iexact HW
  rw [if_neg h0]
  by_cases h1 : k0_cond1 (grid0.coords t) = 1#1
  · have hm := (cond1_iff t).1 h1
    have h2 : ¬k0_cond2 (grid0.coords t) = 1#1 := fun h => by have := (cond2_iff t).1 h; omega
    have ej : (t.val - 1) / 16 + 1 = t.val / 16 := by omega
    rw [if_neg (by omega : ¬48 < t.val), ej]
    by_cases h3 : k0_cond3 (grid0.coords t) = 1#1
    · have hL := (cond3_iff t).1 h3
      rw [if_neg (by omega : ¬48 < t.val + 1)]
      unfold coming kept
      iintro ⟨H2, H4, H5, ⟨HB, HS⟩, HW, Hk⟩
      iapply (runB c (grid0.coords t) arg2 harg2 arg4 harg4 arg5 harg5 x r (V m c main_arg1) _ (col_inb (t.val / 16)) h1 h2 h3 W K)
      isplitl [H2]; · iexact H2
      isplitl [H4]; · iexact H4
      isplitl [H5]; · iexact H5
      isplitl [HB]; · iexists _; iexact HB
      isplitl [HS]; · iexact HS
      isplitl [HW]; · iexact HW
      unfold left
      rw [flying_congr c (V m c main_arg1) (off4_eq t hL) _ (col_inb _)]
      iintro ⟨H2, H4, H5, HB, HS, HW⟩
      iapply Hk
      isplitl [H2]; · iexact H2
      isplitl [H4]; · iexact H4
      isplitl [H5]; · iexact H5
      isplitl [HB HS]
      · isplitl [HB]; · iexact HB
        iexact HS
      iexact HW
    · have hL : 48 < t.val + 1 := by
        by_contra h; exact h3 ((cond3_iff t).2 (by omega))
      rw [if_pos hL]
      unfold coming kept
      iintro ⟨H2, H4, H5, ⟨HB, HS⟩, HW, Hk⟩
      iapply (runC c (grid0.coords t) arg2 harg2 arg4 harg4 arg5 harg5 x r (V m c main_arg1) _ (col_inb (t.val / 16)) h1 h2 h3 W K)
      isplitl [H2]; · iexact H2
      isplitl [H4]; · iexact H4
      isplitl [H5]; · iexact H5
      isplitl [HB]; · iexists _; iexact HB
      isplitl [HS]; · iexact HS
      isplitl [HW]; · iexact HW
      unfold left
      iintro ⟨H2, H4, H5, HB, HS, HW⟩
      iapply Hk
      isplitl [H2]; · iexact H2
      isplitl [H4]; · iexact H4
      isplitl [H5]; · iexact H5
      isplitl [HB HS]
      · isplitl [HB]; · iexact HB
        iexact HS
      iexact HW
  · have hm : ¬t.val % 16 = 0 := fun h => h1 ((cond1_iff t).2 h)
    have ej : (t.val - 1) / 16 = t.val / 16 := by omega
    have eL : (48 < t.val) = (48 < t.val + 1) := propext ⟨fun h => by omega, fun h => by omega⟩
    rw [ej]
    simp only [eL]
    iintro ⟨H2, H4, H5, ⟨HB, HS⟩, HW, Hk⟩
    iapply (runD c (grid0.coords t) arg2 harg2 arg4 harg4 arg5 harg5 x r (kept m c (t.val / 16)) _ h1 W K)
    isplitl [H2]; · iexact H2
    isplitl [H4]; · iexact H4
    isplitl [H5]; · iexact H5
    isplitl [HB]; · iexact HB
    isplitl [HS]; · iexact HS
    isplitl [HW]; · iexact HW
    unfold left
    iintro ⟨H2, H4, H5, HB, HS, HW⟩
    iapply Hk
    isplitl [H2]; · iexact H2
    isplitl [H4]; · iexact H4
    isplitl [H5]; · iexact H5
    isplitl [HB HS]
    · isplitl [HB]; · iexact HB
      iexact HS
    iexact HW

/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1]
  rw [after0_0, after0_1, after0_2]
  rw [show (dats m 0 c).Φ t.castSucc = iprop((∃ r, prngReg c r) ∗ keep m c t.val) from rfl,
    show (dats m 0 c).Φ t.succ = iprop((∃ r, prngReg c r) ∗ keep m c (t.val + 1)) from rfl]
  unfold Dat.owesAt Pipeline.owesWithin
  rw [show (dats m 0 c).owed t.castSucc = 0 from rfl, show (dats m 0 c).owed t.succ = 0 from rfl]
  iintro ⟨⟨Hg, HK⟩, ⟨%W, -, HW⟩, ⟨%d0, H0⟩, ⟨%d1, H1⟩, ⟨%d2, H2⟩⟩
  iapply (keep_step m c t W _ (iblk m c 0 t) (iblk m c 1 t) _ _ _ _ _ _)
  isplitl [H0]; · iexact H0
  isplitl [H1]; · iexact H1
  isplitl [H2]; · iexists _; iexact H2
  isplitl [HK]; · iexact HK
  isplitl [HW]; · iexact HW
  iintro ⟨H0, H1, H2, HK, ⟨%W', HW'⟩⟩
  isplitl [Hg HK]
  · isplitl [Hg]; · iexact Hg
    iexact HK
  isplitl [HW']
  · iexists W'; isplitr; · ipureintro; exact fun _ _ => Or.inl trivial
    iexact HW'
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- @main up to the call, at this algebra. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's own cell. -/
abbrev osem0 : Fin 1 → SemLoc sig := fun _ => SemLoc.dma cc0_scratch2.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch2.sem) 0 := by
  rw [Pipeline.ownSems0_eq_of_list c osem0 [0] (by decide) (by decide)]; rfl
/-- The array the body's transfers read. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = wPt c (V m c main_arg1) := by
  rw [BI.bigSep_eq_bigSepL_of_eq [main_arg1] (by decide) (by decide)]; rfl

theorem PhiD0_eq (c : Dev nD) :
    (Pipeline.ΦD osem0 spec0 H0 (V m) c : sProp 𝕄)
      = iprop(iprop((∃ d, owns (c : Thread nD τ) stM fullShare d) ∗ (∃ d, owns (c : Thread nD τ) wbM fullShare d))
          ∗ (∃ r, prngReg c r) ∗ semVal ((c : Thread nD τ), SemLoc.dma cc0_scratch2.sem) 0 ∗ wPt c (V m c main_arg1)) := by
  rw [Pipeline.ΦD_eq, scopedRest0_eq, ownSems00_eq, hbmPts0_eq]
  simp only [stM, wbM, owns_whole]; try rfl

theorem phi_in (c : Dev nD) : Pipeline.ΦD osem0 spec0 H0 (V m) c ⊢ (dats m 0 c).Φ 0 := by
  rw [PhiD0_eq]
  show _ ⊢ iprop((∃ r, prngReg c r) ∗ keep m c 0)
  unfold keep home
  rw [if_pos rfl]
  iintro ⟨⟨HS, HB⟩, Hg, Hq, Hw⟩
  isplitl [Hg]; · iexact Hg
  isplitl [HB]; · iexact HB
  isplitl [HS]; · iexact HS
  isplitl [Hq]; · iexact Hq
  iexact Hw

theorem phi_out (c : Dev nD) : (dats m 0 c).Φ (Fin.last cfg0.N) ⊢ Pipeline.ΦD osem0 spec0 H0 (V m) c := by
  rw [PhiD0_eq]
  show iprop((∃ r, prngReg c r) ∗ keep m c grid0.N) ⊢ _
  rw [N_0]
  unfold keep home
  rw [if_neg (by decide), if_pos (by decide)]
  iintro ⟨Hg, HB, HS, Hq, Hw⟩
  isplitl [HS HB]
  · isplitl [HS]; · iexact HS
    iexists _; iexact HB
  isplitl [Hg]; · iexact Hg
  isplitl [Hq]; · iexact Hq
  iexact Hw

set_option backward.isDefEq.respectTransparency.types false in
/-- The run: every array ends as the pipeline's data say, the cells at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

/-- The frame: the arguments end as they were, the cells at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c)))⟩, h.2⟩) (run_main m ρ)

end Cert.Wout.Hand

end
-- ==== Proof.WoutIdealFrame.lean ====
module

public import proofs.«01_k».proof.Proof.WoutFrame
public import proofs.«01_k».proof.Proof.Gen.WoutIdeal

/-!
# The program over the reals is the program

The two are one text, so what is proved of the one for every reading of its floats is proved of the other.
-/

@[expose] public section

noncomputable section

namespace Cert.WoutIdeal.Hand

open Idealize.ShloMosaic Idealize.ShloMosaic.TcCoe Idealize.SL.Sem

variable {F : FTy → Type} [FloatOps F]

/-- The two tables of bodies agree. -/
theorem bodies_eq : Cert.WoutIdeal.defs₀ (F := F) = Cert.Wout.defs₀ (F := F) := by
  unfold Cert.WoutIdeal.defs₀ Cert.Wout.defs₀
  refine congrArg Defs.onTc (funext fun l => funext fun a => ?_)
  rcases l with ⟨_ | _, h⟩
  · rcases a with ⟨_, _⟩
    exact rfl
  · omega

/-- So do the tables with the pipeline's own bodies. -/
theorem defs_eq : Cert.WoutIdeal.defs (F := F) = Cert.Wout.defs (F := F) := by
  unfold Cert.WoutIdeal.defs Cert.Wout.defs
  exact congrArg (Pipeline.defs _) bodies_eq

set_option backward.isDefEq.respectTransparency.types false in
/-- The frame: the arguments end as they were, the cells at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.Wout.Hand.frame m ρ

end Cert.WoutIdeal.Hand
end
-- ==== Proof.WoutValue.lean ====
module

public import proofs.«01_k».proof.Proof.WoutIdealFrame
public import proofs.«01_k».proof.Proof.Gen.WoutRefIdeal.Run
public import Idealize.ShloMosaic.Lib.Pipeline.ValueKit
public import Idealize.ShloMosaic.Lib.Pipeline.ReadBack

/-!
# The output projection equals its reference

Every point of the grid adds a tile of the residual to a tile of tokens times the kept column tile of the weights.
-/

@[expose] public section

set_option maxRecDepth 6144

noncomputable section

namespace Cert.Wout.Prod

open Idealize.ShloMosaic Idealize.ShloMosaic.TcCoe Idealize.SL.Sem

section Reference
open Cert.WoutRefIdeal Cert.WoutRefIdeal.Gen

/-- The reference's result, as a function of the tokens, the weights and the residual. -/
def REF (X : FVec Ideal S8192x4096 .bf16) (W : FVec Ideal S4096x4096 .f32) (R : FVec Ideal S8192x4096 .f32) :
    FVec Ideal S8192x4096 .f32 :=
  addf R (Host.dotGeneral dot_S8192x4096_S4096x4096_S8192x4096_1_0_0_1_n_n none (extf .f32 X bitsLt_bf16_f32) W)

/-- The reference's result at token `s`, channel `d`: the residual plus the product's entry. -/
theorem ref_at (X : FVec Ideal S8192x4096 .bf16) (W : FVec Ideal S4096x4096 .f32) (R : FVec Ideal S8192x4096 .f32)
    (s : Fin 8192) (d : Fin 4096) :
    (REF X W R (ix2 s d) : EReal) = R (ix2 s d) + ∑ k : Fin 4096, X (ix2 s k) * W (ix2 k d) := by
  pointwise [REF]

end Reference

section Kernel
open Cert.Wout.Gen Cert.Wout.Hand

variable (m : (ℓ : Loc nD τ sig) → Buf (Elt Ideal) ℓ)

/-- Where each window's block lies at a grid point: the token tile is the fast axis, the column tile the slow one. -/
theorem idx : ∀ t : Fin cfg0.N, win0_0.index t = ![t.val % 16, 0] ∧ win0_1.index t = ![t.val % 16, t.val / 16]
    ∧ win0_2.index t = ![t.val % 16, t.val / 16] :=
  (by decide +kernel : ∀ t : Fin grid0.N, _)

/-- The block a point writes, at one entry: the token tile's row times the kept block's column, plus the residual. -/
theorem pay_at (x : FVec Ideal S512x4096 .bf16) (w : FVec Ideal S4096x1024 .bf16) (b : FVec Ideal S512x1024 .f32)
    (r : Fin 512) (l : Fin 1024) :
    (k0_pay2 (F := Ideal) x w b (ix2 r l) : EReal) = (∑ k : Fin 4096, x (ix2 r k) * w (ix2 k l)) + b (ix2 r l) := by
  open_payloads; pointwise

/-- The kept block at one entry is the weights' entry in its column tile. -/
theorem kept_at (c : Dev nD) (j : ℕ) (k : Fin 4096) (l : Fin 1024) (hj : j < 4) :
    kept m c j (ix2 k l) = m ((c : Thread nD τ).loc main_arg1) (ix2 k ⟨1024 * j + l, by omega⟩) := by
  unfold kept wblk
  rw [rnd_at, View.read_apply]
  show V m c main_arg1 _ = _
  have e : (wSl ![0, 1024 * (j % 4)] (col_inb j)).view.emb (ix2 k l) = ix2 k ⟨1024 * j + l, by omega⟩ := by
    funext a; apply Fin.ext
    fin_cases a
    · show 0 + 1 * k.val = k.val
      omega
    · show 1024 * (j % 4) + 1 * l.val = 1024 * j + l.val
      rw [Nat.mod_eq_of_lt hj, one_mul]
  rw [e]

/-- The output array after the run is the reference's result. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2, eq_ix2 ((win0_2.blk t).view.emb y), eq_ix2 y]
  refine Eq.trans ?_ (ref_at _ _ _ _ _).symm
  have hj : t.val / 16 < 4 := by have := t.isLt; change t.val < 64 at this; omega
  refine (pay_at _ _ _ _ _).trans ((add_comm _ _).trans ?_)
  refine congrArg₂ (· + ·) ?_ (Finset.sum_congr rfl fun k _ => ?_)
  · blk_ext [iblk, V, idx t]
  · congr 1
    · blk_ext [iblk, V, idx t]
    · refine (kept_at m c _ k (y 1) hj).trans ?_
      refine congrArg _ (congrArg (ix2 _) (Fin.ext ?_))
      refine Eq.trans ?_ (win0_2.rect_emb_val t (ix2 (y 0) (y 1)) 1).symm
      simp [idx t, Nat.mul_comm]

end Kernel
end Cert.Wout.Prod

namespace Cert.WoutIdeal.Prod

open Idealize.ShloMosaic Idealize.ShloMosaic.TcCoe Idealize.SL.Sem Cert.Wout.Prod

set_option backward.isDefEq.respectTransparency.types false in
/-- The program over the reals ends with the reference's result in its output and its arguments as they were. -/
theorem result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = REF (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  rw [Hand.defs_eq]
  exact θ_run_mono (θ_run_and (Cert.Wout.Hand.run_main m ρ) (Cert.Wout.Hand.frame m ρ)) fun r hr c =>
    ⟨((hr.1.1 c).1 2).trans (final m c), hr.2.1 c⟩

end Cert.WoutIdeal.Prod
end
-- ==== Proof.FfnAFrame.lean ====
module

public import proofs.«01_k».proof.Proof.Gen.FfnA.Frame
public import proofs.«01_k».proof.Proof.Gen.FfnA.Loops
public import Idealize.ShloMosaic.Lib.Pipeline.FrameBody
public import Idealize.ShloMosaic.Lib.Transfers
public import Idealize.ShloMosaic.Lib.WritesUnit
public import Idealize.ShloMosaic.Lib.VecWindow
public import Idealize.ShloMosaic.Lib.Tactic
public import Idealize.ShloMosaic.Lib.Pointwise
public import Idealize.ShloMosaic.Lib.WordCmp

@[expose] public section

set_option maxRecDepth 6144

noncomputable section

namespace Cert.FfnA.Hand

open Cert.FfnA Cert.FfnA.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of this proof: the pipeline's, beside the counters of the transfers the body issues. -/
local notation "𝕄" => MT nD τ sig Unit (Elt F) ℕ (Pipeline.UD sig nD τ) ℕ

/-! ## The buffers the body keeps from point to point -/

/-- The buffer one column block of the weights lands in. -/
abbrev stM : Memref sig .tc .vmem S5504x512 .f32 := Memref.whole cc0_scratch0
/-- The column block rounded to bf16, kept for the points that share it. -/
abbrev wbM : Memref sig .tc .vmem S5504x512 .bf16 := Memref.whole cc0_scratch1
/-- The weights, left in HBM. -/
abbrev wM : Memref sig .tc .hbm S11008x4096 .f32 := Memref.whole main_arg1

/-- A block of columns, rounded to bf16. -/
abbrev rnd (x : Vec F S5504x512 .f32) : Vec F S5504x512 .bf16 := truncf .bf16 x bitsLt_bf16_f32

theorem rnd_at (x : Vec F S5504x512 .f32) (y : S5504x512.Idx) : rnd x y = FloatOps.truncf .bf16 bitsLt_bf16_f32 (x y) := rfl

/-! ## The state between points -/

theorem col_inb (j : ℕ) : ∀ a, (![0, 512 * (j % 8)] : Fin 2 → ℕ) a + S5504x512.size a ≤ S11008x4096.size a := by
  have := Nat.mod_lt j (by decide : 0 < 8)
  intro a
  fin_cases a
  · show 0 + 5504 ≤ 11008; omega
  · show 512 * (j % 8) + 512 ≤ 4096; omega

/-- 5504 rows by 512 columns of the weights, from the offsets `off`. -/
abbrev wSl (off : Fin 2 → ℕ) (hb : ∀ a, off a + S5504x512.size a ≤ S11008x4096.size a) : Memref sig .tc .hbm S5504x512 .f32 :=
  wM.slice (Rect.unit (s := S11008x4096) off S5504x512.size hb) (fun _ => rfl)

/-- What those columns hold. -/
def wblk {c : Dev nD} (w : Buf (Elt F) (wM.view.loc (c : Thread nD τ))) (off : Fin 2 → ℕ)
    (hb : ∀ a, off a + S5504x512.size a ≤ S11008x4096.size a) : Vec F S5504x512 .f32 :=
  (wSl off hb).view.read (Elt F) w

theorem wblk_congr {c : Dev nD} (w : Buf (Elt F) (wM.view.loc (c : Thread nD τ))) {off off' : Fin 2 → ℕ} (h : off = off')
    (hb : ∀ a, off a + S5504x512.size a ≤ S11008x4096.size a) (hb' : ∀ a, off' a + S5504x512.size a ≤ S11008x4096.size a) :
    wblk w off hb = wblk w off' hb' := by subst h; rfl

/-- The weights held whole, apart from what a transfer has lent. -/
abbrev wPt (c : Dev nD) (w : Buf (Elt F) (wM.view.loc (c : Thread nD τ))) : sProp 𝕄 :=
  wM.view.loc (c : Thread nD τ) ↦{fullShare} w

/-- No transfer under way: the landing buffer at anything, the cell at zero, the weights whole. -/
def home (c : Dev nD) (w : Buf (Elt F) (wM.view.loc (c : Thread nD τ))) : sProp 𝕄 :=
  iprop((∃ d, owns (c : Thread nD τ) stM fullShare d) ∗ semVal ((c : Thread nD τ), SemLoc.dma cc0_scratch2.sem) 0 ∗ wPt c w)

/-- The columns at `off` on their way into the landing buffer, the other columns of the weights at hand. -/
def flying (c : Dev nD) (w : Buf (Elt F) (wM.view.loc (c : Thread nD τ))) (off : Fin 2 → ℕ)
    (hb : ∀ a, off a + S5504x512.size a ≤ S11008x4096.size a) : sProp 𝕄 :=
  iprop(∃ fd, Transfers.Flight countersEmb (c : Thread nD τ) (SemLoc.dma cc0_scratch2.sem) () 352256
        iprop((stM.view.loc (c : Thread nD τ) ↦[stM.view.set]{fullShare} fd) ∗ (wM.view.loc (c : Thread nD τ) ↦[(wSl off hb).view.set]{fullShare} w))
      ∗ (wM.view.loc (c : Thread nD τ) ↦[Finset.univ \ (wSl off hb).view.set]{fullShare} w)
      ∗ ⌜stM.view.read (Elt F) fd = wblk w off hb⌝)

theorem flying_congr (c : Dev nD) (w : Buf (Elt F) (wM.view.loc (c : Thread nD τ))) {off off' : Fin 2 → ℕ} (h : off = off')
    (hb : ∀ a, off a + S5504x512.size a ≤ S11008x4096.size a) (hb' : ∀ a, off' a + S5504x512.size a ≤ S11008x4096.size a) :
    flying c w off hb = flying c w off' hb' := by subst h; rfl

/-! ## The loop that rounds the staged block, 128 rows a trip -/

section Loop
variable (c : Dev nD) (i : grid0.Coords) (arg2 : Memref sig .tc .vmem S1024x5504 .bf16) (harg2 : arg2.IsWhole)
  (arg3 : Memref sig .tc .hbm S11008x4096 .f32) (harg3 : arg3.IsWhole)
  (arg4 : Memref sig .tc .vmem S1024x512 .f32) (harg4 : arg4.IsWhole) (arg5 : Memref sig .tc .vmem S1024x512 .f32) (harg5 : arg5.IsWhole)
  (h1 : k0_cond1 i = 1#1)

/-- Before trip `k` the first `128 * k` rows are rounded. -/
def loopPre (X : Buf (Elt F) (stM.view.loc (c : Thread nD τ))) (k : ℕ) : sProp 𝕄 :=
  iprop((stM.view.loc (c : Thread nD τ) ↦[stM.view.set]{fullShare} X)
    ∗ (∃ f, (wbM.view.loc (c : Thread nD τ) ↦[wbM.view.set]{fullShare} f)
        ∗ ⌜∀ y : S5504x512.Idx, (y 0).val < 128 * k → wbM.view.read (Elt F) f y = rnd (stM.view.read (Elt F) X) y⌝))

include h1 in
/-- One trip rounds the next 128 rows and leaves the others. -/
theorem trip_rows (X : Buf (Elt F) (stM.view.loc (c : Thread nD τ))) (k : Fin (Scf.trips k0_t1_loop.lb k0_t1_loop.ub k0_t1_loop.st))
    (hk : k.val < 43) (f : Buf (Elt F) (wbM.view.loc (c : Thread nD τ)))
    (hf : ∀ y : S5504x512.Idx, (y 0).val < 128 * k.val → wbM.view.read (Elt F) f y = rnd (stM.view.read (Elt F) X) y)
    (y : S5504x512.Idx) (hy : (y 0).val < 128 * (k.val + 1)) :
    wbM.view.read (Elt F) (wbM.view.writes (Elt F) f
        [⟨Rect.unit (s := S5504x512) (k0_off3 k) S128x512.size (k0_off3_inb i k h1),
            k0_pay1 (View.readAt (Elt F) stM.view (Rect.unit (s := S5504x512) (k0_off3 k) S128x512.size (k0_off3_inb i k h1)).toLoadRect X)⟩]) y
      = rnd (stM.view.read (Elt F) X) y := by
  by_cases h : (y 0).val < 128 * k.val
  · refine (View.read_writes_cons_rows_of_not_mem wbM.view f _ _ [] y (k0_off3_eq k) rfl (.inl h)).trans ?_
    exact hf y h
  · have hx : ∀ a, (![128 * k.val, 0] : Fin 2 → ℕ) a ≤ (y a).val ∧ (y a).val < (![128 * k.val, 0] : Fin 2 → ℕ) a + S128x512.size a := by
      have h1 := (y 1).isLt
      intro a
      fin_cases a
      · exact ⟨Nat.le_of_not_lt h, by show (y 0).val < 128 * k.val + 128; omega⟩
      · exact ⟨Nat.zero_le _, by show (y 1).val < 0 + 512; exact (by simpa using h1 : (y 1).val < 512) |>.trans_eq (Nat.zero_add _).symm⟩
    refine (View.read_writes_cons_unit_of_mem wbM.view f _ _ [] y (show (Rect.unit (s := S5504x512) (k0_off3 k) S128x512.size (k0_off3_inb i k h1)).shape.Idx from Rect.unitLocal (s := S5504x512) (off := ![128 * k.val, 0]) (size := S128x512.size) y hx) (k0_off3_eq k) fun a => ?_).trans ?_
    · have := hx a
      rw [Rect.unitLocal_val]; omega
    · simp only [k0_pay1, shapeCast_id]
      show FloatOps.truncf .bf16 bitsLt_bf16_f32 _ = _
      rw [rnd_at, View.readAt_apply]
      refine congrArg (FloatOps.truncf .bf16 bitsLt_bf16_f32) (congrArg (stM.view.read (Elt F) X) (funext fun a => Fin.ext ?_))
      have := hx a
      have e : k0_off3 k a = (![128 * k.val, 0] : Fin 2 → ℕ) a := congrFun (k0_off3_eq k) a
      show k0_off3 k a + 1 * ((y a).val - (![128 * k.val, 0] : Fin 2 → ℕ) a) = (y a).val
      omega

set_option warn.classDefReducibility false in
@[sl_loop] def loopInv (𝒱 : Variants) (bd : Option 𝒱.V) (E : Set ℕ) (X : Buf (Elt F) (stM.view.loc (c : Thread nD τ))) :
    LoopInvTy_k0_t1 (F := F) Unit ℕ (Pipeline.UD sig nD τ) ℕ 𝒱 c bd E i arg2 harg2 arg3 harg3 arg4 harg4 arg5 harg5 stM (Memref.isWhole_whole _) wbM (Memref.isWhole_whole _) cc0_scratch2 h1 where
  inv k _ := loopPre c X k
  step k acc := by
    have hk : k.val < 43 := Nat.lt_of_lt_of_le k.isLt k0_t1_abs.2.1
    unfold loopPre
    iintro ⟨HX, ⟨%f, HW, %hf⟩⟩
    unfold k0_t1_body
    sl_exec
    sl_step
    isplitl [HX]; · iexact HX
    iexists _; isplitl [HW]; · iexact HW
    ipureintro
    intro y hy
    exact trip_rows c i h1 _ k hk _ hf _ hy

end Loop

/-! ## The body's four runs -/

theorem trips_eq : 5504 ≤ 128 * Scf.trips k0_t1_loop.lb k0_t1_loop.ub k0_t1_loop.st := by decide +kernel

/-- After the loop the whole block is rounded. -/
theorem all_rows {c : Dev nD} {f : Buf (Elt F) (wbM.view.loc (c : Thread nD τ))} {v : Vec F S5504x512 .f32}
    (h : ∀ y : S5504x512.Idx, (y 0).val < 128 * Scf.trips k0_t1_loop.lb k0_t1_loop.ub k0_t1_loop.st →
      wbM.view.read (Elt F) f y = rnd v y) : wbM.view.read (Elt F) f = rnd v :=
  funext fun y => h y (lt_of_lt_of_le (y 0).isLt trips_eq)

/-- The landing buffer reads what landed last. -/
theorem read_last {c : Dev nD} (f : Buf (Elt F) (stM.view.loc (c : Thread nD τ))) (v : Vec F S5504x512 .f32)
    (L : List (View.Piece (Elt F) S5504x512 .f32)) :
    stM.view.read (Elt F) (stM.view.writes (Elt F) f (⟨Rect.whole S5504x512, v⟩ :: L)) = v := by
  rw [← List.singleton_append, View.writes_append]
  exact View.read_writes_whole stM.view _ v

section Run
variable (c : Dev nD) (i : grid0.Coords) (arg2 : Memref sig .tc .vmem S1024x5504 .bf16) (harg2 : arg2.IsWhole)
  (arg4 : Memref sig .tc .vmem S1024x512 .f32) (harg4 : arg4.IsWhole) (arg5 : Memref sig .tc .vmem S1024x512 .f32) (harg5 : arg5.IsWhole)
  (x : Vec F S1024x5504 .bf16) (r : Vec F S1024x512 .f32) (w : Buf (Elt F) (wM.view.loc (c : Thread nD τ)))

/-- The body at the operands of one point. -/
abbrev body : Prog (TpuEff nD τ sig (Elt F) Λ₀ .tc) PUnit :=
  cc0_matmul i arg2 harg2 wM (Memref.isWhole_whole _) arg4 harg4 arg5 harg5 stM (Memref.isWhole_whole _) wbM (Memref.isWhole_whole _) cc0_scratch2

/-- What a point leaves, the kept block being `b`: the sum's block in the result's buffer, the state `S` of the transfers. -/
def left (b : Vec F S5504x512 .bf16) (S : sProp 𝕄) : sProp 𝕄 :=
  iprop(owns (c : Thread nD τ) arg2 fullShare x ∗ owns (c : Thread nD τ) arg4 fullShare r ∗ owns (c : Thread nD τ) arg5 fullShare (k0_pay2 x b r)
    ∗ owns (c : Thread nD τ) wbM fullShare b ∗ S ∗ (∃ W', owes (c : Thread nD τ) 0 W'))

include harg2 harg4 harg5 in
/-- The result's buffer reads the stored payload, its operands the two buffers' contents. -/
theorem read_out {f2 : BufTy.Contents (Elt F) arg2.view.ty} {f4 : BufTy.Contents (Elt F) arg4.view.ty} {f5 : BufTy.Contents (Elt F) arg5.view.ty} {fb : BufTy.Contents (Elt F) wbM.view.ty}
    {b : Vec F S5504x512 .bf16} (h2 : arg2.view.read (Elt F) f2 = x) (h4 : arg4.view.read (Elt F) f4 = r) (hb : wbM.view.read (Elt F) fb = b) :
    arg5.view.read (Elt F) (arg5.view.writes (Elt F) f5 [⟨Rect.unit (s := S1024x512) ![0, 0] S1024x512.size inb_S1024x512_S1024x512_0_0,
        k0_pay2 (View.readAt (Elt F) arg2.view (Rect.unit (s := S1024x5504) ![0, 0] S1024x5504.size inb_S1024x5504_S1024x5504_0_0).toLoadRect f2)
          (View.readAt (Elt F) wbM.view (Rect.unit (s := S5504x512) ![0, 0] S5504x512.size inb_S5504x512_S5504x512_0_0).toLoadRect fb)
          (View.readAt (Elt F) arg4.view (Rect.unit (s := S1024x512) ![0, 0] S1024x512.size inb_S1024x512_S1024x512_0_0).toLoadRect f4)⟩])
      = k0_pay2 x b r := by
  subst h2; subst h4; subst hb
  refine (View.read_writes_full arg5.view f5 _ _ _).trans ?_
  rw [View.readAt_full arg2.view f2, View.readAt_full wbM.view fb, View.readAt_full arg4.view f4]

/-- The first point: the first block comes in and is rounded, the next one is sent for. -/
theorem runA (h1 : k0_cond1 i = 1#1) (h2 : k0_cond2 i = 1#1) (h3 : k0_cond3 i = 1#1) (W : Waits sig Unit) (K : PUnit → sProp 𝕄) :
    iprop(owns (c : Thread nD τ) arg2 fullShare x ∗ owns (c : Thread nD τ) arg4 fullShare r ∗ (∃ d, owns (c : Thread nD τ) arg5 fullShare d)
        ∗ (∃ d, owns (c : Thread nD τ) wbM fullShare d) ∗ home c w ∗ owes (c : Thread nD τ) 0 W
        ∗ (left c arg2 arg4 arg5 x r (rnd (wblk w (k0_off1 i) (k0_off1_inb i h1 h2))) (flying c w (k0_off4 i) (k0_off4_inb i h1 h3)) -∗ K ⟨⟩))
      ⊢ wp frame (wpE (defs₀ (F := F)) Variants.none c none) Set.univ (body i arg2 harg2 arg4 harg4 arg5 harg5) K := by
  unfold body
  rw [cc0_matmul_eq_skeleton]; unfold cc0_matmul_skel
  unfold home owns
  iintro ⟨⟨%f2, %e2, H2⟩, ⟨%f4, %e4, H4⟩, ⟨%d5, %f5, -, H5⟩, ⟨%db, %fb, -, HB⟩, ⟨⟨%ds, %fs, -, HS⟩, Hq, Hw⟩, HW, Hk⟩
  sl_exec
  sl_step
  have hb := all_rows hL2
  rw [View.read_writes_whole] at hb
  iapply Hk
  unfold left owns flying
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact read_out arg2 harg2 arg4 harg4 arg5 harg5 x r e2 e4 hb
  isplitl [HB]
  · iexists _; isplitr; swap; · iexact HB
    ipureintro; exact hb
  isplitl [Hq Hw]
  · iexists _
    isplitl [Hq]; · iexact Hq
    isplitl [Hw]; · iexact Hw
    ipureintro; refine (read_last (c := c) _ _ _).trans ?_; rfl
  iexists _; iexact HW

/-- A later block's first point but the last block's: the block on its way comes in and is rounded, the next one is sent for. -/
theorem runB (off : Fin 2 → ℕ) (hb : ∀ a, off a + S5504x512.size a ≤ S11008x4096.size a) (h1 : k0_cond1 i = 1#1) (h2 : ¬k0_cond2 i = 1#1) (h3 : k0_cond3 i = 1#1)
    (W : Waits sig Unit) (K : PUnit → sProp 𝕄) :
    iprop(owns (c : Thread nD τ) arg2 fullShare x ∗ owns (c : Thread nD τ) arg4 fullShare r ∗ (∃ d, owns (c : Thread nD τ) arg5 fullShare d)
        ∗ (∃ d, owns (c : Thread nD τ) wbM fullShare d) ∗ flying c w off hb ∗ owes (c : Thread nD τ) 0 W
        ∗ (left c arg2 arg4 arg5 x r (rnd (wblk w off hb)) (flying c w (k0_off4 i) (k0_off4_inb i h1 h3)) -∗ K ⟨⟩))
      ⊢ wp frame (wpE (defs₀ (F := F)) Variants.none c none) Set.univ (body i arg2 harg2 arg4 harg4 arg5 harg5) K := by
  unfold body
  rw [cc0_matmul_eq_skeleton]; unfold cc0_matmul_skel
  unfold flying owns
  iintro ⟨⟨%f2, %e2, H2⟩, ⟨%f4, %e4, H4⟩, ⟨%d5, %f5, -, H5⟩, ⟨%db, %fb, -, HB⟩, ⟨%fd, Hq, Hw, %hfd⟩, HW, Hk⟩
  sl_exec
  sl_step
  have hb := all_rows hL2
  rw [hfd] at hb
  iapply Hk
  unfold left owns
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact read_out arg2 harg2 arg4 harg4 arg5 harg5 x r e2 e4 hb
  isplitl [HB]
  · iexists _; isplitr; swap; · iexact HB
    ipureintro; exact hb
  isplitl [Hq Hw]
  · iexists _
    isplitl [Hq]; · iexact Hq
    isplitl [Hw]; · iexact Hw
    ipureintro; refine (read_last (c := c) _ _ _).trans ?_; rfl
  iexists _; iexact HW

/-- The last block's first point: nothing more is sent for. -/
theorem runC (off : Fin 2 → ℕ) (hb : ∀ a, off a + S5504x512.size a ≤ S11008x4096.size a) (h1 : k0_cond1 i = 1#1) (h2 : ¬k0_cond2 i = 1#1) (h3 : ¬k0_cond3 i = 1#1)
    (W : Waits sig Unit) (K : PUnit → sProp 𝕄) :
    iprop(owns (c : Thread nD τ) arg2 fullShare x ∗ owns (c : Thread nD τ) arg4 fullShare r ∗ (∃ d, owns (c : Thread nD τ) arg5 fullShare d)
        ∗ (∃ d, owns (c : Thread nD τ) wbM fullShare d) ∗ flying c w off hb ∗ owes (c : Thread nD τ) 0 W
        ∗ (left c arg2 arg4 arg5 x r (rnd (wblk w off hb)) (home c w) -∗ K ⟨⟩))
      ⊢ wp frame (wpE (defs₀ (F := F)) Variants.none c none) Set.univ (body i arg2 harg2 arg4 harg4 arg5 harg5) K := by
  unfold body
  rw [cc0_matmul_eq_skeleton]; unfold cc0_matmul_skel
  unfold flying owns
  iintro ⟨⟨%f2, %e2, H2⟩, ⟨%f4, %e4, H4⟩, ⟨%d5, %f5, -, H5⟩, ⟨%db, %fb, -, HB⟩, ⟨%fd, Hq, Hw, %hfd⟩, HW, Hk⟩
  sl_exec
  sl_step
  have hb := all_rows hL2
  rw [hfd] at hb
  iapply Hk
  unfold left home owns
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact read_out arg2 harg2 arg4 harg4 arg5 harg5 x r e2 e4 hb
  isplitl [HB]
  · iexists _; isplitr; swap; · iexact HB
    ipureintro; exact hb
  isplitl [Hq Hw Hq_dst]
  · isplitl [Hq_dst]
    · iexists _, _; isplitr; swap; · iexact Hq_dst
      ipureintro; rfl
    isplitl [Hq]; · iexact Hq
    iexact Hw
  iexists _; iexact HW

/-- A point that shares the block rounded before it. -/
theorem runD (b : Vec F S5504x512 .bf16) (S : sProp 𝕄) (h1 : ¬k0_cond1 i = 1#1) (W : Waits sig Unit) (K : PUnit → sProp 𝕄) :
    iprop(owns (c : Thread nD τ) arg2 fullShare x ∗ owns (c : Thread nD τ) arg4 fullShare r ∗ (∃ d, owns (c : Thread nD τ) arg5 fullShare d)
        ∗ owns (c : Thread nD τ) wbM fullShare b ∗ S ∗ owes (c : Thread nD τ) 0 W
        ∗ (left c arg2 arg4 arg5 x r b S -∗ K ⟨⟩))
      ⊢ wp frame (wpE (defs₀ (F := F)) Variants.none c none) Set.univ (body i arg2 harg2 arg4 harg4 arg5 harg5) K := by
  unfold body
  rw [cc0_matmul_eq_skeleton]; unfold cc0_matmul_skel
  unfold owns
  iintro ⟨⟨%f2, %e2, H2⟩, ⟨%f4, %e4, H4⟩, ⟨%d5, %f5, -, H5⟩, ⟨%fb, %hb, HB⟩, HS, HW, Hk⟩
  sl_exec
  sl_step
  iapply Hk
  unfold left owns
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact read_out arg2 harg2 arg4 harg4 arg5 harg5 x r e2 e4 hb
  isplitl [HB]
  · iexists _; isplitr; swap; · iexact HB
    ipureintro; exact hb
  isplitl [HS]; · iexact HS
  iexists _; iexact HW

end Run

/-! ## The proof data of the pipeline -/

variable (m : (ℓ : Loc nD τ sig) → Buf (Elt F) ℓ) (ρ : Dev nD → PrngReg)

/-- The half's rows of column block `j` of the weights as launched, rounded. -/
def kept (c : Dev nD) (j : ℕ) : Vec F S5504x512 .bf16 := rnd (wblk (c := c) (V m c main_arg1) ![0, 512 * (j % 8)] (col_inb j))

/-- The half's rows of column block `j` of the weights on its way. -/
def coming (c : Dev nD) (j : ℕ) : sProp 𝕄 := flying c (V m c main_arg1) ![0, 512 * (j % 8)] (col_inb j)

/-- What the body keeps before point `p`: the block its predecessor used, the next block on its way unless there is none. -/
def keep (c : Dev nD) (p : ℕ) : sProp 𝕄 :=
  if p = 0 then iprop((∃ d, owns (c : Thread nD τ) wbM fullShare d) ∗ home c (V m c main_arg1))
  else iprop(owns (c : Thread nD τ) wbM fullShare (kept m c ((p - 1) / 8))
    ∗ (if 56 < p then home c (V m c main_arg1) else coming m c ((p - 1) / 8 + 1)))

/-- The proof data: the arrays as launched, the first two windows' blocks left in place, the sum's block in the third's. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (kept m c (t.val / 8)) (iblk m c 1 t)
  Φ p := iprop((∃ r, prngReg c r) ∗ keep m c p.val)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay2 (iblk m c 0 t) (kept m c (t.val / 8)) (iblk m c 1 t) := by
  dsimp only [dats]

/-- The first two windows' buffers hold their blocks at every point. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The points -/

theorem cond1_iff : ∀ t : Fin grid0.N, k0_cond1 (grid0.coords t) = 1#1 ↔ t.val % 8 = 0 := by decide +kernel
theorem cond2_iff : ∀ t : Fin grid0.N, k0_cond2 (grid0.coords t) = 1#1 ↔ t.val < 8 := by decide +kernel
theorem cond3_iff : ∀ t : Fin grid0.N, k0_cond3 (grid0.coords t) = 1#1 ↔ t.val < 56 := by decide +kernel
theorem off1_eq : ∀ t : Fin grid0.N, k0_off1 (grid0.coords t) = ![0, 512 * (t.val / 8 % 8)] := by decide +kernel
theorem off4_eq : ∀ t : Fin grid0.N, t.val < 56 → k0_off4 (grid0.coords t) = ![0, 512 * ((t.val / 8 + 1) % 8)] := by decide +kernel

/-- What the body is entered with at point `t`, the first two windows' blocks named. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The step of what is kept, by the point's case: what a run needs of it and what the run gives back. -/
theorem keep_step (c : Dev nD) (t : Fin cfg0.N) (W : Waits sig Unit) (K : PUnit → sProp 𝕄) (x : Vec F S1024x5504 .bf16) (r : Vec F S1024x512 .f32)
    (arg2 : Memref sig .tc .vmem S1024x5504 .bf16) (harg2 : arg2.IsWhole) (arg4 : Memref sig .tc .vmem S1024x512 .f32) (harg4 : arg4.IsWhole) (arg5 : Memref sig .tc .vmem S1024x512 .f32) (harg5 : arg5.IsWhole) :
    iprop(owns (c : Thread nD τ) arg2 fullShare x ∗ owns (c : Thread nD τ) arg4 fullShare r ∗ (∃ d, owns (c : Thread nD τ) arg5 fullShare d) ∗ keep m c t.val ∗ owes (c : Thread nD τ) 0 W
        ∗ (iprop(owns (c : Thread nD τ) arg2 fullShare x ∗ owns (c : Thread nD τ) arg4 fullShare r ∗ owns (c : Thread nD τ) arg5 fullShare (k0_pay2 x (kept m c (t.val / 8)) r)
            ∗ keep m c (t.val + 1) ∗ (∃ W', owes (c : Thread nD τ) 0 W')) -∗ K ⟨⟩))
      ⊢ wp frame (wpE (defs₀ (F := F)) Variants.none c none) Set.univ (body (grid0.coords t) arg2 harg2 arg4 harg4 arg5 harg5) K := by
  have ht : t.val < 64 := lt_of_lt_of_eq t.isLt N_0
  unfold keep
  rw [if_neg (by omega : ¬t.val + 1 = 0), Nat.add_sub_cancel]
  by_cases h0 : t.val = 0
  · have h1 := (cond1_iff t).2 (by omega)
    have h2 := (cond2_iff t).2 (by omega)
    have h3 := (cond3_iff t).2 (by omega)
    rw [if_pos h0, if_neg (by omega)]
    iintro ⟨H2, H4, H5, ⟨HB, HS⟩, HW, Hk⟩
    iapply (runA c (grid0.coords t) arg2 harg2 arg4 harg4 arg5 harg5 x r (V m c main_arg1) h1 h2 h3 W K)
    isplitl [H2]; · iexact H2
    isplitl [H4]; · iexact H4
    isplitl [H5]; · iexact H5
    isplitl [HB]; · iexact HB
    isplitl [HS]; · iexact HS
    isplitl [HW]; · iexact HW
    unfold left kept coming
    rw [wblk_congr (c := c) (V m c main_arg1) (off1_eq t) _ (col_inb _), flying_congr c (V m c main_arg1) (off4_eq t (by omega)) _ (col_inb _)]
    iintro ⟨H2, H4, H5, HB, HS, HW⟩
    iapply Hk
    isplitl [H2]; · iexact H2
    isplitl [H4]; · iexact H4
    isplitl [H5]; · iexact H5
    isplitl [HB HS]
    · isplitl [HB]; · iexact HB
      iexact HS
    iexact HW
  rw [if_neg h0]
  by_cases h1 : k0_cond1 (grid0.coords t) = 1#1
  · have hm := (cond1_iff t).1 h1
    have h2 : ¬k0_cond2 (grid0.coords t) = 1#1 := fun h => by have := (cond2_iff t).1 h; omega
    have ej : (t.val - 1) / 8 + 1 = t.val / 8 := by omega
    rw [if_neg (by omega : ¬56 < t.val), ej]
    by_cases h3 : k0_cond3 (grid0.coords t) = 1#1
    · have hL := (cond3_iff t).1 h3
      rw [if_neg (by omega : ¬56 < t.val + 1)]
      unfold coming kept
      iintro ⟨H2, H4, H5, ⟨HB, HS⟩, HW, Hk⟩
      iapply (runB c (grid0.coords t) arg2 harg2 arg4 harg4 arg5 harg5 x r (V m c main_arg1) _ (col_inb (t.val / 8)) h1 h2 h3 W K)
      isplitl [H2]; · iexact H2
      isplitl [H4]; · iexact H4
      isplitl [H5]; · iexact H5
      isplitl [HB]; · iexists _; iexact HB
      isplitl [HS]; · iexact HS
      isplitl [HW]; · iexact HW
      unfold left
      rw [flying_congr c (V m c main_arg1) (off4_eq t hL) _ (col_inb _)]
      iintro ⟨H2, H4, H5, HB, HS, HW⟩
      iapply Hk
      isplitl [H2]; · iexact H2
      isplitl [H4]; · iexact H4
      isplitl [H5]; · iexact H5
      isplitl [HB HS]
      · isplitl [HB]; · iexact HB
        iexact HS
      iexact HW
    · have hL : 56 < t.val + 1 := by
        by_contra h; exact h3 ((cond3_iff t).2 (by omega))
      rw [if_pos hL]
      unfold coming kept
      iintro ⟨H2, H4, H5, ⟨HB, HS⟩, HW, Hk⟩
      iapply (runC c (grid0.coords t) arg2 harg2 arg4 harg4 arg5 harg5 x r (V m c main_arg1) _ (col_inb (t.val / 8)) h1 h2 h3 W K)
      isplitl [H2]; · iexact H2
      isplitl [H4]; · iexact H4
      isplitl [H5]; · iexact H5
      isplitl [HB]; · iexists _; iexact HB
      isplitl [HS]; · iexact HS
      isplitl [HW]; · iexact HW
      unfold left
      iintro ⟨H2, H4, H5, HB, HS, HW⟩
      iapply Hk
      isplitl [H2]; · iexact H2
      isplitl [H4]; · iexact H4
      isplitl [H5]; · iexact H5
      isplitl [HB HS]
      · isplitl [HB]; · iexact HB
        iexact HS
      iexact HW
  · have hm : ¬t.val % 8 = 0 := fun h => h1 ((cond1_iff t).2 h)
    have ej : (t.val - 1) / 8 = t.val / 8 := by omega
    have eL : (56 < t.val) = (56 < t.val + 1) := propext ⟨fun h => by omega, fun h => by omega⟩
    rw [ej]
    simp only [eL]
    iintro ⟨H2, H4, H5, ⟨HB, HS⟩, HW, Hk⟩
    iapply (runD c (grid0.coords t) arg2 harg2 arg4 harg4 arg5 harg5 x r (kept m c (t.val / 8)) _ h1 W K)
    isplitl [H2]; · iexact H2
    isplitl [H4]; · iexact H4
    isplitl [H5]; · iexact H5
    isplitl [HB]; · iexact HB
    isplitl [HS]; · iexact HS
    isplitl [HW]; · iexact HW
    unfold left
    iintro ⟨H2, H4, H5, HB, HS, HW⟩
    iapply Hk
    isplitl [H2]; · iexact H2
    isplitl [H4]; · iexact H4
    isplitl [H5]; · iexact H5
    isplitl [HB HS]
    · isplitl [HB]; · iexact HB
      iexact HS
    iexact HW

/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1]
  rw [after0_0, after0_1, after0_2]
  rw [show (dats m 0 c).Φ t.castSucc = iprop((∃ r, prngReg c r) ∗ keep m c t.val) from rfl,
    show (dats m 0 c).Φ t.succ = iprop((∃ r, prngReg c r) ∗ keep m c (t.val + 1)) from rfl]
  unfold Dat.owesAt Pipeline.owesWithin
  rw [show (dats m 0 c).owed t.castSucc = 0 from rfl, show (dats m 0 c).owed t.succ = 0 from rfl]
  iintro ⟨⟨Hg, HK⟩, ⟨%W, -, HW⟩, ⟨%d0, H0⟩, ⟨%d1, H1⟩, ⟨%d2, H2⟩⟩
  iapply (keep_step m c t W _ (iblk m c 0 t) (iblk m c 1 t) _ _ _ _ _ _)
  isplitl [H0]; · iexact H0
  isplitl [H1]; · iexact H1
  isplitl [H2]; · iexists _; iexact H2
  isplitl [HK]; · iexact HK
  isplitl [HW]; · iexact HW
  iintro ⟨H0, H1, H2, HK, ⟨%W', HW'⟩⟩
  isplitl [Hg HK]
  · isplitl [Hg]; · iexact Hg
    iexact HK
  isplitl [HW']
  · iexists W'; isplitr; · ipureintro; exact fun _ _ => Or.inl trivial
    iexact HW'
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- @main up to the call, at this algebra. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's own cell. -/
abbrev osem0 : Fin 1 → SemLoc sig := fun _ => SemLoc.dma cc0_scratch2.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch2.sem) 0 := by
  rw [Pipeline.ownSems0_eq_of_list c osem0 [0] (by decide) (by decide)]; rfl
/-- The array the body's transfers read. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = wPt c (V m c main_arg1) := by
  rw [BI.bigSep_eq_bigSepL_of_eq [main_arg1] (by decide) (by decide)]; rfl

theorem PhiD0_eq (c : Dev nD) :
    (Pipeline.ΦD osem0 spec0 H0 (V m) c : sProp 𝕄)
      = iprop(iprop((∃ d, owns (c : Thread nD τ) stM fullShare d) ∗ (∃ d, owns (c : Thread nD τ) wbM fullShare d))
          ∗ (∃ r, prngReg c r) ∗ semVal ((c : Thread nD τ), SemLoc.dma cc0_scratch2.sem) 0 ∗ wPt c (V m c main_arg1)) := by
  rw [Pipeline.ΦD_eq, scopedRest0_eq, ownSems00_eq, hbmPts0_eq]
  simp only [stM, wbM, owns_whole]; try rfl

theorem phi_in (c : Dev nD) : Pipeline.ΦD osem0 spec0 H0 (V m) c ⊢ (dats m 0 c).Φ 0 := by
  rw [PhiD0_eq]
  show _ ⊢ iprop((∃ r, prngReg c r) ∗ keep m c 0)
  unfold keep home
  rw [if_pos rfl]
  iintro ⟨⟨HS, HB⟩, Hg, Hq, Hw⟩
  isplitl [Hg]; · iexact Hg
  isplitl [HB]; · iexact HB
  isplitl [HS]; · iexact HS
  isplitl [Hq]; · iexact Hq
  iexact Hw

theorem phi_out (c : Dev nD) : (dats m 0 c).Φ (Fin.last cfg0.N) ⊢ Pipeline.ΦD osem0 spec0 H0 (V m) c := by
  rw [PhiD0_eq]
  show iprop((∃ r, prngReg c r) ∗ keep m c grid0.N) ⊢ _
  rw [N_0]
  unfold keep home
  rw [if_neg (by decide), if_pos (by decide)]
  iintro ⟨Hg, HB, HS, Hq, Hw⟩
  isplitl [HS HB]
  · isplitl [HS]; · iexact HS
    iexists _; iexact HB
  isplitl [Hg]; · iexact Hg
  isplitl [Hq]; · iexact Hq
  iexact Hw

set_option backward.isDefEq.respectTransparency.types false in
/-- The run: every array ends as the pipeline's data say, the cells at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

/-- The frame: the arguments end as they were, the cells at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c)))⟩, h.2⟩) (run_main m ρ)

end Cert.FfnA.Hand

end
-- ==== Proof.FfnAIdealFrame.lean ====
module

public import proofs.«01_k».proof.Proof.FfnAFrame
public import proofs.«01_k».proof.Proof.Gen.FfnAIdeal

/-!
# The program over the reals is the program

The two are one text, so what is proved of the one for every reading of its floats is proved of the other.
-/

@[expose] public section

noncomputable section

namespace Cert.FfnAIdeal.Hand

open Idealize.ShloMosaic Idealize.ShloMosaic.TcCoe Idealize.SL.Sem

variable {F : FTy → Type} [FloatOps F]

/-- The two tables of bodies agree. -/
theorem bodies_eq : Cert.FfnAIdeal.defs₀ (F := F) = Cert.FfnA.defs₀ (F := F) := by
  unfold Cert.FfnAIdeal.defs₀ Cert.FfnA.defs₀
  refine congrArg Defs.onTc (funext fun l => funext fun a => ?_)
  rcases l with ⟨_ | _, h⟩
  · rcases a with ⟨_, _⟩
    exact rfl
  · omega

/-- So do the tables with the pipeline's own bodies. -/
theorem defs_eq : Cert.FfnAIdeal.defs (F := F) = Cert.FfnA.defs (F := F) := by
  unfold Cert.FfnAIdeal.defs Cert.FfnA.defs
  exact congrArg (Pipeline.defs _) bodies_eq

set_option backward.isDefEq.respectTransparency.types false in
/-- The frame: the arguments end as they were, the cells at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.FfnA.Hand.frame m ρ

end Cert.FfnAIdeal.Hand
end
-- ==== Proof.FfnAValue.lean ====
module

public import proofs.«01_k».proof.Proof.FfnAIdealFrame
public import proofs.«01_k».proof.Proof.Gen.FfnARefIdeal.Run
public import Idealize.ShloMosaic.Lib.Pipeline.ValueKit
public import Idealize.ShloMosaic.Lib.Pipeline.ReadBack

/-!
# The first half of the feed-forward's last product equals its reference

Every point of the grid adds a tile of the residual to a tile of tokens times the kept column tile of the weights. The kernel reads its 5504 channels inside the full arrays, the reference slices them first.
-/

@[expose] public section

set_option maxRecDepth 6144

noncomputable section

namespace Cert.FfnA.Prod

open Idealize.ShloMosaic Idealize.ShloMosaic.TcCoe Idealize.SL.Sem

section Reference
open Cert.FfnARefIdeal Cert.FfnARefIdeal.Gen

/-- The reference's result, as a function of the tokens, the weights and the residual. -/
def REF (X : FVec Ideal S8192x11008 .bf16) (W : FVec Ideal S11008x4096 .f32) (R : FVec Ideal S8192x4096 .f32) :
    FVec Ideal S8192x4096 .f32 :=
  addf R (Host.dotGeneral dot_S8192x5504_S5504x4096_S8192x4096_1_0_0_1_n_n none (extf .f32 (extractStridedSlice S8192x5504 ![0, 0] X slices_S8192x11008_S8192x5504_0_0) bitsLt_bf16_f32) (extractStridedSlice S5504x4096 ![0, 0] W slices_S11008x4096_S5504x4096_0_0))

/-- The reference's result at token `s`, channel `d`: the residual plus the product's entry. -/
theorem ref_at (X : FVec Ideal S8192x11008 .bf16) (W : FVec Ideal S11008x4096 .f32) (R : FVec Ideal S8192x4096 .f32)
    (s : Fin 8192) (d : Fin 4096) :
    (REF X W R (ix2 s d) : EReal) = R (ix2 s d) + ∑ k : Fin 5504, X (ix2 s ⟨k, by omega⟩) * W (ix2 ⟨k, by omega⟩ d) := by
  pointwise [REF]

end Reference

section Kernel
open Cert.FfnA.Gen Cert.FfnA.Hand

variable (m : (ℓ : Loc nD τ sig) → Buf (Elt Ideal) ℓ)

/-- Where each window's block lies at a grid point: the token tile is the fast axis, the column tile the slow one. -/
theorem idx : ∀ t : Fin cfg0.N, win0_0.index t = ![t.val % 8, 0] ∧ win0_1.index t = ![t.val % 8, t.val / 8]
    ∧ win0_2.index t = ![t.val % 8, t.val / 8] :=
  (by decide +kernel : ∀ t : Fin grid0.N, _)

/-- The block a point writes, at one entry: the token tile's row times the kept block's column, plus the residual. -/
theorem pay_at (x : FVec Ideal S1024x5504 .bf16) (w : FVec Ideal S5504x512 .bf16) (b : FVec Ideal S1024x512 .f32)
    (r : Fin 1024) (l : Fin 512) :
    (k0_pay2 (F := Ideal) x w b (ix2 r l) : EReal) = (∑ k : Fin 5504, x (ix2 r k) * w (ix2 k l)) + b (ix2 r l) := by
  open_payloads; pointwise

/-- The kept block at one entry is the weights' entry in its column tile. -/
theorem kept_at (c : Dev nD) (j : ℕ) (k : Fin 5504) (l : Fin 512) (hj : j < 8) :
    kept m c j (ix2 k l) = m ((c : Thread nD τ).loc main_arg1) (ix2 ⟨k, by omega⟩ ⟨512 * j + l, by omega⟩) := by
  unfold kept wblk
  rw [rnd_at, View.read_apply]
  show V m c main_arg1 _ = _
  have e : (wSl ![0, 512 * (j % 8)] (col_inb j)).view.emb (ix2 k l) = ix2 ⟨k, by omega⟩ ⟨512 * j + l, by omega⟩ := by
    funext a; apply Fin.ext
    fin_cases a
    · show 0 + 1 * k.val = k.val
      omega
    · show 512 * (j % 8) + 1 * l.val = 512 * j + l.val
      rw [Nat.mod_eq_of_lt hj, one_mul]
  rw [e]

/-- The output array after the run is the reference's result. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2, eq_ix2 ((win0_2.blk t).view.emb y), eq_ix2 y]
  refine Eq.trans ?_ (ref_at _ _ _ _ _).symm
  have hj : t.val / 8 < 8 := by have := t.isLt; change t.val < 64 at this; omega
  refine (pay_at _ _ _ _ _).trans ((add_comm _ _).trans ?_)
  refine congrArg₂ (· + ·) ?_ (Finset.sum_congr rfl fun k _ => ?_)
  · blk_ext [iblk, V, idx t]
  · congr 1
    · blk_ext [iblk, V, idx t]
    · refine (kept_at m c _ k (y 1) hj).trans ?_
      refine congrArg _ (congrArg (ix2 _) (Fin.ext ?_))
      refine Eq.trans ?_ (win0_2.rect_emb_val t (ix2 (y 0) (y 1)) 1).symm
      simp [idx t, Nat.mul_comm]

end Kernel
end Cert.FfnA.Prod

namespace Cert.FfnAIdeal.Prod

open Idealize.ShloMosaic Idealize.ShloMosaic.TcCoe Idealize.SL.Sem Cert.FfnA.Prod

set_option backward.isDefEq.respectTransparency.types false in
/-- The program over the reals ends with the reference's result in its output and its arguments as they were. -/
theorem result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = REF (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  rw [Hand.defs_eq]
  exact θ_run_mono (θ_run_and (Cert.FfnA.Hand.run_main m ρ) (Cert.FfnA.Hand.frame m ρ)) fun r hr c =>
    ⟨((hr.1.1 c).1 2).trans (final m c), hr.2.1 c⟩

end Cert.FfnAIdeal.Prod
end
-- ==== Proof.FfnBFrame.lean ====
module

public import proofs.«01_k».proof.Proof.Gen.FfnB.Frame
public import proofs.«01_k».proof.Proof.Gen.FfnB.Loops
public import Idealize.ShloMosaic.Lib.Pipeline.FrameBody
public import Idealize.ShloMosaic.Lib.Transfers
public import Idealize.ShloMosaic.Lib.WritesUnit
public import Idealize.ShloMosaic.Lib.VecWindow
public import Idealize.ShloMosaic.Lib.Tactic
public import Idealize.ShloMosaic.Lib.Pointwise
public import Idealize.ShloMosaic.Lib.WordCmp

@[expose] public section

set_option maxRecDepth 6144

noncomputable section

namespace Cert.FfnB.Hand

open Cert.FfnB Cert.FfnB.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of this proof: the pipeline's, beside the counters of the transfers the body issues. -/
local notation "𝕄" => MT nD τ sig Unit (Elt F) ℕ (Pipeline.UD sig nD τ) ℕ

/-! ## The buffers the body keeps from point to point -/

/-- The buffer one column block of the weights lands in. -/
abbrev stM : Memref sig .tc .vmem S5504x512 .f32 := Memref.whole cc0_scratch0
/-- The column block rounded to bf16, kept for the points that share it. -/
abbrev wbM : Memref sig .tc .vmem S5504x512 .bf16 := Memref.whole cc0_scratch1
/-- The weights, left in HBM. -/
abbrev wM : Memref sig .tc .hbm S11008x4096 .f32 := Memref.whole main_arg1

/-- A block of columns, rounded to bf16. -/
abbrev rnd (x : Vec F S5504x512 .f32) : Vec F S5504x512 .bf16 := truncf .bf16 x bitsLt_bf16_f32

theorem rnd_at (x : Vec F S5504x512 .f32) (y : S5504x512.Idx) : rnd x y = FloatOps.truncf .bf16 bitsLt_bf16_f32 (x y) := rfl

/-! ## The state between points -/

theorem col_inb (j : ℕ) : ∀ a, (![5504, 512 * (j % 8)] : Fin 2 → ℕ) a + S5504x512.size a ≤ S11008x4096.size a := by
  have := Nat.mod_lt j (by decide : 0 < 8)
  intro a
  fin_cases a
  · show 5504 + 5504 ≤ 11008; omega
  · show 512 * (j % 8) + 512 ≤ 4096; omega

/-- 5504 rows by 512 columns of the weights, from the offsets `off`. -/
abbrev wSl (off : Fin 2 → ℕ) (hb : ∀ a, off a + S5504x512.size a ≤ S11008x4096.size a) : Memref sig .tc .hbm S5504x512 .f32 :=
  wM.slice (Rect.unit (s := S11008x4096) off S5504x512.size hb) (fun _ => rfl)

/-- What those columns hold. -/
def wblk {c : Dev nD} (w : Buf (Elt F) (wM.view.loc (c : Thread nD τ))) (off : Fin 2 → ℕ)
    (hb : ∀ a, off a + S5504x512.size a ≤ S11008x4096.size a) : Vec F S5504x512 .f32 :=
  (wSl off hb).view.read (Elt F) w

theorem wblk_congr {c : Dev nD} (w : Buf (Elt F) (wM.view.loc (c : Thread nD τ))) {off off' : Fin 2 → ℕ} (h : off = off')
    (hb : ∀ a, off a + S5504x512.size a ≤ S11008x4096.size a) (hb' : ∀ a, off' a + S5504x512.size a ≤ S11008x4096.size a) :
    wblk w off hb = wblk w off' hb' := by subst h; rfl

/-- The weights held whole, apart from what a transfer has lent. -/
abbrev wPt (c : Dev nD) (w : Buf (Elt F) (wM.view.loc (c : Thread nD τ))) : sProp 𝕄 :=
  wM.view.loc (c : Thread nD τ) ↦{fullShare} w

/-- No transfer under way: the landing buffer at anything, the cell at zero, the weights whole. -/
def home (c : Dev nD) (w : Buf (Elt F) (wM.view.loc (c : Thread nD τ))) : sProp 𝕄 :=
  iprop((∃ d, owns (c : Thread nD τ) stM fullShare d) ∗ semVal ((c : Thread nD τ), SemLoc.dma cc0_scratch2.sem) 0 ∗ wPt c w)

/-- The columns at `off` on their way into the landing buffer, the other columns of the weights at hand. -/
def flying (c : Dev nD) (w : Buf (Elt F) (wM.view.loc (c : Thread nD τ))) (off : Fin 2 → ℕ)
    (hb : ∀ a, off a + S5504x512.size a ≤ S11008x4096.size a) : sProp 𝕄 :=
  iprop(∃ fd, Transfers.Flight countersEmb (c : Thread nD τ) (SemLoc.dma cc0_scratch2.sem) () 352256
        iprop((stM.view.loc (c : Thread nD τ) ↦[stM.view.set]{fullShare} fd) ∗ (wM.view.loc (c : Thread nD τ) ↦[(wSl off hb).view.set]{fullShare} w))
      ∗ (wM.view.loc (c : Thread nD τ) ↦[Finset.univ \ (wSl off hb).view.set]{fullShare} w)
      ∗ ⌜stM.view.read (Elt F) fd = wblk w off hb⌝)

theorem flying_congr (c : Dev nD) (w : Buf (Elt F) (wM.view.loc (c : Thread nD τ))) {off off' : Fin 2 → ℕ} (h : off = off')
    (hb : ∀ a, off a + S5504x512.size a ≤ S11008x4096.size a) (hb' : ∀ a, off' a + S5504x512.size a ≤ S11008x4096.size a) :
    flying c w off hb = flying c w off' hb' := by subst h; rfl

/-! ## The loop that rounds the staged block, 128 rows a trip -/

section Loop
variable (c : Dev nD) (i : grid0.Coords) (arg2 : Memref sig .tc .vmem S1024x5504 .bf16) (harg2 : arg2.IsWhole)
  (arg3 : Memref sig .tc .hbm S11008x4096 .f32) (harg3 : arg3.IsWhole)
  (arg4 : Memref sig .tc .vmem S1024x512 .f32) (harg4 : arg4.IsWhole) (arg5 : Memref sig .tc .vmem S1024x512 .f32) (harg5 : arg5.IsWhole)
  (h1 : k0_cond1 i = 1#1)

/-- Before trip `k` the first `128 * k` rows are rounded. -/
def loopPre (X : Buf (Elt F) (stM.view.loc (c : Thread nD τ))) (k : ℕ) : sProp 𝕄 :=
  iprop((stM.view.loc (c : Thread nD τ) ↦[stM.view.set]{fullShare} X)
    ∗ (∃ f, (wbM.view.loc (c : Thread nD τ) ↦[wbM.view.set]{fullShare} f)
        ∗ ⌜∀ y : S5504x512.Idx, (y 0).val < 128 * k → wbM.view.read (Elt F) f y = rnd (stM.view.read (Elt F) X) y⌝))

include h1 in
/-- One trip rounds the next 128 rows and leaves the others. -/
theorem trip_rows (X : Buf (Elt F) (stM.view.loc (c : Thread nD τ))) (k : Fin (Scf.trips k0_t1_loop.lb k0_t1_loop.ub k0_t1_loop.st))
    (hk : k.val < 43) (f : Buf (Elt F) (wbM.view.loc (c : Thread nD τ)))
    (hf : ∀ y : S5504x512.Idx, (y 0).val < 128 * k.val → wbM.view.read (Elt F) f y = rnd (stM.view.read (Elt F) X) y)
    (y : S5504x512.Idx) (hy : (y 0).val < 128 * (k.val + 1)) :
    wbM.view.read (Elt F) (wbM.view.writes (Elt F) f
        [⟨Rect.unit (s := S5504x512) (k0_off3 k) S128x512.size (k0_off3_inb i k h1),
            k0_pay1 (View.readAt (Elt F) stM.view (Rect.unit (s := S5504x512) (k0_off3 k) S128x512.size (k0_off3_inb i k h1)).toLoadRect X)⟩]) y
      = rnd (stM.view.read (Elt F) X) y := by
  by_cases h : (y 0).val < 128 * k.val
  · refine (View.read_writes_cons_rows_of_not_mem wbM.view f _ _ [] y (k0_off3_eq k) rfl (.inl h)).trans ?_
    exact hf y h
  · have hx : ∀ a, (![128 * k.val, 0] : Fin 2 → ℕ) a ≤ (y a).val ∧ (y a).val < (![128 * k.val, 0] : Fin 2 → ℕ) a + S128x512.size a := by
      have h1 := (y 1).isLt
      intro a
      fin_cases a
      · exact ⟨Nat.le_of_not_lt h, by show (y 0).val < 128 * k.val + 128; omega⟩
      · exact ⟨Nat.zero_le _, by show (y 1).val < 0 + 512; exact (by simpa using h1 : (y 1).val < 512) |>.trans_eq (Nat.zero_add _).symm⟩
    refine (View.read_writes_cons_unit_of_mem wbM.view f _ _ [] y (show (Rect.unit (s := S5504x512) (k0_off3 k) S128x512.size (k0_off3_inb i k h1)).shape.Idx from Rect.unitLocal (s := S5504x512) (off := ![128 * k.val, 0]) (size := S128x512.size) y hx) (k0_off3_eq k) fun a => ?_).trans ?_
    · have := hx a
      rw [Rect.unitLocal_val]; omega
    · simp only [k0_pay1, shapeCast_id]
      show FloatOps.truncf .bf16 bitsLt_bf16_f32 _ = _
      rw [rnd_at, View.readAt_apply]
      refine congrArg (FloatOps.truncf .bf16 bitsLt_bf16_f32) (congrArg (stM.view.read (Elt F) X) (funext fun a => Fin.ext ?_))
      have := hx a
      have e : k0_off3 k a = (![128 * k.val, 0] : Fin 2 → ℕ) a := congrFun (k0_off3_eq k) a
      show k0_off3 k a + 1 * ((y a).val - (![128 * k.val, 0] : Fin 2 → ℕ) a) = (y a).val
      omega

set_option warn.classDefReducibility false in
@[sl_loop] def loopInv (𝒱 : Variants) (bd : Option 𝒱.V) (E : Set ℕ) (X : Buf (Elt F) (stM.view.loc (c : Thread nD τ))) :
    LoopInvTy_k0_t1 (F := F) Unit ℕ (Pipeline.UD sig nD τ) ℕ 𝒱 c bd E i arg2 harg2 arg3 harg3 arg4 harg4 arg5 harg5 stM (Memref.isWhole_whole _) wbM (Memref.isWhole_whole _) cc0_scratch2 h1 where
  inv k _ := loopPre c X k
  step k acc := by
    have hk : k.val < 43 := Nat.lt_of_lt_of_le k.isLt k0_t1_abs.2.1
    unfold loopPre
    iintro ⟨HX, ⟨%f, HW, %hf⟩⟩
    unfold k0_t1_body
    sl_exec
    sl_step
    isplitl [HX]; · iexact HX
    iexists _; isplitl [HW]; · iexact HW
    ipureintro
    intro y hy
    exact trip_rows c i h1 _ k hk _ hf _ hy

end Loop

/-! ## The body's four runs -/

theorem trips_eq : 5504 ≤ 128 * Scf.trips k0_t1_loop.lb k0_t1_loop.ub k0_t1_loop.st := by decide +kernel

/-- After the loop the whole block is rounded. -/
theorem all_rows {c : Dev nD} {f : Buf (Elt F) (wbM.view.loc (c : Thread nD τ))} {v : Vec F S5504x512 .f32}
    (h : ∀ y : S5504x512.Idx, (y 0).val < 128 * Scf.trips k0_t1_loop.lb k0_t1_loop.ub k0_t1_loop.st →
      wbM.view.read (Elt F) f y = rnd v y) : wbM.view.read (Elt F) f = rnd v :=
  funext fun y => h y (lt_of_lt_of_le (y 0).isLt trips_eq)

/-- The landing buffer reads what landed last. -/
theorem read_last {c : Dev nD} (f : Buf (Elt F) (stM.view.loc (c : Thread nD τ))) (v : Vec F S5504x512 .f32)
    (L : List (View.Piece (Elt F) S5504x512 .f32)) :
    stM.view.read (Elt F) (stM.view.writes (Elt F) f (⟨Rect.whole S5504x512, v⟩ :: L)) = v := by
  rw [← List.singleton_append, View.writes_append]
  exact View.read_writes_whole stM.view _ v

section Run
variable (c : Dev nD) (i : grid0.Coords) (arg2 : Memref sig .tc .vmem S1024x5504 .bf16) (harg2 : arg2.IsWhole)
  (arg4 : Memref sig .tc .vmem S1024x512 .f32) (harg4 : arg4.IsWhole) (arg5 : Memref sig .tc .vmem S1024x512 .f32) (harg5 : arg5.IsWhole)
  (x : Vec F S1024x5504 .bf16) (r : Vec F S1024x512 .f32) (w : Buf (Elt F) (wM.view.loc (c : Thread nD τ)))

/-- The body at the operands of one point. -/
abbrev body : Prog (TpuEff nD τ sig (Elt F) Λ₀ .tc) PUnit :=
  cc0_matmul i arg2 harg2 wM (Memref.isWhole_whole _) arg4 harg4 arg5 harg5 stM (Memref.isWhole_whole _) wbM (Memref.isWhole_whole _) cc0_scratch2

/-- What a point leaves, the kept block being `b`: the sum's block in the result's buffer, the state `S` of the transfers. -/
def left (b : Vec F S5504x512 .bf16) (S : sProp 𝕄) : sProp 𝕄 :=
  iprop(owns (c : Thread nD τ) arg2 fullShare x ∗ owns (c : Thread nD τ) arg4 fullShare r ∗ owns (c : Thread nD τ) arg5 fullShare (k0_pay2 x b r)
    ∗ owns (c : Thread nD τ) wbM fullShare b ∗ S ∗ (∃ W', owes (c : Thread nD τ) 0 W'))

include harg2 harg4 harg5 in
/-- The result's buffer reads the stored payload, its operands the two buffers' contents. -/
theorem read_out {f2 : BufTy.Contents (Elt F) arg2.view.ty} {f4 : BufTy.Contents (Elt F) arg4.view.ty} {f5 : BufTy.Contents (Elt F) arg5.view.ty} {fb : BufTy.Contents (Elt F) wbM.view.ty}
    {b : Vec F S5504x512 .bf16} (h2 : arg2.view.read (Elt F) f2 = x) (h4 : arg4.view.read (Elt F) f4 = r) (hb : wbM.view.read (Elt F) fb = b) :
    arg5.view.read (Elt F) (arg5.view.writes (Elt F) f5 [⟨Rect.unit (s := S1024x512) ![0, 0] S1024x512.size inb_S1024x512_S1024x512_0_0,
        k0_pay2 (View.readAt (Elt F) arg2.view (Rect.unit (s := S1024x5504) ![0, 0] S1024x5504.size inb_S1024x5504_S1024x5504_0_0).toLoadRect f2)
          (View.readAt (Elt F) wbM.view (Rect.unit (s := S5504x512) ![0, 0] S5504x512.size inb_S5504x512_S5504x512_0_0).toLoadRect fb)
          (View.readAt (Elt F) arg4.view (Rect.unit (s := S1024x512) ![0, 0] S1024x512.size inb_S1024x512_S1024x512_0_0).toLoadRect f4)⟩])
      = k0_pay2 x b r := by
  subst h2; subst h4; subst hb
  refine (View.read_writes_full arg5.view f5 _ _ _).trans ?_
  rw [View.readAt_full arg2.view f2, View.readAt_full wbM.view fb, View.readAt_full arg4.view f4]

/-- The first point: the first block comes in and is rounded, the next one is sent for. -/
theorem runA (h1 : k0_cond1 i = 1#1) (h2 : k0_cond2 i = 1#1) (h3 : k0_cond3 i = 1#1) (W : Waits sig Unit) (K : PUnit → sProp 𝕄) :
    iprop(owns (c : Thread nD τ) arg2 fullShare x ∗ owns (c : Thread nD τ) arg4 fullShare r ∗ (∃ d, owns (c : Thread nD τ) arg5 fullShare d)
        ∗ (∃ d, owns (c : Thread nD τ) wbM fullShare d) ∗ home c w ∗ owes (c : Thread nD τ) 0 W
        ∗ (left c arg2 arg4 arg5 x r (rnd (wblk w (k0_off1 i) (k0_off1_inb i h1 h2))) (flying c w (k0_off4 i) (k0_off4_inb i h1 h3)) -∗ K ⟨⟩))
      ⊢ wp frame (wpE (defs₀ (F := F)) Variants.none c none) Set.univ (body i arg2 harg2 arg4 harg4 arg5 harg5) K := by
  unfold body
  rw [cc0_matmul_eq_skeleton]; unfold cc0_matmul_skel
  unfold home owns
  iintro ⟨⟨%f2, %e2, H2⟩, ⟨%f4, %e4, H4⟩, ⟨%d5, %f5, -, H5⟩, ⟨%db, %fb, -, HB⟩, ⟨⟨%ds, %fs, -, HS⟩, Hq, Hw⟩, HW, Hk⟩
  sl_exec
  sl_step
  have hb := all_rows hL2
  rw [View.read_writes_whole] at hb
  iapply Hk
  unfold left owns flying
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact read_out arg2 harg2 arg4 harg4 arg5 harg5 x r e2 e4 hb
  isplitl [HB]
  · iexists _; isplitr; swap; · iexact HB
    ipureintro; exact hb
  isplitl [Hq Hw]
  · iexists _
    isplitl [Hq]; · iexact Hq
    isplitl [Hw]; · iexact Hw
    ipureintro; refine (read_last (c := c) _ _ _).trans ?_; rfl
  iexists _; iexact HW

/-- A later block's first point but the last block's: the block on its way comes in and is rounded, the next one is sent for. -/
theorem runB (off : Fin 2 → ℕ) (hb : ∀ a, off a + S5504x512.size a ≤ S11008x4096.size a) (h1 : k0_cond1 i = 1#1) (h2 : ¬k0_cond2 i = 1#1) (h3 : k0_cond3 i = 1#1)
    (W : Waits sig Unit) (K : PUnit → sProp 𝕄) :
    iprop(owns (c : Thread nD τ) arg2 fullShare x ∗ owns (c : Thread nD τ) arg4 fullShare r ∗ (∃ d, owns (c : Thread nD τ) arg5 fullShare d)
        ∗ (∃ d, owns (c : Thread nD τ) wbM fullShare d) ∗ flying c w off hb ∗ owes (c : Thread nD τ) 0 W
        ∗ (left c arg2 arg4 arg5 x r (rnd (wblk w off hb)) (flying c w (k0_off4 i) (k0_off4_inb i h1 h3)) -∗ K ⟨⟩))
      ⊢ wp frame (wpE (defs₀ (F := F)) Variants.none c none) Set.univ (body i arg2 harg2 arg4 harg4 arg5 harg5) K := by
  unfold body
  rw [cc0_matmul_eq_skeleton]; unfold cc0_matmul_skel
  unfold flying owns
  iintro ⟨⟨%f2, %e2, H2⟩, ⟨%f4, %e4, H4⟩, ⟨%d5, %f5, -, H5⟩, ⟨%db, %fb, -, HB⟩, ⟨%fd, Hq, Hw, %hfd⟩, HW, Hk⟩
  sl_exec
  sl_step
  have hb := all_rows hL2
  rw [hfd] at hb
  iapply Hk
  unfold left owns
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact read_out arg2 harg2 arg4 harg4 arg5 harg5 x r e2 e4 hb
  isplitl [HB]
  · iexists _; isplitr; swap; · iexact HB
    ipureintro; exact hb
  isplitl [Hq Hw]
  · iexists _
    isplitl [Hq]; · iexact Hq
    isplitl [Hw]; · iexact Hw
    ipureintro; refine (read_last (c := c) _ _ _).trans ?_; rfl
  iexists _; iexact HW

/-- The last block's first point: nothing more is sent for. -/
theorem runC (off : Fin 2 → ℕ) (hb : ∀ a, off a + S5504x512.size a ≤ S11008x4096.size a) (h1 : k0_cond1 i = 1#1) (h2 : ¬k0_cond2 i = 1#1) (h3 : ¬k0_cond3 i = 1#1)
    (W : Waits sig Unit) (K : PUnit → sProp 𝕄) :
    iprop(owns (c : Thread nD τ) arg2 fullShare x ∗ owns (c : Thread nD τ) arg4 fullShare r ∗ (∃ d, owns (c : Thread nD τ) arg5 fullShare d)
        ∗ (∃ d, owns (c : Thread nD τ) wbM fullShare d) ∗ flying c w off hb ∗ owes (c : Thread nD τ) 0 W
        ∗ (left c arg2 arg4 arg5 x r (rnd (wblk w off hb)) (home c w) -∗ K ⟨⟩))
      ⊢ wp frame (wpE (defs₀ (F := F)) Variants.none c none) Set.univ (body i arg2 harg2 arg4 harg4 arg5 harg5) K := by
  unfold body
  rw [cc0_matmul_eq_skeleton]; unfold cc0_matmul_skel
  unfold flying owns
  iintro ⟨⟨%f2, %e2, H2⟩, ⟨%f4, %e4, H4⟩, ⟨%d5, %f5, -, H5⟩, ⟨%db, %fb, -, HB⟩, ⟨%fd, Hq, Hw, %hfd⟩, HW, Hk⟩
  sl_exec
  sl_step
  have hb := all_rows hL2
  rw [hfd] at hb
  iapply Hk
  unfold left home owns
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact read_out arg2 harg2 arg4 harg4 arg5 harg5 x r e2 e4 hb
  isplitl [HB]
  · iexists _; isplitr; swap; · iexact HB
    ipureintro; exact hb
  isplitl [Hq Hw Hq_dst]
  · isplitl [Hq_dst]
    · iexists _, _; isplitr; swap; · iexact Hq_dst
      ipureintro; rfl
    isplitl [Hq]; · iexact Hq
    iexact Hw
  iexists _; iexact HW

/-- A point that shares the block rounded before it. -/
theorem runD (b : Vec F S5504x512 .bf16) (S : sProp 𝕄) (h1 : ¬k0_cond1 i = 1#1) (W : Waits sig Unit) (K : PUnit → sProp 𝕄) :
    iprop(owns (c : Thread nD τ) arg2 fullShare x ∗ owns (c : Thread nD τ) arg4 fullShare r ∗ (∃ d, owns (c : Thread nD τ) arg5 fullShare d)
        ∗ owns (c : Thread nD τ) wbM fullShare b ∗ S ∗ owes (c : Thread nD τ) 0 W
        ∗ (left c arg2 arg4 arg5 x r b S -∗ K ⟨⟩))
      ⊢ wp frame (wpE (defs₀ (F := F)) Variants.none c none) Set.univ (body i arg2 harg2 arg4 harg4 arg5 harg5) K := by
  unfold body
  rw [cc0_matmul_eq_skeleton]; unfold cc0_matmul_skel
  unfold owns
  iintro ⟨⟨%f2, %e2, H2⟩, ⟨%f4, %e4, H4⟩, ⟨%d5, %f5, -, H5⟩, ⟨%fb, %hb, HB⟩, HS, HW, Hk⟩
  sl_exec
  sl_step
  iapply Hk
  unfold left owns
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact read_out arg2 harg2 arg4 harg4 arg5 harg5 x r e2 e4 hb
  isplitl [HB]
  · iexists _; isplitr; swap; · iexact HB
    ipureintro; exact hb
  isplitl [HS]; · iexact HS
  iexists _; iexact HW

end Run

/-! ## The proof data of the pipeline -/

variable (m : (ℓ : Loc nD τ sig) → Buf (Elt F) ℓ) (ρ : Dev nD → PrngReg)

/-- The half's rows of column block `j` of the weights as launched, rounded. -/
def kept (c : Dev nD) (j : ℕ) : Vec F S5504x512 .bf16 := rnd (wblk (c := c) (V m c main_arg1) ![5504, 512 * (j % 8)] (col_inb j))

/-- The half's rows of column block `j` of the weights on its way. -/
def coming (c : Dev nD) (j : ℕ) : sProp 𝕄 := flying c (V m c main_arg1) ![5504, 512 * (j % 8)] (col_inb j)

/-- What the body keeps before point `p`: the block its predecessor used, the next block on its way unless there is none. -/
def keep (c : Dev nD) (p : ℕ) : sProp 𝕄 :=
  if p = 0 then iprop((∃ d, owns (c : Thread nD τ) wbM fullShare d) ∗ home c (V m c main_arg1))
  else iprop(owns (c : Thread nD τ) wbM fullShare (kept m c ((p - 1) / 8))
    ∗ (if 56 < p then home c (V m c main_arg1) else coming m c ((p - 1) / 8 + 1)))

/-- The proof data: the arrays as launched, the first two windows' blocks left in place, the sum's block in the third's. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (kept m c (t.val / 8)) (iblk m c 1 t)
  Φ p := iprop((∃ r, prngReg c r) ∗ keep m c p.val)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay2 (iblk m c 0 t) (kept m c (t.val / 8)) (iblk m c 1 t) := by
  dsimp only [dats]

/-- The first two windows' buffers hold their blocks at every point. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The points -/

theorem cond1_iff : ∀ t : Fin grid0.N, k0_cond1 (grid0.coords t) = 1#1 ↔ t.val % 8 = 0 := by decide +kernel
theorem cond2_iff : ∀ t : Fin grid0.N, k0_cond2 (grid0.coords t) = 1#1 ↔ t.val < 8 := by decide +kernel
theorem cond3_iff : ∀ t : Fin grid0.N, k0_cond3 (grid0.coords t) = 1#1 ↔ t.val < 56 := by decide +kernel
theorem off1_eq : ∀ t : Fin grid0.N, k0_off1 (grid0.coords t) = ![5504, 512 * (t.val / 8 % 8)] := by decide +kernel
theorem off4_eq : ∀ t : Fin grid0.N, t.val < 56 → k0_off4 (grid0.coords t) = ![5504, 512 * ((t.val / 8 + 1) % 8)] := by decide +kernel

/-- What the body is entered with at point `t`, the first two windows' blocks named. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The step of what is kept, by the point's case: what a run needs of it and what the run gives back. -/
theorem keep_step (c : Dev nD) (t : Fin cfg0.N) (W : Waits sig Unit) (K : PUnit → sProp 𝕄) (x : Vec F S1024x5504 .bf16) (r : Vec F S1024x512 .f32)
    (arg2 : Memref sig .tc .vmem S1024x5504 .bf16) (harg2 : arg2.IsWhole) (arg4 : Memref sig .tc .vmem S1024x512 .f32) (harg4 : arg4.IsWhole) (arg5 : Memref sig .tc .vmem S1024x512 .f32) (harg5 : arg5.IsWhole) :
    iprop(owns (c : Thread nD τ) arg2 fullShare x ∗ owns (c : Thread nD τ) arg4 fullShare r ∗ (∃ d, owns (c : Thread nD τ) arg5 fullShare d) ∗ keep m c t.val ∗ owes (c : Thread nD τ) 0 W
        ∗ (iprop(owns (c : Thread nD τ) arg2 fullShare x ∗ owns (c : Thread nD τ) arg4 fullShare r ∗ owns (c : Thread nD τ) arg5 fullShare (k0_pay2 x (kept m c (t.val / 8)) r)
            ∗ keep m c (t.val + 1) ∗ (∃ W', owes (c : Thread nD τ) 0 W')) -∗ K ⟨⟩))
      ⊢ wp frame (wpE (defs₀ (F := F)) Variants.none c none) Set.univ (body (grid0.coords t) arg2 harg2 arg4 harg4 arg5 harg5) K := by
  have ht : t.val < 64 := lt_of_lt_of_eq t.isLt N_0
  unfold keep
  rw [if_neg (by omega : ¬t.val + 1 = 0), Nat.add_sub_cancel]
  by_cases h0 : t.val = 0
  · have h1 := (cond1_iff t).2 (by omega)
    have h2 := (cond2_iff t).2 (by omega)
    have h3 := (cond3_iff t).2 (by omega)
    rw [if_pos h0, if_neg (by omega)]
    iintro ⟨H2, H4, H5, ⟨HB, HS⟩, HW, Hk⟩
    iapply (runA c (grid0.coords t) arg2 harg2 arg4 harg4 arg5 harg5 x r (V m c main_arg1) h1 h2 h3 W K)
    isplitl [H2]; · iexact H2
    isplitl [H4]; · iexact H4
    isplitl [H5]; · iexact H5
    isplitl [HB]; · iexact HB
    isplitl [HS]; · iexact HS
    isplitl [HW]; · iexact HW
    unfold left kept coming
    rw [wblk_congr (c := c) (V m c main_arg1) (off1_eq t) _ (col_inb _), flying_congr c (V m c main_arg1) (off4_eq t (by omega)) _ (col_inb _)]
    iintro ⟨H2, H4, H5, HB, HS, HW⟩
    iapply Hk
    isplitl [H2]; · iexact H2
    isplitl [H4]; · iexact H4
    isplitl [H5]; · iexact H5
    isplitl [HB HS]
    · isplitl [HB]; · iexact HB
      iexact HS
    iexact HW
  rw [if_neg h0]
  by_cases h1 : k0_cond1 (grid0.coords t) = 1#1
  · have hm := (cond1_iff t).1 h1
    have h2 : ¬k0_cond2 (grid0.coords t) = 1#1 := fun h => by have := (cond2_iff t).1 h; omega
    have ej : (t.val - 1) / 8 + 1 = t.val / 8 := by omega
    rw [if_neg (by omega : ¬56 < t.val), ej]
    by_cases h3 : k0_cond3 (grid0.coords t) = 1#1
    · have hL := (cond3_iff t).1 h3
      rw [if_neg (by omega : ¬56 < t.val + 1)]
      unfold coming kept
      iintro ⟨H2, H4, H5, ⟨HB, HS⟩, HW, Hk⟩
      iapply (runB c (grid0.coords t) arg2 harg2 arg4 harg4 arg5 harg5 x r (V m c main_arg1) _ (col_inb (t.val / 8)) h1 h2 h3 W K)
      isplitl [H2]; · iexact H2
      isplitl [H4]; · iexact H4
      isplitl [H5]; · iexact H5
      isplitl [HB]; · iexists _; iexact HB
      isplitl [HS]; · iexact HS
      isplitl [HW]; · iexact HW
      unfold left
      rw [flying_congr c (V m c main_arg1) (off4_eq t hL) _ (col_inb _)]
      iintro ⟨H2, H4, H5, HB, HS, HW⟩
      iapply Hk
      isplitl [H2]; · iexact H2
      isplitl [H4]; · iexact H4
      isplitl [H5]; · iexact H5
      isplitl [HB HS]
      · isplitl [HB]; · iexact HB
        iexact HS
      iexact HW
    · have hL : 56 < t.val + 1 := by
        by_contra h; exact h3 ((cond3_iff t).2 (by omega))
      rw [if_pos hL]
      unfold coming kept
      iintro ⟨H2, H4, H5, ⟨HB, HS⟩, HW, Hk⟩
      iapply (runC c (grid0.coords t) arg2 harg2 arg4 harg4 arg5 harg5 x r (V m c main_arg1) _ (col_inb (t.val / 8)) h1 h2 h3 W K)
      isplitl [H2]; · iexact H2
      isplitl [H4]; · iexact H4
      isplitl [H5]; · iexact H5
      isplitl [HB]; · iexists _; iexact HB
      isplitl [HS]; · iexact HS
      isplitl [HW]; · iexact HW
      unfold left
      iintro ⟨H2, H4, H5, HB, HS, HW⟩
      iapply Hk
      isplitl [H2]; · iexact H2
      isplitl [H4]; · iexact H4
      isplitl [H5]; · iexact H5
      isplitl [HB HS]
      · isplitl [HB]; · iexact HB
        iexact HS
      iexact HW
  · have hm : ¬t.val % 8 = 0 := fun h => h1 ((cond1_iff t).2 h)
    have ej : (t.val - 1) / 8 = t.val / 8 := by omega
    have eL : (56 < t.val) = (56 < t.val + 1) := propext ⟨fun h => by omega, fun h => by omega⟩
    rw [ej]
    simp only [eL]
    iintro ⟨H2, H4, H5, ⟨HB, HS⟩, HW, Hk⟩
    iapply (runD c (grid0.coords t) arg2 harg2 arg4 harg4 arg5 harg5 x r (kept m c (t.val / 8)) _ h1 W K)
    isplitl [H2]; · iexact H2
    isplitl [H4]; · iexact H4
    isplitl [H5]; · iexact H5
    isplitl [HB]; · iexact HB
    isplitl [HS]; · iexact HS
    isplitl [HW]; · iexact HW
    unfold left
    iintro ⟨H2, H4, H5, HB, HS, HW⟩
    iapply Hk
    isplitl [H2]; · iexact H2
    isplitl [H4]; · iexact H4
    isplitl [H5]; · iexact H5
    isplitl [HB HS]
    · isplitl [HB]; · iexact HB
      iexact HS
    iexact HW

/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1]
  rw [after0_0, after0_1, after0_2]
  rw [show (dats m 0 c).Φ t.castSucc = iprop((∃ r, prngReg c r) ∗ keep m c t.val) from rfl,
    show (dats m 0 c).Φ t.succ = iprop((∃ r, prngReg c r) ∗ keep m c (t.val + 1)) from rfl]
  unfold Dat.owesAt Pipeline.owesWithin
  rw [show (dats m 0 c).owed t.castSucc = 0 from rfl, show (dats m 0 c).owed t.succ = 0 from rfl]
  iintro ⟨⟨Hg, HK⟩, ⟨%W, -, HW⟩, ⟨%d0, H0⟩, ⟨%d1, H1⟩, ⟨%d2, H2⟩⟩
  iapply (keep_step m c t W _ (iblk m c 0 t) (iblk m c 1 t) _ _ _ _ _ _)
  isplitl [H0]; · iexact H0
  isplitl [H1]; · iexact H1
  isplitl [H2]; · iexists _; iexact H2
  isplitl [HK]; · iexact HK
  isplitl [HW]; · iexact HW
  iintro ⟨H0, H1, H2, HK, ⟨%W', HW'⟩⟩
  isplitl [Hg HK]
  · isplitl [Hg]; · iexact Hg
    iexact HK
  isplitl [HW']
  · iexists W'; isplitr; · ipureintro; exact fun _ _ => Or.inl trivial
    iexact HW'
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- @main up to the call, at this algebra. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's own cell. -/
abbrev osem0 : Fin 1 → SemLoc sig := fun _ => SemLoc.dma cc0_scratch2.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch2.sem) 0 := by
  rw [Pipeline.ownSems0_eq_of_list c osem0 [0] (by decide) (by decide)]; rfl
/-- The array the body's transfers read. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = wPt c (V m c main_arg1) := by
  rw [BI.bigSep_eq_bigSepL_of_eq [main_arg1] (by decide) (by decide)]; rfl

theorem PhiD0_eq (c : Dev nD) :
    (Pipeline.ΦD osem0 spec0 H0 (V m) c : sProp 𝕄)
      = iprop(iprop((∃ d, owns (c : Thread nD τ) stM fullShare d) ∗ (∃ d, owns (c : Thread nD τ) wbM fullShare d))
          ∗ (∃ r, prngReg c r) ∗ semVal ((c : Thread nD τ), SemLoc.dma cc0_scratch2.sem) 0 ∗ wPt c (V m c main_arg1)) := by
  rw [Pipeline.ΦD_eq, scopedRest0_eq, ownSems00_eq, hbmPts0_eq]
  simp only [stM, wbM, owns_whole]; try rfl

theorem phi_in (c : Dev nD) : Pipeline.ΦD osem0 spec0 H0 (V m) c ⊢ (dats m 0 c).Φ 0 := by
  rw [PhiD0_eq]
  show _ ⊢ iprop((∃ r, prngReg c r) ∗ keep m c 0)
  unfold keep home
  rw [if_pos rfl]
  iintro ⟨⟨HS, HB⟩, Hg, Hq, Hw⟩
  isplitl [Hg]; · iexact Hg
  isplitl [HB]; · iexact HB
  isplitl [HS]; · iexact HS
  isplitl [Hq]; · iexact Hq
  iexact Hw

theorem phi_out (c : Dev nD) : (dats m 0 c).Φ (Fin.last cfg0.N) ⊢ Pipeline.ΦD osem0 spec0 H0 (V m) c := by
  rw [PhiD0_eq]
  show iprop((∃ r, prngReg c r) ∗ keep m c grid0.N) ⊢ _
  rw [N_0]
  unfold keep home
  rw [if_neg (by decide), if_pos (by decide)]
  iintro ⟨Hg, HB, HS, Hq, Hw⟩
  isplitl [HS HB]
  · isplitl [HS]; · iexact HS
    iexists _; iexact HB
  isplitl [Hg]; · iexact Hg
  isplitl [Hq]; · iexact Hq
  iexact Hw

set_option backward.isDefEq.respectTransparency.types false in
/-- The run: every array ends as the pipeline's data say, the cells at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := phi_in m) (hout := phi_out m)

/-- The frame: the arguments end as they were, the cells at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c)))⟩, h.2⟩) (run_main m ρ)

end Cert.FfnB.Hand

end
-- ==== Proof.FfnBIdealFrame.lean ====
module

public import proofs.«01_k».proof.Proof.FfnBFrame
public import proofs.«01_k».proof.Proof.Gen.FfnBIdeal

/-!
# The program over the reals is the program

The two are one text, so what is proved of the one for every reading of its floats is proved of the other.
-/

@[expose] public section

noncomputable section

namespace Cert.FfnBIdeal.Hand

open Idealize.ShloMosaic Idealize.ShloMosaic.TcCoe Idealize.SL.Sem

variable {F : FTy → Type} [FloatOps F]

/-- The two tables of bodies agree. -/
theorem bodies_eq : Cert.FfnBIdeal.defs₀ (F := F) = Cert.FfnB.defs₀ (F := F) := by
  unfold Cert.FfnBIdeal.defs₀ Cert.FfnB.defs₀
  refine congrArg Defs.onTc (funext fun l => funext fun a => ?_)
  rcases l with ⟨_ | _, h⟩
  · rcases a with ⟨_, _⟩
    exact rfl
  · omega

/-- So do the tables with the pipeline's own bodies. -/
theorem defs_eq : Cert.FfnBIdeal.defs (F := F) = Cert.FfnB.defs (F := F) := by
  unfold Cert.FfnBIdeal.defs Cert.FfnB.defs
  exact congrArg (Pipeline.defs _) bodies_eq

set_option backward.isDefEq.respectTransparency.types false in
/-- The frame: the arguments end as they were, the cells at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.FfnB.Hand.frame m ρ

end Cert.FfnBIdeal.Hand
end
-- ==== Proof.FfnBValue.lean ====
module

public import proofs.«01_k».proof.Proof.FfnBIdealFrame
public import proofs.«01_k».proof.Proof.Gen.FfnBRefIdeal.Run
public import Idealize.ShloMosaic.Lib.Pipeline.ValueKit
public import Idealize.ShloMosaic.Lib.Pipeline.ReadBack

/-!
# The second half of the feed-forward's last product equals its reference

Every point of the grid adds a tile of the residual to a tile of tokens times the kept column tile of the weights. The kernel reads its 5504 channels inside the full arrays, the reference slices them first.
-/

@[expose] public section

set_option maxRecDepth 6144

noncomputable section

namespace Cert.FfnB.Prod

open Idealize.ShloMosaic Idealize.ShloMosaic.TcCoe Idealize.SL.Sem

section Reference
open Cert.FfnBRefIdeal Cert.FfnBRefIdeal.Gen

/-- The reference's result, as a function of the tokens, the weights and the residual. -/
def REF (X : FVec Ideal S8192x11008 .bf16) (W : FVec Ideal S11008x4096 .f32) (R : FVec Ideal S8192x4096 .f32) :
    FVec Ideal S8192x4096 .f32 :=
  addf R (Host.dotGeneral dot_S8192x5504_S5504x4096_S8192x4096_1_0_0_1_n_n none (extf .f32 (extractStridedSlice S8192x5504 ![0, 5504] X slices_S8192x11008_S8192x5504_0_5504) bitsLt_bf16_f32) (extractStridedSlice S5504x4096 ![5504, 0] W slices_S11008x4096_S5504x4096_5504_0))

/-- The reference's result at token `s`, channel `d`: the residual plus the product's entry. -/
theorem ref_at (X : FVec Ideal S8192x11008 .bf16) (W : FVec Ideal S11008x4096 .f32) (R : FVec Ideal S8192x4096 .f32)
    (s : Fin 8192) (d : Fin 4096) :
    (REF X W R (ix2 s d) : EReal) = R (ix2 s d) + ∑ k : Fin 5504, X (ix2 s ⟨5504 + k, by omega⟩) * W (ix2 ⟨5504 + k, by omega⟩ d) := by
  pointwise [REF]

end Reference

section Kernel
open Cert.FfnB.Gen Cert.FfnB.Hand

variable (m : (ℓ : Loc nD τ sig) → Buf (Elt Ideal) ℓ)

/-- Where each window's block lies at a grid point: the token tile is the fast axis, the column tile the slow one. -/
theorem idx : ∀ t : Fin cfg0.N, win0_0.index t = ![t.val % 8, 1] ∧ win0_1.index t = ![t.val % 8, t.val / 8]
    ∧ win0_2.index t = ![t.val % 8, t.val / 8] :=
  (by decide +kernel : ∀ t : Fin grid0.N, _)

/-- The block a point writes, at one entry: the token tile's row times the kept block's column, plus the residual. -/
theorem pay_at (x : FVec Ideal S1024x5504 .bf16) (w : FVec Ideal S5504x512 .bf16) (b : FVec Ideal S1024x512 .f32)
    (r : Fin 1024) (l : Fin 512) :
    (k0_pay2 (F := Ideal) x w b (ix2 r l) : EReal) = (∑ k : Fin 5504, x (ix2 r k) * w (ix2 k l)) + b (ix2 r l) := by
  open_payloads; pointwise

/-- The kept block at one entry is the weights' entry in its column tile. -/
theorem kept_at (c : Dev nD) (j : ℕ) (k : Fin 5504) (l : Fin 512) (hj : j < 8) :
    kept m c j (ix2 k l) = m ((c : Thread nD τ).loc main_arg1) (ix2 ⟨5504 + k, by omega⟩ ⟨512 * j + l, by omega⟩) := by
  unfold kept wblk
  rw [rnd_at, View.read_apply]
  show V m c main_arg1 _ = _
  have e : (wSl ![5504, 512 * (j % 8)] (col_inb j)).view.emb (ix2 k l) = ix2 ⟨5504 + k, by omega⟩ ⟨512 * j + l, by omega⟩ := by
    funext a; apply Fin.ext
    fin_cases a
    · show 5504 + 1 * k.val = 5504 + k.val
      omega
    · show 512 * (j % 8) + 1 * l.val = 512 * j + l.val
      rw [Nat.mod_eq_of_lt hj, one_mul]
  rw [e]

/-- The output array after the run is the reference's result. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2, eq_ix2 ((win0_2.blk t).view.emb y), eq_ix2 y]
  refine Eq.trans ?_ (ref_at _ _ _ _ _).symm
  have hj : t.val / 8 < 8 := by have := t.isLt; change t.val < 64 at this; omega
  refine (pay_at _ _ _ _ _).trans ((add_comm _ _).trans ?_)
  refine congrArg₂ (· + ·) ?_ (Finset.sum_congr rfl fun k _ => ?_)
  · blk_ext [iblk, V, idx t]
  · congr 1
    · blk_ext [iblk, V, idx t]
    · refine (kept_at m c _ k (y 1) hj).trans ?_
      refine congrArg _ (congrArg (ix2 _) (Fin.ext ?_))
      refine Eq.trans ?_ (win0_2.rect_emb_val t (ix2 (y 0) (y 1)) 1).symm
      simp [idx t, Nat.mul_comm]

end Kernel
end Cert.FfnB.Prod

namespace Cert.FfnBIdeal.Prod

open Idealize.ShloMosaic Idealize.ShloMosaic.TcCoe Idealize.SL.Sem Cert.FfnB.Prod

set_option backward.isDefEq.respectTransparency.types false in
/-- The program over the reals ends with the reference's result in its output and its arguments as they were. -/
theorem result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = REF (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  rw [Hand.defs_eq]
  exact θ_run_mono (θ_run_and (Cert.FfnB.Hand.run_main m ρ) (Cert.FfnB.Hand.frame m ρ)) fun r hr c =>
    ⟨((hr.1.1 c).1 2).trans (final m c), hr.2.1 c⟩

end Cert.FfnBIdeal.Prod
end
-- ==== Proof.lean ====
/- The certificate of calls of the layer: the gated merge of the four branches, the spatial gating branch, the gates, the input projection, the experts' first two products, the experts' last product, the output projection, the first half of the feed-forward's last product and the second half of the feed-forward's last product. Every program
   ends with its counters at zero and its arguments unchanged, and each kernel over the reals computes what its reference does. -/
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.MergeValue
public import proofs.«01_k».proof.Proof.Gen.Gmlp
public import proofs.«01_k».proof.Proof.Gen.Gmlp.Skeleton
public import proofs.«01_k».proof.Proof.Gen.Gmlp.Launch
public import proofs.«01_k».proof.Proof.Gen.Gmlp.Points
public import proofs.«01_k».proof.Proof.Gen.Gmlp.Frame
public import proofs.«01_k».proof.Proof.Gen.GmlpIdeal
public import proofs.«01_k».proof.Proof.Gen.GmlpIdeal.Skeleton
public import proofs.«01_k».proof.Proof.Gen.GmlpIdeal.Launch
public import proofs.«01_k».proof.Proof.Gen.GmlpIdeal.Points
public import proofs.«01_k».proof.Proof.Gen.GmlpIdeal.Frame
public import proofs.«01_k».proof.Proof.Gen.GmlpRefIdeal
public import proofs.«01_k».proof.Proof.Gen.GmlpRefIdeal.Run
public import proofs.«01_k».proof.Proof.GmlpValue
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.GatesFrame
public import proofs.«01_k».proof.Proof.Gen.GatesIdeal
public import proofs.«01_k».proof.Proof.GatesIdealFrame
public import proofs.«01_k».proof.Proof.Gen.GatesRefIdeal
public import proofs.«01_k».proof.Proof.Gen.GatesRefIdeal.Run
public import proofs.«01_k».proof.Proof.GatesValue
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.WinFrame
public import proofs.«01_k».proof.Proof.Gen.WinIdeal
public import proofs.«01_k».proof.Proof.WinIdealFrame
public import proofs.«01_k».proof.Proof.Gen.WinRefIdeal
public import proofs.«01_k».proof.Proof.Gen.WinRefIdeal.Run
public import proofs.«01_k».proof.Proof.WinValue
public import proofs.«01_k».proof.Proof.Gen.Up
public import proofs.«01_k».proof.Proof.Gen.Up.Skeleton
public import proofs.«01_k».proof.Proof.Gen.Up.Launch
public import proofs.«01_k».proof.Proof.UpFrame
public import proofs.«01_k».proof.Proof.Gen.UpIdeal
public import proofs.«01_k».proof.Proof.UpIdealFrame
public import proofs.«01_k».proof.Proof.Gen.UpRefIdeal
public import proofs.«01_k».proof.Proof.Gen.UpRefIdeal.Run
public import proofs.«01_k».proof.Proof.UpPrinted
public import proofs.«01_k».proof.Proof.UpPre
public import proofs.«01_k».proof.Proof.UpValue
public import proofs.«01_k».proof.Proof.Gen.Down
public import proofs.«01_k».proof.Proof.Gen.Down.Skeleton
public import proofs.«01_k».proof.Proof.Gen.Down.Launch
public import proofs.«01_k».proof.Proof.DownFrame
public import proofs.«01_k».proof.Proof.Gen.DownIdeal
public import proofs.«01_k».proof.Proof.DownIdealFrame
public import proofs.«01_k».proof.Proof.Gen.DownRefIdeal
public import proofs.«01_k».proof.Proof.Gen.DownRefIdeal.Run
public import proofs.«01_k».proof.Proof.DownPrinted
public import proofs.«01_k».proof.Proof.DownPre
public import proofs.«01_k».proof.Proof.DownValue
public import proofs.«01_k».proof.Proof.Gen.Wout
public import proofs.«01_k».proof.Proof.Gen.Wout.Skeleton
public import proofs.«01_k».proof.Proof.Gen.Wout.Launch
public import proofs.«01_k».proof.Proof.Gen.Wout.Points
public import proofs.«01_k».proof.Proof.Gen.Wout.Frame
public import proofs.«01_k».proof.Proof.WoutFrame
public import proofs.«01_k».proof.Proof.Gen.WoutIdeal
public import proofs.«01_k».proof.Proof.WoutIdealFrame
public import proofs.«01_k».proof.Proof.Gen.WoutRefIdeal
public import proofs.«01_k».proof.Proof.Gen.WoutRefIdeal.Run
public import proofs.«01_k».proof.Proof.WoutValue
public import proofs.«01_k».proof.Proof.Gen.FfnA
public import proofs.«01_k».proof.Proof.Gen.FfnA.Skeleton
public import proofs.«01_k».proof.Proof.Gen.FfnA.Launch
public import proofs.«01_k».proof.Proof.Gen.FfnA.Points
public import proofs.«01_k».proof.Proof.Gen.FfnA.Frame
public import proofs.«01_k».proof.Proof.FfnAFrame
public import proofs.«01_k».proof.Proof.Gen.FfnAIdeal
public import proofs.«01_k».proof.Proof.FfnAIdealFrame
public import proofs.«01_k».proof.Proof.Gen.FfnARefIdeal
public import proofs.«01_k».proof.Proof.Gen.FfnARefIdeal.Run
public import proofs.«01_k».proof.Proof.FfnAValue
public import proofs.«01_k».proof.Proof.Gen.FfnB
public import proofs.«01_k».proof.Proof.Gen.FfnB.Skeleton
public import proofs.«01_k».proof.Proof.Gen.FfnB.Launch
public import proofs.«01_k».proof.Proof.Gen.FfnB.Points
public import proofs.«01_k».proof.Proof.Gen.FfnB.Frame
public import proofs.«01_k».proof.Proof.FfnBFrame
public import proofs.«01_k».proof.Proof.Gen.FfnBIdeal
public import proofs.«01_k».proof.Proof.FfnBIdealFrame
public import proofs.«01_k».proof.Proof.Gen.FfnBRefIdeal
public import proofs.«01_k».proof.Proof.Gen.FfnBRefIdeal.Run
public import proofs.«01_k».proof.Proof.FfnBValue
public import Idealize.ShloMosaic.Lib.Claim
public import Idealize.ShloMosaic.Adequacy
public import Idealize.ShloMosaic.Init

@[expose] public section

noncomputable section

namespace Cert.Proof

open Idealize.ShloMosaic Idealize.SL.Sem

attribute [local instance] Cert.Up.Plans.facts Cert.Down.Plans.facts

/-- The merge over the reals equals its reference. -/
theorem merge : Cert.algebraic_MergeIdeal_MergeRefIdeal := by
  pair_intro
  · run_from Cert.MergeIdeal.Gen.run_main m g
  · run_from Cert.MergeRefIdeal.Value.run m' g'
    exact (Cert.MergeIdeal.Sum.final m c).symm

/-- The merge's reference terminates with its counters at zero and its arguments unchanged. -/
theorem merge_ref : Cert.quiescent_MergeRefIdeal := by
  intro m ρ _
  exact (θ_run Cert.MergeRefIdeal.defs _ _).mono (fun r h => ⟨fun c => (h c).2,
      sem_eq_zero_of_no_sems (by decide) r.2⟩) (Cert.MergeRefIdeal.Value.run m ρ)

/-- The spatial gating branch over the reals equals its reference. -/
theorem gmlp : Cert.algebraic_GmlpIdeal_GmlpRefIdeal := by
  pair_intro
  · run_from Cert.GmlpIdeal.Gen.run_main m g
  · run_from Cert.GmlpRefIdeal.Value.run m' g'
    exact (Cert.GmlpIdeal.Tiles.final m c).symm

/-- The spatial gating branch's reference terminates with its counters at zero and its arguments unchanged. -/
theorem gmlp_ref : Cert.quiescent_GmlpRefIdeal := by
  intro m ρ _
  exact (θ_run Cert.GmlpRefIdeal.defs _ _).mono (fun r h => ⟨fun c => (h c).2,
      sem_eq_zero_of_no_sems (by decide) r.2⟩) (Cert.GmlpRefIdeal.Value.run m ρ)

/-- The gates over the reals equal their reference. -/
theorem gates : Cert.algebraic_GatesIdeal_GatesRefIdeal := by
  pair_intro
  · run_from Cert.GatesIdeal.Sig.result m g
  · run_from Cert.GatesRefIdeal.Value.run m' g'
    exact rfl

/-- The gates' reference terminates with its counters at zero and its arguments unchanged. -/
theorem gates_ref : Cert.quiescent_GatesRefIdeal := by
  intro m ρ _
  exact (θ_run Cert.GatesRefIdeal.defs _ _).mono (fun r h => ⟨fun c => (h c).2,
      sem_eq_zero_of_no_sems (by decide) r.2⟩) (Cert.GatesRefIdeal.Value.run m ρ)

/-- The input projection over the reals equals its reference. -/
theorem win : Cert.algebraic_WinIdeal_WinRefIdeal := by
  pair_intro
  · run_from Cert.WinIdeal.Prod.result m g
  · run_from Cert.WinRefIdeal.Value.run m' g'
    exact rfl

/-- The input projection's reference terminates with its counters at zero and its arguments unchanged. -/
theorem win_ref : Cert.quiescent_WinRefIdeal := by
  intro m ρ _
  exact (θ_run Cert.WinRefIdeal.defs _ _).mono (fun r h => ⟨fun c => (h c).2,
      sem_eq_zero_of_no_sems (by decide) r.2⟩) (Cert.WinRefIdeal.Value.run m ρ)

/-- The experts' first two products' reference terminates with its counters at zero and its arguments unchanged. -/
theorem up_ref : Cert.quiescent_UpRefIdeal := by
  intro m ρ _
  exact (θ_run Cert.UpRefIdeal.defs _ _).mono (fun r h => ⟨fun c => (h c).2,
      sem_eq_zero_of_no_sems (by decide) r.2⟩) (Cert.UpRefIdeal.Value.run m ρ)

/-- The experts' first two products over the reals equal their reference. -/
theorem up : Cert.algebraic_UpIdeal_UpRefIdeal := by
  intro m g m' g' hpre hagree
  have hp := Cert.Up.Plans.plan_ideal m hpre
  refine ⟨fun c => Cert.Up.Experts.REF (m ((c.tc : Thread Cert.UpIdeal.nD Cert.UpIdeal.τ).loc Cert.UpIdeal.main_arg0)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8)), ?_, ?_⟩
  · exact Cert.UpIdeal.Experts.result m hp g
  · refine θ_run_mono (θ_run_and (Cert.UpRefIdeal.Experts.run_ref m' g') (up_ref m' g' trivial)) fun r hr c => ?_
    obtain ⟨a0, -, -, -, a4, a5, a6, a7, a8⟩ := hagree c
    exact ⟨(hr.1 c).trans (Cert.Up.Experts.ref_congr a0 a4 a5 a6 a7 a8), hr.2.1 c⟩

/-- The experts' last product's reference terminates with its counters at zero and its arguments unchanged. -/
theorem down_ref : Cert.quiescent_DownRefIdeal := by
  intro m ρ _
  exact (θ_run Cert.DownRefIdeal.defs _ _).mono (fun r h => ⟨fun c => (h c).2,
      sem_eq_zero_of_no_sems (by decide) r.2⟩) (Cert.DownRefIdeal.Value.run m ρ)

/-- The experts' last product over the reals equals its reference. -/
theorem down : Cert.algebraic_DownIdeal_DownRefIdeal := by
  intro m g m' g' hpre hagree
  have hp := Cert.Down.Plans.plan_ideal m hpre
  refine ⟨fun c => Cert.Down.Experts.REF (m ((c.tc : Thread Cert.DownIdeal.nD Cert.DownIdeal.τ).loc Cert.DownIdeal.main_arg0)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7)), ?_, ?_⟩
  · exact Cert.DownIdeal.Experts.result m hp g
  · refine θ_run_mono (θ_run_and (Cert.DownRefIdeal.Experts.run_ref m' g') (down_ref m' g' trivial)) fun r hr c => ?_
    obtain ⟨a0, -, -, -, a4, a5, a6, a7⟩ := hagree c
    exact ⟨(hr.1 c).trans (Cert.Down.Experts.ref_congr a0 a4 a5 a6 a7), hr.2.1 c⟩

/-- The output projection over the reals equals its reference. -/
theorem wout : Cert.algebraic_WoutIdeal_WoutRefIdeal := by
  pair_intro
  · run_from Cert.WoutIdeal.Prod.result m g
  · run_from Cert.WoutRefIdeal.Value.run m' g'
    exact rfl

/-- The output projection's reference terminates with its counters at zero and its arguments unchanged. -/
theorem wout_ref : Cert.quiescent_WoutRefIdeal := by
  intro m ρ _
  exact (θ_run Cert.WoutRefIdeal.defs _ _).mono (fun r h => ⟨fun c => (h c).2,
      sem_eq_zero_of_no_sems (by decide) r.2⟩) (Cert.WoutRefIdeal.Value.run m ρ)

/-- The first half of the feed-forward's last product over the reals equals its reference. -/
theorem ffna : Cert.algebraic_FfnAIdeal_FfnARefIdeal := by
  pair_intro
  · run_from Cert.FfnAIdeal.Prod.result m g
  · run_from Cert.FfnARefIdeal.Value.run m' g'
    exact rfl

/-- The first half of the feed-forward's last product's reference terminates with its counters at zero and its arguments unchanged. -/
theorem ffna_ref : Cert.quiescent_FfnARefIdeal := by
  intro m ρ _
  exact (θ_run Cert.FfnARefIdeal.defs _ _).mono (fun r h => ⟨fun c => (h c).2,
      sem_eq_zero_of_no_sems (by decide) r.2⟩) (Cert.FfnARefIdeal.Value.run m ρ)

/-- The second half of the feed-forward's last product over the reals equals its reference. -/
theorem ffnb : Cert.algebraic_FfnBIdeal_FfnBRefIdeal := by
  pair_intro
  · run_from Cert.FfnBIdeal.Prod.result m g
  · run_from Cert.FfnBRefIdeal.Value.run m' g'
    exact rfl

/-- The second half of the feed-forward's last product's reference terminates with its counters at zero and its arguments unchanged. -/
theorem ffnb_ref : Cert.quiescent_FfnBRefIdeal := by
  intro m ρ _
  exact (θ_run Cert.FfnBRefIdeal.defs _ _).mono (fun r h => ⟨fun c => (h c).2,
      sem_eq_zero_of_no_sems (by decide) r.2⟩) (Cert.FfnBRefIdeal.Value.run m ρ)

/-- Every program frames, every kernel over the reals is the kernel, and computes its reference. -/
theorem claim : Cert.Claim := ⟨Cert.Merge.Gen.facts, Cert.MergeIdeal.Gen.facts, Cert.MergeRefIdeal.Gen.facts,
  Cert.Gmlp.Gen.facts, Cert.GmlpIdeal.Gen.facts, Cert.GmlpRefIdeal.Gen.facts,
  Cert.Gates.Gen.facts, Cert.GatesIdeal.Gen.facts, Cert.GatesRefIdeal.Gen.facts,
  Cert.Win.Gen.facts, Cert.WinIdeal.Gen.facts, Cert.WinRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Wout.Gen.facts, Cert.WoutIdeal.Gen.facts, Cert.WoutRefIdeal.Gen.facts,
  Cert.FfnA.Gen.facts, Cert.FfnAIdeal.Gen.facts, Cert.FfnARefIdeal.Gen.facts,
  Cert.FfnB.Gen.facts, Cert.FfnBIdeal.Gen.facts, Cert.FfnBRefIdeal.Gen.facts,
  Cert.Up.Plans.facts, Cert.Down.Plans.facts,
  fun m ρ _ => Cert.Merge.Gen.frame m ρ, fun m ρ _ => Cert.MergeIdeal.Gen.frame m ρ, merge_ref,
  fun m ρ _ => Cert.Gmlp.Gen.frame m ρ, fun m ρ _ => Cert.GmlpIdeal.Gen.frame m ρ, gmlp_ref,
  fun m ρ _ => Cert.Gates.Hand.frame m ρ, fun m ρ _ => Cert.GatesIdeal.Hand.frame m ρ, gates_ref,
  fun m ρ _ => Cert.Win.Hand.frame m ρ, fun m ρ _ => Cert.WinIdeal.Hand.frame m ρ, win_ref,
  fun m ρ h => Cert.Up.Hand.frame m ρ (Cert.Up.Plans.plan m h), fun m ρ h => Cert.UpIdeal.Hand.frame m (Cert.Up.Plans.plan_ideal m h) ρ, up_ref, fun m ρ _ => up_ref m ρ trivial,
  fun m ρ h => Cert.Down.Hand.frame m ρ (Cert.Down.Plans.plan m h), fun m ρ h => Cert.DownIdeal.Hand.frame m (Cert.Down.Plans.plan_ideal m h) ρ, down_ref, fun m ρ _ => down_ref m ρ trivial,
  fun m ρ _ => Cert.Wout.Hand.frame m ρ, fun m ρ _ => Cert.WoutIdeal.Hand.frame m ρ, wout_ref,
  fun m ρ _ => Cert.FfnA.Hand.frame m ρ, fun m ρ _ => Cert.FfnAIdeal.Hand.frame m ρ, ffna_ref,
  fun m ρ _ => Cert.FfnB.Hand.frame m ρ, fun m ρ _ => Cert.FfnBIdeal.Hand.frame m ρ, ffnb_ref,
  trivial, merge, trivial, gmlp, trivial, gates, trivial, win, trivial, up, trivial, down, trivial, wout, trivial, ffna, trivial, ffnb⟩

end Cert.Proof

end
